-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x26 : Shape := ⟨2, ![16384, 26]⟩
abbrev S26x100000x32 : Shape := ⟨3, ![26, 100000, 32]⟩
abbrev S_ : Shape := ⟨0, ![]⟩

class Facts : Prop where
  bcast_S_S16384x26 : S_.BroadcastsInDim S16384x26 (![] : Fin 0 → Fin S16384x26.rank)
  reducesTo_S16384x26_S_d0_1 : S16384x26.ReducesTo [0, 1] S_
  h_S_ : 0 < S_.numel

variable [Facts]

def fn {F : FTy → Type} [FloatOps F] (main_arg0 : IVec S16384x26 32) (main_arg1 : FVec F S26x100000x32 .f32) : IVec S_ 1 :=
  let main_c : IVec S_ 32 := constantI S_ 32 0#32
  let main_v0 : IVec S16384x26 32 := broadcastInDim S16384x26 ![] bcast_S_S16384x26 main_c
  let main_v1 : IVec S16384x26 1 := cmpi .sge main_arg0 main_v0
  let main_c_0 : IVec S_ 32 := constantI S_ 32 100000#32
  let main_v2 : IVec S16384x26 32 := broadcastInDim S16384x26 ![] bcast_S_S16384x26 main_c_0
  let main_v3 : IVec S16384x26 1 := cmpi .slt main_arg0 main_v2
  let main_v4 : IVec S16384x26 1 := andi main_v1 main_v3
  let main_c_1 : IVec S_ 1 := constantI S_ 1 1#1
  let main_v5 : IVec S_ 1 := (fun x v => Host.reduce IntOp.andi x v reducesTo_S16384x26_S_d0_1 h_S_) main_v4 main_c_1
  main_v5
-- ==== Kernel.lean ====
abbrev S16384x26 : Shape := ⟨2, ![16384, 26]⟩
abbrev S26x100000x32 : Shape := ⟨3, ![26, 100000, 32]⟩
abbrev S26x32x100000 : Shape := ⟨3, ![26, 32, 100000]⟩
abbrev S26x16384 : Shape := ⟨2, ![26, 16384]⟩
abbrev S26x32x16384 : Shape := ⟨3, ![26, 32, 16384]⟩
abbrev S100000 : Shape := ⟨1, ![100000]⟩
abbrev S16384 : Shape := ⟨1, ![16384]⟩
abbrev S2x4096 : Shape := ⟨2, ![2, 4096]⟩
abbrev S_ : Shape := ⟨0, ![]⟩
abbrev S1x16384 : Shape := ⟨2, ![1, 16384]⟩
abbrev S1x1x100000 : Shape := ⟨3, ![1, 1, 100000]⟩
abbrev S16 : Shape := ⟨1, ![16]⟩
abbrev S1x16 : Shape := ⟨2, ![1, 16]⟩
abbrev S1x4096 : Shape := ⟨2, ![1, 4096]⟩
abbrev S4096 : Shape := ⟨1, ![4096]⟩
abbrev S1x1x4096 : Shape := ⟨3, ![1, 1, 4096]⟩
abbrev S16384x26x32 : Shape := ⟨3, ![16384, 26, 32]⟩

abbrev nBuf : Table → Nat
  | .hbm => 6
  | .local .scVector .vmem => 3
  | _ => 0

abbrev bufTy : (tb : Table) → Fin (nBuf tb) → BufTy
  | .hbm, ⟨0, _⟩ => ⟨S16384x26, .i32⟩
  | .hbm, ⟨1, _⟩ => ⟨S26x100000x32, .f32⟩
  | .hbm, ⟨2, _⟩ => ⟨S26x32x100000, .f32⟩
  | .hbm, ⟨3, _⟩ => ⟨S26x16384, .i32⟩
  | .hbm, ⟨4, _⟩ => ⟨S26x32x16384, .f32⟩
  | .hbm, ⟨5, _⟩ => ⟨S16384x26x32, .f32⟩
  | .local .scVector .vmem, ⟨0, _⟩ => ⟨S100000, .f32⟩
  | .local .scVector .vmem, ⟨1, _⟩ => ⟨S16384, .i32⟩
  | .local .scVector .vmem, ⟨2, _⟩ => ⟨S2x4096, .f32⟩
  | _, _ => ⟨S16384x26, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 54 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | ⟨50, _⟩ => false
  | ⟨51, _⟩ => false
  | ⟨52, _⟩ => false
  | ⟨53, _⟩ => false
  | _ => false

abbrev sig : RefSig :=
  ofTables nBuf rfl bufTy 4 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c0_i32 : BitVec 32 := 0#32
  let v3 : BitVec 32 := Scalar.addi v2 c0_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c32_i32 : BitVec 32 := 32#32
  let c0_i32_2 : BitVec 32 := 0#32
  let v10 : BitVec 1 := Scalar.cmpi .sgt c32_i32 c0_i32_2
  let v11 : BitVec 32 := Scalar.extui v10
  let c0_i32_3 : BitVec 32 := 0#32
  let v12 : BitVec 1 := Scalar.cmpi .slt c32_i32 c0_i32_3
  let v13 : BitVec 32 := Scalar.extui v12
  let v14 : BitVec 32 := Scalar.subi v11 v13
  let v15 : BitVec 1 := Scalar.cmpi .ne v9 v14
  let v16 : BitVec 32 := Scalar.remsi v3 c32_i32
  let c0_i32_4 : BitVec 32 := 0#32
  let v17 : BitVec 1 := Scalar.cmpi .ne v16 c0_i32_4
  let v18 : BitVec 1 := Scalar.andi v15 v17
  let v4 : BitVec 32 := Scalar.divsi v3 c32_i32
  let c1_i32 : BitVec 32 := 1#32
  let v19 : BitVec 32 := Scalar.subi v4 c1_i32
  let v20 : BitVec 32 := Scalar.select v18 v19 v4
  let c_m1_i32 : BitVec 32 := 4294967295#32
  let v31 : BitVec 1 := Scalar.cmpi .ne v20 c_m1_i32
  let v32 : BitVec 32 := Scalar.extui v31
  let c0_i32_11 : BitVec 32 := 0#32
  let v33 : BitVec 1 := Scalar.cmpi .ne v32 c0_i32_11
  v33

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c0_i32 : BitVec 32 := 0#32
  let v3 : BitVec 32 := Scalar.addi v2 c0_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c32_i32 : BitVec 32 := 32#32
  let c0_i32_2 : BitVec 32 := 0#32
  let v10 : BitVec 1 := Scalar.cmpi .sgt c32_i32 c0_i32_2
  let v11 : BitVec 32 := Scalar.extui v10
  let c0_i32_3 : BitVec 32 := 0#32
  let v12 : BitVec 1 := Scalar.cmpi .slt c32_i32 c0_i32_3
  let v13 : BitVec 32 := Scalar.extui v12
  let v14 : BitVec 32 := Scalar.subi v11 v13
  let v15 : BitVec 1 := Scalar.cmpi .ne v9 v14
  let v16 : BitVec 32 := Scalar.remsi v3 c32_i32
  let c0_i32_4 : BitVec 32 := 0#32
  let v17 : BitVec 1 := Scalar.cmpi .ne v16 c0_i32_4
  let v18 : BitVec 1 := Scalar.andi v15 v17
  let v4 : BitVec 32 := Scalar.divsi v3 c32_i32
  let c1_i32 : BitVec 32 := 1#32
  let v19 : BitVec 32 := Scalar.subi v4 c1_i32
  let v20 : BitVec 32 := Scalar.select v18 v19 v4
  let c0_i32_1816_r0 : BitVec 32 := 0#32
  ![v20.toNat, 0]
def k0_off2 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let v3 : BitVec 32 := Scalar.addi v2 c0_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c32_i32 : BitVec 32 := 32#32
  let c0_i32_2 : BitVec 32 := 0#32
  let v10 : BitVec 1 := Scalar.cmpi .sgt c32_i32 c0_i32_2
  let v11 : BitVec 32 := Scalar.extui v10
  let c0_i32_3 : BitVec 32 := 0#32
  let v12 : BitVec 1 := Scalar.cmpi .slt c32_i32 c0_i32_3
  let v13 : BitVec 32 := Scalar.extui v12
  let v14 : BitVec 32 := Scalar.subi v11 v13
  let v15 : BitVec 1 := Scalar.cmpi .ne v9 v14
  let v16 : BitVec 32 := Scalar.remsi v3 c32_i32
  let c0_i32_4 : BitVec 32 := 0#32
  let v17 : BitVec 1 := Scalar.cmpi .ne v16 c0_i32_4
  let v18 : BitVec 1 := Scalar.andi v15 v17
  let v4 : BitVec 32 := Scalar.divsi v3 c32_i32
  let c1_i32 : BitVec 32 := 1#32
  let v19 : BitVec 32 := Scalar.subi v4 c1_i32
  let v20 : BitVec 32 := Scalar.select v18 v19 v4
  let c32_i32_5 : BitVec 32 := 32#32
  let c0_i32_6 : BitVec 32 := 0#32
  let v21 : BitVec 1 := Scalar.cmpi .eq c32_i32_5 c0_i32_6
  let c1_i32_7 : BitVec 32 := 1#32
  let v22 : BitVec 32 := Scalar.select v21 c1_i32_7 c32_i32_5
  let v23 : BitVec 32 := Scalar.remsi v3 v22
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let c0_i32_8 : BitVec 32 := 0#32
  let v24 : BitVec 1 := Scalar.cmpi .ne v23 c0_i32_8
  let v28 : BitVec 1 := Scalar.andi v27 v24
  let v29 : BitVec 32 := Scalar.addi v23 v22
  let v30 : BitVec 32 := Scalar.select v28 v29 v23
  let c0_i32_1816_r1 : BitVec 32 := 0#32
  ![v20.toNat, v30.toNat, 0]
@[reducible] def k0_t1_loop : Scf.Loop 32 :=
  let c0_i32_12 : BitVec 32 := 0#32
  let c256_i32 : BitVec 32 := 256#32
  let v34 : BitVec 32 := Scalar.addi c0_i32_12 c256_i32
  let c1_i32_13 : BitVec 32 := 1#32
  ⟨c0_i32_12, v34, c1_i32_13⟩
def k0_off3 (k0_t1 : Fin k0_t1_loop.trips) : Fin 1 → Nat :=
  let c0_i32_1819 : BitVec 32 := 0#32
  let c0_i32_1817 : BitVec 32 := 0#32
  let c0_i32_12 : BitVec 32 := 0#32
  let c1_i32_13 : BitVec 32 := 1#32
  let arg10 : BitVec 32 := Scf.iv c0_i32_12 c1_i32_13 k0_t1
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c0_i32_1819 v2579
  let v2581 : Index := Scalar.indexCast v2580
  ![v2581.toNat]

def k0_chk1 (v2582 : IVec S16 32) : Prop :=
  (∀ a x, ((![v2582] : Fin 1 → IVec S16 32) a x).toNat < S100000.size a)
theorem k0_idx1_inb : ∀ (v2582 : IVec S16 32) (k0_hw1 : k0_chk1 v2582), ∀ a x, ((![v2582] : Fin 1 → IVec S16 32) a x).toNat < S100000.size a := fun v2582 k0_hw1 => k0_hw1
def k0_off4 (k0_t1 : Fin k0_t1_loop.trips) : Fin 2 → Nat :=
  let c0_i32_1821 : BitVec 32 := 0#32
  let v2585 : Index := Scalar.indexCast c0_i32_1821
  let c0_i32_1817 : BitVec 32 := 0#32
  let c0_i32_12 : BitVec 32 := 0#32
  let c1_i32_13 : BitVec 32 := 1#32
  let arg10 : BitVec 32 := Scf.iv c0_i32_12 c1_i32_13 k0_t1
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
def k0_off5 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let v3 : BitVec 32 := Scalar.addi v2 c0_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c32_i32 : BitVec 32 := 32#32
  let c0_i32_2 : BitVec 32 := 0#32
  let v10 : BitVec 1 := Scalar.cmpi .sgt c32_i32 c0_i32_2
  let v11 : BitVec 32 := Scalar.extui v10
  let c0_i32_3 : BitVec 32 := 0#32
  let v12 : BitVec 1 := Scalar.cmpi .slt c32_i32 c0_i32_3
  let v13 : BitVec 32 := Scalar.extui v12
  let v14 : BitVec 32 := Scalar.subi v11 v13
  let v15 : BitVec 1 := Scalar.cmpi .ne v9 v14
  let v16 : BitVec 32 := Scalar.remsi v3 c32_i32
  let c0_i32_4 : BitVec 32 := 0#32
  let v17 : BitVec 1 := Scalar.cmpi .ne v16 c0_i32_4
  let v18 : BitVec 1 := Scalar.andi v15 v17
  let v4 : BitVec 32 := Scalar.divsi v3 c32_i32
  let c1_i32 : BitVec 32 := 1#32
  let v19 : BitVec 32 := Scalar.subi v4 c1_i32
  let v20 : BitVec 32 := Scalar.select v18 v19 v4
  let c32_i32_5 : BitVec 32 := 32#32
  let c0_i32_6 : BitVec 32 := 0#32
  let v21 : BitVec 1 := Scalar.cmpi .eq c32_i32_5 c0_i32_6
  let c1_i32_7 : BitVec 32 := 1#32
  let v22 : BitVec 32 := Scalar.select v21 c1_i32_7 c32_i32_5
  let v23 : BitVec 32 := Scalar.remsi v3 v22
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let c0_i32_8 : BitVec 32 := 0#32
  let v24 : BitVec 1 := Scalar.cmpi .ne v23 c0_i32_8
  let v28 : BitVec 1 := Scalar.andi v27 v24
  let v29 : BitVec 32 := Scalar.addi v23 v22
  let v30 : BitVec 32 := Scalar.select v28 v29 v23
  let c0_i32_17 : BitVec 32 := 0#32
  ![v20.toNat, v30.toNat, 0]
@[reducible] def k0_t2_loop : Scf.Loop 32 :=
  let c0_i32_20 : BitVec 32 := 0#32
  let c256_i32_21 : BitVec 32 := 256#32
  let v43 : BitVec 32 := Scalar.addi c0_i32_20 c256_i32_21
  let c1_i32_22 : BitVec 32 := 1#32
  ⟨c0_i32_20, v43, c1_i32_22⟩
def k0_off6 (k0_t2 : Fin k0_t2_loop.trips) : Fin 1 → Nat :=
  let c4096_i32_1819 : BitVec 32 := 4096#32
  let c0_i32_1817 : BitVec 32 := 0#32
  let c0_i32_20 : BitVec 32 := 0#32
  let c1_i32_22 : BitVec 32 := 1#32
  let arg10 : BitVec 32 := Scf.iv c0_i32_20 c1_i32_22 k0_t2
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c4096_i32_1819 v2579
  let v2581 : Index := Scalar.indexCast v2580
  ![v2581.toNat]

def k0_chk2 (v2582 : IVec S16 32) : Prop :=
  (∀ a x, ((![v2582] : Fin 1 → IVec S16 32) a x).toNat < S100000.size a)
theorem k0_idx2_inb : ∀ (v2582 : IVec S16 32) (k0_hw2 : k0_chk2 v2582), ∀ a x, ((![v2582] : Fin 1 → IVec S16 32) a x).toNat < S100000.size a := fun v2582 k0_hw2 => k0_hw2
def k0_off7 (k0_t2 : Fin k0_t2_loop.trips) : Fin 2 → Nat :=
  let c1_i32_1821 : BitVec 32 := 1#32
  let v2585 : Index := Scalar.indexCast c1_i32_1821
  let c0_i32_1817 : BitVec 32 := 0#32
  let c0_i32_20 : BitVec 32 := 0#32
  let c1_i32_22 : BitVec 32 := 1#32
  let arg10 : BitVec 32 := Scf.iv c0_i32_20 c1_i32_22 k0_t2
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
def k0_off8 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let v3 : BitVec 32 := Scalar.addi v2 c0_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c32_i32 : BitVec 32 := 32#32
  let c0_i32_2 : BitVec 32 := 0#32
  let v10 : BitVec 1 := Scalar.cmpi .sgt c32_i32 c0_i32_2
  let v11 : BitVec 32 := Scalar.extui v10
  let c0_i32_3 : BitVec 32 := 0#32
  let v12 : BitVec 1 := Scalar.cmpi .slt c32_i32 c0_i32_3
  let v13 : BitVec 32 := Scalar.extui v12
  let v14 : BitVec 32 := Scalar.subi v11 v13
  let v15 : BitVec 1 := Scalar.cmpi .ne v9 v14
  let v16 : BitVec 32 := Scalar.remsi v3 c32_i32
  let c0_i32_4 : BitVec 32 := 0#32
  let v17 : BitVec 1 := Scalar.cmpi .ne v16 c0_i32_4
  let v18 : BitVec 1 := Scalar.andi v15 v17
  let v4 : BitVec 32 := Scalar.divsi v3 c32_i32
  let c1_i32 : BitVec 32 := 1#32
  let v19 : BitVec 32 := Scalar.subi v4 c1_i32
  let v20 : BitVec 32 := Scalar.select v18 v19 v4
  let c32_i32_5 : BitVec 32 := 32#32
  let c0_i32_6 : BitVec 32 := 0#32
  let v21 : BitVec 1 := Scalar.cmpi .eq c32_i32_5 c0_i32_6
  let c1_i32_7 : BitVec 32 := 1#32
  let v22 : BitVec 32 := Scalar.select v21 c1_i32_7 c32_i32_5
  let v23 : BitVec 32 := Scalar.remsi v3 v22
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let c0_i32_8 : BitVec 32 := 0#32
  let v24 : BitVec 1 := Scalar.cmpi .ne v23 c0_i32_8
  let v28 : BitVec 1 := Scalar.andi v27 v24
  let v29 : BitVec 32 := Scalar.addi v23 v22
  let v30 : BitVec 32 := Scalar.select v28 v29 v23
  let c4096_i32 : BitVec 32 := 4096#32
  ![v20.toNat, v30.toNat, 4096]
@[reducible] def k0_t3_loop : Scf.Loop 32 :=
  let c0_i32_33 : BitVec 32 := 0#32
  let c256_i32_34 : BitVec 32 := 256#32
  let v60 : BitVec 32 := Scalar.addi c0_i32_33 c256_i32_34
  let c1_i32_35 : BitVec 32 := 1#32
  ⟨c0_i32_33, v60, c1_i32_35⟩
def k0_off9 (k0_t3 : Fin k0_t3_loop.trips) : Fin 1 → Nat :=
  let c8192_i32_1819 : BitVec 32 := 8192#32
  let c0_i32_1817 : BitVec 32 := 0#32
  let c0_i32_33 : BitVec 32 := 0#32
  let c1_i32_35 : BitVec 32 := 1#32
  let arg10 : BitVec 32 := Scf.iv c0_i32_33 c1_i32_35 k0_t3
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c8192_i32_1819 v2579
  let v2581 : Index := Scalar.indexCast v2580
  ![v2581.toNat]

def k0_chk3 (v2582 : IVec S16 32) : Prop :=
  (∀ a x, ((![v2582] : Fin 1 → IVec S16 32) a x).toNat < S100000.size a)
theorem k0_idx3_inb : ∀ (v2582 : IVec S16 32) (k0_hw3 : k0_chk3 v2582), ∀ a x, ((![v2582] : Fin 1 → IVec S16 32) a x).toNat < S100000.size a := fun v2582 k0_hw3 => k0_hw3
def k0_off10 (k0_t3 : Fin k0_t3_loop.trips) : Fin 2 → Nat :=
  let c0_i32_1821 : BitVec 32 := 0#32
  let v2585 : Index := Scalar.indexCast c0_i32_1821
  let c0_i32_1817 : BitVec 32 := 0#32
  let c0_i32_33 : BitVec 32 := 0#32
  let c1_i32_35 : BitVec 32 := 1#32
  let arg10 : BitVec 32 := Scf.iv c0_i32_33 c1_i32_35 k0_t3
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
def k0_off11 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let v3 : BitVec 32 := Scalar.addi v2 c0_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c32_i32 : BitVec 32 := 32#32
  let c0_i32_2 : BitVec 32 := 0#32
  let v10 : BitVec 1 := Scalar.cmpi .sgt c32_i32 c0_i32_2
  let v11 : BitVec 32 := Scalar.extui v10
  let c0_i32_3 : BitVec 32 := 0#32
  let v12 : BitVec 1 := Scalar.cmpi .slt c32_i32 c0_i32_3
  let v13 : BitVec 32 := Scalar.extui v12
  let v14 : BitVec 32 := Scalar.subi v11 v13
  let v15 : BitVec 1 := Scalar.cmpi .ne v9 v14
  let v16 : BitVec 32 := Scalar.remsi v3 c32_i32
  let c0_i32_4 : BitVec 32 := 0#32
  let v17 : BitVec 1 := Scalar.cmpi .ne v16 c0_i32_4
  let v18 : BitVec 1 := Scalar.andi v15 v17
  let v4 : BitVec 32 := Scalar.divsi v3 c32_i32
  let c1_i32 : BitVec 32 := 1#32
  let v19 : BitVec 32 := Scalar.subi v4 c1_i32
  let v20 : BitVec 32 := Scalar.select v18 v19 v4
  let c32_i32_5 : BitVec 32 := 32#32
  let c0_i32_6 : BitVec 32 := 0#32
  let v21 : BitVec 1 := Scalar.cmpi .eq c32_i32_5 c0_i32_6
  let c1_i32_7 : BitVec 32 := 1#32
  let v22 : BitVec 32 := Scalar.select v21 c1_i32_7 c32_i32_5
  let v23 : BitVec 32 := Scalar.remsi v3 v22
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let c0_i32_8 : BitVec 32 := 0#32
  let v24 : BitVec 1 := Scalar.cmpi .ne v23 c0_i32_8
  let v28 : BitVec 1 := Scalar.andi v27 v24
  let v29 : BitVec 32 := Scalar.addi v23 v22
  let v30 : BitVec 32 := Scalar.select v28 v29 v23
  let c8192_i32 : BitVec 32 := 8192#32
  ![v20.toNat, v30.toNat, 8192]
@[reducible] def k0_t4_loop : Scf.Loop 32 :=
  let c0_i32_46 : BitVec 32 := 0#32
  let c256_i32_47 : BitVec 32 := 256#32
  let v77 : BitVec 32 := Scalar.addi c0_i32_46 c256_i32_47
  let c1_i32_48 : BitVec 32 := 1#32
  ⟨c0_i32_46, v77, c1_i32_48⟩
def k0_off12 (k0_t4 : Fin k0_t4_loop.trips) : Fin 1 → Nat :=
  let c12288_i32_1819 : BitVec 32 := 12288#32
  let c0_i32_1817 : BitVec 32 := 0#32
  let c0_i32_46 : BitVec 32 := 0#32
  let c1_i32_48 : BitVec 32 := 1#32
  let arg10 : BitVec 32 := Scf.iv c0_i32_46 c1_i32_48 k0_t4
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c12288_i32_1819 v2579
  let v2581 : Index := Scalar.indexCast v2580
  ![v2581.toNat]

def k0_chk4 (v2582 : IVec S16 32) : Prop :=
  (∀ a x, ((![v2582] : Fin 1 → IVec S16 32) a x).toNat < S100000.size a)
theorem k0_idx4_inb : ∀ (v2582 : IVec S16 32) (k0_hw4 : k0_chk4 v2582), ∀ a x, ((![v2582] : Fin 1 → IVec S16 32) a x).toNat < S100000.size a := fun v2582 k0_hw4 => k0_hw4
def k0_off13 (k0_t4 : Fin k0_t4_loop.trips) : Fin 2 → Nat :=
  let c1_i32_1821 : BitVec 32 := 1#32
  let v2585 : Index := Scalar.indexCast c1_i32_1821
  let c0_i32_1817 : BitVec 32 := 0#32
  let c0_i32_46 : BitVec 32 := 0#32
  let c1_i32_48 : BitVec 32 := 1#32
  let arg10 : BitVec 32 := Scf.iv c0_i32_46 c1_i32_48 k0_t4
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
def k0_off14 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let v3 : BitVec 32 := Scalar.addi v2 c0_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c32_i32 : BitVec 32 := 32#32
  let c0_i32_2 : BitVec 32 := 0#32
  let v10 : BitVec 1 := Scalar.cmpi .sgt c32_i32 c0_i32_2
  let v11 : BitVec 32 := Scalar.extui v10
  let c0_i32_3 : BitVec 32 := 0#32
  let v12 : BitVec 1 := Scalar.cmpi .slt c32_i32 c0_i32_3
  let v13 : BitVec 32 := Scalar.extui v12
  let v14 : BitVec 32 := Scalar.subi v11 v13
  let v15 : BitVec 1 := Scalar.cmpi .ne v9 v14
  let v16 : BitVec 32 := Scalar.remsi v3 c32_i32
  let c0_i32_4 : BitVec 32 := 0#32
  let v17 : BitVec 1 := Scalar.cmpi .ne v16 c0_i32_4
  let v18 : BitVec 1 := Scalar.andi v15 v17
  let v4 : BitVec 32 := Scalar.divsi v3 c32_i32
  let c1_i32 : BitVec 32 := 1#32
  let v19 : BitVec 32 := Scalar.subi v4 c1_i32
  let v20 : BitVec 32 := Scalar.select v18 v19 v4
  let c32_i32_5 : BitVec 32 := 32#32
  let c0_i32_6 : BitVec 32 := 0#32
  let v21 : BitVec 1 := Scalar.cmpi .eq c32_i32_5 c0_i32_6
  let c1_i32_7 : BitVec 32 := 1#32
  let v22 : BitVec 32 := Scalar.select v21 c1_i32_7 c32_i32_5
  let v23 : BitVec 32 := Scalar.remsi v3 v22
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let c0_i32_8 : BitVec 32 := 0#32
  let v24 : BitVec 1 := Scalar.cmpi .ne v23 c0_i32_8
  let v28 : BitVec 1 := Scalar.andi v27 v24
  let v29 : BitVec 32 := Scalar.addi v23 v22
  let v30 : BitVec 32 := Scalar.select v28 v29 v23
  let c12288_i32 : BitVec 32 := 12288#32
  ![v20.toNat, v30.toNat, 12288]
def k0_cond2 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c1_i32_54 : BitVec 32 := 1#32
  let v86 : BitVec 32 := Scalar.addi v2 c1_i32_54
  let c0_i32_56 : BitVec 32 := 0#32
  let v88 : BitVec 1 := Scalar.cmpi .sgt v86 c0_i32_56
  let v89 : BitVec 32 := Scalar.extui v88
  let c0_i32_57 : BitVec 32 := 0#32
  let v90 : BitVec 1 := Scalar.cmpi .slt v86 c0_i32_57
  let v91 : BitVec 32 := Scalar.extui v90
  let v92 : BitVec 32 := Scalar.subi v89 v91
  let c32_i32_55 : BitVec 32 := 32#32
  let c0_i32_58 : BitVec 32 := 0#32
  let v93 : BitVec 1 := Scalar.cmpi .sgt c32_i32_55 c0_i32_58
  let v94 : BitVec 32 := Scalar.extui v93
  let c0_i32_59 : BitVec 32 := 0#32
  let v95 : BitVec 1 := Scalar.cmpi .slt c32_i32_55 c0_i32_59
  let v96 : BitVec 32 := Scalar.extui v95
  let v97 : BitVec 32 := Scalar.subi v94 v96
  let v98 : BitVec 1 := Scalar.cmpi .ne v92 v97
  let v99 : BitVec 32 := Scalar.remsi v86 c32_i32_55
  let c0_i32_60 : BitVec 32 := 0#32
  let v100 : BitVec 1 := Scalar.cmpi .ne v99 c0_i32_60
  let v101 : BitVec 1 := Scalar.andi v98 v100
  let v87 : BitVec 32 := Scalar.divsi v86 c32_i32_55
  let c1_i32_61 : BitVec 32 := 1#32
  let v102 : BitVec 32 := Scalar.subi v87 c1_i32_61
  let v103 : BitVec 32 := Scalar.select v101 v102 v87
  let c0_i32 : BitVec 32 := 0#32
  let v3 : BitVec 32 := Scalar.addi v2 c0_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c32_i32 : BitVec 32 := 32#32
  let c0_i32_2 : BitVec 32 := 0#32
  let v10 : BitVec 1 := Scalar.cmpi .sgt c32_i32 c0_i32_2
  let v11 : BitVec 32 := Scalar.extui v10
  let c0_i32_3 : BitVec 32 := 0#32
  let v12 : BitVec 1 := Scalar.cmpi .slt c32_i32 c0_i32_3
  let v13 : BitVec 32 := Scalar.extui v12
  let v14 : BitVec 32 := Scalar.subi v11 v13
  let v15 : BitVec 1 := Scalar.cmpi .ne v9 v14
  let v16 : BitVec 32 := Scalar.remsi v3 c32_i32
  let c0_i32_4 : BitVec 32 := 0#32
  let v17 : BitVec 1 := Scalar.cmpi .ne v16 c0_i32_4
  let v18 : BitVec 1 := Scalar.andi v15 v17
  let v4 : BitVec 32 := Scalar.divsi v3 c32_i32
  let c1_i32 : BitVec 32 := 1#32
  let v19 : BitVec 32 := Scalar.subi v4 c1_i32
  let v20 : BitVec 32 := Scalar.select v18 v19 v4
  let v114 : BitVec 1 := Scalar.cmpi .ne v103 v20
  let v115 : BitVec 32 := Scalar.extui v114
  let c0_i32_68 : BitVec 32 := 0#32
  let v116 : BitVec 1 := Scalar.cmpi .ne v115 c0_i32_68
  v116

def k0_off15 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c1_i32_54 : BitVec 32 := 1#32
  let v86 : BitVec 32 := Scalar.addi v2 c1_i32_54
  let c0_i32_56 : BitVec 32 := 0#32
  let v88 : BitVec 1 := Scalar.cmpi .sgt v86 c0_i32_56
  let v89 : BitVec 32 := Scalar.extui v88
  let c0_i32_57 : BitVec 32 := 0#32
  let v90 : BitVec 1 := Scalar.cmpi .slt v86 c0_i32_57
  let v91 : BitVec 32 := Scalar.extui v90
  let v92 : BitVec 32 := Scalar.subi v89 v91
  let c32_i32_55 : BitVec 32 := 32#32
  let c0_i32_58 : BitVec 32 := 0#32
  let v93 : BitVec 1 := Scalar.cmpi .sgt c32_i32_55 c0_i32_58
  let v94 : BitVec 32 := Scalar.extui v93
  let c0_i32_59 : BitVec 32 := 0#32
  let v95 : BitVec 1 := Scalar.cmpi .slt c32_i32_55 c0_i32_59
  let v96 : BitVec 32 := Scalar.extui v95
  let v97 : BitVec 32 := Scalar.subi v94 v96
  let v98 : BitVec 1 := Scalar.cmpi .ne v92 v97
  let v99 : BitVec 32 := Scalar.remsi v86 c32_i32_55
  let c0_i32_60 : BitVec 32 := 0#32
  let v100 : BitVec 1 := Scalar.cmpi .ne v99 c0_i32_60
  let v101 : BitVec 1 := Scalar.andi v98 v100
  let v87 : BitVec 32 := Scalar.divsi v86 c32_i32_55
  let c1_i32_61 : BitVec 32 := 1#32
  let v102 : BitVec 32 := Scalar.subi v87 c1_i32_61
  let v103 : BitVec 32 := Scalar.select v101 v102 v87
  let c0_i32_1816_r2 : BitVec 32 := 0#32
  ![v103.toNat, 0]
@[reducible] def k0_t5_loop : Scf.Loop 32 :=
  let c0_i32_74 : BitVec 32 := 0#32
  let c256_i32_75 : BitVec 32 := 256#32
  let v125 : BitVec 32 := Scalar.addi c0_i32_74 c256_i32_75
  let c1_i32_76 : BitVec 32 := 1#32
  ⟨c0_i32_74, v125, c1_i32_76⟩
def k0_off16 (k0_t5 : Fin k0_t5_loop.trips) : Fin 1 → Nat :=
  let c0_i32_1819 : BitVec 32 := 0#32
  let c0_i32_1817 : BitVec 32 := 0#32
  let c0_i32_74 : BitVec 32 := 0#32
  let c1_i32_76 : BitVec 32 := 1#32
  let arg10 : BitVec 32 := Scf.iv c0_i32_74 c1_i32_76 k0_t5
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c0_i32_1819 v2579
  let v2581 : Index := Scalar.indexCast v2580
  ![v2581.toNat]

def k0_chk5 (v2582 : IVec S16 32) : Prop :=
  (∀ a x, ((![v2582] : Fin 1 → IVec S16 32) a x).toNat < S100000.size a)
theorem k0_idx5_inb : ∀ (v2582 : IVec S16 32) (k0_hw5 : k0_chk5 v2582), ∀ a x, ((![v2582] : Fin 1 → IVec S16 32) a x).toNat < S100000.size a := fun v2582 k0_hw5 => k0_hw5
def k0_off17 (k0_t5 : Fin k0_t5_loop.trips) : Fin 2 → Nat :=
  let c0_i32_1821 : BitVec 32 := 0#32
  let v2585 : Index := Scalar.indexCast c0_i32_1821
  let c0_i32_1817 : BitVec 32 := 0#32
  let c0_i32_74 : BitVec 32 := 0#32
  let c1_i32_76 : BitVec 32 := 1#32
  let arg10 : BitVec 32 := Scf.iv c0_i32_74 c1_i32_76 k0_t5
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t6_loop : Scf.Loop 32 :=
  let c0_i32_88 : BitVec 32 := 0#32
  let c256_i32_89 : BitVec 32 := 256#32
  let v142 : BitVec 32 := Scalar.addi c0_i32_88 c256_i32_89
  let c1_i32_90 : BitVec 32 := 1#32
  ⟨c0_i32_88, v142, c1_i32_90⟩
def k0_off18 (k0_t6 : Fin k0_t6_loop.trips) : Fin 1 → Nat :=
  let c4096_i32_1819 : BitVec 32 := 4096#32
  let c0_i32_1817 : BitVec 32 := 0#32
  let c0_i32_88 : BitVec 32 := 0#32
  let c1_i32_90 : BitVec 32 := 1#32
  let arg10 : BitVec 32 := Scf.iv c0_i32_88 c1_i32_90 k0_t6
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c4096_i32_1819 v2579
  let v2581 : Index := Scalar.indexCast v2580
  ![v2581.toNat]

def k0_chk6 (v2582 : IVec S16 32) : Prop :=
  (∀ a x, ((![v2582] : Fin 1 → IVec S16 32) a x).toNat < S100000.size a)
theorem k0_idx6_inb : ∀ (v2582 : IVec S16 32) (k0_hw6 : k0_chk6 v2582), ∀ a x, ((![v2582] : Fin 1 → IVec S16 32) a x).toNat < S100000.size a := fun v2582 k0_hw6 => k0_hw6
def k0_off19 (k0_t6 : Fin k0_t6_loop.trips) : Fin 2 → Nat :=
  let c1_i32_1821 : BitVec 32 := 1#32
  let v2585 : Index := Scalar.indexCast c1_i32_1821
  let c0_i32_1817 : BitVec 32 := 0#32
  let c0_i32_88 : BitVec 32 := 0#32
  let c1_i32_90 : BitVec 32 := 1#32
  let arg10 : BitVec 32 := Scf.iv c0_i32_88 c1_i32_90 k0_t6
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
@[reducible] def k0_t7_loop : Scf.Loop 32 :=
  let c0_i32_102 : BitVec 32 := 0#32
  let c256_i32_103 : BitVec 32 := 256#32
  let v159 : BitVec 32 := Scalar.addi c0_i32_102 c256_i32_103
  let c1_i32_104 : BitVec 32 := 1#32
  ⟨c0_i32_102, v159, c1_i32_104⟩
def k0_off20 (k0_t7 : Fin k0_t7_loop.trips) : Fin 1 → Nat :=
  let c8192_i32_1819 : BitVec 32 := 8192#32
  let c0_i32_1817 : BitVec 32 := 0#32
  let c0_i32_102 : BitVec 32 := 0#32
  let c1_i32_104 : BitVec 32 := 1#32
  let arg10 : BitVec 32 := Scf.iv c0_i32_102 c1_i32_104 k0_t7
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c8192_i32_1819 v2579
  let v2581 : Index := Scalar.indexCast v2580
  ![v2581.toNat]

def k0_chk7 (v2582 : IVec S16 32) : Prop :=
  (∀ a x, ((![v2582] : Fin 1 → IVec S16 32) a x).toNat < S100000.size a)
theorem k0_idx7_inb : ∀ (v2582 : IVec S16 32) (k0_hw7 : k0_chk7 v2582), ∀ a x, ((![v2582] : Fin 1 → IVec S16 32) a x).toNat < S100000.size a := fun v2582 k0_hw7 => k0_hw7
def k0_off21 (k0_t7 : Fin k0_t7_loop.trips) : Fin 2 → Nat :=
  let c0_i32_1821 : BitVec 32 := 0#32
  let v2585 : Index := Scalar.indexCast c0_i32_1821
  let c0_i32_1817 : BitVec 32 := 0#32
  let c0_i32_102 : BitVec 32 := 0#32
  let c1_i32_104 : BitVec 32 := 1#32
  let arg10 : BitVec 32 := Scf.iv c0_i32_102 c1_i32_104 k0_t7
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t8_loop : Scf.Loop 32 :=
  let c0_i32_116 : BitVec 32 := 0#32
  let c256_i32_117 : BitVec 32 := 256#32
  let v176 : BitVec 32 := Scalar.addi c0_i32_116 c256_i32_117
  let c1_i32_118 : BitVec 32 := 1#32
  ⟨c0_i32_116, v176, c1_i32_118⟩
def k0_off22 (k0_t8 : Fin k0_t8_loop.trips) : Fin 1 → Nat :=
  let c12288_i32_1819 : BitVec 32 := 12288#32
  let c0_i32_1817 : BitVec 32 := 0#32
  let c0_i32_116 : BitVec 32 := 0#32
  let c1_i32_118 : BitVec 32 := 1#32
  let arg10 : BitVec 32 := Scf.iv c0_i32_116 c1_i32_118 k0_t8
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c12288_i32_1819 v2579
  let v2581 : Index := Scalar.indexCast v2580
  ![v2581.toNat]

def k0_chk8 (v2582 : IVec S16 32) : Prop :=
  (∀ a x, ((![v2582] : Fin 1 → IVec S16 32) a x).toNat < S100000.size a)
theorem k0_idx8_inb : ∀ (v2582 : IVec S16 32) (k0_hw8 : k0_chk8 v2582), ∀ a x, ((![v2582] : Fin 1 → IVec S16 32) a x).toNat < S100000.size a := fun v2582 k0_hw8 => k0_hw8
def k0_off23 (k0_t8 : Fin k0_t8_loop.trips) : Fin 2 → Nat :=
  let c1_i32_1821 : BitVec 32 := 1#32
  let v2585 : Index := Scalar.indexCast c1_i32_1821
  let c0_i32_1817 : BitVec 32 := 0#32
  let c0_i32_116 : BitVec 32 := 0#32
  let c1_i32_118 : BitVec 32 := 1#32
  let arg10 : BitVec 32 := Scf.iv c0_i32_116 c1_i32_118 k0_t8
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
def k0_cond3 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c2_i32_125 : BitVec 32 := 2#32
  let v185 : BitVec 32 := Scalar.addi v2 c2_i32_125
  let c0_i32_127 : BitVec 32 := 0#32
  let v187 : BitVec 1 := Scalar.cmpi .sgt v185 c0_i32_127
  let v188 : BitVec 32 := Scalar.extui v187
  let c0_i32_128 : BitVec 32 := 0#32
  let v189 : BitVec 1 := Scalar.cmpi .slt v185 c0_i32_128
  let v190 : BitVec 32 := Scalar.extui v189
  let v191 : BitVec 32 := Scalar.subi v188 v190
  let c32_i32_126 : BitVec 32 := 32#32
  let c0_i32_129 : BitVec 32 := 0#32
  let v192 : BitVec 1 := Scalar.cmpi .sgt c32_i32_126 c0_i32_129
  let v193 : BitVec 32 := Scalar.extui v192
  let c0_i32_130 : BitVec 32 := 0#32
  let v194 : BitVec 1 := Scalar.cmpi .slt c32_i32_126 c0_i32_130
  let v195 : BitVec 32 := Scalar.extui v194
  let v196 : BitVec 32 := Scalar.subi v193 v195
  let v197 : BitVec 1 := Scalar.cmpi .ne v191 v196
  let v198 : BitVec 32 := Scalar.remsi v185 c32_i32_126
  let c0_i32_131 : BitVec 32 := 0#32
  let v199 : BitVec 1 := Scalar.cmpi .ne v198 c0_i32_131
  let v200 : BitVec 1 := Scalar.andi v197 v199
  let v186 : BitVec 32 := Scalar.divsi v185 c32_i32_126
  let c1_i32_132 : BitVec 32 := 1#32
  let v201 : BitVec 32 := Scalar.subi v186 c1_i32_132
  let v202 : BitVec 32 := Scalar.select v200 v201 v186
  let c1_i32_54 : BitVec 32 := 1#32
  let v86 : BitVec 32 := Scalar.addi v2 c1_i32_54
  let c0_i32_56 : BitVec 32 := 0#32
  let v88 : BitVec 1 := Scalar.cmpi .sgt v86 c0_i32_56
  let v89 : BitVec 32 := Scalar.extui v88
  let c0_i32_57 : BitVec 32 := 0#32
  let v90 : BitVec 1 := Scalar.cmpi .slt v86 c0_i32_57
  let v91 : BitVec 32 := Scalar.extui v90
  let v92 : BitVec 32 := Scalar.subi v89 v91
  let c32_i32_55 : BitVec 32 := 32#32
  let c0_i32_58 : BitVec 32 := 0#32
  let v93 : BitVec 1 := Scalar.cmpi .sgt c32_i32_55 c0_i32_58
  let v94 : BitVec 32 := Scalar.extui v93
  let c0_i32_59 : BitVec 32 := 0#32
  let v95 : BitVec 1 := Scalar.cmpi .slt c32_i32_55 c0_i32_59
  let v96 : BitVec 32 := Scalar.extui v95
  let v97 : BitVec 32 := Scalar.subi v94 v96
  let v98 : BitVec 1 := Scalar.cmpi .ne v92 v97
  let v99 : BitVec 32 := Scalar.remsi v86 c32_i32_55
  let c0_i32_60 : BitVec 32 := 0#32
  let v100 : BitVec 1 := Scalar.cmpi .ne v99 c0_i32_60
  let v101 : BitVec 1 := Scalar.andi v98 v100
  let v87 : BitVec 32 := Scalar.divsi v86 c32_i32_55
  let c1_i32_61 : BitVec 32 := 1#32
  let v102 : BitVec 32 := Scalar.subi v87 c1_i32_61
  let v103 : BitVec 32 := Scalar.select v101 v102 v87
  let v213 : BitVec 1 := Scalar.cmpi .ne v202 v103
  let v214 : BitVec 32 := Scalar.extui v213
  let c0_i32_139 : BitVec 32 := 0#32
  let v215 : BitVec 1 := Scalar.cmpi .ne v214 c0_i32_139
  v215

def k0_off24 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c2_i32_125 : BitVec 32 := 2#32
  let v185 : BitVec 32 := Scalar.addi v2 c2_i32_125
  let c0_i32_127 : BitVec 32 := 0#32
  let v187 : BitVec 1 := Scalar.cmpi .sgt v185 c0_i32_127
  let v188 : BitVec 32 := Scalar.extui v187
  let c0_i32_128 : BitVec 32 := 0#32
  let v189 : BitVec 1 := Scalar.cmpi .slt v185 c0_i32_128
  let v190 : BitVec 32 := Scalar.extui v189
  let v191 : BitVec 32 := Scalar.subi v188 v190
  let c32_i32_126 : BitVec 32 := 32#32
  let c0_i32_129 : BitVec 32 := 0#32
  let v192 : BitVec 1 := Scalar.cmpi .sgt c32_i32_126 c0_i32_129
  let v193 : BitVec 32 := Scalar.extui v192
  let c0_i32_130 : BitVec 32 := 0#32
  let v194 : BitVec 1 := Scalar.cmpi .slt c32_i32_126 c0_i32_130
  let v195 : BitVec 32 := Scalar.extui v194
  let v196 : BitVec 32 := Scalar.subi v193 v195
  let v197 : BitVec 1 := Scalar.cmpi .ne v191 v196
  let v198 : BitVec 32 := Scalar.remsi v185 c32_i32_126
  let c0_i32_131 : BitVec 32 := 0#32
  let v199 : BitVec 1 := Scalar.cmpi .ne v198 c0_i32_131
  let v200 : BitVec 1 := Scalar.andi v197 v199
  let v186 : BitVec 32 := Scalar.divsi v185 c32_i32_126
  let c1_i32_132 : BitVec 32 := 1#32
  let v201 : BitVec 32 := Scalar.subi v186 c1_i32_132
  let v202 : BitVec 32 := Scalar.select v200 v201 v186
  let c0_i32_1816_r4 : BitVec 32 := 0#32
  ![v202.toNat, 0]
@[reducible] def k0_t9_loop : Scf.Loop 32 :=
  let c0_i32_145 : BitVec 32 := 0#32
  let c256_i32_146 : BitVec 32 := 256#32
  let v224 : BitVec 32 := Scalar.addi c0_i32_145 c256_i32_146
  let c1_i32_147 : BitVec 32 := 1#32
  ⟨c0_i32_145, v224, c1_i32_147⟩
def k0_off25 (k0_t9 : Fin k0_t9_loop.trips) : Fin 1 → Nat :=
  let c0_i32_1819 : BitVec 32 := 0#32
  let c0_i32_1817 : BitVec 32 := 0#32
  let c0_i32_145 : BitVec 32 := 0#32
  let c1_i32_147 : BitVec 32 := 1#32
  let arg10 : BitVec 32 := Scf.iv c0_i32_145 c1_i32_147 k0_t9
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c0_i32_1819 v2579
  let v2581 : Index := Scalar.indexCast v2580
  ![v2581.toNat]

def k0_chk9 (v2582 : IVec S16 32) : Prop :=
  (∀ a x, ((![v2582] : Fin 1 → IVec S16 32) a x).toNat < S100000.size a)
theorem k0_idx9_inb : ∀ (v2582 : IVec S16 32) (k0_hw9 : k0_chk9 v2582), ∀ a x, ((![v2582] : Fin 1 → IVec S16 32) a x).toNat < S100000.size a := fun v2582 k0_hw9 => k0_hw9
def k0_off26 (k0_t9 : Fin k0_t9_loop.trips) : Fin 2 → Nat :=
  let c0_i32_1821 : BitVec 32 := 0#32
  let v2585 : Index := Scalar.indexCast c0_i32_1821
  let c0_i32_1817 : BitVec 32 := 0#32
  let c0_i32_145 : BitVec 32 := 0#32
  let c1_i32_147 : BitVec 32 := 1#32
  let arg10 : BitVec 32 := Scf.iv c0_i32_145 c1_i32_147 k0_t9
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t10_loop : Scf.Loop 32 :=
  let c0_i32_159 : BitVec 32 := 0#32
  let c256_i32_160 : BitVec 32 := 256#32
  let v241 : BitVec 32 := Scalar.addi c0_i32_159 c256_i32_160
  let c1_i32_161 : BitVec 32 := 1#32
  ⟨c0_i32_159, v241, c1_i32_161⟩
def k0_off27 (k0_t10 : Fin k0_t10_loop.trips) : Fin 1 → Nat :=
  let c4096_i32_1819 : BitVec 32 := 4096#32
  let c0_i32_1817 : BitVec 32 := 0#32
  let c0_i32_159 : BitVec 32 := 0#32
  let c1_i32_161 : BitVec 32 := 1#32
  let arg10 : BitVec 32 := Scf.iv c0_i32_159 c1_i32_161 k0_t10
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c4096_i32_1819 v2579
  let v2581 : Index := Scalar.indexCast v2580
  ![v2581.toNat]

def k0_chk10 (v2582 : IVec S16 32) : Prop :=
  (∀ a x, ((![v2582] : Fin 1 → IVec S16 32) a x).toNat < S100000.size a)
theorem k0_idx10_inb : ∀ (v2582 : IVec S16 32) (k0_hw10 : k0_chk10 v2582), ∀ a x, ((![v2582] : Fin 1 → IVec S16 32) a x).toNat < S100000.size a := fun v2582 k0_hw10 => k0_hw10
def k0_off28 (k0_t10 : Fin k0_t10_loop.trips) : Fin 2 → Nat :=
  let c1_i32_1821 : BitVec 32 := 1#32
  let v2585 : Index := Scalar.indexCast c1_i32_1821
  let c0_i32_1817 : BitVec 32 := 0#32
  let c0_i32_159 : BitVec 32 := 0#32
  let c1_i32_161 : BitVec 32 := 1#32
  let arg10 : BitVec 32 := Scf.iv c0_i32_159 c1_i32_161 k0_t10
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
@[reducible] def k0_t11_loop : Scf.Loop 32 :=
  let c0_i32_173 : BitVec 32 := 0#32
  let c256_i32_174 : BitVec 32 := 256#32
  let v258 : BitVec 32 := Scalar.addi c0_i32_173 c256_i32_174
  let c1_i32_175 : BitVec 32 := 1#32
  ⟨c0_i32_173, v258, c1_i32_175⟩
def k0_off29 (k0_t11 : Fin k0_t11_loop.trips) : Fin 1 → Nat :=
  let c8192_i32_1819 : BitVec 32 := 8192#32
  let c0_i32_1817 : BitVec 32 := 0#32
  let c0_i32_173 : BitVec 32 := 0#32
  let c1_i32_175 : BitVec 32 := 1#32
  let arg10 : BitVec 32 := Scf.iv c0_i32_173 c1_i32_175 k0_t11
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c8192_i32_1819 v2579
  let v2581 : Index := Scalar.indexCast v2580
  ![v2581.toNat]

def k0_chk11 (v2582 : IVec S16 32) : Prop :=
  (∀ a x, ((![v2582] : Fin 1 → IVec S16 32) a x).toNat < S100000.size a)
theorem k0_idx11_inb : ∀ (v2582 : IVec S16 32) (k0_hw11 : k0_chk11 v2582), ∀ a x, ((![v2582] : Fin 1 → IVec S16 32) a x).toNat < S100000.size a := fun v2582 k0_hw11 => k0_hw11
def k0_off30 (k0_t11 : Fin k0_t11_loop.trips) : Fin 2 → Nat :=
  let c0_i32_1821 : BitVec 32 := 0#32
  let v2585 : Index := Scalar.indexCast c0_i32_1821
  let c0_i32_1817 : BitVec 32 := 0#32
  let c0_i32_173 : BitVec 32 := 0#32
  let c1_i32_175 : BitVec 32 := 1#32
  let arg10 : BitVec 32 := Scf.iv c0_i32_173 c1_i32_175 k0_t11
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t12_loop : Scf.Loop 32 :=
  let c0_i32_187 : BitVec 32 := 0#32
  let c256_i32_188 : BitVec 32 := 256#32
  let v275 : BitVec 32 := Scalar.addi c0_i32_187 c256_i32_188
  let c1_i32_189 : BitVec 32 := 1#32
  ⟨c0_i32_187, v275, c1_i32_189⟩
def k0_off31 (k0_t12 : Fin k0_t12_loop.trips) : Fin 1 → Nat :=
  let c12288_i32_1819 : BitVec 32 := 12288#32
  let c0_i32_1817 : BitVec 32 := 0#32
  let c0_i32_187 : BitVec 32 := 0#32
  let c1_i32_189 : BitVec 32 := 1#32
  let arg10 : BitVec 32 := Scf.iv c0_i32_187 c1_i32_189 k0_t12
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c12288_i32_1819 v2579
  let v2581 : Index := Scalar.indexCast v2580
  ![v2581.toNat]

def k0_chk12 (v2582 : IVec S16 32) : Prop :=
  (∀ a x, ((![v2582] : Fin 1 → IVec S16 32) a x).toNat < S100000.size a)
theorem k0_idx12_inb : ∀ (v2582 : IVec S16 32) (k0_hw12 : k0_chk12 v2582), ∀ a x, ((![v2582] : Fin 1 → IVec S16 32) a x).toNat < S100000.size a := fun v2582 k0_hw12 => k0_hw12
def k0_off32 (k0_t12 : Fin k0_t12_loop.trips) : Fin 2 → Nat :=
  let c1_i32_1821 : BitVec 32 := 1#32
  let v2585 : Index := Scalar.indexCast c1_i32_1821
  let c0_i32_1817 : BitVec 32 := 0#32
  let c0_i32_187 : BitVec 32 := 0#32
  let c1_i32_189 : BitVec 32 := 1#32
  let arg10 : BitVec 32 := Scf.iv c0_i32_187 c1_i32_189 k0_t12
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
def k0_cond4 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c3_i32 : BitVec 32 := 3#32
  let v284 : BitVec 32 := Scalar.addi v2 c3_i32
  let c0_i32_197 : BitVec 32 := 0#32
  let v286 : BitVec 1 := Scalar.cmpi .sgt v284 c0_i32_197
  let v287 : BitVec 32 := Scalar.extui v286
  let c0_i32_198 : BitVec 32 := 0#32
  let v288 : BitVec 1 := Scalar.cmpi .slt v284 c0_i32_198
  let v289 : BitVec 32 := Scalar.extui v288
  let v290 : BitVec 32 := Scalar.subi v287 v289
  let c32_i32_196 : BitVec 32 := 32#32
  let c0_i32_199 : BitVec 32 := 0#32
  let v291 : BitVec 1 := Scalar.cmpi .sgt c32_i32_196 c0_i32_199
  let v292 : BitVec 32 := Scalar.extui v291
  let c0_i32_200 : BitVec 32 := 0#32
  let v293 : BitVec 1 := Scalar.cmpi .slt c32_i32_196 c0_i32_200
  let v294 : BitVec 32 := Scalar.extui v293
  let v295 : BitVec 32 := Scalar.subi v292 v294
  let v296 : BitVec 1 := Scalar.cmpi .ne v290 v295
  let v297 : BitVec 32 := Scalar.remsi v284 c32_i32_196
  let c0_i32_201 : BitVec 32 := 0#32
  let v298 : BitVec 1 := Scalar.cmpi .ne v297 c0_i32_201
  let v299 : BitVec 1 := Scalar.andi v296 v298
  let v285 : BitVec 32 := Scalar.divsi v284 c32_i32_196
  let c1_i32_202 : BitVec 32 := 1#32
  let v300 : BitVec 32 := Scalar.subi v285 c1_i32_202
  let v301 : BitVec 32 := Scalar.select v299 v300 v285
  let c2_i32_125 : BitVec 32 := 2#32
  let v185 : BitVec 32 := Scalar.addi v2 c2_i32_125
  let c0_i32_127 : BitVec 32 := 0#32
  let v187 : BitVec 1 := Scalar.cmpi .sgt v185 c0_i32_127
  let v188 : BitVec 32 := Scalar.extui v187
  let c0_i32_128 : BitVec 32 := 0#32
  let v189 : BitVec 1 := Scalar.cmpi .slt v185 c0_i32_128
  let v190 : BitVec 32 := Scalar.extui v189
  let v191 : BitVec 32 := Scalar.subi v188 v190
  let c32_i32_126 : BitVec 32 := 32#32
  let c0_i32_129 : BitVec 32 := 0#32
  let v192 : BitVec 1 := Scalar.cmpi .sgt c32_i32_126 c0_i32_129
  let v193 : BitVec 32 := Scalar.extui v192
  let c0_i32_130 : BitVec 32 := 0#32
  let v194 : BitVec 1 := Scalar.cmpi .slt c32_i32_126 c0_i32_130
  let v195 : BitVec 32 := Scalar.extui v194
  let v196 : BitVec 32 := Scalar.subi v193 v195
  let v197 : BitVec 1 := Scalar.cmpi .ne v191 v196
  let v198 : BitVec 32 := Scalar.remsi v185 c32_i32_126
  let c0_i32_131 : BitVec 32 := 0#32
  let v199 : BitVec 1 := Scalar.cmpi .ne v198 c0_i32_131
  let v200 : BitVec 1 := Scalar.andi v197 v199
  let v186 : BitVec 32 := Scalar.divsi v185 c32_i32_126
  let c1_i32_132 : BitVec 32 := 1#32
  let v201 : BitVec 32 := Scalar.subi v186 c1_i32_132
  let v202 : BitVec 32 := Scalar.select v200 v201 v186
  let v312 : BitVec 1 := Scalar.cmpi .ne v301 v202
  let v313 : BitVec 32 := Scalar.extui v312
  let c0_i32_209 : BitVec 32 := 0#32
  let v314 : BitVec 1 := Scalar.cmpi .ne v313 c0_i32_209
  v314

def k0_off33 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c3_i32 : BitVec 32 := 3#32
  let v284 : BitVec 32 := Scalar.addi v2 c3_i32
  let c0_i32_197 : BitVec 32 := 0#32
  let v286 : BitVec 1 := Scalar.cmpi .sgt v284 c0_i32_197
  let v287 : BitVec 32 := Scalar.extui v286
  let c0_i32_198 : BitVec 32 := 0#32
  let v288 : BitVec 1 := Scalar.cmpi .slt v284 c0_i32_198
  let v289 : BitVec 32 := Scalar.extui v288
  let v290 : BitVec 32 := Scalar.subi v287 v289
  let c32_i32_196 : BitVec 32 := 32#32
  let c0_i32_199 : BitVec 32 := 0#32
  let v291 : BitVec 1 := Scalar.cmpi .sgt c32_i32_196 c0_i32_199
  let v292 : BitVec 32 := Scalar.extui v291
  let c0_i32_200 : BitVec 32 := 0#32
  let v293 : BitVec 1 := Scalar.cmpi .slt c32_i32_196 c0_i32_200
  let v294 : BitVec 32 := Scalar.extui v293
  let v295 : BitVec 32 := Scalar.subi v292 v294
  let v296 : BitVec 1 := Scalar.cmpi .ne v290 v295
  let v297 : BitVec 32 := Scalar.remsi v284 c32_i32_196
  let c0_i32_201 : BitVec 32 := 0#32
  let v298 : BitVec 1 := Scalar.cmpi .ne v297 c0_i32_201
  let v299 : BitVec 1 := Scalar.andi v296 v298
  let v285 : BitVec 32 := Scalar.divsi v284 c32_i32_196
  let c1_i32_202 : BitVec 32 := 1#32
  let v300 : BitVec 32 := Scalar.subi v285 c1_i32_202
  let v301 : BitVec 32 := Scalar.select v299 v300 v285
  let c0_i32_1816_r6 : BitVec 32 := 0#32
  ![v301.toNat, 0]
@[reducible] def k0_t13_loop : Scf.Loop 32 :=
  let c0_i32_215 : BitVec 32 := 0#32
  let c256_i32_216 : BitVec 32 := 256#32
  let v323 : BitVec 32 := Scalar.addi c0_i32_215 c256_i32_216
  let c1_i32_217 : BitVec 32 := 1#32
  ⟨c0_i32_215, v323, c1_i32_217⟩
def k0_off34 (k0_t13 : Fin k0_t13_loop.trips) : Fin 1 → Nat :=
  let c0_i32_1819 : BitVec 32 := 0#32
  let c0_i32_1817 : BitVec 32 := 0#32
  let c0_i32_215 : BitVec 32 := 0#32
  let c1_i32_217 : BitVec 32 := 1#32
  let arg10 : BitVec 32 := Scf.iv c0_i32_215 c1_i32_217 k0_t13
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c0_i32_1819 v2579
  let v2581 : Index := Scalar.indexCast v2580
  ![v2581.toNat]

def k0_chk13 (v2582 : IVec S16 32) : Prop :=
  (∀ a x, ((![v2582] : Fin 1 → IVec S16 32) a x).toNat < S100000.size a)
theorem k0_idx13_inb : ∀ (v2582 : IVec S16 32) (k0_hw13 : k0_chk13 v2582), ∀ a x, ((![v2582] : Fin 1 → IVec S16 32) a x).toNat < S100000.size a := fun v2582 k0_hw13 => k0_hw13
def k0_off35 (k0_t13 : Fin k0_t13_loop.trips) : Fin 2 → Nat :=
  let c0_i32_1821 : BitVec 32 := 0#32
  let v2585 : Index := Scalar.indexCast c0_i32_1821
  let c0_i32_1817 : BitVec 32 := 0#32
  let c0_i32_215 : BitVec 32 := 0#32
  let c1_i32_217 : BitVec 32 := 1#32
  let arg10 : BitVec 32 := Scf.iv c0_i32_215 c1_i32_217 k0_t13
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t14_loop : Scf.Loop 32 :=
  let c0_i32_229 : BitVec 32 := 0#32
  let c256_i32_230 : BitVec 32 := 256#32
  let v340 : BitVec 32 := Scalar.addi c0_i32_229 c256_i32_230
  let c1_i32_231 : BitVec 32 := 1#32
  ⟨c0_i32_229, v340, c1_i32_231⟩
def k0_off36 (k0_t14 : Fin k0_t14_loop.trips) : Fin 1 → Nat :=
  let c4096_i32_1819 : BitVec 32 := 4096#32
  let c0_i32_1817 : BitVec 32 := 0#32
  let c0_i32_229 : BitVec 32 := 0#32
  let c1_i32_231 : BitVec 32 := 1#32
  let arg10 : BitVec 32 := Scf.iv c0_i32_229 c1_i32_231 k0_t14
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c4096_i32_1819 v2579
  let v2581 : Index := Scalar.indexCast v2580
  ![v2581.toNat]

def k0_chk14 (v2582 : IVec S16 32) : Prop :=
  (∀ a x, ((![v2582] : Fin 1 → IVec S16 32) a x).toNat < S100000.size a)
theorem k0_idx14_inb : ∀ (v2582 : IVec S16 32) (k0_hw14 : k0_chk14 v2582), ∀ a x, ((![v2582] : Fin 1 → IVec S16 32) a x).toNat < S100000.size a := fun v2582 k0_hw14 => k0_hw14
def k0_off37 (k0_t14 : Fin k0_t14_loop.trips) : Fin 2 → Nat :=
  let c1_i32_1821 : BitVec 32 := 1#32
  let v2585 : Index := Scalar.indexCast c1_i32_1821
  let c0_i32_1817 : BitVec 32 := 0#32
  let c0_i32_229 : BitVec 32 := 0#32
  let c1_i32_231 : BitVec 32 := 1#32
  let arg10 : BitVec 32 := Scf.iv c0_i32_229 c1_i32_231 k0_t14
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
@[reducible] def k0_t15_loop : Scf.Loop 32 :=
  let c0_i32_243 : BitVec 32 := 0#32
  let c256_i32_244 : BitVec 32 := 256#32
  let v357 : BitVec 32 := Scalar.addi c0_i32_243 c256_i32_244
  let c1_i32_245 : BitVec 32 := 1#32
  ⟨c0_i32_243, v357, c1_i32_245⟩
def k0_off38 (k0_t15 : Fin k0_t15_loop.trips) : Fin 1 → Nat :=
  let c8192_i32_1819 : BitVec 32 := 8192#32
  let c0_i32_1817 : BitVec 32 := 0#32
  let c0_i32_243 : BitVec 32 := 0#32
  let c1_i32_245 : BitVec 32 := 1#32
  let arg10 : BitVec 32 := Scf.iv c0_i32_243 c1_i32_245 k0_t15
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c8192_i32_1819 v2579
  let v2581 : Index := Scalar.indexCast v2580
  ![v2581.toNat]

def k0_chk15 (v2582 : IVec S16 32) : Prop :=
  (∀ a x, ((![v2582] : Fin 1 → IVec S16 32) a x).toNat < S100000.size a)
theorem k0_idx15_inb : ∀ (v2582 : IVec S16 32) (k0_hw15 : k0_chk15 v2582), ∀ a x, ((![v2582] : Fin 1 → IVec S16 32) a x).toNat < S100000.size a := fun v2582 k0_hw15 => k0_hw15
def k0_off39 (k0_t15 : Fin k0_t15_loop.trips) : Fin 2 → Nat :=
  let c0_i32_1821 : BitVec 32 := 0#32
  let v2585 : Index := Scalar.indexCast c0_i32_1821
  let c0_i32_1817 : BitVec 32 := 0#32
  let c0_i32_243 : BitVec 32 := 0#32
  let c1_i32_245 : BitVec 32 := 1#32
  let arg10 : BitVec 32 := Scf.iv c0_i32_243 c1_i32_245 k0_t15
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t16_loop : Scf.Loop 32 :=
  let c0_i32_257 : BitVec 32 := 0#32
  let c256_i32_258 : BitVec 32 := 256#32
  let v374 : BitVec 32 := Scalar.addi c0_i32_257 c256_i32_258
  let c1_i32_259 : BitVec 32 := 1#32
  ⟨c0_i32_257, v374, c1_i32_259⟩
def k0_off40 (k0_t16 : Fin k0_t16_loop.trips) : Fin 1 → Nat :=
  let c12288_i32_1819 : BitVec 32 := 12288#32
  let c0_i32_1817 : BitVec 32 := 0#32
  let c0_i32_257 : BitVec 32 := 0#32
  let c1_i32_259 : BitVec 32 := 1#32
  let arg10 : BitVec 32 := Scf.iv c0_i32_257 c1_i32_259 k0_t16
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c12288_i32_1819 v2579
  let v2581 : Index := Scalar.indexCast v2580
  ![v2581.toNat]

def k0_chk16 (v2582 : IVec S16 32) : Prop :=
  (∀ a x, ((![v2582] : Fin 1 → IVec S16 32) a x).toNat < S100000.size a)
theorem k0_idx16_inb : ∀ (v2582 : IVec S16 32) (k0_hw16 : k0_chk16 v2582), ∀ a x, ((![v2582] : Fin 1 → IVec S16 32) a x).toNat < S100000.size a := fun v2582 k0_hw16 => k0_hw16
def k0_off41 (k0_t16 : Fin k0_t16_loop.trips) : Fin 2 → Nat :=
  let c1_i32_1821 : BitVec 32 := 1#32
  let v2585 : Index := Scalar.indexCast c1_i32_1821
  let c0_i32_1817 : BitVec 32 := 0#32
  let c0_i32_257 : BitVec 32 := 0#32
  let c1_i32_259 : BitVec 32 := 1#32
  let arg10 : BitVec 32 := Scf.iv c0_i32_257 c1_i32_259 k0_t16
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
def k0_cond5 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c4_i32 : BitVec 32 := 4#32
  let v383 : BitVec 32 := Scalar.addi v2 c4_i32
  let c0_i32_267 : BitVec 32 := 0#32
  let v385 : BitVec 1 := Scalar.cmpi .sgt v383 c0_i32_267
  let v386 : BitVec 32 := Scalar.extui v385
  let c0_i32_268 : BitVec 32 := 0#32
  let v387 : BitVec 1 := Scalar.cmpi .slt v383 c0_i32_268
  let v388 : BitVec 32 := Scalar.extui v387
  let v389 : BitVec 32 := Scalar.subi v386 v388
  let c32_i32_266 : BitVec 32 := 32#32
  let c0_i32_269 : BitVec 32 := 0#32
  let v390 : BitVec 1 := Scalar.cmpi .sgt c32_i32_266 c0_i32_269
  let v391 : BitVec 32 := Scalar.extui v390
  let c0_i32_270 : BitVec 32 := 0#32
  let v392 : BitVec 1 := Scalar.cmpi .slt c32_i32_266 c0_i32_270
  let v393 : BitVec 32 := Scalar.extui v392
  let v394 : BitVec 32 := Scalar.subi v391 v393
  let v395 : BitVec 1 := Scalar.cmpi .ne v389 v394
  let v396 : BitVec 32 := Scalar.remsi v383 c32_i32_266
  let c0_i32_271 : BitVec 32 := 0#32
  let v397 : BitVec 1 := Scalar.cmpi .ne v396 c0_i32_271
  let v398 : BitVec 1 := Scalar.andi v395 v397
  let v384 : BitVec 32 := Scalar.divsi v383 c32_i32_266
  let c1_i32_272 : BitVec 32 := 1#32
  let v399 : BitVec 32 := Scalar.subi v384 c1_i32_272
  let v400 : BitVec 32 := Scalar.select v398 v399 v384
  let c3_i32 : BitVec 32 := 3#32
  let v284 : BitVec 32 := Scalar.addi v2 c3_i32
  let c0_i32_197 : BitVec 32 := 0#32
  let v286 : BitVec 1 := Scalar.cmpi .sgt v284 c0_i32_197
  let v287 : BitVec 32 := Scalar.extui v286
  let c0_i32_198 : BitVec 32 := 0#32
  let v288 : BitVec 1 := Scalar.cmpi .slt v284 c0_i32_198
  let v289 : BitVec 32 := Scalar.extui v288
  let v290 : BitVec 32 := Scalar.subi v287 v289
  let c32_i32_196 : BitVec 32 := 32#32
  let c0_i32_199 : BitVec 32 := 0#32
  let v291 : BitVec 1 := Scalar.cmpi .sgt c32_i32_196 c0_i32_199
  let v292 : BitVec 32 := Scalar.extui v291
  let c0_i32_200 : BitVec 32 := 0#32
  let v293 : BitVec 1 := Scalar.cmpi .slt c32_i32_196 c0_i32_200
  let v294 : BitVec 32 := Scalar.extui v293
  let v295 : BitVec 32 := Scalar.subi v292 v294
  let v296 : BitVec 1 := Scalar.cmpi .ne v290 v295
  let v297 : BitVec 32 := Scalar.remsi v284 c32_i32_196
  let c0_i32_201 : BitVec 32 := 0#32
  let v298 : BitVec 1 := Scalar.cmpi .ne v297 c0_i32_201
  let v299 : BitVec 1 := Scalar.andi v296 v298
  let v285 : BitVec 32 := Scalar.divsi v284 c32_i32_196
  let c1_i32_202 : BitVec 32 := 1#32
  let v300 : BitVec 32 := Scalar.subi v285 c1_i32_202
  let v301 : BitVec 32 := Scalar.select v299 v300 v285
  let v411 : BitVec 1 := Scalar.cmpi .ne v400 v301
  let v412 : BitVec 32 := Scalar.extui v411
  let c0_i32_279 : BitVec 32 := 0#32
  let v413 : BitVec 1 := Scalar.cmpi .ne v412 c0_i32_279
  v413

def k0_off42 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c4_i32 : BitVec 32 := 4#32
  let v383 : BitVec 32 := Scalar.addi v2 c4_i32
  let c0_i32_267 : BitVec 32 := 0#32
  let v385 : BitVec 1 := Scalar.cmpi .sgt v383 c0_i32_267
  let v386 : BitVec 32 := Scalar.extui v385
  let c0_i32_268 : BitVec 32 := 0#32
  let v387 : BitVec 1 := Scalar.cmpi .slt v383 c0_i32_268
  let v388 : BitVec 32 := Scalar.extui v387
  let v389 : BitVec 32 := Scalar.subi v386 v388
  let c32_i32_266 : BitVec 32 := 32#32
  let c0_i32_269 : BitVec 32 := 0#32
  let v390 : BitVec 1 := Scalar.cmpi .sgt c32_i32_266 c0_i32_269
  let v391 : BitVec 32 := Scalar.extui v390
  let c0_i32_270 : BitVec 32 := 0#32
  let v392 : BitVec 1 := Scalar.cmpi .slt c32_i32_266 c0_i32_270
  let v393 : BitVec 32 := Scalar.extui v392
  let v394 : BitVec 32 := Scalar.subi v391 v393
  let v395 : BitVec 1 := Scalar.cmpi .ne v389 v394
  let v396 : BitVec 32 := Scalar.remsi v383 c32_i32_266
  let c0_i32_271 : BitVec 32 := 0#32
  let v397 : BitVec 1 := Scalar.cmpi .ne v396 c0_i32_271
  let v398 : BitVec 1 := Scalar.andi v395 v397
  let v384 : BitVec 32 := Scalar.divsi v383 c32_i32_266
  let c1_i32_272 : BitVec 32 := 1#32
  let v399 : BitVec 32 := Scalar.subi v384 c1_i32_272
  let v400 : BitVec 32 := Scalar.select v398 v399 v384
  let c0_i32_1816_r8 : BitVec 32 := 0#32
  ![v400.toNat, 0]
@[reducible] def k0_t17_loop : Scf.Loop 32 :=
  let c0_i32_285 : BitVec 32 := 0#32
  let c256_i32_286 : BitVec 32 := 256#32
  let v422 : BitVec 32 := Scalar.addi c0_i32_285 c256_i32_286
  let c1_i32_287 : BitVec 32 := 1#32
  ⟨c0_i32_285, v422, c1_i32_287⟩
def k0_off43 (k0_t17 : Fin k0_t17_loop.trips) : Fin 1 → Nat :=
  let c0_i32_1819 : BitVec 32 := 0#32
  let c0_i32_1817 : BitVec 32 := 0#32
  let c0_i32_285 : BitVec 32 := 0#32
  let c1_i32_287 : BitVec 32 := 1#32
  let arg10 : BitVec 32 := Scf.iv c0_i32_285 c1_i32_287 k0_t17
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c0_i32_1819 v2579
  let v2581 : Index := Scalar.indexCast v2580
  ![v2581.toNat]

def k0_chk17 (v2582 : IVec S16 32) : Prop :=
  (∀ a x, ((![v2582] : Fin 1 → IVec S16 32) a x).toNat < S100000.size a)
theorem k0_idx17_inb : ∀ (v2582 : IVec S16 32) (k0_hw17 : k0_chk17 v2582), ∀ a x, ((![v2582] : Fin 1 → IVec S16 32) a x).toNat < S100000.size a := fun v2582 k0_hw17 => k0_hw17
def k0_off44 (k0_t17 : Fin k0_t17_loop.trips) : Fin 2 → Nat :=
  let c0_i32_1821 : BitVec 32 := 0#32
  let v2585 : Index := Scalar.indexCast c0_i32_1821
  let c0_i32_1817 : BitVec 32 := 0#32
  let c0_i32_285 : BitVec 32 := 0#32
  let c1_i32_287 : BitVec 32 := 1#32
  let arg10 : BitVec 32 := Scf.iv c0_i32_285 c1_i32_287 k0_t17
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t18_loop : Scf.Loop 32 :=
  let c0_i32_299 : BitVec 32 := 0#32
  let c256_i32_300 : BitVec 32 := 256#32
  let v439 : BitVec 32 := Scalar.addi c0_i32_299 c256_i32_300
  let c1_i32_301 : BitVec 32 := 1#32
  ⟨c0_i32_299, v439, c1_i32_301⟩
def k0_off45 (k0_t18 : Fin k0_t18_loop.trips) : Fin 1 → Nat :=
  let c4096_i32_1819 : BitVec 32 := 4096#32
  let c0_i32_1817 : BitVec 32 := 0#32
  let c0_i32_299 : BitVec 32 := 0#32
  let c1_i32_301 : BitVec 32 := 1#32
  let arg10 : BitVec 32 := Scf.iv c0_i32_299 c1_i32_301 k0_t18
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c4096_i32_1819 v2579
  let v2581 : Index := Scalar.indexCast v2580
  ![v2581.toNat]

def k0_chk18 (v2582 : IVec S16 32) : Prop :=
  (∀ a x, ((![v2582] : Fin 1 → IVec S16 32) a x).toNat < S100000.size a)
theorem k0_idx18_inb : ∀ (v2582 : IVec S16 32) (k0_hw18 : k0_chk18 v2582), ∀ a x, ((![v2582] : Fin 1 → IVec S16 32) a x).toNat < S100000.size a := fun v2582 k0_hw18 => k0_hw18
def k0_off46 (k0_t18 : Fin k0_t18_loop.trips) : Fin 2 → Nat :=
  let c1_i32_1821 : BitVec 32 := 1#32
  let v2585 : Index := Scalar.indexCast c1_i32_1821
  let c0_i32_1817 : BitVec 32 := 0#32
  let c0_i32_299 : BitVec 32 := 0#32
  let c1_i32_301 : BitVec 32 := 1#32
  let arg10 : BitVec 32 := Scf.iv c0_i32_299 c1_i32_301 k0_t18
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
@[reducible] def k0_t19_loop : Scf.Loop 32 :=
  let c0_i32_313 : BitVec 32 := 0#32
  let c256_i32_314 : BitVec 32 := 256#32
  let v456 : BitVec 32 := Scalar.addi c0_i32_313 c256_i32_314
  let c1_i32_315 : BitVec 32 := 1#32
  ⟨c0_i32_313, v456, c1_i32_315⟩
def k0_off47 (k0_t19 : Fin k0_t19_loop.trips) : Fin 1 → Nat :=
  let c8192_i32_1819 : BitVec 32 := 8192#32
  let c0_i32_1817 : BitVec 32 := 0#32
  let c0_i32_313 : BitVec 32 := 0#32
  let c1_i32_315 : BitVec 32 := 1#32
  let arg10 : BitVec 32 := Scf.iv c0_i32_313 c1_i32_315 k0_t19
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c8192_i32_1819 v2579
  let v2581 : Index := Scalar.indexCast v2580
  ![v2581.toNat]

def k0_chk19 (v2582 : IVec S16 32) : Prop :=
  (∀ a x, ((![v2582] : Fin 1 → IVec S16 32) a x).toNat < S100000.size a)
theorem k0_idx19_inb : ∀ (v2582 : IVec S16 32) (k0_hw19 : k0_chk19 v2582), ∀ a x, ((![v2582] : Fin 1 → IVec S16 32) a x).toNat < S100000.size a := fun v2582 k0_hw19 => k0_hw19
def k0_off48 (k0_t19 : Fin k0_t19_loop.trips) : Fin 2 → Nat :=
  let c0_i32_1821 : BitVec 32 := 0#32
  let v2585 : Index := Scalar.indexCast c0_i32_1821
  let c0_i32_1817 : BitVec 32 := 0#32
  let c0_i32_313 : BitVec 32 := 0#32
  let c1_i32_315 : BitVec 32 := 1#32
  let arg10 : BitVec 32 := Scf.iv c0_i32_313 c1_i32_315 k0_t19
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t20_loop : Scf.Loop 32 :=
  let c0_i32_327 : BitVec 32 := 0#32
  let c256_i32_328 : BitVec 32 := 256#32
  let v473 : BitVec 32 := Scalar.addi c0_i32_327 c256_i32_328
  let c1_i32_329 : BitVec 32 := 1#32
  ⟨c0_i32_327, v473, c1_i32_329⟩
def k0_off49 (k0_t20 : Fin k0_t20_loop.trips) : Fin 1 → Nat :=
  let c12288_i32_1819 : BitVec 32 := 12288#32
  let c0_i32_1817 : BitVec 32 := 0#32
  let c0_i32_327 : BitVec 32 := 0#32
  let c1_i32_329 : BitVec 32 := 1#32
  let arg10 : BitVec 32 := Scf.iv c0_i32_327 c1_i32_329 k0_t20
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c12288_i32_1819 v2579
  let v2581 : Index := Scalar.indexCast v2580
  ![v2581.toNat]

def k0_chk20 (v2582 : IVec S16 32) : Prop :=
  (∀ a x, ((![v2582] : Fin 1 → IVec S16 32) a x).toNat < S100000.size a)
theorem k0_idx20_inb : ∀ (v2582 : IVec S16 32) (k0_hw20 : k0_chk20 v2582), ∀ a x, ((![v2582] : Fin 1 → IVec S16 32) a x).toNat < S100000.size a := fun v2582 k0_hw20 => k0_hw20
def k0_off50 (k0_t20 : Fin k0_t20_loop.trips) : Fin 2 → Nat :=
  let c1_i32_1821 : BitVec 32 := 1#32
  let v2585 : Index := Scalar.indexCast c1_i32_1821
  let c0_i32_1817 : BitVec 32 := 0#32
  let c0_i32_327 : BitVec 32 := 0#32
  let c1_i32_329 : BitVec 32 := 1#32
  let arg10 : BitVec 32 := Scf.iv c0_i32_327 c1_i32_329 k0_t20
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
def k0_cond6 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c5_i32 : BitVec 32 := 5#32
  let v482 : BitVec 32 := Scalar.addi v2 c5_i32
  let c0_i32_337 : BitVec 32 := 0#32
  let v484 : BitVec 1 := Scalar.cmpi .sgt v482 c0_i32_337
  let v485 : BitVec 32 := Scalar.extui v484
  let c0_i32_338 : BitVec 32 := 0#32
  let v486 : BitVec 1 := Scalar.cmpi .slt v482 c0_i32_338
  let v487 : BitVec 32 := Scalar.extui v486
  let v488 : BitVec 32 := Scalar.subi v485 v487
  let c32_i32_336 : BitVec 32 := 32#32
  let c0_i32_339 : BitVec 32 := 0#32
  let v489 : BitVec 1 := Scalar.cmpi .sgt c32_i32_336 c0_i32_339
  let v490 : BitVec 32 := Scalar.extui v489
  let c0_i32_340 : BitVec 32 := 0#32
  let v491 : BitVec 1 := Scalar.cmpi .slt c32_i32_336 c0_i32_340
  let v492 : BitVec 32 := Scalar.extui v491
  let v493 : BitVec 32 := Scalar.subi v490 v492
  let v494 : BitVec 1 := Scalar.cmpi .ne v488 v493
  let v495 : BitVec 32 := Scalar.remsi v482 c32_i32_336
  let c0_i32_341 : BitVec 32 := 0#32
  let v496 : BitVec 1 := Scalar.cmpi .ne v495 c0_i32_341
  let v497 : BitVec 1 := Scalar.andi v494 v496
  let v483 : BitVec 32 := Scalar.divsi v482 c32_i32_336
  let c1_i32_342 : BitVec 32 := 1#32
  let v498 : BitVec 32 := Scalar.subi v483 c1_i32_342
  let v499 : BitVec 32 := Scalar.select v497 v498 v483
  let c4_i32 : BitVec 32 := 4#32
  let v383 : BitVec 32 := Scalar.addi v2 c4_i32
  let c0_i32_267 : BitVec 32 := 0#32
  let v385 : BitVec 1 := Scalar.cmpi .sgt v383 c0_i32_267
  let v386 : BitVec 32 := Scalar.extui v385
  let c0_i32_268 : BitVec 32 := 0#32
  let v387 : BitVec 1 := Scalar.cmpi .slt v383 c0_i32_268
  let v388 : BitVec 32 := Scalar.extui v387
  let v389 : BitVec 32 := Scalar.subi v386 v388
  let c32_i32_266 : BitVec 32 := 32#32
  let c0_i32_269 : BitVec 32 := 0#32
  let v390 : BitVec 1 := Scalar.cmpi .sgt c32_i32_266 c0_i32_269
  let v391 : BitVec 32 := Scalar.extui v390
  let c0_i32_270 : BitVec 32 := 0#32
  let v392 : BitVec 1 := Scalar.cmpi .slt c32_i32_266 c0_i32_270
  let v393 : BitVec 32 := Scalar.extui v392
  let v394 : BitVec 32 := Scalar.subi v391 v393
  let v395 : BitVec 1 := Scalar.cmpi .ne v389 v394
  let v396 : BitVec 32 := Scalar.remsi v383 c32_i32_266
  let c0_i32_271 : BitVec 32 := 0#32
  let v397 : BitVec 1 := Scalar.cmpi .ne v396 c0_i32_271
  let v398 : BitVec 1 := Scalar.andi v395 v397
  let v384 : BitVec 32 := Scalar.divsi v383 c32_i32_266
  let c1_i32_272 : BitVec 32 := 1#32
  let v399 : BitVec 32 := Scalar.subi v384 c1_i32_272
  let v400 : BitVec 32 := Scalar.select v398 v399 v384
  let v510 : BitVec 1 := Scalar.cmpi .ne v499 v400
  let v511 : BitVec 32 := Scalar.extui v510
  let c0_i32_349 : BitVec 32 := 0#32
  let v512 : BitVec 1 := Scalar.cmpi .ne v511 c0_i32_349
  v512

def k0_off51 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c5_i32 : BitVec 32 := 5#32
  let v482 : BitVec 32 := Scalar.addi v2 c5_i32
  let c0_i32_337 : BitVec 32 := 0#32
  let v484 : BitVec 1 := Scalar.cmpi .sgt v482 c0_i32_337
  let v485 : BitVec 32 := Scalar.extui v484
  let c0_i32_338 : BitVec 32 := 0#32
  let v486 : BitVec 1 := Scalar.cmpi .slt v482 c0_i32_338
  let v487 : BitVec 32 := Scalar.extui v486
  let v488 : BitVec 32 := Scalar.subi v485 v487
  let c32_i32_336 : BitVec 32 := 32#32
  let c0_i32_339 : BitVec 32 := 0#32
  let v489 : BitVec 1 := Scalar.cmpi .sgt c32_i32_336 c0_i32_339
  let v490 : BitVec 32 := Scalar.extui v489
  let c0_i32_340 : BitVec 32 := 0#32
  let v491 : BitVec 1 := Scalar.cmpi .slt c32_i32_336 c0_i32_340
  let v492 : BitVec 32 := Scalar.extui v491
  let v493 : BitVec 32 := Scalar.subi v490 v492
  let v494 : BitVec 1 := Scalar.cmpi .ne v488 v493
  let v495 : BitVec 32 := Scalar.remsi v482 c32_i32_336
  let c0_i32_341 : BitVec 32 := 0#32
  let v496 : BitVec 1 := Scalar.cmpi .ne v495 c0_i32_341
  let v497 : BitVec 1 := Scalar.andi v494 v496
  let v483 : BitVec 32 := Scalar.divsi v482 c32_i32_336
  let c1_i32_342 : BitVec 32 := 1#32
  let v498 : BitVec 32 := Scalar.subi v483 c1_i32_342
  let v499 : BitVec 32 := Scalar.select v497 v498 v483
  let c0_i32_1816_r10 : BitVec 32 := 0#32
  ![v499.toNat, 0]
@[reducible] def k0_t21_loop : Scf.Loop 32 :=
  let c0_i32_355 : BitVec 32 := 0#32
  let c256_i32_356 : BitVec 32 := 256#32
  let v521 : BitVec 32 := Scalar.addi c0_i32_355 c256_i32_356
  let c1_i32_357 : BitVec 32 := 1#32
  ⟨c0_i32_355, v521, c1_i32_357⟩
def k0_off52 (k0_t21 : Fin k0_t21_loop.trips) : Fin 1 → Nat :=
  let c0_i32_1819 : BitVec 32 := 0#32
  let c0_i32_1817 : BitVec 32 := 0#32
  let c0_i32_355 : BitVec 32 := 0#32
  let c1_i32_357 : BitVec 32 := 1#32
  let arg10 : BitVec 32 := Scf.iv c0_i32_355 c1_i32_357 k0_t21
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c0_i32_1819 v2579
  let v2581 : Index := Scalar.indexCast v2580
  ![v2581.toNat]

def k0_chk21 (v2582 : IVec S16 32) : Prop :=
  (∀ a x, ((![v2582] : Fin 1 → IVec S16 32) a x).toNat < S100000.size a)
theorem k0_idx21_inb : ∀ (v2582 : IVec S16 32) (k0_hw21 : k0_chk21 v2582), ∀ a x, ((![v2582] : Fin 1 → IVec S16 32) a x).toNat < S100000.size a := fun v2582 k0_hw21 => k0_hw21
def k0_off53 (k0_t21 : Fin k0_t21_loop.trips) : Fin 2 → Nat :=
  let c0_i32_1821 : BitVec 32 := 0#32
  let v2585 : Index := Scalar.indexCast c0_i32_1821
  let c0_i32_1817 : BitVec 32 := 0#32
  let c0_i32_355 : BitVec 32 := 0#32
  let c1_i32_357 : BitVec 32 := 1#32
  let arg10 : BitVec 32 := Scf.iv c0_i32_355 c1_i32_357 k0_t21
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t22_loop : Scf.Loop 32 :=
  let c0_i32_369 : BitVec 32 := 0#32
  let c256_i32_370 : BitVec 32 := 256#32
  let v538 : BitVec 32 := Scalar.addi c0_i32_369 c256_i32_370
  let c1_i32_371 : BitVec 32 := 1#32
  ⟨c0_i32_369, v538, c1_i32_371⟩
def k0_off54 (k0_t22 : Fin k0_t22_loop.trips) : Fin 1 → Nat :=
  let c4096_i32_1819 : BitVec 32 := 4096#32
  let c0_i32_1817 : BitVec 32 := 0#32
  let c0_i32_369 : BitVec 32 := 0#32
  let c1_i32_371 : BitVec 32 := 1#32
  let arg10 : BitVec 32 := Scf.iv c0_i32_369 c1_i32_371 k0_t22
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c4096_i32_1819 v2579
  let v2581 : Index := Scalar.indexCast v2580
  ![v2581.toNat]

def k0_chk22 (v2582 : IVec S16 32) : Prop :=
  (∀ a x, ((![v2582] : Fin 1 → IVec S16 32) a x).toNat < S100000.size a)
theorem k0_idx22_inb : ∀ (v2582 : IVec S16 32) (k0_hw22 : k0_chk22 v2582), ∀ a x, ((![v2582] : Fin 1 → IVec S16 32) a x).toNat < S100000.size a := fun v2582 k0_hw22 => k0_hw22
def k0_off55 (k0_t22 : Fin k0_t22_loop.trips) : Fin 2 → Nat :=
  let c1_i32_1821 : BitVec 32 := 1#32
  let v2585 : Index := Scalar.indexCast c1_i32_1821
  let c0_i32_1817 : BitVec 32 := 0#32
  let c0_i32_369 : BitVec 32 := 0#32
  let c1_i32_371 : BitVec 32 := 1#32
  let arg10 : BitVec 32 := Scf.iv c0_i32_369 c1_i32_371 k0_t22
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
@[reducible] def k0_t23_loop : Scf.Loop 32 :=
  let c0_i32_383 : BitVec 32 := 0#32
  let c256_i32_384 : BitVec 32 := 256#32
  let v555 : BitVec 32 := Scalar.addi c0_i32_383 c256_i32_384
  let c1_i32_385 : BitVec 32 := 1#32
  ⟨c0_i32_383, v555, c1_i32_385⟩
def k0_off56 (k0_t23 : Fin k0_t23_loop.trips) : Fin 1 → Nat :=
  let c8192_i32_1819 : BitVec 32 := 8192#32
  let c0_i32_1817 : BitVec 32 := 0#32
  let c0_i32_383 : BitVec 32 := 0#32
  let c1_i32_385 : BitVec 32 := 1#32
  let arg10 : BitVec 32 := Scf.iv c0_i32_383 c1_i32_385 k0_t23
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c8192_i32_1819 v2579
  let v2581 : Index := Scalar.indexCast v2580
  ![v2581.toNat]

def k0_chk23 (v2582 : IVec S16 32) : Prop :=
  (∀ a x, ((![v2582] : Fin 1 → IVec S16 32) a x).toNat < S100000.size a)
theorem k0_idx23_inb : ∀ (v2582 : IVec S16 32) (k0_hw23 : k0_chk23 v2582), ∀ a x, ((![v2582] : Fin 1 → IVec S16 32) a x).toNat < S100000.size a := fun v2582 k0_hw23 => k0_hw23
def k0_off57 (k0_t23 : Fin k0_t23_loop.trips) : Fin 2 → Nat :=
  let c0_i32_1821 : BitVec 32 := 0#32
  let v2585 : Index := Scalar.indexCast c0_i32_1821
  let c0_i32_1817 : BitVec 32 := 0#32
  let c0_i32_383 : BitVec 32 := 0#32
  let c1_i32_385 : BitVec 32 := 1#32
  let arg10 : BitVec 32 := Scf.iv c0_i32_383 c1_i32_385 k0_t23
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t24_loop : Scf.Loop 32 :=
  let c0_i32_397 : BitVec 32 := 0#32
  let c256_i32_398 : BitVec 32 := 256#32
  let v572 : BitVec 32 := Scalar.addi c0_i32_397 c256_i32_398
  let c1_i32_399 : BitVec 32 := 1#32
  ⟨c0_i32_397, v572, c1_i32_399⟩
def k0_off58 (k0_t24 : Fin k0_t24_loop.trips) : Fin 1 → Nat :=
  let c12288_i32_1819 : BitVec 32 := 12288#32
  let c0_i32_1817 : BitVec 32 := 0#32
  let c0_i32_397 : BitVec 32 := 0#32
  let c1_i32_399 : BitVec 32 := 1#32
  let arg10 : BitVec 32 := Scf.iv c0_i32_397 c1_i32_399 k0_t24
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c12288_i32_1819 v2579
  let v2581 : Index := Scalar.indexCast v2580
  ![v2581.toNat]

def k0_chk24 (v2582 : IVec S16 32) : Prop :=
  (∀ a x, ((![v2582] : Fin 1 → IVec S16 32) a x).toNat < S100000.size a)
theorem k0_idx24_inb : ∀ (v2582 : IVec S16 32) (k0_hw24 : k0_chk24 v2582), ∀ a x, ((![v2582] : Fin 1 → IVec S16 32) a x).toNat < S100000.size a := fun v2582 k0_hw24 => k0_hw24
def k0_off59 (k0_t24 : Fin k0_t24_loop.trips) : Fin 2 → Nat :=
  let c1_i32_1821 : BitVec 32 := 1#32
  let v2585 : Index := Scalar.indexCast c1_i32_1821
  let c0_i32_1817 : BitVec 32 := 0#32
  let c0_i32_397 : BitVec 32 := 0#32
  let c1_i32_399 : BitVec 32 := 1#32
  let arg10 : BitVec 32 := Scf.iv c0_i32_397 c1_i32_399 k0_t24
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
def k0_cond7 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c6_i32 : BitVec 32 := 6#32
  let v581 : BitVec 32 := Scalar.addi v2 c6_i32
  let c0_i32_407 : BitVec 32 := 0#32
  let v583 : BitVec 1 := Scalar.cmpi .sgt v581 c0_i32_407
  let v584 : BitVec 32 := Scalar.extui v583
  let c0_i32_408 : BitVec 32 := 0#32
  let v585 : BitVec 1 := Scalar.cmpi .slt v581 c0_i32_408
  let v586 : BitVec 32 := Scalar.extui v585
  let v587 : BitVec 32 := Scalar.subi v584 v586
  let c32_i32_406 : BitVec 32 := 32#32
  let c0_i32_409 : BitVec 32 := 0#32
  let v588 : BitVec 1 := Scalar.cmpi .sgt c32_i32_406 c0_i32_409
  let v589 : BitVec 32 := Scalar.extui v588
  let c0_i32_410 : BitVec 32 := 0#32
  let v590 : BitVec 1 := Scalar.cmpi .slt c32_i32_406 c0_i32_410
  let v591 : BitVec 32 := Scalar.extui v590
  let v592 : BitVec 32 := Scalar.subi v589 v591
  let v593 : BitVec 1 := Scalar.cmpi .ne v587 v592
  let v594 : BitVec 32 := Scalar.remsi v581 c32_i32_406
  let c0_i32_411 : BitVec 32 := 0#32
  let v595 : BitVec 1 := Scalar.cmpi .ne v594 c0_i32_411
  let v596 : BitVec 1 := Scalar.andi v593 v595
  let v582 : BitVec 32 := Scalar.divsi v581 c32_i32_406
  let c1_i32_412 : BitVec 32 := 1#32
  let v597 : BitVec 32 := Scalar.subi v582 c1_i32_412
  let v598 : BitVec 32 := Scalar.select v596 v597 v582
  let c5_i32 : BitVec 32 := 5#32
  let v482 : BitVec 32 := Scalar.addi v2 c5_i32
  let c0_i32_337 : BitVec 32 := 0#32
  let v484 : BitVec 1 := Scalar.cmpi .sgt v482 c0_i32_337
  let v485 : BitVec 32 := Scalar.extui v484
  let c0_i32_338 : BitVec 32 := 0#32
  let v486 : BitVec 1 := Scalar.cmpi .slt v482 c0_i32_338
  let v487 : BitVec 32 := Scalar.extui v486
  let v488 : BitVec 32 := Scalar.subi v485 v487
  let c32_i32_336 : BitVec 32 := 32#32
  let c0_i32_339 : BitVec 32 := 0#32
  let v489 : BitVec 1 := Scalar.cmpi .sgt c32_i32_336 c0_i32_339
  let v490 : BitVec 32 := Scalar.extui v489
  let c0_i32_340 : BitVec 32 := 0#32
  let v491 : BitVec 1 := Scalar.cmpi .slt c32_i32_336 c0_i32_340
  let v492 : BitVec 32 := Scalar.extui v491
  let v493 : BitVec 32 := Scalar.subi v490 v492
  let v494 : BitVec 1 := Scalar.cmpi .ne v488 v493
  let v495 : BitVec 32 := Scalar.remsi v482 c32_i32_336
  let c0_i32_341 : BitVec 32 := 0#32
  let v496 : BitVec 1 := Scalar.cmpi .ne v495 c0_i32_341
  let v497 : BitVec 1 := Scalar.andi v494 v496
  let v483 : BitVec 32 := Scalar.divsi v482 c32_i32_336
  let c1_i32_342 : BitVec 32 := 1#32
  let v498 : BitVec 32 := Scalar.subi v483 c1_i32_342
  let v499 : BitVec 32 := Scalar.select v497 v498 v483
  let v609 : BitVec 1 := Scalar.cmpi .ne v598 v499
  let v610 : BitVec 32 := Scalar.extui v609
  let c0_i32_419 : BitVec 32 := 0#32
  let v611 : BitVec 1 := Scalar.cmpi .ne v610 c0_i32_419
  v611

def k0_off60 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c6_i32 : BitVec 32 := 6#32
  let v581 : BitVec 32 := Scalar.addi v2 c6_i32
  let c0_i32_407 : BitVec 32 := 0#32
  let v583 : BitVec 1 := Scalar.cmpi .sgt v581 c0_i32_407
  let v584 : BitVec 32 := Scalar.extui v583
  let c0_i32_408 : BitVec 32 := 0#32
  let v585 : BitVec 1 := Scalar.cmpi .slt v581 c0_i32_408
  let v586 : BitVec 32 := Scalar.extui v585
  let v587 : BitVec 32 := Scalar.subi v584 v586
  let c32_i32_406 : BitVec 32 := 32#32
  let c0_i32_409 : BitVec 32 := 0#32
  let v588 : BitVec 1 := Scalar.cmpi .sgt c32_i32_406 c0_i32_409
  let v589 : BitVec 32 := Scalar.extui v588
  let c0_i32_410 : BitVec 32 := 0#32
  let v590 : BitVec 1 := Scalar.cmpi .slt c32_i32_406 c0_i32_410
  let v591 : BitVec 32 := Scalar.extui v590
  let v592 : BitVec 32 := Scalar.subi v589 v591
  let v593 : BitVec 1 := Scalar.cmpi .ne v587 v592
  let v594 : BitVec 32 := Scalar.remsi v581 c32_i32_406
  let c0_i32_411 : BitVec 32 := 0#32
  let v595 : BitVec 1 := Scalar.cmpi .ne v594 c0_i32_411
  let v596 : BitVec 1 := Scalar.andi v593 v595
  let v582 : BitVec 32 := Scalar.divsi v581 c32_i32_406
  let c1_i32_412 : BitVec 32 := 1#32
  let v597 : BitVec 32 := Scalar.subi v582 c1_i32_412
  let v598 : BitVec 32 := Scalar.select v596 v597 v582
  let c0_i32_1816_r12 : BitVec 32 := 0#32
  ![v598.toNat, 0]
@[reducible] def k0_t25_loop : Scf.Loop 32 :=
  let c0_i32_425 : BitVec 32 := 0#32
  let c256_i32_426 : BitVec 32 := 256#32
  let v620 : BitVec 32 := Scalar.addi c0_i32_425 c256_i32_426
  let c1_i32_427 : BitVec 32 := 1#32
  ⟨c0_i32_425, v620, c1_i32_427⟩
def k0_off61 (k0_t25 : Fin k0_t25_loop.trips) : Fin 1 → Nat :=
  let c0_i32_1819 : BitVec 32 := 0#32
  let c0_i32_1817 : BitVec 32 := 0#32
  let c0_i32_425 : BitVec 32 := 0#32
  let c1_i32_427 : BitVec 32 := 1#32
  let arg10 : BitVec 32 := Scf.iv c0_i32_425 c1_i32_427 k0_t25
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c0_i32_1819 v2579
  let v2581 : Index := Scalar.indexCast v2580
  ![v2581.toNat]

def k0_chk25 (v2582 : IVec S16 32) : Prop :=
  (∀ a x, ((![v2582] : Fin 1 → IVec S16 32) a x).toNat < S100000.size a)
theorem k0_idx25_inb : ∀ (v2582 : IVec S16 32) (k0_hw25 : k0_chk25 v2582), ∀ a x, ((![v2582] : Fin 1 → IVec S16 32) a x).toNat < S100000.size a := fun v2582 k0_hw25 => k0_hw25
def k0_off62 (k0_t25 : Fin k0_t25_loop.trips) : Fin 2 → Nat :=
  let c0_i32_1821 : BitVec 32 := 0#32
  let v2585 : Index := Scalar.indexCast c0_i32_1821
  let c0_i32_1817 : BitVec 32 := 0#32
  let c0_i32_425 : BitVec 32 := 0#32
  let c1_i32_427 : BitVec 32 := 1#32
  let arg10 : BitVec 32 := Scf.iv c0_i32_425 c1_i32_427 k0_t25
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t26_loop : Scf.Loop 32 :=
  let c0_i32_439 : BitVec 32 := 0#32
  let c256_i32_440 : BitVec 32 := 256#32
  let v637 : BitVec 32 := Scalar.addi c0_i32_439 c256_i32_440
  let c1_i32_441 : BitVec 32 := 1#32
  ⟨c0_i32_439, v637, c1_i32_441⟩
def k0_off63 (k0_t26 : Fin k0_t26_loop.trips) : Fin 1 → Nat :=
  let c4096_i32_1819 : BitVec 32 := 4096#32
  let c0_i32_1817 : BitVec 32 := 0#32
  let c0_i32_439 : BitVec 32 := 0#32
  let c1_i32_441 : BitVec 32 := 1#32
  let arg10 : BitVec 32 := Scf.iv c0_i32_439 c1_i32_441 k0_t26
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c4096_i32_1819 v2579
  let v2581 : Index := Scalar.indexCast v2580
  ![v2581.toNat]

def k0_chk26 (v2582 : IVec S16 32) : Prop :=
  (∀ a x, ((![v2582] : Fin 1 → IVec S16 32) a x).toNat < S100000.size a)
theorem k0_idx26_inb : ∀ (v2582 : IVec S16 32) (k0_hw26 : k0_chk26 v2582), ∀ a x, ((![v2582] : Fin 1 → IVec S16 32) a x).toNat < S100000.size a := fun v2582 k0_hw26 => k0_hw26
def k0_off64 (k0_t26 : Fin k0_t26_loop.trips) : Fin 2 → Nat :=
  let c1_i32_1821 : BitVec 32 := 1#32
  let v2585 : Index := Scalar.indexCast c1_i32_1821
  let c0_i32_1817 : BitVec 32 := 0#32
  let c0_i32_439 : BitVec 32 := 0#32
  let c1_i32_441 : BitVec 32 := 1#32
  let arg10 : BitVec 32 := Scf.iv c0_i32_439 c1_i32_441 k0_t26
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
@[reducible] def k0_t27_loop : Scf.Loop 32 :=
  let c0_i32_453 : BitVec 32 := 0#32
  let c256_i32_454 : BitVec 32 := 256#32
  let v654 : BitVec 32 := Scalar.addi c0_i32_453 c256_i32_454
  let c1_i32_455 : BitVec 32 := 1#32
  ⟨c0_i32_453, v654, c1_i32_455⟩
def k0_off65 (k0_t27 : Fin k0_t27_loop.trips) : Fin 1 → Nat :=
  let c8192_i32_1819 : BitVec 32 := 8192#32
  let c0_i32_1817 : BitVec 32 := 0#32
  let c0_i32_453 : BitVec 32 := 0#32
  let c1_i32_455 : BitVec 32 := 1#32
  let arg10 : BitVec 32 := Scf.iv c0_i32_453 c1_i32_455 k0_t27
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c8192_i32_1819 v2579
  let v2581 : Index := Scalar.indexCast v2580
  ![v2581.toNat]

def k0_chk27 (v2582 : IVec S16 32) : Prop :=
  (∀ a x, ((![v2582] : Fin 1 → IVec S16 32) a x).toNat < S100000.size a)
theorem k0_idx27_inb : ∀ (v2582 : IVec S16 32) (k0_hw27 : k0_chk27 v2582), ∀ a x, ((![v2582] : Fin 1 → IVec S16 32) a x).toNat < S100000.size a := fun v2582 k0_hw27 => k0_hw27
def k0_off66 (k0_t27 : Fin k0_t27_loop.trips) : Fin 2 → Nat :=
  let c0_i32_1821 : BitVec 32 := 0#32
  let v2585 : Index := Scalar.indexCast c0_i32_1821
  let c0_i32_1817 : BitVec 32 := 0#32
  let c0_i32_453 : BitVec 32 := 0#32
  let c1_i32_455 : BitVec 32 := 1#32
  let arg10 : BitVec 32 := Scf.iv c0_i32_453 c1_i32_455 k0_t27
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t28_loop : Scf.Loop 32 :=
  let c0_i32_467 : BitVec 32 := 0#32
  let c256_i32_468 : BitVec 32 := 256#32
  let v671 : BitVec 32 := Scalar.addi c0_i32_467 c256_i32_468
  let c1_i32_469 : BitVec 32 := 1#32
  ⟨c0_i32_467, v671, c1_i32_469⟩
def k0_off67 (k0_t28 : Fin k0_t28_loop.trips) : Fin 1 → Nat :=
  let c12288_i32_1819 : BitVec 32 := 12288#32
  let c0_i32_1817 : BitVec 32 := 0#32
  let c0_i32_467 : BitVec 32 := 0#32
  let c1_i32_469 : BitVec 32 := 1#32
  let arg10 : BitVec 32 := Scf.iv c0_i32_467 c1_i32_469 k0_t28
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c12288_i32_1819 v2579
  let v2581 : Index := Scalar.indexCast v2580
  ![v2581.toNat]

def k0_chk28 (v2582 : IVec S16 32) : Prop :=
  (∀ a x, ((![v2582] : Fin 1 → IVec S16 32) a x).toNat < S100000.size a)
theorem k0_idx28_inb : ∀ (v2582 : IVec S16 32) (k0_hw28 : k0_chk28 v2582), ∀ a x, ((![v2582] : Fin 1 → IVec S16 32) a x).toNat < S100000.size a := fun v2582 k0_hw28 => k0_hw28
def k0_off68 (k0_t28 : Fin k0_t28_loop.trips) : Fin 2 → Nat :=
  let c1_i32_1821 : BitVec 32 := 1#32
  let v2585 : Index := Scalar.indexCast c1_i32_1821
  let c0_i32_1817 : BitVec 32 := 0#32
  let c0_i32_467 : BitVec 32 := 0#32
  let c1_i32_469 : BitVec 32 := 1#32
  let arg10 : BitVec 32 := Scf.iv c0_i32_467 c1_i32_469 k0_t28
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
def k0_cond8 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c7_i32 : BitVec 32 := 7#32
  let v680 : BitVec 32 := Scalar.addi v2 c7_i32
  let c0_i32_477 : BitVec 32 := 0#32
  let v682 : BitVec 1 := Scalar.cmpi .sgt v680 c0_i32_477
  let v683 : BitVec 32 := Scalar.extui v682
  let c0_i32_478 : BitVec 32 := 0#32
  let v684 : BitVec 1 := Scalar.cmpi .slt v680 c0_i32_478
  let v685 : BitVec 32 := Scalar.extui v684
  let v686 : BitVec 32 := Scalar.subi v683 v685
  let c32_i32_476 : BitVec 32 := 32#32
  let c0_i32_479 : BitVec 32 := 0#32
  let v687 : BitVec 1 := Scalar.cmpi .sgt c32_i32_476 c0_i32_479
  let v688 : BitVec 32 := Scalar.extui v687
  let c0_i32_480 : BitVec 32 := 0#32
  let v689 : BitVec 1 := Scalar.cmpi .slt c32_i32_476 c0_i32_480
  let v690 : BitVec 32 := Scalar.extui v689
  let v691 : BitVec 32 := Scalar.subi v688 v690
  let v692 : BitVec 1 := Scalar.cmpi .ne v686 v691
  let v693 : BitVec 32 := Scalar.remsi v680 c32_i32_476
  let c0_i32_481 : BitVec 32 := 0#32
  let v694 : BitVec 1 := Scalar.cmpi .ne v693 c0_i32_481
  let v695 : BitVec 1 := Scalar.andi v692 v694
  let v681 : BitVec 32 := Scalar.divsi v680 c32_i32_476
  let c1_i32_482 : BitVec 32 := 1#32
  let v696 : BitVec 32 := Scalar.subi v681 c1_i32_482
  let v697 : BitVec 32 := Scalar.select v695 v696 v681
  let c6_i32 : BitVec 32 := 6#32
  let v581 : BitVec 32 := Scalar.addi v2 c6_i32
  let c0_i32_407 : BitVec 32 := 0#32
  let v583 : BitVec 1 := Scalar.cmpi .sgt v581 c0_i32_407
  let v584 : BitVec 32 := Scalar.extui v583
  let c0_i32_408 : BitVec 32 := 0#32
  let v585 : BitVec 1 := Scalar.cmpi .slt v581 c0_i32_408
  let v586 : BitVec 32 := Scalar.extui v585
  let v587 : BitVec 32 := Scalar.subi v584 v586
  let c32_i32_406 : BitVec 32 := 32#32
  let c0_i32_409 : BitVec 32 := 0#32
  let v588 : BitVec 1 := Scalar.cmpi .sgt c32_i32_406 c0_i32_409
  let v589 : BitVec 32 := Scalar.extui v588
  let c0_i32_410 : BitVec 32 := 0#32
  let v590 : BitVec 1 := Scalar.cmpi .slt c32_i32_406 c0_i32_410
  let v591 : BitVec 32 := Scalar.extui v590
  let v592 : BitVec 32 := Scalar.subi v589 v591
  let v593 : BitVec 1 := Scalar.cmpi .ne v587 v592
  let v594 : BitVec 32 := Scalar.remsi v581 c32_i32_406
  let c0_i32_411 : BitVec 32 := 0#32
  let v595 : BitVec 1 := Scalar.cmpi .ne v594 c0_i32_411
  let v596 : BitVec 1 := Scalar.andi v593 v595
  let v582 : BitVec 32 := Scalar.divsi v581 c32_i32_406
  let c1_i32_412 : BitVec 32 := 1#32
  let v597 : BitVec 32 := Scalar.subi v582 c1_i32_412
  let v598 : BitVec 32 := Scalar.select v596 v597 v582
  let v708 : BitVec 1 := Scalar.cmpi .ne v697 v598
  let v709 : BitVec 32 := Scalar.extui v708
  let c0_i32_489 : BitVec 32 := 0#32
  let v710 : BitVec 1 := Scalar.cmpi .ne v709 c0_i32_489
  v710

def k0_off69 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c7_i32 : BitVec 32 := 7#32
  let v680 : BitVec 32 := Scalar.addi v2 c7_i32
  let c0_i32_477 : BitVec 32 := 0#32
  let v682 : BitVec 1 := Scalar.cmpi .sgt v680 c0_i32_477
  let v683 : BitVec 32 := Scalar.extui v682
  let c0_i32_478 : BitVec 32 := 0#32
  let v684 : BitVec 1 := Scalar.cmpi .slt v680 c0_i32_478
  let v685 : BitVec 32 := Scalar.extui v684
  let v686 : BitVec 32 := Scalar.subi v683 v685
  let c32_i32_476 : BitVec 32 := 32#32
  let c0_i32_479 : BitVec 32 := 0#32
  let v687 : BitVec 1 := Scalar.cmpi .sgt c32_i32_476 c0_i32_479
  let v688 : BitVec 32 := Scalar.extui v687
  let c0_i32_480 : BitVec 32 := 0#32
  let v689 : BitVec 1 := Scalar.cmpi .slt c32_i32_476 c0_i32_480
  let v690 : BitVec 32 := Scalar.extui v689
  let v691 : BitVec 32 := Scalar.subi v688 v690
  let v692 : BitVec 1 := Scalar.cmpi .ne v686 v691
  let v693 : BitVec 32 := Scalar.remsi v680 c32_i32_476
  let c0_i32_481 : BitVec 32 := 0#32
  let v694 : BitVec 1 := Scalar.cmpi .ne v693 c0_i32_481
  let v695 : BitVec 1 := Scalar.andi v692 v694
  let v681 : BitVec 32 := Scalar.divsi v680 c32_i32_476
  let c1_i32_482 : BitVec 32 := 1#32
  let v696 : BitVec 32 := Scalar.subi v681 c1_i32_482
  let v697 : BitVec 32 := Scalar.select v695 v696 v681
  let c0_i32_1816_r14 : BitVec 32 := 0#32
  ![v697.toNat, 0]
@[reducible] def k0_t29_loop : Scf.Loop 32 :=
  let c0_i32_495 : BitVec 32 := 0#32
  let c256_i32_496 : BitVec 32 := 256#32
  let v719 : BitVec 32 := Scalar.addi c0_i32_495 c256_i32_496
  let c1_i32_497 : BitVec 32 := 1#32
  ⟨c0_i32_495, v719, c1_i32_497⟩
def k0_off70 (k0_t29 : Fin k0_t29_loop.trips) : Fin 1 → Nat :=
  let c0_i32_1819 : BitVec 32 := 0#32
  let c0_i32_1817 : BitVec 32 := 0#32
  let c0_i32_495 : BitVec 32 := 0#32
  let c1_i32_497 : BitVec 32 := 1#32
  let arg10 : BitVec 32 := Scf.iv c0_i32_495 c1_i32_497 k0_t29
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c0_i32_1819 v2579
  let v2581 : Index := Scalar.indexCast v2580
  ![v2581.toNat]

def k0_chk29 (v2582 : IVec S16 32) : Prop :=
  (∀ a x, ((![v2582] : Fin 1 → IVec S16 32) a x).toNat < S100000.size a)
theorem k0_idx29_inb : ∀ (v2582 : IVec S16 32) (k0_hw29 : k0_chk29 v2582), ∀ a x, ((![v2582] : Fin 1 → IVec S16 32) a x).toNat < S100000.size a := fun v2582 k0_hw29 => k0_hw29
def k0_off71 (k0_t29 : Fin k0_t29_loop.trips) : Fin 2 → Nat :=
  let c0_i32_1821 : BitVec 32 := 0#32
  let v2585 : Index := Scalar.indexCast c0_i32_1821
  let c0_i32_1817 : BitVec 32 := 0#32
  let c0_i32_495 : BitVec 32 := 0#32
  let c1_i32_497 : BitVec 32 := 1#32
  let arg10 : BitVec 32 := Scf.iv c0_i32_495 c1_i32_497 k0_t29
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t30_loop : Scf.Loop 32 :=
  let c0_i32_509 : BitVec 32 := 0#32
  let c256_i32_510 : BitVec 32 := 256#32
  let v736 : BitVec 32 := Scalar.addi c0_i32_509 c256_i32_510
  let c1_i32_511 : BitVec 32 := 1#32
  ⟨c0_i32_509, v736, c1_i32_511⟩
def k0_off72 (k0_t30 : Fin k0_t30_loop.trips) : Fin 1 → Nat :=
  let c4096_i32_1819 : BitVec 32 := 4096#32
  let c0_i32_1817 : BitVec 32 := 0#32
  let c0_i32_509 : BitVec 32 := 0#32
  let c1_i32_511 : BitVec 32 := 1#32
  let arg10 : BitVec 32 := Scf.iv c0_i32_509 c1_i32_511 k0_t30
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c4096_i32_1819 v2579
  let v2581 : Index := Scalar.indexCast v2580
  ![v2581.toNat]

def k0_chk30 (v2582 : IVec S16 32) : Prop :=
  (∀ a x, ((![v2582] : Fin 1 → IVec S16 32) a x).toNat < S100000.size a)
theorem k0_idx30_inb : ∀ (v2582 : IVec S16 32) (k0_hw30 : k0_chk30 v2582), ∀ a x, ((![v2582] : Fin 1 → IVec S16 32) a x).toNat < S100000.size a := fun v2582 k0_hw30 => k0_hw30
def k0_off73 (k0_t30 : Fin k0_t30_loop.trips) : Fin 2 → Nat :=
  let c1_i32_1821 : BitVec 32 := 1#32
  let v2585 : Index := Scalar.indexCast c1_i32_1821
  let c0_i32_1817 : BitVec 32 := 0#32
  let c0_i32_509 : BitVec 32 := 0#32
  let c1_i32_511 : BitVec 32 := 1#32
  let arg10 : BitVec 32 := Scf.iv c0_i32_509 c1_i32_511 k0_t30
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
@[reducible] def k0_t31_loop : Scf.Loop 32 :=
  let c0_i32_523 : BitVec 32 := 0#32
  let c256_i32_524 : BitVec 32 := 256#32
  let v753 : BitVec 32 := Scalar.addi c0_i32_523 c256_i32_524
  let c1_i32_525 : BitVec 32 := 1#32
  ⟨c0_i32_523, v753, c1_i32_525⟩
def k0_off74 (k0_t31 : Fin k0_t31_loop.trips) : Fin 1 → Nat :=
  let c8192_i32_1819 : BitVec 32 := 8192#32
  let c0_i32_1817 : BitVec 32 := 0#32
  let c0_i32_523 : BitVec 32 := 0#32
  let c1_i32_525 : BitVec 32 := 1#32
  let arg10 : BitVec 32 := Scf.iv c0_i32_523 c1_i32_525 k0_t31
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c8192_i32_1819 v2579
  let v2581 : Index := Scalar.indexCast v2580
  ![v2581.toNat]

def k0_chk31 (v2582 : IVec S16 32) : Prop :=
  (∀ a x, ((![v2582] : Fin 1 → IVec S16 32) a x).toNat < S100000.size a)
theorem k0_idx31_inb : ∀ (v2582 : IVec S16 32) (k0_hw31 : k0_chk31 v2582), ∀ a x, ((![v2582] : Fin 1 → IVec S16 32) a x).toNat < S100000.size a := fun v2582 k0_hw31 => k0_hw31
def k0_off75 (k0_t31 : Fin k0_t31_loop.trips) : Fin 2 → Nat :=
  let c0_i32_1821 : BitVec 32 := 0#32
  let v2585 : Index := Scalar.indexCast c0_i32_1821
  let c0_i32_1817 : BitVec 32 := 0#32
  let c0_i32_523 : BitVec 32 := 0#32
  let c1_i32_525 : BitVec 32 := 1#32
  let arg10 : BitVec 32 := Scf.iv c0_i32_523 c1_i32_525 k0_t31
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t32_loop : Scf.Loop 32 :=
  let c0_i32_537 : BitVec 32 := 0#32
  let c256_i32_538 : BitVec 32 := 256#32
  let v770 : BitVec 32 := Scalar.addi c0_i32_537 c256_i32_538
  let c1_i32_539 : BitVec 32 := 1#32
  ⟨c0_i32_537, v770, c1_i32_539⟩
def k0_off76 (k0_t32 : Fin k0_t32_loop.trips) : Fin 1 → Nat :=
  let c12288_i32_1819 : BitVec 32 := 12288#32
  let c0_i32_1817 : BitVec 32 := 0#32
  let c0_i32_537 : BitVec 32 := 0#32
  let c1_i32_539 : BitVec 32 := 1#32
  let arg10 : BitVec 32 := Scf.iv c0_i32_537 c1_i32_539 k0_t32
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c12288_i32_1819 v2579
  let v2581 : Index := Scalar.indexCast v2580
  ![v2581.toNat]

def k0_chk32 (v2582 : IVec S16 32) : Prop :=
  (∀ a x, ((![v2582] : Fin 1 → IVec S16 32) a x).toNat < S100000.size a)
theorem k0_idx32_inb : ∀ (v2582 : IVec S16 32) (k0_hw32 : k0_chk32 v2582), ∀ a x, ((![v2582] : Fin 1 → IVec S16 32) a x).toNat < S100000.size a := fun v2582 k0_hw32 => k0_hw32
def k0_off77 (k0_t32 : Fin k0_t32_loop.trips) : Fin 2 → Nat :=
  let c1_i32_1821 : BitVec 32 := 1#32
  let v2585 : Index := Scalar.indexCast c1_i32_1821
  let c0_i32_1817 : BitVec 32 := 0#32
  let c0_i32_537 : BitVec 32 := 0#32
  let c1_i32_539 : BitVec 32 := 1#32
  let arg10 : BitVec 32 := Scf.iv c0_i32_537 c1_i32_539 k0_t32
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
def k0_cond9 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c8_i32 : BitVec 32 := 8#32
  let v779 : BitVec 32 := Scalar.addi v2 c8_i32
  let c0_i32_547 : BitVec 32 := 0#32
  let v781 : BitVec 1 := Scalar.cmpi .sgt v779 c0_i32_547
  let v782 : BitVec 32 := Scalar.extui v781
  let c0_i32_548 : BitVec 32 := 0#32
  let v783 : BitVec 1 := Scalar.cmpi .slt v779 c0_i32_548
  let v784 : BitVec 32 := Scalar.extui v783
  let v785 : BitVec 32 := Scalar.subi v782 v784
  let c32_i32_546 : BitVec 32 := 32#32
  let c0_i32_549 : BitVec 32 := 0#32
  let v786 : BitVec 1 := Scalar.cmpi .sgt c32_i32_546 c0_i32_549
  let v787 : BitVec 32 := Scalar.extui v786
  let c0_i32_550 : BitVec 32 := 0#32
  let v788 : BitVec 1 := Scalar.cmpi .slt c32_i32_546 c0_i32_550
  let v789 : BitVec 32 := Scalar.extui v788
  let v790 : BitVec 32 := Scalar.subi v787 v789
  let v791 : BitVec 1 := Scalar.cmpi .ne v785 v790
  let v792 : BitVec 32 := Scalar.remsi v779 c32_i32_546
  let c0_i32_551 : BitVec 32 := 0#32
  let v793 : BitVec 1 := Scalar.cmpi .ne v792 c0_i32_551
  let v794 : BitVec 1 := Scalar.andi v791 v793
  let v780 : BitVec 32 := Scalar.divsi v779 c32_i32_546
  let c1_i32_552 : BitVec 32 := 1#32
  let v795 : BitVec 32 := Scalar.subi v780 c1_i32_552
  let v796 : BitVec 32 := Scalar.select v794 v795 v780
  let c7_i32 : BitVec 32 := 7#32
  let v680 : BitVec 32 := Scalar.addi v2 c7_i32
  let c0_i32_477 : BitVec 32 := 0#32
  let v682 : BitVec 1 := Scalar.cmpi .sgt v680 c0_i32_477
  let v683 : BitVec 32 := Scalar.extui v682
  let c0_i32_478 : BitVec 32 := 0#32
  let v684 : BitVec 1 := Scalar.cmpi .slt v680 c0_i32_478
  let v685 : BitVec 32 := Scalar.extui v684
  let v686 : BitVec 32 := Scalar.subi v683 v685
  let c32_i32_476 : BitVec 32 := 32#32
  let c0_i32_479 : BitVec 32 := 0#32
  let v687 : BitVec 1 := Scalar.cmpi .sgt c32_i32_476 c0_i32_479
  let v688 : BitVec 32 := Scalar.extui v687
  let c0_i32_480 : BitVec 32 := 0#32
  let v689 : BitVec 1 := Scalar.cmpi .slt c32_i32_476 c0_i32_480
  let v690 : BitVec 32 := Scalar.extui v689
  let v691 : BitVec 32 := Scalar.subi v688 v690
  let v692 : BitVec 1 := Scalar.cmpi .ne v686 v691
  let v693 : BitVec 32 := Scalar.remsi v680 c32_i32_476
  let c0_i32_481 : BitVec 32 := 0#32
  let v694 : BitVec 1 := Scalar.cmpi .ne v693 c0_i32_481
  let v695 : BitVec 1 := Scalar.andi v692 v694
  let v681 : BitVec 32 := Scalar.divsi v680 c32_i32_476
  let c1_i32_482 : BitVec 32 := 1#32
  let v696 : BitVec 32 := Scalar.subi v681 c1_i32_482
  let v697 : BitVec 32 := Scalar.select v695 v696 v681
  let v807 : BitVec 1 := Scalar.cmpi .ne v796 v697
  let v808 : BitVec 32 := Scalar.extui v807
  let c0_i32_559 : BitVec 32 := 0#32
  let v809 : BitVec 1 := Scalar.cmpi .ne v808 c0_i32_559
  v809

def k0_off78 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c8_i32 : BitVec 32 := 8#32
  let v779 : BitVec 32 := Scalar.addi v2 c8_i32
  let c0_i32_547 : BitVec 32 := 0#32
  let v781 : BitVec 1 := Scalar.cmpi .sgt v779 c0_i32_547
  let v782 : BitVec 32 := Scalar.extui v781
  let c0_i32_548 : BitVec 32 := 0#32
  let v783 : BitVec 1 := Scalar.cmpi .slt v779 c0_i32_548
  let v784 : BitVec 32 := Scalar.extui v783
  let v785 : BitVec 32 := Scalar.subi v782 v784
  let c32_i32_546 : BitVec 32 := 32#32
  let c0_i32_549 : BitVec 32 := 0#32
  let v786 : BitVec 1 := Scalar.cmpi .sgt c32_i32_546 c0_i32_549
  let v787 : BitVec 32 := Scalar.extui v786
  let c0_i32_550 : BitVec 32 := 0#32
  let v788 : BitVec 1 := Scalar.cmpi .slt c32_i32_546 c0_i32_550
  let v789 : BitVec 32 := Scalar.extui v788
  let v790 : BitVec 32 := Scalar.subi v787 v789
  let v791 : BitVec 1 := Scalar.cmpi .ne v785 v790
  let v792 : BitVec 32 := Scalar.remsi v779 c32_i32_546
  let c0_i32_551 : BitVec 32 := 0#32
  let v793 : BitVec 1 := Scalar.cmpi .ne v792 c0_i32_551
  let v794 : BitVec 1 := Scalar.andi v791 v793
  let v780 : BitVec 32 := Scalar.divsi v779 c32_i32_546
  let c1_i32_552 : BitVec 32 := 1#32
  let v795 : BitVec 32 := Scalar.subi v780 c1_i32_552
  let v796 : BitVec 32 := Scalar.select v794 v795 v780
  let c0_i32_1816_r16 : BitVec 32 := 0#32
  ![v796.toNat, 0]
@[reducible] def k0_t33_loop : Scf.Loop 32 :=
  let c0_i32_565 : BitVec 32 := 0#32
  let c256_i32_566 : BitVec 32 := 256#32
  let v818 : BitVec 32 := Scalar.addi c0_i32_565 c256_i32_566
  let c1_i32_567 : BitVec 32 := 1#32
  ⟨c0_i32_565, v818, c1_i32_567⟩
def k0_off79 (k0_t33 : Fin k0_t33_loop.trips) : Fin 1 → Nat :=
  let c0_i32_1819 : BitVec 32 := 0#32
  let c0_i32_1817 : BitVec 32 := 0#32
  let c0_i32_565 : BitVec 32 := 0#32
  let c1_i32_567 : BitVec 32 := 1#32
  let arg10 : BitVec 32 := Scf.iv c0_i32_565 c1_i32_567 k0_t33
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c0_i32_1819 v2579
  let v2581 : Index := Scalar.indexCast v2580
  ![v2581.toNat]

def k0_chk33 (v2582 : IVec S16 32) : Prop :=
  (∀ a x, ((![v2582] : Fin 1 → IVec S16 32) a x).toNat < S100000.size a)
theorem k0_idx33_inb : ∀ (v2582 : IVec S16 32) (k0_hw33 : k0_chk33 v2582), ∀ a x, ((![v2582] : Fin 1 → IVec S16 32) a x).toNat < S100000.size a := fun v2582 k0_hw33 => k0_hw33
def k0_off80 (k0_t33 : Fin k0_t33_loop.trips) : Fin 2 → Nat :=
  let c0_i32_1821 : BitVec 32 := 0#32
  let v2585 : Index := Scalar.indexCast c0_i32_1821
  let c0_i32_1817 : BitVec 32 := 0#32
  let c0_i32_565 : BitVec 32 := 0#32
  let c1_i32_567 : BitVec 32 := 1#32
  let arg10 : BitVec 32 := Scf.iv c0_i32_565 c1_i32_567 k0_t33
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t34_loop : Scf.Loop 32 :=
  let c0_i32_579 : BitVec 32 := 0#32
  let c256_i32_580 : BitVec 32 := 256#32
  let v835 : BitVec 32 := Scalar.addi c0_i32_579 c256_i32_580
  let c1_i32_581 : BitVec 32 := 1#32
  ⟨c0_i32_579, v835, c1_i32_581⟩
def k0_off81 (k0_t34 : Fin k0_t34_loop.trips) : Fin 1 → Nat :=
  let c4096_i32_1819 : BitVec 32 := 4096#32
  let c0_i32_1817 : BitVec 32 := 0#32
  let c0_i32_579 : BitVec 32 := 0#32
  let c1_i32_581 : BitVec 32 := 1#32
  let arg10 : BitVec 32 := Scf.iv c0_i32_579 c1_i32_581 k0_t34
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c4096_i32_1819 v2579
  let v2581 : Index := Scalar.indexCast v2580
  ![v2581.toNat]

def k0_chk34 (v2582 : IVec S16 32) : Prop :=
  (∀ a x, ((![v2582] : Fin 1 → IVec S16 32) a x).toNat < S100000.size a)
theorem k0_idx34_inb : ∀ (v2582 : IVec S16 32) (k0_hw34 : k0_chk34 v2582), ∀ a x, ((![v2582] : Fin 1 → IVec S16 32) a x).toNat < S100000.size a := fun v2582 k0_hw34 => k0_hw34
def k0_off82 (k0_t34 : Fin k0_t34_loop.trips) : Fin 2 → Nat :=
  let c1_i32_1821 : BitVec 32 := 1#32
  let v2585 : Index := Scalar.indexCast c1_i32_1821
  let c0_i32_1817 : BitVec 32 := 0#32
  let c0_i32_579 : BitVec 32 := 0#32
  let c1_i32_581 : BitVec 32 := 1#32
  let arg10 : BitVec 32 := Scf.iv c0_i32_579 c1_i32_581 k0_t34
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
@[reducible] def k0_t35_loop : Scf.Loop 32 :=
  let c0_i32_593 : BitVec 32 := 0#32
  let c256_i32_594 : BitVec 32 := 256#32
  let v852 : BitVec 32 := Scalar.addi c0_i32_593 c256_i32_594
  let c1_i32_595 : BitVec 32 := 1#32
  ⟨c0_i32_593, v852, c1_i32_595⟩
def k0_off83 (k0_t35 : Fin k0_t35_loop.trips) : Fin 1 → Nat :=
  let c8192_i32_1819 : BitVec 32 := 8192#32
  let c0_i32_1817 : BitVec 32 := 0#32
  let c0_i32_593 : BitVec 32 := 0#32
  let c1_i32_595 : BitVec 32 := 1#32
  let arg10 : BitVec 32 := Scf.iv c0_i32_593 c1_i32_595 k0_t35
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c8192_i32_1819 v2579
  let v2581 : Index := Scalar.indexCast v2580
  ![v2581.toNat]

def k0_chk35 (v2582 : IVec S16 32) : Prop :=
  (∀ a x, ((![v2582] : Fin 1 → IVec S16 32) a x).toNat < S100000.size a)
theorem k0_idx35_inb : ∀ (v2582 : IVec S16 32) (k0_hw35 : k0_chk35 v2582), ∀ a x, ((![v2582] : Fin 1 → IVec S16 32) a x).toNat < S100000.size a := fun v2582 k0_hw35 => k0_hw35
def k0_off84 (k0_t35 : Fin k0_t35_loop.trips) : Fin 2 → Nat :=
  let c0_i32_1821 : BitVec 32 := 0#32
  let v2585 : Index := Scalar.indexCast c0_i32_1821
  let c0_i32_1817 : BitVec 32 := 0#32
  let c0_i32_593 : BitVec 32 := 0#32
  let c1_i32_595 : BitVec 32 := 1#32
  let arg10 : BitVec 32 := Scf.iv c0_i32_593 c1_i32_595 k0_t35
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t36_loop : Scf.Loop 32 :=
  let c0_i32_607 : BitVec 32 := 0#32
  let c256_i32_608 : BitVec 32 := 256#32
  let v869 : BitVec 32 := Scalar.addi c0_i32_607 c256_i32_608
  let c1_i32_609 : BitVec 32 := 1#32
  ⟨c0_i32_607, v869, c1_i32_609⟩
def k0_off85 (k0_t36 : Fin k0_t36_loop.trips) : Fin 1 → Nat :=
  let c12288_i32_1819 : BitVec 32 := 12288#32
  let c0_i32_1817 : BitVec 32 := 0#32
  let c0_i32_607 : BitVec 32 := 0#32
  let c1_i32_609 : BitVec 32 := 1#32
  let arg10 : BitVec 32 := Scf.iv c0_i32_607 c1_i32_609 k0_t36
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c12288_i32_1819 v2579
  let v2581 : Index := Scalar.indexCast v2580
  ![v2581.toNat]

def k0_chk36 (v2582 : IVec S16 32) : Prop :=
  (∀ a x, ((![v2582] : Fin 1 → IVec S16 32) a x).toNat < S100000.size a)
theorem k0_idx36_inb : ∀ (v2582 : IVec S16 32) (k0_hw36 : k0_chk36 v2582), ∀ a x, ((![v2582] : Fin 1 → IVec S16 32) a x).toNat < S100000.size a := fun v2582 k0_hw36 => k0_hw36
def k0_off86 (k0_t36 : Fin k0_t36_loop.trips) : Fin 2 → Nat :=
  let c1_i32_1821 : BitVec 32 := 1#32
  let v2585 : Index := Scalar.indexCast c1_i32_1821
  let c0_i32_1817 : BitVec 32 := 0#32
  let c0_i32_607 : BitVec 32 := 0#32
  let c1_i32_609 : BitVec 32 := 1#32
  let arg10 : BitVec 32 := Scf.iv c0_i32_607 c1_i32_609 k0_t36
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
def k0_cond10 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c9_i32 : BitVec 32 := 9#32
  let v878 : BitVec 32 := Scalar.addi v2 c9_i32
  let c0_i32_617 : BitVec 32 := 0#32
  let v880 : BitVec 1 := Scalar.cmpi .sgt v878 c0_i32_617
  let v881 : BitVec 32 := Scalar.extui v880
  let c0_i32_618 : BitVec 32 := 0#32
  let v882 : BitVec 1 := Scalar.cmpi .slt v878 c0_i32_618
  let v883 : BitVec 32 := Scalar.extui v882
  let v884 : BitVec 32 := Scalar.subi v881 v883
  let c32_i32_616 : BitVec 32 := 32#32
  let c0_i32_619 : BitVec 32 := 0#32
  let v885 : BitVec 1 := Scalar.cmpi .sgt c32_i32_616 c0_i32_619
  let v886 : BitVec 32 := Scalar.extui v885
  let c0_i32_620 : BitVec 32 := 0#32
  let v887 : BitVec 1 := Scalar.cmpi .slt c32_i32_616 c0_i32_620
  let v888 : BitVec 32 := Scalar.extui v887
  let v889 : BitVec 32 := Scalar.subi v886 v888
  let v890 : BitVec 1 := Scalar.cmpi .ne v884 v889
  let v891 : BitVec 32 := Scalar.remsi v878 c32_i32_616
  let c0_i32_621 : BitVec 32 := 0#32
  let v892 : BitVec 1 := Scalar.cmpi .ne v891 c0_i32_621
  let v893 : BitVec 1 := Scalar.andi v890 v892
  let v879 : BitVec 32 := Scalar.divsi v878 c32_i32_616
  let c1_i32_622 : BitVec 32 := 1#32
  let v894 : BitVec 32 := Scalar.subi v879 c1_i32_622
  let v895 : BitVec 32 := Scalar.select v893 v894 v879
  let c8_i32 : BitVec 32 := 8#32
  let v779 : BitVec 32 := Scalar.addi v2 c8_i32
  let c0_i32_547 : BitVec 32 := 0#32
  let v781 : BitVec 1 := Scalar.cmpi .sgt v779 c0_i32_547
  let v782 : BitVec 32 := Scalar.extui v781
  let c0_i32_548 : BitVec 32 := 0#32
  let v783 : BitVec 1 := Scalar.cmpi .slt v779 c0_i32_548
  let v784 : BitVec 32 := Scalar.extui v783
  let v785 : BitVec 32 := Scalar.subi v782 v784
  let c32_i32_546 : BitVec 32 := 32#32
  let c0_i32_549 : BitVec 32 := 0#32
  let v786 : BitVec 1 := Scalar.cmpi .sgt c32_i32_546 c0_i32_549
  let v787 : BitVec 32 := Scalar.extui v786
  let c0_i32_550 : BitVec 32 := 0#32
  let v788 : BitVec 1 := Scalar.cmpi .slt c32_i32_546 c0_i32_550
  let v789 : BitVec 32 := Scalar.extui v788
  let v790 : BitVec 32 := Scalar.subi v787 v789
  let v791 : BitVec 1 := Scalar.cmpi .ne v785 v790
  let v792 : BitVec 32 := Scalar.remsi v779 c32_i32_546
  let c0_i32_551 : BitVec 32 := 0#32
  let v793 : BitVec 1 := Scalar.cmpi .ne v792 c0_i32_551
  let v794 : BitVec 1 := Scalar.andi v791 v793
  let v780 : BitVec 32 := Scalar.divsi v779 c32_i32_546
  let c1_i32_552 : BitVec 32 := 1#32
  let v795 : BitVec 32 := Scalar.subi v780 c1_i32_552
  let v796 : BitVec 32 := Scalar.select v794 v795 v780
  let v906 : BitVec 1 := Scalar.cmpi .ne v895 v796
  let v907 : BitVec 32 := Scalar.extui v906
  let c0_i32_629 : BitVec 32 := 0#32
  let v908 : BitVec 1 := Scalar.cmpi .ne v907 c0_i32_629
  v908

def k0_off87 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c9_i32 : BitVec 32 := 9#32
  let v878 : BitVec 32 := Scalar.addi v2 c9_i32
  let c0_i32_617 : BitVec 32 := 0#32
  let v880 : BitVec 1 := Scalar.cmpi .sgt v878 c0_i32_617
  let v881 : BitVec 32 := Scalar.extui v880
  let c0_i32_618 : BitVec 32 := 0#32
  let v882 : BitVec 1 := Scalar.cmpi .slt v878 c0_i32_618
  let v883 : BitVec 32 := Scalar.extui v882
  let v884 : BitVec 32 := Scalar.subi v881 v883
  let c32_i32_616 : BitVec 32 := 32#32
  let c0_i32_619 : BitVec 32 := 0#32
  let v885 : BitVec 1 := Scalar.cmpi .sgt c32_i32_616 c0_i32_619
  let v886 : BitVec 32 := Scalar.extui v885
  let c0_i32_620 : BitVec 32 := 0#32
  let v887 : BitVec 1 := Scalar.cmpi .slt c32_i32_616 c0_i32_620
  let v888 : BitVec 32 := Scalar.extui v887
  let v889 : BitVec 32 := Scalar.subi v886 v888
  let v890 : BitVec 1 := Scalar.cmpi .ne v884 v889
  let v891 : BitVec 32 := Scalar.remsi v878 c32_i32_616
  let c0_i32_621 : BitVec 32 := 0#32
  let v892 : BitVec 1 := Scalar.cmpi .ne v891 c0_i32_621
  let v893 : BitVec 1 := Scalar.andi v890 v892
  let v879 : BitVec 32 := Scalar.divsi v878 c32_i32_616
  let c1_i32_622 : BitVec 32 := 1#32
  let v894 : BitVec 32 := Scalar.subi v879 c1_i32_622
  let v895 : BitVec 32 := Scalar.select v893 v894 v879
  let c0_i32_1816_r18 : BitVec 32 := 0#32
  ![v895.toNat, 0]
@[reducible] def k0_t37_loop : Scf.Loop 32 :=
  let c0_i32_635 : BitVec 32 := 0#32
  let c256_i32_636 : BitVec 32 := 256#32
  let v917 : BitVec 32 := Scalar.addi c0_i32_635 c256_i32_636
  let c1_i32_637 : BitVec 32 := 1#32
  ⟨c0_i32_635, v917, c1_i32_637⟩
def k0_off88 (k0_t37 : Fin k0_t37_loop.trips) : Fin 1 → Nat :=
  let c0_i32_1819 : BitVec 32 := 0#32
  let c0_i32_1817 : BitVec 32 := 0#32
  let c0_i32_635 : BitVec 32 := 0#32
  let c1_i32_637 : BitVec 32 := 1#32
  let arg10 : BitVec 32 := Scf.iv c0_i32_635 c1_i32_637 k0_t37
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c0_i32_1819 v2579
  let v2581 : Index := Scalar.indexCast v2580
  ![v2581.toNat]

def k0_chk37 (v2582 : IVec S16 32) : Prop :=
  (∀ a x, ((![v2582] : Fin 1 → IVec S16 32) a x).toNat < S100000.size a)
theorem k0_idx37_inb : ∀ (v2582 : IVec S16 32) (k0_hw37 : k0_chk37 v2582), ∀ a x, ((![v2582] : Fin 1 → IVec S16 32) a x).toNat < S100000.size a := fun v2582 k0_hw37 => k0_hw37
def k0_off89 (k0_t37 : Fin k0_t37_loop.trips) : Fin 2 → Nat :=
  let c0_i32_1821 : BitVec 32 := 0#32
  let v2585 : Index := Scalar.indexCast c0_i32_1821
  let c0_i32_1817 : BitVec 32 := 0#32
  let c0_i32_635 : BitVec 32 := 0#32
  let c1_i32_637 : BitVec 32 := 1#32
  let arg10 : BitVec 32 := Scf.iv c0_i32_635 c1_i32_637 k0_t37
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t38_loop : Scf.Loop 32 :=
  let c0_i32_649 : BitVec 32 := 0#32
  let c256_i32_650 : BitVec 32 := 256#32
  let v934 : BitVec 32 := Scalar.addi c0_i32_649 c256_i32_650
  let c1_i32_651 : BitVec 32 := 1#32
  ⟨c0_i32_649, v934, c1_i32_651⟩
def k0_off90 (k0_t38 : Fin k0_t38_loop.trips) : Fin 1 → Nat :=
  let c4096_i32_1819 : BitVec 32 := 4096#32
  let c0_i32_1817 : BitVec 32 := 0#32
  let c0_i32_649 : BitVec 32 := 0#32
  let c1_i32_651 : BitVec 32 := 1#32
  let arg10 : BitVec 32 := Scf.iv c0_i32_649 c1_i32_651 k0_t38
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c4096_i32_1819 v2579
  let v2581 : Index := Scalar.indexCast v2580
  ![v2581.toNat]

def k0_chk38 (v2582 : IVec S16 32) : Prop :=
  (∀ a x, ((![v2582] : Fin 1 → IVec S16 32) a x).toNat < S100000.size a)
theorem k0_idx38_inb : ∀ (v2582 : IVec S16 32) (k0_hw38 : k0_chk38 v2582), ∀ a x, ((![v2582] : Fin 1 → IVec S16 32) a x).toNat < S100000.size a := fun v2582 k0_hw38 => k0_hw38
def k0_off91 (k0_t38 : Fin k0_t38_loop.trips) : Fin 2 → Nat :=
  let c1_i32_1821 : BitVec 32 := 1#32
  let v2585 : Index := Scalar.indexCast c1_i32_1821
  let c0_i32_1817 : BitVec 32 := 0#32
  let c0_i32_649 : BitVec 32 := 0#32
  let c1_i32_651 : BitVec 32 := 1#32
  let arg10 : BitVec 32 := Scf.iv c0_i32_649 c1_i32_651 k0_t38
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
@[reducible] def k0_t39_loop : Scf.Loop 32 :=
  let c0_i32_663 : BitVec 32 := 0#32
  let c256_i32_664 : BitVec 32 := 256#32
  let v951 : BitVec 32 := Scalar.addi c0_i32_663 c256_i32_664
  let c1_i32_665 : BitVec 32 := 1#32
  ⟨c0_i32_663, v951, c1_i32_665⟩
def k0_off92 (k0_t39 : Fin k0_t39_loop.trips) : Fin 1 → Nat :=
  let c8192_i32_1819 : BitVec 32 := 8192#32
  let c0_i32_1817 : BitVec 32 := 0#32
  let c0_i32_663 : BitVec 32 := 0#32
  let c1_i32_665 : BitVec 32 := 1#32
  let arg10 : BitVec 32 := Scf.iv c0_i32_663 c1_i32_665 k0_t39
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c8192_i32_1819 v2579
  let v2581 : Index := Scalar.indexCast v2580
  ![v2581.toNat]

def k0_chk39 (v2582 : IVec S16 32) : Prop :=
  (∀ a x, ((![v2582] : Fin 1 → IVec S16 32) a x).toNat < S100000.size a)
theorem k0_idx39_inb : ∀ (v2582 : IVec S16 32) (k0_hw39 : k0_chk39 v2582), ∀ a x, ((![v2582] : Fin 1 → IVec S16 32) a x).toNat < S100000.size a := fun v2582 k0_hw39 => k0_hw39
def k0_off93 (k0_t39 : Fin k0_t39_loop.trips) : Fin 2 → Nat :=
  let c0_i32_1821 : BitVec 32 := 0#32
  let v2585 : Index := Scalar.indexCast c0_i32_1821
  let c0_i32_1817 : BitVec 32 := 0#32
  let c0_i32_663 : BitVec 32 := 0#32
  let c1_i32_665 : BitVec 32 := 1#32
  let arg10 : BitVec 32 := Scf.iv c0_i32_663 c1_i32_665 k0_t39
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t40_loop : Scf.Loop 32 :=
  let c0_i32_677 : BitVec 32 := 0#32
  let c256_i32_678 : BitVec 32 := 256#32
  let v968 : BitVec 32 := Scalar.addi c0_i32_677 c256_i32_678
  let c1_i32_679 : BitVec 32 := 1#32
  ⟨c0_i32_677, v968, c1_i32_679⟩
def k0_off94 (k0_t40 : Fin k0_t40_loop.trips) : Fin 1 → Nat :=
  let c12288_i32_1819 : BitVec 32 := 12288#32
  let c0_i32_1817 : BitVec 32 := 0#32
  let c0_i32_677 : BitVec 32 := 0#32
  let c1_i32_679 : BitVec 32 := 1#32
  let arg10 : BitVec 32 := Scf.iv c0_i32_677 c1_i32_679 k0_t40
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c12288_i32_1819 v2579
  let v2581 : Index := Scalar.indexCast v2580
  ![v2581.toNat]

def k0_chk40 (v2582 : IVec S16 32) : Prop :=
  (∀ a x, ((![v2582] : Fin 1 → IVec S16 32) a x).toNat < S100000.size a)
theorem k0_idx40_inb : ∀ (v2582 : IVec S16 32) (k0_hw40 : k0_chk40 v2582), ∀ a x, ((![v2582] : Fin 1 → IVec S16 32) a x).toNat < S100000.size a := fun v2582 k0_hw40 => k0_hw40
def k0_off95 (k0_t40 : Fin k0_t40_loop.trips) : Fin 2 → Nat :=
  let c1_i32_1821 : BitVec 32 := 1#32
  let v2585 : Index := Scalar.indexCast c1_i32_1821
  let c0_i32_1817 : BitVec 32 := 0#32
  let c0_i32_677 : BitVec 32 := 0#32
  let c1_i32_679 : BitVec 32 := 1#32
  let arg10 : BitVec 32 := Scf.iv c0_i32_677 c1_i32_679 k0_t40
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
def k0_cond11 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c10_i32 : BitVec 32 := 10#32
  let v977 : BitVec 32 := Scalar.addi v2 c10_i32
  let c0_i32_687 : BitVec 32 := 0#32
  let v979 : BitVec 1 := Scalar.cmpi .sgt v977 c0_i32_687
  let v980 : BitVec 32 := Scalar.extui v979
  let c0_i32_688 : BitVec 32 := 0#32
  let v981 : BitVec 1 := Scalar.cmpi .slt v977 c0_i32_688
  let v982 : BitVec 32 := Scalar.extui v981
  let v983 : BitVec 32 := Scalar.subi v980 v982
  let c32_i32_686 : BitVec 32 := 32#32
  let c0_i32_689 : BitVec 32 := 0#32
  let v984 : BitVec 1 := Scalar.cmpi .sgt c32_i32_686 c0_i32_689
  let v985 : BitVec 32 := Scalar.extui v984
  let c0_i32_690 : BitVec 32 := 0#32
  let v986 : BitVec 1 := Scalar.cmpi .slt c32_i32_686 c0_i32_690
  let v987 : BitVec 32 := Scalar.extui v986
  let v988 : BitVec 32 := Scalar.subi v985 v987
  let v989 : BitVec 1 := Scalar.cmpi .ne v983 v988
  let v990 : BitVec 32 := Scalar.remsi v977 c32_i32_686
  let c0_i32_691 : BitVec 32 := 0#32
  let v991 : BitVec 1 := Scalar.cmpi .ne v990 c0_i32_691
  let v992 : BitVec 1 := Scalar.andi v989 v991
  let v978 : BitVec 32 := Scalar.divsi v977 c32_i32_686
  let c1_i32_692 : BitVec 32 := 1#32
  let v993 : BitVec 32 := Scalar.subi v978 c1_i32_692
  let v994 : BitVec 32 := Scalar.select v992 v993 v978
  let c9_i32 : BitVec 32 := 9#32
  let v878 : BitVec 32 := Scalar.addi v2 c9_i32
  let c0_i32_617 : BitVec 32 := 0#32
  let v880 : BitVec 1 := Scalar.cmpi .sgt v878 c0_i32_617
  let v881 : BitVec 32 := Scalar.extui v880
  let c0_i32_618 : BitVec 32 := 0#32
  let v882 : BitVec 1 := Scalar.cmpi .slt v878 c0_i32_618
  let v883 : BitVec 32 := Scalar.extui v882
  let v884 : BitVec 32 := Scalar.subi v881 v883
  let c32_i32_616 : BitVec 32 := 32#32
  let c0_i32_619 : BitVec 32 := 0#32
  let v885 : BitVec 1 := Scalar.cmpi .sgt c32_i32_616 c0_i32_619
  let v886 : BitVec 32 := Scalar.extui v885
  let c0_i32_620 : BitVec 32 := 0#32
  let v887 : BitVec 1 := Scalar.cmpi .slt c32_i32_616 c0_i32_620
  let v888 : BitVec 32 := Scalar.extui v887
  let v889 : BitVec 32 := Scalar.subi v886 v888
  let v890 : BitVec 1 := Scalar.cmpi .ne v884 v889
  let v891 : BitVec 32 := Scalar.remsi v878 c32_i32_616
  let c0_i32_621 : BitVec 32 := 0#32
  let v892 : BitVec 1 := Scalar.cmpi .ne v891 c0_i32_621
  let v893 : BitVec 1 := Scalar.andi v890 v892
  let v879 : BitVec 32 := Scalar.divsi v878 c32_i32_616
  let c1_i32_622 : BitVec 32 := 1#32
  let v894 : BitVec 32 := Scalar.subi v879 c1_i32_622
  let v895 : BitVec 32 := Scalar.select v893 v894 v879
  let v1005 : BitVec 1 := Scalar.cmpi .ne v994 v895
  let v1006 : BitVec 32 := Scalar.extui v1005
  let c0_i32_699 : BitVec 32 := 0#32
  let v1007 : BitVec 1 := Scalar.cmpi .ne v1006 c0_i32_699
  v1007

def k0_off96 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c10_i32 : BitVec 32 := 10#32
  let v977 : BitVec 32 := Scalar.addi v2 c10_i32
  let c0_i32_687 : BitVec 32 := 0#32
  let v979 : BitVec 1 := Scalar.cmpi .sgt v977 c0_i32_687
  let v980 : BitVec 32 := Scalar.extui v979
  let c0_i32_688 : BitVec 32 := 0#32
  let v981 : BitVec 1 := Scalar.cmpi .slt v977 c0_i32_688
  let v982 : BitVec 32 := Scalar.extui v981
  let v983 : BitVec 32 := Scalar.subi v980 v982
  let c32_i32_686 : BitVec 32 := 32#32
  let c0_i32_689 : BitVec 32 := 0#32
  let v984 : BitVec 1 := Scalar.cmpi .sgt c32_i32_686 c0_i32_689
  let v985 : BitVec 32 := Scalar.extui v984
  let c0_i32_690 : BitVec 32 := 0#32
  let v986 : BitVec 1 := Scalar.cmpi .slt c32_i32_686 c0_i32_690
  let v987 : BitVec 32 := Scalar.extui v986
  let v988 : BitVec 32 := Scalar.subi v985 v987
  let v989 : BitVec 1 := Scalar.cmpi .ne v983 v988
  let v990 : BitVec 32 := Scalar.remsi v977 c32_i32_686
  let c0_i32_691 : BitVec 32 := 0#32
  let v991 : BitVec 1 := Scalar.cmpi .ne v990 c0_i32_691
  let v992 : BitVec 1 := Scalar.andi v989 v991
  let v978 : BitVec 32 := Scalar.divsi v977 c32_i32_686
  let c1_i32_692 : BitVec 32 := 1#32
  let v993 : BitVec 32 := Scalar.subi v978 c1_i32_692
  let v994 : BitVec 32 := Scalar.select v992 v993 v978
  let c0_i32_1816_r20 : BitVec 32 := 0#32
  ![v994.toNat, 0]
@[reducible] def k0_t41_loop : Scf.Loop 32 :=
  let c0_i32_705 : BitVec 32 := 0#32
  let c256_i32_706 : BitVec 32 := 256#32
  let v1016 : BitVec 32 := Scalar.addi c0_i32_705 c256_i32_706
  let c1_i32_707 : BitVec 32 := 1#32
  ⟨c0_i32_705, v1016, c1_i32_707⟩
def k0_off97 (k0_t41 : Fin k0_t41_loop.trips) : Fin 1 → Nat :=
  let c0_i32_1819 : BitVec 32 := 0#32
  let c0_i32_1817 : BitVec 32 := 0#32
  let c0_i32_705 : BitVec 32 := 0#32
  let c1_i32_707 : BitVec 32 := 1#32
  let arg10 : BitVec 32 := Scf.iv c0_i32_705 c1_i32_707 k0_t41
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c0_i32_1819 v2579
  let v2581 : Index := Scalar.indexCast v2580
  ![v2581.toNat]

def k0_chk41 (v2582 : IVec S16 32) : Prop :=
  (∀ a x, ((![v2582] : Fin 1 → IVec S16 32) a x).toNat < S100000.size a)
theorem k0_idx41_inb : ∀ (v2582 : IVec S16 32) (k0_hw41 : k0_chk41 v2582), ∀ a x, ((![v2582] : Fin 1 → IVec S16 32) a x).toNat < S100000.size a := fun v2582 k0_hw41 => k0_hw41
def k0_off98 (k0_t41 : Fin k0_t41_loop.trips) : Fin 2 → Nat :=
  let c0_i32_1821 : BitVec 32 := 0#32
  let v2585 : Index := Scalar.indexCast c0_i32_1821
  let c0_i32_1817 : BitVec 32 := 0#32
  let c0_i32_705 : BitVec 32 := 0#32
  let c1_i32_707 : BitVec 32 := 1#32
  let arg10 : BitVec 32 := Scf.iv c0_i32_705 c1_i32_707 k0_t41
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t42_loop : Scf.Loop 32 :=
  let c0_i32_719 : BitVec 32 := 0#32
  let c256_i32_720 : BitVec 32 := 256#32
  let v1033 : BitVec 32 := Scalar.addi c0_i32_719 c256_i32_720
  let c1_i32_721 : BitVec 32 := 1#32
  ⟨c0_i32_719, v1033, c1_i32_721⟩
def k0_off99 (k0_t42 : Fin k0_t42_loop.trips) : Fin 1 → Nat :=
  let c4096_i32_1819 : BitVec 32 := 4096#32
  let c0_i32_1817 : BitVec 32 := 0#32
  let c0_i32_719 : BitVec 32 := 0#32
  let c1_i32_721 : BitVec 32 := 1#32
  let arg10 : BitVec 32 := Scf.iv c0_i32_719 c1_i32_721 k0_t42
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c4096_i32_1819 v2579
  let v2581 : Index := Scalar.indexCast v2580
  ![v2581.toNat]

def k0_chk42 (v2582 : IVec S16 32) : Prop :=
  (∀ a x, ((![v2582] : Fin 1 → IVec S16 32) a x).toNat < S100000.size a)
theorem k0_idx42_inb : ∀ (v2582 : IVec S16 32) (k0_hw42 : k0_chk42 v2582), ∀ a x, ((![v2582] : Fin 1 → IVec S16 32) a x).toNat < S100000.size a := fun v2582 k0_hw42 => k0_hw42
def k0_off100 (k0_t42 : Fin k0_t42_loop.trips) : Fin 2 → Nat :=
  let c1_i32_1821 : BitVec 32 := 1#32
  let v2585 : Index := Scalar.indexCast c1_i32_1821
  let c0_i32_1817 : BitVec 32 := 0#32
  let c0_i32_719 : BitVec 32 := 0#32
  let c1_i32_721 : BitVec 32 := 1#32
  let arg10 : BitVec 32 := Scf.iv c0_i32_719 c1_i32_721 k0_t42
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
@[reducible] def k0_t43_loop : Scf.Loop 32 :=
  let c0_i32_733 : BitVec 32 := 0#32
  let c256_i32_734 : BitVec 32 := 256#32
  let v1050 : BitVec 32 := Scalar.addi c0_i32_733 c256_i32_734
  let c1_i32_735 : BitVec 32 := 1#32
  ⟨c0_i32_733, v1050, c1_i32_735⟩
def k0_off101 (k0_t43 : Fin k0_t43_loop.trips) : Fin 1 → Nat :=
  let c8192_i32_1819 : BitVec 32 := 8192#32
  let c0_i32_1817 : BitVec 32 := 0#32
  let c0_i32_733 : BitVec 32 := 0#32
  let c1_i32_735 : BitVec 32 := 1#32
  let arg10 : BitVec 32 := Scf.iv c0_i32_733 c1_i32_735 k0_t43
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c8192_i32_1819 v2579
  let v2581 : Index := Scalar.indexCast v2580
  ![v2581.toNat]

def k0_chk43 (v2582 : IVec S16 32) : Prop :=
  (∀ a x, ((![v2582] : Fin 1 → IVec S16 32) a x).toNat < S100000.size a)
theorem k0_idx43_inb : ∀ (v2582 : IVec S16 32) (k0_hw43 : k0_chk43 v2582), ∀ a x, ((![v2582] : Fin 1 → IVec S16 32) a x).toNat < S100000.size a := fun v2582 k0_hw43 => k0_hw43
def k0_off102 (k0_t43 : Fin k0_t43_loop.trips) : Fin 2 → Nat :=
  let c0_i32_1821 : BitVec 32 := 0#32
  let v2585 : Index := Scalar.indexCast c0_i32_1821
  let c0_i32_1817 : BitVec 32 := 0#32
  let c0_i32_733 : BitVec 32 := 0#32
  let c1_i32_735 : BitVec 32 := 1#32
  let arg10 : BitVec 32 := Scf.iv c0_i32_733 c1_i32_735 k0_t43
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t44_loop : Scf.Loop 32 :=
  let c0_i32_747 : BitVec 32 := 0#32
  let c256_i32_748 : BitVec 32 := 256#32
  let v1067 : BitVec 32 := Scalar.addi c0_i32_747 c256_i32_748
  let c1_i32_749 : BitVec 32 := 1#32
  ⟨c0_i32_747, v1067, c1_i32_749⟩
def k0_off103 (k0_t44 : Fin k0_t44_loop.trips) : Fin 1 → Nat :=
  let c12288_i32_1819 : BitVec 32 := 12288#32
  let c0_i32_1817 : BitVec 32 := 0#32
  let c0_i32_747 : BitVec 32 := 0#32
  let c1_i32_749 : BitVec 32 := 1#32
  let arg10 : BitVec 32 := Scf.iv c0_i32_747 c1_i32_749 k0_t44
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c12288_i32_1819 v2579
  let v2581 : Index := Scalar.indexCast v2580
  ![v2581.toNat]

def k0_chk44 (v2582 : IVec S16 32) : Prop :=
  (∀ a x, ((![v2582] : Fin 1 → IVec S16 32) a x).toNat < S100000.size a)
theorem k0_idx44_inb : ∀ (v2582 : IVec S16 32) (k0_hw44 : k0_chk44 v2582), ∀ a x, ((![v2582] : Fin 1 → IVec S16 32) a x).toNat < S100000.size a := fun v2582 k0_hw44 => k0_hw44
def k0_off104 (k0_t44 : Fin k0_t44_loop.trips) : Fin 2 → Nat :=
  let c1_i32_1821 : BitVec 32 := 1#32
  let v2585 : Index := Scalar.indexCast c1_i32_1821
  let c0_i32_1817 : BitVec 32 := 0#32
  let c0_i32_747 : BitVec 32 := 0#32
  let c1_i32_749 : BitVec 32 := 1#32
  let arg10 : BitVec 32 := Scf.iv c0_i32_747 c1_i32_749 k0_t44
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
def k0_cond12 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c11_i32 : BitVec 32 := 11#32
  let v1076 : BitVec 32 := Scalar.addi v2 c11_i32
  let c0_i32_757 : BitVec 32 := 0#32
  let v1078 : BitVec 1 := Scalar.cmpi .sgt v1076 c0_i32_757
  let v1079 : BitVec 32 := Scalar.extui v1078
  let c0_i32_758 : BitVec 32 := 0#32
  let v1080 : BitVec 1 := Scalar.cmpi .slt v1076 c0_i32_758
  let v1081 : BitVec 32 := Scalar.extui v1080
  let v1082 : BitVec 32 := Scalar.subi v1079 v1081
  let c32_i32_756 : BitVec 32 := 32#32
  let c0_i32_759 : BitVec 32 := 0#32
  let v1083 : BitVec 1 := Scalar.cmpi .sgt c32_i32_756 c0_i32_759
  let v1084 : BitVec 32 := Scalar.extui v1083
  let c0_i32_760 : BitVec 32 := 0#32
  let v1085 : BitVec 1 := Scalar.cmpi .slt c32_i32_756 c0_i32_760
  let v1086 : BitVec 32 := Scalar.extui v1085
  let v1087 : BitVec 32 := Scalar.subi v1084 v1086
  let v1088 : BitVec 1 := Scalar.cmpi .ne v1082 v1087
  let v1089 : BitVec 32 := Scalar.remsi v1076 c32_i32_756
  let c0_i32_761 : BitVec 32 := 0#32
  let v1090 : BitVec 1 := Scalar.cmpi .ne v1089 c0_i32_761
  let v1091 : BitVec 1 := Scalar.andi v1088 v1090
  let v1077 : BitVec 32 := Scalar.divsi v1076 c32_i32_756
  let c1_i32_762 : BitVec 32 := 1#32
  let v1092 : BitVec 32 := Scalar.subi v1077 c1_i32_762
  let v1093 : BitVec 32 := Scalar.select v1091 v1092 v1077
  let c10_i32 : BitVec 32 := 10#32
  let v977 : BitVec 32 := Scalar.addi v2 c10_i32
  let c0_i32_687 : BitVec 32 := 0#32
  let v979 : BitVec 1 := Scalar.cmpi .sgt v977 c0_i32_687
  let v980 : BitVec 32 := Scalar.extui v979
  let c0_i32_688 : BitVec 32 := 0#32
  let v981 : BitVec 1 := Scalar.cmpi .slt v977 c0_i32_688
  let v982 : BitVec 32 := Scalar.extui v981
  let v983 : BitVec 32 := Scalar.subi v980 v982
  let c32_i32_686 : BitVec 32 := 32#32
  let c0_i32_689 : BitVec 32 := 0#32
  let v984 : BitVec 1 := Scalar.cmpi .sgt c32_i32_686 c0_i32_689
  let v985 : BitVec 32 := Scalar.extui v984
  let c0_i32_690 : BitVec 32 := 0#32
  let v986 : BitVec 1 := Scalar.cmpi .slt c32_i32_686 c0_i32_690
  let v987 : BitVec 32 := Scalar.extui v986
  let v988 : BitVec 32 := Scalar.subi v985 v987
  let v989 : BitVec 1 := Scalar.cmpi .ne v983 v988
  let v990 : BitVec 32 := Scalar.remsi v977 c32_i32_686
  let c0_i32_691 : BitVec 32 := 0#32
  let v991 : BitVec 1 := Scalar.cmpi .ne v990 c0_i32_691
  let v992 : BitVec 1 := Scalar.andi v989 v991
  let v978 : BitVec 32 := Scalar.divsi v977 c32_i32_686
  let c1_i32_692 : BitVec 32 := 1#32
  let v993 : BitVec 32 := Scalar.subi v978 c1_i32_692
  let v994 : BitVec 32 := Scalar.select v992 v993 v978
  let v1104 : BitVec 1 := Scalar.cmpi .ne v1093 v994
  let v1105 : BitVec 32 := Scalar.extui v1104
  let c0_i32_769 : BitVec 32 := 0#32
  let v1106 : BitVec 1 := Scalar.cmpi .ne v1105 c0_i32_769
  v1106

def k0_off105 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c11_i32 : BitVec 32 := 11#32
  let v1076 : BitVec 32 := Scalar.addi v2 c11_i32
  let c0_i32_757 : BitVec 32 := 0#32
  let v1078 : BitVec 1 := Scalar.cmpi .sgt v1076 c0_i32_757
  let v1079 : BitVec 32 := Scalar.extui v1078
  let c0_i32_758 : BitVec 32 := 0#32
  let v1080 : BitVec 1 := Scalar.cmpi .slt v1076 c0_i32_758
  let v1081 : BitVec 32 := Scalar.extui v1080
  let v1082 : BitVec 32 := Scalar.subi v1079 v1081
  let c32_i32_756 : BitVec 32 := 32#32
  let c0_i32_759 : BitVec 32 := 0#32
  let v1083 : BitVec 1 := Scalar.cmpi .sgt c32_i32_756 c0_i32_759
  let v1084 : BitVec 32 := Scalar.extui v1083
  let c0_i32_760 : BitVec 32 := 0#32
  let v1085 : BitVec 1 := Scalar.cmpi .slt c32_i32_756 c0_i32_760
  let v1086 : BitVec 32 := Scalar.extui v1085
  let v1087 : BitVec 32 := Scalar.subi v1084 v1086
  let v1088 : BitVec 1 := Scalar.cmpi .ne v1082 v1087
  let v1089 : BitVec 32 := Scalar.remsi v1076 c32_i32_756
  let c0_i32_761 : BitVec 32 := 0#32
  let v1090 : BitVec 1 := Scalar.cmpi .ne v1089 c0_i32_761
  let v1091 : BitVec 1 := Scalar.andi v1088 v1090
  let v1077 : BitVec 32 := Scalar.divsi v1076 c32_i32_756
  let c1_i32_762 : BitVec 32 := 1#32
  let v1092 : BitVec 32 := Scalar.subi v1077 c1_i32_762
  let v1093 : BitVec 32 := Scalar.select v1091 v1092 v1077
  let c0_i32_1816_r22 : BitVec 32 := 0#32
  ![v1093.toNat, 0]
@[reducible] def k0_t45_loop : Scf.Loop 32 :=
  let c0_i32_775 : BitVec 32 := 0#32
  let c256_i32_776 : BitVec 32 := 256#32
  let v1115 : BitVec 32 := Scalar.addi c0_i32_775 c256_i32_776
  let c1_i32_777 : BitVec 32 := 1#32
  ⟨c0_i32_775, v1115, c1_i32_777⟩
def k0_off106 (k0_t45 : Fin k0_t45_loop.trips) : Fin 1 → Nat :=
  let c0_i32_1819 : BitVec 32 := 0#32
  let c0_i32_1817 : BitVec 32 := 0#32
  let c0_i32_775 : BitVec 32 := 0#32
  let c1_i32_777 : BitVec 32 := 1#32
  let arg10 : BitVec 32 := Scf.iv c0_i32_775 c1_i32_777 k0_t45
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c0_i32_1819 v2579
  let v2581 : Index := Scalar.indexCast v2580
  ![v2581.toNat]

def k0_chk45 (v2582 : IVec S16 32) : Prop :=
  (∀ a x, ((![v2582] : Fin 1 → IVec S16 32) a x).toNat < S100000.size a)
theorem k0_idx45_inb : ∀ (v2582 : IVec S16 32) (k0_hw45 : k0_chk45 v2582), ∀ a x, ((![v2582] : Fin 1 → IVec S16 32) a x).toNat < S100000.size a := fun v2582 k0_hw45 => k0_hw45
def k0_off107 (k0_t45 : Fin k0_t45_loop.trips) : Fin 2 → Nat :=
  let c0_i32_1821 : BitVec 32 := 0#32
  let v2585 : Index := Scalar.indexCast c0_i32_1821
  let c0_i32_1817 : BitVec 32 := 0#32
  let c0_i32_775 : BitVec 32 := 0#32
  let c1_i32_777 : BitVec 32 := 1#32
  let arg10 : BitVec 32 := Scf.iv c0_i32_775 c1_i32_777 k0_t45
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t46_loop : Scf.Loop 32 :=
  let c0_i32_789 : BitVec 32 := 0#32
  let c256_i32_790 : BitVec 32 := 256#32
  let v1132 : BitVec 32 := Scalar.addi c0_i32_789 c256_i32_790
  let c1_i32_791 : BitVec 32 := 1#32
  ⟨c0_i32_789, v1132, c1_i32_791⟩
def k0_off108 (k0_t46 : Fin k0_t46_loop.trips) : Fin 1 → Nat :=
  let c4096_i32_1819 : BitVec 32 := 4096#32
  let c0_i32_1817 : BitVec 32 := 0#32
  let c0_i32_789 : BitVec 32 := 0#32
  let c1_i32_791 : BitVec 32 := 1#32
  let arg10 : BitVec 32 := Scf.iv c0_i32_789 c1_i32_791 k0_t46
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c4096_i32_1819 v2579
  let v2581 : Index := Scalar.indexCast v2580
  ![v2581.toNat]

def k0_chk46 (v2582 : IVec S16 32) : Prop :=
  (∀ a x, ((![v2582] : Fin 1 → IVec S16 32) a x).toNat < S100000.size a)
theorem k0_idx46_inb : ∀ (v2582 : IVec S16 32) (k0_hw46 : k0_chk46 v2582), ∀ a x, ((![v2582] : Fin 1 → IVec S16 32) a x).toNat < S100000.size a := fun v2582 k0_hw46 => k0_hw46
def k0_off109 (k0_t46 : Fin k0_t46_loop.trips) : Fin 2 → Nat :=
  let c1_i32_1821 : BitVec 32 := 1#32
  let v2585 : Index := Scalar.indexCast c1_i32_1821
  let c0_i32_1817 : BitVec 32 := 0#32
  let c0_i32_789 : BitVec 32 := 0#32
  let c1_i32_791 : BitVec 32 := 1#32
  let arg10 : BitVec 32 := Scf.iv c0_i32_789 c1_i32_791 k0_t46
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
@[reducible] def k0_t47_loop : Scf.Loop 32 :=
  let c0_i32_803 : BitVec 32 := 0#32
  let c256_i32_804 : BitVec 32 := 256#32
  let v1149 : BitVec 32 := Scalar.addi c0_i32_803 c256_i32_804
  let c1_i32_805 : BitVec 32 := 1#32
  ⟨c0_i32_803, v1149, c1_i32_805⟩
def k0_off110 (k0_t47 : Fin k0_t47_loop.trips) : Fin 1 → Nat :=
  let c8192_i32_1819 : BitVec 32 := 8192#32
  let c0_i32_1817 : BitVec 32 := 0#32
  let c0_i32_803 : BitVec 32 := 0#32
  let c1_i32_805 : BitVec 32 := 1#32
  let arg10 : BitVec 32 := Scf.iv c0_i32_803 c1_i32_805 k0_t47
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c8192_i32_1819 v2579
  let v2581 : Index := Scalar.indexCast v2580
  ![v2581.toNat]

def k0_chk47 (v2582 : IVec S16 32) : Prop :=
  (∀ a x, ((![v2582] : Fin 1 → IVec S16 32) a x).toNat < S100000.size a)
theorem k0_idx47_inb : ∀ (v2582 : IVec S16 32) (k0_hw47 : k0_chk47 v2582), ∀ a x, ((![v2582] : Fin 1 → IVec S16 32) a x).toNat < S100000.size a := fun v2582 k0_hw47 => k0_hw47
def k0_off111 (k0_t47 : Fin k0_t47_loop.trips) : Fin 2 → Nat :=
  let c0_i32_1821 : BitVec 32 := 0#32
  let v2585 : Index := Scalar.indexCast c0_i32_1821
  let c0_i32_1817 : BitVec 32 := 0#32
  let c0_i32_803 : BitVec 32 := 0#32
  let c1_i32_805 : BitVec 32 := 1#32
  let arg10 : BitVec 32 := Scf.iv c0_i32_803 c1_i32_805 k0_t47
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t48_loop : Scf.Loop 32 :=
  let c0_i32_817 : BitVec 32 := 0#32
  let c256_i32_818 : BitVec 32 := 256#32
  let v1166 : BitVec 32 := Scalar.addi c0_i32_817 c256_i32_818
  let c1_i32_819 : BitVec 32 := 1#32
  ⟨c0_i32_817, v1166, c1_i32_819⟩
def k0_off112 (k0_t48 : Fin k0_t48_loop.trips) : Fin 1 → Nat :=
  let c12288_i32_1819 : BitVec 32 := 12288#32
  let c0_i32_1817 : BitVec 32 := 0#32
  let c0_i32_817 : BitVec 32 := 0#32
  let c1_i32_819 : BitVec 32 := 1#32
  let arg10 : BitVec 32 := Scf.iv c0_i32_817 c1_i32_819 k0_t48
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c12288_i32_1819 v2579
  let v2581 : Index := Scalar.indexCast v2580
  ![v2581.toNat]

def k0_chk48 (v2582 : IVec S16 32) : Prop :=
  (∀ a x, ((![v2582] : Fin 1 → IVec S16 32) a x).toNat < S100000.size a)
theorem k0_idx48_inb : ∀ (v2582 : IVec S16 32) (k0_hw48 : k0_chk48 v2582), ∀ a x, ((![v2582] : Fin 1 → IVec S16 32) a x).toNat < S100000.size a := fun v2582 k0_hw48 => k0_hw48
def k0_off113 (k0_t48 : Fin k0_t48_loop.trips) : Fin 2 → Nat :=
  let c1_i32_1821 : BitVec 32 := 1#32
  let v2585 : Index := Scalar.indexCast c1_i32_1821
  let c0_i32_1817 : BitVec 32 := 0#32
  let c0_i32_817 : BitVec 32 := 0#32
  let c1_i32_819 : BitVec 32 := 1#32
  let arg10 : BitVec 32 := Scf.iv c0_i32_817 c1_i32_819 k0_t48
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
def k0_cond13 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c12_i32 : BitVec 32 := 12#32
  let v1175 : BitVec 32 := Scalar.addi v2 c12_i32
  let c0_i32_827 : BitVec 32 := 0#32
  let v1177 : BitVec 1 := Scalar.cmpi .sgt v1175 c0_i32_827
  let v1178 : BitVec 32 := Scalar.extui v1177
  let c0_i32_828 : BitVec 32 := 0#32
  let v1179 : BitVec 1 := Scalar.cmpi .slt v1175 c0_i32_828
  let v1180 : BitVec 32 := Scalar.extui v1179
  let v1181 : BitVec 32 := Scalar.subi v1178 v1180
  let c32_i32_826 : BitVec 32 := 32#32
  let c0_i32_829 : BitVec 32 := 0#32
  let v1182 : BitVec 1 := Scalar.cmpi .sgt c32_i32_826 c0_i32_829
  let v1183 : BitVec 32 := Scalar.extui v1182
  let c0_i32_830 : BitVec 32 := 0#32
  let v1184 : BitVec 1 := Scalar.cmpi .slt c32_i32_826 c0_i32_830
  let v1185 : BitVec 32 := Scalar.extui v1184
  let v1186 : BitVec 32 := Scalar.subi v1183 v1185
  let v1187 : BitVec 1 := Scalar.cmpi .ne v1181 v1186
  let v1188 : BitVec 32 := Scalar.remsi v1175 c32_i32_826
  let c0_i32_831 : BitVec 32 := 0#32
  let v1189 : BitVec 1 := Scalar.cmpi .ne v1188 c0_i32_831
  let v1190 : BitVec 1 := Scalar.andi v1187 v1189
  let v1176 : BitVec 32 := Scalar.divsi v1175 c32_i32_826
  let c1_i32_832 : BitVec 32 := 1#32
  let v1191 : BitVec 32 := Scalar.subi v1176 c1_i32_832
  let v1192 : BitVec 32 := Scalar.select v1190 v1191 v1176
  let c11_i32 : BitVec 32 := 11#32
  let v1076 : BitVec 32 := Scalar.addi v2 c11_i32
  let c0_i32_757 : BitVec 32 := 0#32
  let v1078 : BitVec 1 := Scalar.cmpi .sgt v1076 c0_i32_757
  let v1079 : BitVec 32 := Scalar.extui v1078
  let c0_i32_758 : BitVec 32 := 0#32
  let v1080 : BitVec 1 := Scalar.cmpi .slt v1076 c0_i32_758
  let v1081 : BitVec 32 := Scalar.extui v1080
  let v1082 : BitVec 32 := Scalar.subi v1079 v1081
  let c32_i32_756 : BitVec 32 := 32#32
  let c0_i32_759 : BitVec 32 := 0#32
  let v1083 : BitVec 1 := Scalar.cmpi .sgt c32_i32_756 c0_i32_759
  let v1084 : BitVec 32 := Scalar.extui v1083
  let c0_i32_760 : BitVec 32 := 0#32
  let v1085 : BitVec 1 := Scalar.cmpi .slt c32_i32_756 c0_i32_760
  let v1086 : BitVec 32 := Scalar.extui v1085
  let v1087 : BitVec 32 := Scalar.subi v1084 v1086
  let v1088 : BitVec 1 := Scalar.cmpi .ne v1082 v1087
  let v1089 : BitVec 32 := Scalar.remsi v1076 c32_i32_756
  let c0_i32_761 : BitVec 32 := 0#32
  let v1090 : BitVec 1 := Scalar.cmpi .ne v1089 c0_i32_761
  let v1091 : BitVec 1 := Scalar.andi v1088 v1090
  let v1077 : BitVec 32 := Scalar.divsi v1076 c32_i32_756
  let c1_i32_762 : BitVec 32 := 1#32
  let v1092 : BitVec 32 := Scalar.subi v1077 c1_i32_762
  let v1093 : BitVec 32 := Scalar.select v1091 v1092 v1077
  let v1203 : BitVec 1 := Scalar.cmpi .ne v1192 v1093
  let v1204 : BitVec 32 := Scalar.extui v1203
  let c0_i32_839 : BitVec 32 := 0#32
  let v1205 : BitVec 1 := Scalar.cmpi .ne v1204 c0_i32_839
  v1205

def k0_off114 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c12_i32 : BitVec 32 := 12#32
  let v1175 : BitVec 32 := Scalar.addi v2 c12_i32
  let c0_i32_827 : BitVec 32 := 0#32
  let v1177 : BitVec 1 := Scalar.cmpi .sgt v1175 c0_i32_827
  let v1178 : BitVec 32 := Scalar.extui v1177
  let c0_i32_828 : BitVec 32 := 0#32
  let v1179 : BitVec 1 := Scalar.cmpi .slt v1175 c0_i32_828
  let v1180 : BitVec 32 := Scalar.extui v1179
  let v1181 : BitVec 32 := Scalar.subi v1178 v1180
  let c32_i32_826 : BitVec 32 := 32#32
  let c0_i32_829 : BitVec 32 := 0#32
  let v1182 : BitVec 1 := Scalar.cmpi .sgt c32_i32_826 c0_i32_829
  let v1183 : BitVec 32 := Scalar.extui v1182
  let c0_i32_830 : BitVec 32 := 0#32
  let v1184 : BitVec 1 := Scalar.cmpi .slt c32_i32_826 c0_i32_830
  let v1185 : BitVec 32 := Scalar.extui v1184
  let v1186 : BitVec 32 := Scalar.subi v1183 v1185
  let v1187 : BitVec 1 := Scalar.cmpi .ne v1181 v1186
  let v1188 : BitVec 32 := Scalar.remsi v1175 c32_i32_826
  let c0_i32_831 : BitVec 32 := 0#32
  let v1189 : BitVec 1 := Scalar.cmpi .ne v1188 c0_i32_831
  let v1190 : BitVec 1 := Scalar.andi v1187 v1189
  let v1176 : BitVec 32 := Scalar.divsi v1175 c32_i32_826
  let c1_i32_832 : BitVec 32 := 1#32
  let v1191 : BitVec 32 := Scalar.subi v1176 c1_i32_832
  let v1192 : BitVec 32 := Scalar.select v1190 v1191 v1176
  let c0_i32_1816_r24 : BitVec 32 := 0#32
  ![v1192.toNat, 0]
@[reducible] def k0_t49_loop : Scf.Loop 32 :=
  let c0_i32_845 : BitVec 32 := 0#32
  let c256_i32_846 : BitVec 32 := 256#32
  let v1214 : BitVec 32 := Scalar.addi c0_i32_845 c256_i32_846
  let c1_i32_847 : BitVec 32 := 1#32
  ⟨c0_i32_845, v1214, c1_i32_847⟩
def k0_off115 (k0_t49 : Fin k0_t49_loop.trips) : Fin 1 → Nat :=
  let c0_i32_1819 : BitVec 32 := 0#32
  let c0_i32_1817 : BitVec 32 := 0#32
  let c0_i32_845 : BitVec 32 := 0#32
  let c1_i32_847 : BitVec 32 := 1#32
  let arg10 : BitVec 32 := Scf.iv c0_i32_845 c1_i32_847 k0_t49
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c0_i32_1819 v2579
  let v2581 : Index := Scalar.indexCast v2580
  ![v2581.toNat]

def k0_chk49 (v2582 : IVec S16 32) : Prop :=
  (∀ a x, ((![v2582] : Fin 1 → IVec S16 32) a x).toNat < S100000.size a)
theorem k0_idx49_inb : ∀ (v2582 : IVec S16 32) (k0_hw49 : k0_chk49 v2582), ∀ a x, ((![v2582] : Fin 1 → IVec S16 32) a x).toNat < S100000.size a := fun v2582 k0_hw49 => k0_hw49
def k0_off116 (k0_t49 : Fin k0_t49_loop.trips) : Fin 2 → Nat :=
  let c0_i32_1821 : BitVec 32 := 0#32
  let v2585 : Index := Scalar.indexCast c0_i32_1821
  let c0_i32_1817 : BitVec 32 := 0#32
  let c0_i32_845 : BitVec 32 := 0#32
  let c1_i32_847 : BitVec 32 := 1#32
  let arg10 : BitVec 32 := Scf.iv c0_i32_845 c1_i32_847 k0_t49
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t50_loop : Scf.Loop 32 :=
  let c0_i32_859 : BitVec 32 := 0#32
  let c256_i32_860 : BitVec 32 := 256#32
  let v1231 : BitVec 32 := Scalar.addi c0_i32_859 c256_i32_860
  let c1_i32_861 : BitVec 32 := 1#32
  ⟨c0_i32_859, v1231, c1_i32_861⟩
def k0_off117 (k0_t50 : Fin k0_t50_loop.trips) : Fin 1 → Nat :=
  let c4096_i32_1819 : BitVec 32 := 4096#32
  let c0_i32_1817 : BitVec 32 := 0#32
  let c0_i32_859 : BitVec 32 := 0#32
  let c1_i32_861 : BitVec 32 := 1#32
  let arg10 : BitVec 32 := Scf.iv c0_i32_859 c1_i32_861 k0_t50
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c4096_i32_1819 v2579
  let v2581 : Index := Scalar.indexCast v2580
  ![v2581.toNat]

def k0_chk50 (v2582 : IVec S16 32) : Prop :=
  (∀ a x, ((![v2582] : Fin 1 → IVec S16 32) a x).toNat < S100000.size a)
theorem k0_idx50_inb : ∀ (v2582 : IVec S16 32) (k0_hw50 : k0_chk50 v2582), ∀ a x, ((![v2582] : Fin 1 → IVec S16 32) a x).toNat < S100000.size a := fun v2582 k0_hw50 => k0_hw50
def k0_off118 (k0_t50 : Fin k0_t50_loop.trips) : Fin 2 → Nat :=
  let c1_i32_1821 : BitVec 32 := 1#32
  let v2585 : Index := Scalar.indexCast c1_i32_1821
  let c0_i32_1817 : BitVec 32 := 0#32
  let c0_i32_859 : BitVec 32 := 0#32
  let c1_i32_861 : BitVec 32 := 1#32
  let arg10 : BitVec 32 := Scf.iv c0_i32_859 c1_i32_861 k0_t50
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
@[reducible] def k0_t51_loop : Scf.Loop 32 :=
  let c0_i32_873 : BitVec 32 := 0#32
  let c256_i32_874 : BitVec 32 := 256#32
  let v1248 : BitVec 32 := Scalar.addi c0_i32_873 c256_i32_874
  let c1_i32_875 : BitVec 32 := 1#32
  ⟨c0_i32_873, v1248, c1_i32_875⟩
def k0_off119 (k0_t51 : Fin k0_t51_loop.trips) : Fin 1 → Nat :=
  let c8192_i32_1819 : BitVec 32 := 8192#32
  let c0_i32_1817 : BitVec 32 := 0#32
  let c0_i32_873 : BitVec 32 := 0#32
  let c1_i32_875 : BitVec 32 := 1#32
  let arg10 : BitVec 32 := Scf.iv c0_i32_873 c1_i32_875 k0_t51
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c8192_i32_1819 v2579
  let v2581 : Index := Scalar.indexCast v2580
  ![v2581.toNat]

def k0_chk51 (v2582 : IVec S16 32) : Prop :=
  (∀ a x, ((![v2582] : Fin 1 → IVec S16 32) a x).toNat < S100000.size a)
theorem k0_idx51_inb : ∀ (v2582 : IVec S16 32) (k0_hw51 : k0_chk51 v2582), ∀ a x, ((![v2582] : Fin 1 → IVec S16 32) a x).toNat < S100000.size a := fun v2582 k0_hw51 => k0_hw51
def k0_off120 (k0_t51 : Fin k0_t51_loop.trips) : Fin 2 → Nat :=
  let c0_i32_1821 : BitVec 32 := 0#32
  let v2585 : Index := Scalar.indexCast c0_i32_1821
  let c0_i32_1817 : BitVec 32 := 0#32
  let c0_i32_873 : BitVec 32 := 0#32
  let c1_i32_875 : BitVec 32 := 1#32
  let arg10 : BitVec 32 := Scf.iv c0_i32_873 c1_i32_875 k0_t51
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t52_loop : Scf.Loop 32 :=
  let c0_i32_887 : BitVec 32 := 0#32
  let c256_i32_888 : BitVec 32 := 256#32
  let v1265 : BitVec 32 := Scalar.addi c0_i32_887 c256_i32_888
  let c1_i32_889 : BitVec 32 := 1#32
  ⟨c0_i32_887, v1265, c1_i32_889⟩
def k0_off121 (k0_t52 : Fin k0_t52_loop.trips) : Fin 1 → Nat :=
  let c12288_i32_1819 : BitVec 32 := 12288#32
  let c0_i32_1817 : BitVec 32 := 0#32
  let c0_i32_887 : BitVec 32 := 0#32
  let c1_i32_889 : BitVec 32 := 1#32
  let arg10 : BitVec 32 := Scf.iv c0_i32_887 c1_i32_889 k0_t52
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c12288_i32_1819 v2579
  let v2581 : Index := Scalar.indexCast v2580
  ![v2581.toNat]

def k0_chk52 (v2582 : IVec S16 32) : Prop :=
  (∀ a x, ((![v2582] : Fin 1 → IVec S16 32) a x).toNat < S100000.size a)
theorem k0_idx52_inb : ∀ (v2582 : IVec S16 32) (k0_hw52 : k0_chk52 v2582), ∀ a x, ((![v2582] : Fin 1 → IVec S16 32) a x).toNat < S100000.size a := fun v2582 k0_hw52 => k0_hw52
def k0_off122 (k0_t52 : Fin k0_t52_loop.trips) : Fin 2 → Nat :=
  let c1_i32_1821 : BitVec 32 := 1#32
  let v2585 : Index := Scalar.indexCast c1_i32_1821
  let c0_i32_1817 : BitVec 32 := 0#32
  let c0_i32_887 : BitVec 32 := 0#32
  let c1_i32_889 : BitVec 32 := 1#32
  let arg10 : BitVec 32 := Scf.iv c0_i32_887 c1_i32_889 k0_t52
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
def k0_cond14 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c13_i32 : BitVec 32 := 13#32
  let v1274 : BitVec 32 := Scalar.addi v2 c13_i32
  let c0_i32_897 : BitVec 32 := 0#32
  let v1276 : BitVec 1 := Scalar.cmpi .sgt v1274 c0_i32_897
  let v1277 : BitVec 32 := Scalar.extui v1276
  let c0_i32_898 : BitVec 32 := 0#32
  let v1278 : BitVec 1 := Scalar.cmpi .slt v1274 c0_i32_898
  let v1279 : BitVec 32 := Scalar.extui v1278
  let v1280 : BitVec 32 := Scalar.subi v1277 v1279
  let c32_i32_896 : BitVec 32 := 32#32
  let c0_i32_899 : BitVec 32 := 0#32
  let v1281 : BitVec 1 := Scalar.cmpi .sgt c32_i32_896 c0_i32_899
  let v1282 : BitVec 32 := Scalar.extui v1281
  let c0_i32_900 : BitVec 32 := 0#32
  let v1283 : BitVec 1 := Scalar.cmpi .slt c32_i32_896 c0_i32_900
  let v1284 : BitVec 32 := Scalar.extui v1283
  let v1285 : BitVec 32 := Scalar.subi v1282 v1284
  let v1286 : BitVec 1 := Scalar.cmpi .ne v1280 v1285
  let v1287 : BitVec 32 := Scalar.remsi v1274 c32_i32_896
  let c0_i32_901 : BitVec 32 := 0#32
  let v1288 : BitVec 1 := Scalar.cmpi .ne v1287 c0_i32_901
  let v1289 : BitVec 1 := Scalar.andi v1286 v1288
  let v1275 : BitVec 32 := Scalar.divsi v1274 c32_i32_896
  let c1_i32_902 : BitVec 32 := 1#32
  let v1290 : BitVec 32 := Scalar.subi v1275 c1_i32_902
  let v1291 : BitVec 32 := Scalar.select v1289 v1290 v1275
  let c12_i32 : BitVec 32 := 12#32
  let v1175 : BitVec 32 := Scalar.addi v2 c12_i32
  let c0_i32_827 : BitVec 32 := 0#32
  let v1177 : BitVec 1 := Scalar.cmpi .sgt v1175 c0_i32_827
  let v1178 : BitVec 32 := Scalar.extui v1177
  let c0_i32_828 : BitVec 32 := 0#32
  let v1179 : BitVec 1 := Scalar.cmpi .slt v1175 c0_i32_828
  let v1180 : BitVec 32 := Scalar.extui v1179
  let v1181 : BitVec 32 := Scalar.subi v1178 v1180
  let c32_i32_826 : BitVec 32 := 32#32
  let c0_i32_829 : BitVec 32 := 0#32
  let v1182 : BitVec 1 := Scalar.cmpi .sgt c32_i32_826 c0_i32_829
  let v1183 : BitVec 32 := Scalar.extui v1182
  let c0_i32_830 : BitVec 32 := 0#32
  let v1184 : BitVec 1 := Scalar.cmpi .slt c32_i32_826 c0_i32_830
  let v1185 : BitVec 32 := Scalar.extui v1184
  let v1186 : BitVec 32 := Scalar.subi v1183 v1185
  let v1187 : BitVec 1 := Scalar.cmpi .ne v1181 v1186
  let v1188 : BitVec 32 := Scalar.remsi v1175 c32_i32_826
  let c0_i32_831 : BitVec 32 := 0#32
  let v1189 : BitVec 1 := Scalar.cmpi .ne v1188 c0_i32_831
  let v1190 : BitVec 1 := Scalar.andi v1187 v1189
  let v1176 : BitVec 32 := Scalar.divsi v1175 c32_i32_826
  let c1_i32_832 : BitVec 32 := 1#32
  let v1191 : BitVec 32 := Scalar.subi v1176 c1_i32_832
  let v1192 : BitVec 32 := Scalar.select v1190 v1191 v1176
  let v1302 : BitVec 1 := Scalar.cmpi .ne v1291 v1192
  let v1303 : BitVec 32 := Scalar.extui v1302
  let c0_i32_909 : BitVec 32 := 0#32
  let v1304 : BitVec 1 := Scalar.cmpi .ne v1303 c0_i32_909
  v1304

def k0_off123 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c13_i32 : BitVec 32 := 13#32
  let v1274 : BitVec 32 := Scalar.addi v2 c13_i32
  let c0_i32_897 : BitVec 32 := 0#32
  let v1276 : BitVec 1 := Scalar.cmpi .sgt v1274 c0_i32_897
  let v1277 : BitVec 32 := Scalar.extui v1276
  let c0_i32_898 : BitVec 32 := 0#32
  let v1278 : BitVec 1 := Scalar.cmpi .slt v1274 c0_i32_898
  let v1279 : BitVec 32 := Scalar.extui v1278
  let v1280 : BitVec 32 := Scalar.subi v1277 v1279
  let c32_i32_896 : BitVec 32 := 32#32
  let c0_i32_899 : BitVec 32 := 0#32
  let v1281 : BitVec 1 := Scalar.cmpi .sgt c32_i32_896 c0_i32_899
  let v1282 : BitVec 32 := Scalar.extui v1281
  let c0_i32_900 : BitVec 32 := 0#32
  let v1283 : BitVec 1 := Scalar.cmpi .slt c32_i32_896 c0_i32_900
  let v1284 : BitVec 32 := Scalar.extui v1283
  let v1285 : BitVec 32 := Scalar.subi v1282 v1284
  let v1286 : BitVec 1 := Scalar.cmpi .ne v1280 v1285
  let v1287 : BitVec 32 := Scalar.remsi v1274 c32_i32_896
  let c0_i32_901 : BitVec 32 := 0#32
  let v1288 : BitVec 1 := Scalar.cmpi .ne v1287 c0_i32_901
  let v1289 : BitVec 1 := Scalar.andi v1286 v1288
  let v1275 : BitVec 32 := Scalar.divsi v1274 c32_i32_896
  let c1_i32_902 : BitVec 32 := 1#32
  let v1290 : BitVec 32 := Scalar.subi v1275 c1_i32_902
  let v1291 : BitVec 32 := Scalar.select v1289 v1290 v1275
  let c0_i32_1816_r26 : BitVec 32 := 0#32
  ![v1291.toNat, 0]
@[reducible] def k0_t53_loop : Scf.Loop 32 :=
  let c0_i32_915 : BitVec 32 := 0#32
  let c256_i32_916 : BitVec 32 := 256#32
  let v1313 : BitVec 32 := Scalar.addi c0_i32_915 c256_i32_916
  let c1_i32_917 : BitVec 32 := 1#32
  ⟨c0_i32_915, v1313, c1_i32_917⟩
def k0_off124 (k0_t53 : Fin k0_t53_loop.trips) : Fin 1 → Nat :=
  let c0_i32_1819 : BitVec 32 := 0#32
  let c0_i32_1817 : BitVec 32 := 0#32
  let c0_i32_915 : BitVec 32 := 0#32
  let c1_i32_917 : BitVec 32 := 1#32
  let arg10 : BitVec 32 := Scf.iv c0_i32_915 c1_i32_917 k0_t53
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c0_i32_1819 v2579
  let v2581 : Index := Scalar.indexCast v2580
  ![v2581.toNat]

def k0_chk53 (v2582 : IVec S16 32) : Prop :=
  (∀ a x, ((![v2582] : Fin 1 → IVec S16 32) a x).toNat < S100000.size a)
theorem k0_idx53_inb : ∀ (v2582 : IVec S16 32) (k0_hw53 : k0_chk53 v2582), ∀ a x, ((![v2582] : Fin 1 → IVec S16 32) a x).toNat < S100000.size a := fun v2582 k0_hw53 => k0_hw53
def k0_off125 (k0_t53 : Fin k0_t53_loop.trips) : Fin 2 → Nat :=
  let c0_i32_1821 : BitVec 32 := 0#32
  let v2585 : Index := Scalar.indexCast c0_i32_1821
  let c0_i32_1817 : BitVec 32 := 0#32
  let c0_i32_915 : BitVec 32 := 0#32
  let c1_i32_917 : BitVec 32 := 1#32
  let arg10 : BitVec 32 := Scf.iv c0_i32_915 c1_i32_917 k0_t53
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t54_loop : Scf.Loop 32 :=
  let c0_i32_929 : BitVec 32 := 0#32
  let c256_i32_930 : BitVec 32 := 256#32
  let v1330 : BitVec 32 := Scalar.addi c0_i32_929 c256_i32_930
  let c1_i32_931 : BitVec 32 := 1#32
  ⟨c0_i32_929, v1330, c1_i32_931⟩
def k0_off126 (k0_t54 : Fin k0_t54_loop.trips) : Fin 1 → Nat :=
  let c4096_i32_1819 : BitVec 32 := 4096#32
  let c0_i32_1817 : BitVec 32 := 0#32
  let c0_i32_929 : BitVec 32 := 0#32
  let c1_i32_931 : BitVec 32 := 1#32
  let arg10 : BitVec 32 := Scf.iv c0_i32_929 c1_i32_931 k0_t54
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c4096_i32_1819 v2579
  let v2581 : Index := Scalar.indexCast v2580
  ![v2581.toNat]

def k0_chk54 (v2582 : IVec S16 32) : Prop :=
  (∀ a x, ((![v2582] : Fin 1 → IVec S16 32) a x).toNat < S100000.size a)
theorem k0_idx54_inb : ∀ (v2582 : IVec S16 32) (k0_hw54 : k0_chk54 v2582), ∀ a x, ((![v2582] : Fin 1 → IVec S16 32) a x).toNat < S100000.size a := fun v2582 k0_hw54 => k0_hw54
def k0_off127 (k0_t54 : Fin k0_t54_loop.trips) : Fin 2 → Nat :=
  let c1_i32_1821 : BitVec 32 := 1#32
  let v2585 : Index := Scalar.indexCast c1_i32_1821
  let c0_i32_1817 : BitVec 32 := 0#32
  let c0_i32_929 : BitVec 32 := 0#32
  let c1_i32_931 : BitVec 32 := 1#32
  let arg10 : BitVec 32 := Scf.iv c0_i32_929 c1_i32_931 k0_t54
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
@[reducible] def k0_t55_loop : Scf.Loop 32 :=
  let c0_i32_943 : BitVec 32 := 0#32
  let c256_i32_944 : BitVec 32 := 256#32
  let v1347 : BitVec 32 := Scalar.addi c0_i32_943 c256_i32_944
  let c1_i32_945 : BitVec 32 := 1#32
  ⟨c0_i32_943, v1347, c1_i32_945⟩
def k0_off128 (k0_t55 : Fin k0_t55_loop.trips) : Fin 1 → Nat :=
  let c8192_i32_1819 : BitVec 32 := 8192#32
  let c0_i32_1817 : BitVec 32 := 0#32
  let c0_i32_943 : BitVec 32 := 0#32
  let c1_i32_945 : BitVec 32 := 1#32
  let arg10 : BitVec 32 := Scf.iv c0_i32_943 c1_i32_945 k0_t55
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c8192_i32_1819 v2579
  let v2581 : Index := Scalar.indexCast v2580
  ![v2581.toNat]

def k0_chk55 (v2582 : IVec S16 32) : Prop :=
  (∀ a x, ((![v2582] : Fin 1 → IVec S16 32) a x).toNat < S100000.size a)
theorem k0_idx55_inb : ∀ (v2582 : IVec S16 32) (k0_hw55 : k0_chk55 v2582), ∀ a x, ((![v2582] : Fin 1 → IVec S16 32) a x).toNat < S100000.size a := fun v2582 k0_hw55 => k0_hw55
def k0_off129 (k0_t55 : Fin k0_t55_loop.trips) : Fin 2 → Nat :=
  let c0_i32_1821 : BitVec 32 := 0#32
  let v2585 : Index := Scalar.indexCast c0_i32_1821
  let c0_i32_1817 : BitVec 32 := 0#32
  let c0_i32_943 : BitVec 32 := 0#32
  let c1_i32_945 : BitVec 32 := 1#32
  let arg10 : BitVec 32 := Scf.iv c0_i32_943 c1_i32_945 k0_t55
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t56_loop : Scf.Loop 32 :=
  let c0_i32_957 : BitVec 32 := 0#32
  let c256_i32_958 : BitVec 32 := 256#32
  let v1364 : BitVec 32 := Scalar.addi c0_i32_957 c256_i32_958
  let c1_i32_959 : BitVec 32 := 1#32
  ⟨c0_i32_957, v1364, c1_i32_959⟩
def k0_off130 (k0_t56 : Fin k0_t56_loop.trips) : Fin 1 → Nat :=
  let c12288_i32_1819 : BitVec 32 := 12288#32
  let c0_i32_1817 : BitVec 32 := 0#32
  let c0_i32_957 : BitVec 32 := 0#32
  let c1_i32_959 : BitVec 32 := 1#32
  let arg10 : BitVec 32 := Scf.iv c0_i32_957 c1_i32_959 k0_t56
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c12288_i32_1819 v2579
  let v2581 : Index := Scalar.indexCast v2580
  ![v2581.toNat]

def k0_chk56 (v2582 : IVec S16 32) : Prop :=
  (∀ a x, ((![v2582] : Fin 1 → IVec S16 32) a x).toNat < S100000.size a)
theorem k0_idx56_inb : ∀ (v2582 : IVec S16 32) (k0_hw56 : k0_chk56 v2582), ∀ a x, ((![v2582] : Fin 1 → IVec S16 32) a x).toNat < S100000.size a := fun v2582 k0_hw56 => k0_hw56
def k0_off131 (k0_t56 : Fin k0_t56_loop.trips) : Fin 2 → Nat :=
  let c1_i32_1821 : BitVec 32 := 1#32
  let v2585 : Index := Scalar.indexCast c1_i32_1821
  let c0_i32_1817 : BitVec 32 := 0#32
  let c0_i32_957 : BitVec 32 := 0#32
  let c1_i32_959 : BitVec 32 := 1#32
  let arg10 : BitVec 32 := Scf.iv c0_i32_957 c1_i32_959 k0_t56
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
def k0_cond15 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c14_i32 : BitVec 32 := 14#32
  let v1373 : BitVec 32 := Scalar.addi v2 c14_i32
  let c0_i32_967 : BitVec 32 := 0#32
  let v1375 : BitVec 1 := Scalar.cmpi .sgt v1373 c0_i32_967
  let v1376 : BitVec 32 := Scalar.extui v1375
  let c0_i32_968 : BitVec 32 := 0#32
  let v1377 : BitVec 1 := Scalar.cmpi .slt v1373 c0_i32_968
  let v1378 : BitVec 32 := Scalar.extui v1377
  let v1379 : BitVec 32 := Scalar.subi v1376 v1378
  let c32_i32_966 : BitVec 32 := 32#32
  let c0_i32_969 : BitVec 32 := 0#32
  let v1380 : BitVec 1 := Scalar.cmpi .sgt c32_i32_966 c0_i32_969
  let v1381 : BitVec 32 := Scalar.extui v1380
  let c0_i32_970 : BitVec 32 := 0#32
  let v1382 : BitVec 1 := Scalar.cmpi .slt c32_i32_966 c0_i32_970
  let v1383 : BitVec 32 := Scalar.extui v1382
  let v1384 : BitVec 32 := Scalar.subi v1381 v1383
  let v1385 : BitVec 1 := Scalar.cmpi .ne v1379 v1384
  let v1386 : BitVec 32 := Scalar.remsi v1373 c32_i32_966
  let c0_i32_971 : BitVec 32 := 0#32
  let v1387 : BitVec 1 := Scalar.cmpi .ne v1386 c0_i32_971
  let v1388 : BitVec 1 := Scalar.andi v1385 v1387
  let v1374 : BitVec 32 := Scalar.divsi v1373 c32_i32_966
  let c1_i32_972 : BitVec 32 := 1#32
  let v1389 : BitVec 32 := Scalar.subi v1374 c1_i32_972
  let v1390 : BitVec 32 := Scalar.select v1388 v1389 v1374
  let c13_i32 : BitVec 32 := 13#32
  let v1274 : BitVec 32 := Scalar.addi v2 c13_i32
  let c0_i32_897 : BitVec 32 := 0#32
  let v1276 : BitVec 1 := Scalar.cmpi .sgt v1274 c0_i32_897
  let v1277 : BitVec 32 := Scalar.extui v1276
  let c0_i32_898 : BitVec 32 := 0#32
  let v1278 : BitVec 1 := Scalar.cmpi .slt v1274 c0_i32_898
  let v1279 : BitVec 32 := Scalar.extui v1278
  let v1280 : BitVec 32 := Scalar.subi v1277 v1279
  let c32_i32_896 : BitVec 32 := 32#32
  let c0_i32_899 : BitVec 32 := 0#32
  let v1281 : BitVec 1 := Scalar.cmpi .sgt c32_i32_896 c0_i32_899
  let v1282 : BitVec 32 := Scalar.extui v1281
  let c0_i32_900 : BitVec 32 := 0#32
  let v1283 : BitVec 1 := Scalar.cmpi .slt c32_i32_896 c0_i32_900
  let v1284 : BitVec 32 := Scalar.extui v1283
  let v1285 : BitVec 32 := Scalar.subi v1282 v1284
  let v1286 : BitVec 1 := Scalar.cmpi .ne v1280 v1285
  let v1287 : BitVec 32 := Scalar.remsi v1274 c32_i32_896
  let c0_i32_901 : BitVec 32 := 0#32
  let v1288 : BitVec 1 := Scalar.cmpi .ne v1287 c0_i32_901
  let v1289 : BitVec 1 := Scalar.andi v1286 v1288
  let v1275 : BitVec 32 := Scalar.divsi v1274 c32_i32_896
  let c1_i32_902 : BitVec 32 := 1#32
  let v1290 : BitVec 32 := Scalar.subi v1275 c1_i32_902
  let v1291 : BitVec 32 := Scalar.select v1289 v1290 v1275
  let v1401 : BitVec 1 := Scalar.cmpi .ne v1390 v1291
  let v1402 : BitVec 32 := Scalar.extui v1401
  let c0_i32_979 : BitVec 32 := 0#32
  let v1403 : BitVec 1 := Scalar.cmpi .ne v1402 c0_i32_979
  v1403

def k0_off132 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c14_i32 : BitVec 32 := 14#32
  let v1373 : BitVec 32 := Scalar.addi v2 c14_i32
  let c0_i32_967 : BitVec 32 := 0#32
  let v1375 : BitVec 1 := Scalar.cmpi .sgt v1373 c0_i32_967
  let v1376 : BitVec 32 := Scalar.extui v1375
  let c0_i32_968 : BitVec 32 := 0#32
  let v1377 : BitVec 1 := Scalar.cmpi .slt v1373 c0_i32_968
  let v1378 : BitVec 32 := Scalar.extui v1377
  let v1379 : BitVec 32 := Scalar.subi v1376 v1378
  let c32_i32_966 : BitVec 32 := 32#32
  let c0_i32_969 : BitVec 32 := 0#32
  let v1380 : BitVec 1 := Scalar.cmpi .sgt c32_i32_966 c0_i32_969
  let v1381 : BitVec 32 := Scalar.extui v1380
  let c0_i32_970 : BitVec 32 := 0#32
  let v1382 : BitVec 1 := Scalar.cmpi .slt c32_i32_966 c0_i32_970
  let v1383 : BitVec 32 := Scalar.extui v1382
  let v1384 : BitVec 32 := Scalar.subi v1381 v1383
  let v1385 : BitVec 1 := Scalar.cmpi .ne v1379 v1384
  let v1386 : BitVec 32 := Scalar.remsi v1373 c32_i32_966
  let c0_i32_971 : BitVec 32 := 0#32
  let v1387 : BitVec 1 := Scalar.cmpi .ne v1386 c0_i32_971
  let v1388 : BitVec 1 := Scalar.andi v1385 v1387
  let v1374 : BitVec 32 := Scalar.divsi v1373 c32_i32_966
  let c1_i32_972 : BitVec 32 := 1#32
  let v1389 : BitVec 32 := Scalar.subi v1374 c1_i32_972
  let v1390 : BitVec 32 := Scalar.select v1388 v1389 v1374
  let c0_i32_1816_r28 : BitVec 32 := 0#32
  ![v1390.toNat, 0]
@[reducible] def k0_t57_loop : Scf.Loop 32 :=
  let c0_i32_985 : BitVec 32 := 0#32
  let c256_i32_986 : BitVec 32 := 256#32
  let v1412 : BitVec 32 := Scalar.addi c0_i32_985 c256_i32_986
  let c1_i32_987 : BitVec 32 := 1#32
  ⟨c0_i32_985, v1412, c1_i32_987⟩
def k0_off133 (k0_t57 : Fin k0_t57_loop.trips) : Fin 1 → Nat :=
  let c0_i32_1819 : BitVec 32 := 0#32
  let c0_i32_1817 : BitVec 32 := 0#32
  let c0_i32_985 : BitVec 32 := 0#32
  let c1_i32_987 : BitVec 32 := 1#32
  let arg10 : BitVec 32 := Scf.iv c0_i32_985 c1_i32_987 k0_t57
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c0_i32_1819 v2579
  let v2581 : Index := Scalar.indexCast v2580
  ![v2581.toNat]

def k0_chk57 (v2582 : IVec S16 32) : Prop :=
  (∀ a x, ((![v2582] : Fin 1 → IVec S16 32) a x).toNat < S100000.size a)
theorem k0_idx57_inb : ∀ (v2582 : IVec S16 32) (k0_hw57 : k0_chk57 v2582), ∀ a x, ((![v2582] : Fin 1 → IVec S16 32) a x).toNat < S100000.size a := fun v2582 k0_hw57 => k0_hw57
def k0_off134 (k0_t57 : Fin k0_t57_loop.trips) : Fin 2 → Nat :=
  let c0_i32_1821 : BitVec 32 := 0#32
  let v2585 : Index := Scalar.indexCast c0_i32_1821
  let c0_i32_1817 : BitVec 32 := 0#32
  let c0_i32_985 : BitVec 32 := 0#32
  let c1_i32_987 : BitVec 32 := 1#32
  let arg10 : BitVec 32 := Scf.iv c0_i32_985 c1_i32_987 k0_t57
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t58_loop : Scf.Loop 32 :=
  let c0_i32_999 : BitVec 32 := 0#32
  let c256_i32_1000 : BitVec 32 := 256#32
  let v1429 : BitVec 32 := Scalar.addi c0_i32_999 c256_i32_1000
  let c1_i32_1001 : BitVec 32 := 1#32
  ⟨c0_i32_999, v1429, c1_i32_1001⟩
def k0_off135 (k0_t58 : Fin k0_t58_loop.trips) : Fin 1 → Nat :=
  let c4096_i32_1819 : BitVec 32 := 4096#32
  let c0_i32_1817 : BitVec 32 := 0#32
  let c0_i32_999 : BitVec 32 := 0#32
  let c1_i32_1001 : BitVec 32 := 1#32
  let arg10 : BitVec 32 := Scf.iv c0_i32_999 c1_i32_1001 k0_t58
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c4096_i32_1819 v2579
  let v2581 : Index := Scalar.indexCast v2580
  ![v2581.toNat]

def k0_chk58 (v2582 : IVec S16 32) : Prop :=
  (∀ a x, ((![v2582] : Fin 1 → IVec S16 32) a x).toNat < S100000.size a)
theorem k0_idx58_inb : ∀ (v2582 : IVec S16 32) (k0_hw58 : k0_chk58 v2582), ∀ a x, ((![v2582] : Fin 1 → IVec S16 32) a x).toNat < S100000.size a := fun v2582 k0_hw58 => k0_hw58
def k0_off136 (k0_t58 : Fin k0_t58_loop.trips) : Fin 2 → Nat :=
  let c1_i32_1821 : BitVec 32 := 1#32
  let v2585 : Index := Scalar.indexCast c1_i32_1821
  let c0_i32_1817 : BitVec 32 := 0#32
  let c0_i32_999 : BitVec 32 := 0#32
  let c1_i32_1001 : BitVec 32 := 1#32
  let arg10 : BitVec 32 := Scf.iv c0_i32_999 c1_i32_1001 k0_t58
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
@[reducible] def k0_t59_loop : Scf.Loop 32 :=
  let c0_i32_1013 : BitVec 32 := 0#32
  let c256_i32_1014 : BitVec 32 := 256#32
  let v1446 : BitVec 32 := Scalar.addi c0_i32_1013 c256_i32_1014
  let c1_i32_1015 : BitVec 32 := 1#32
  ⟨c0_i32_1013, v1446, c1_i32_1015⟩
def k0_off137 (k0_t59 : Fin k0_t59_loop.trips) : Fin 1 → Nat :=
  let c8192_i32_1819 : BitVec 32 := 8192#32
  let c0_i32_1817 : BitVec 32 := 0#32
  let c0_i32_1013 : BitVec 32 := 0#32
  let c1_i32_1015 : BitVec 32 := 1#32
  let arg10 : BitVec 32 := Scf.iv c0_i32_1013 c1_i32_1015 k0_t59
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c8192_i32_1819 v2579
  let v2581 : Index := Scalar.indexCast v2580
  ![v2581.toNat]

def k0_chk59 (v2582 : IVec S16 32) : Prop :=
  (∀ a x, ((![v2582] : Fin 1 → IVec S16 32) a x).toNat < S100000.size a)
theorem k0_idx59_inb : ∀ (v2582 : IVec S16 32) (k0_hw59 : k0_chk59 v2582), ∀ a x, ((![v2582] : Fin 1 → IVec S16 32) a x).toNat < S100000.size a := fun v2582 k0_hw59 => k0_hw59
def k0_off138 (k0_t59 : Fin k0_t59_loop.trips) : Fin 2 → Nat :=
  let c0_i32_1821 : BitVec 32 := 0#32
  let v2585 : Index := Scalar.indexCast c0_i32_1821
  let c0_i32_1817 : BitVec 32 := 0#32
  let c0_i32_1013 : BitVec 32 := 0#32
  let c1_i32_1015 : BitVec 32 := 1#32
  let arg10 : BitVec 32 := Scf.iv c0_i32_1013 c1_i32_1015 k0_t59
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t60_loop : Scf.Loop 32 :=
  let c0_i32_1027 : BitVec 32 := 0#32
  let c256_i32_1028 : BitVec 32 := 256#32
  let v1463 : BitVec 32 := Scalar.addi c0_i32_1027 c256_i32_1028
  let c1_i32_1029 : BitVec 32 := 1#32
  ⟨c0_i32_1027, v1463, c1_i32_1029⟩
def k0_off139 (k0_t60 : Fin k0_t60_loop.trips) : Fin 1 → Nat :=
  let c12288_i32_1819 : BitVec 32 := 12288#32
  let c0_i32_1817 : BitVec 32 := 0#32
  let c0_i32_1027 : BitVec 32 := 0#32
  let c1_i32_1029 : BitVec 32 := 1#32
  let arg10 : BitVec 32 := Scf.iv c0_i32_1027 c1_i32_1029 k0_t60
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c12288_i32_1819 v2579
  let v2581 : Index := Scalar.indexCast v2580
  ![v2581.toNat]

def k0_chk60 (v2582 : IVec S16 32) : Prop :=
  (∀ a x, ((![v2582] : Fin 1 → IVec S16 32) a x).toNat < S100000.size a)
theorem k0_idx60_inb : ∀ (v2582 : IVec S16 32) (k0_hw60 : k0_chk60 v2582), ∀ a x, ((![v2582] : Fin 1 → IVec S16 32) a x).toNat < S100000.size a := fun v2582 k0_hw60 => k0_hw60
def k0_off140 (k0_t60 : Fin k0_t60_loop.trips) : Fin 2 → Nat :=
  let c1_i32_1821 : BitVec 32 := 1#32
  let v2585 : Index := Scalar.indexCast c1_i32_1821
  let c0_i32_1817 : BitVec 32 := 0#32
  let c0_i32_1027 : BitVec 32 := 0#32
  let c1_i32_1029 : BitVec 32 := 1#32
  let arg10 : BitVec 32 := Scf.iv c0_i32_1027 c1_i32_1029 k0_t60
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
def k0_cond16 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c15_i32 : BitVec 32 := 15#32
  let v1472 : BitVec 32 := Scalar.addi v2 c15_i32
  let c0_i32_1037 : BitVec 32 := 0#32
  let v1474 : BitVec 1 := Scalar.cmpi .sgt v1472 c0_i32_1037
  let v1475 : BitVec 32 := Scalar.extui v1474
  let c0_i32_1038 : BitVec 32 := 0#32
  let v1476 : BitVec 1 := Scalar.cmpi .slt v1472 c0_i32_1038
  let v1477 : BitVec 32 := Scalar.extui v1476
  let v1478 : BitVec 32 := Scalar.subi v1475 v1477
  let c32_i32_1036 : BitVec 32 := 32#32
  let c0_i32_1039 : BitVec 32 := 0#32
  let v1479 : BitVec 1 := Scalar.cmpi .sgt c32_i32_1036 c0_i32_1039
  let v1480 : BitVec 32 := Scalar.extui v1479
  let c0_i32_1040 : BitVec 32 := 0#32
  let v1481 : BitVec 1 := Scalar.cmpi .slt c32_i32_1036 c0_i32_1040
  let v1482 : BitVec 32 := Scalar.extui v1481
  let v1483 : BitVec 32 := Scalar.subi v1480 v1482
  let v1484 : BitVec 1 := Scalar.cmpi .ne v1478 v1483
  let v1485 : BitVec 32 := Scalar.remsi v1472 c32_i32_1036
  let c0_i32_1041 : BitVec 32 := 0#32
  let v1486 : BitVec 1 := Scalar.cmpi .ne v1485 c0_i32_1041
  let v1487 : BitVec 1 := Scalar.andi v1484 v1486
  let v1473 : BitVec 32 := Scalar.divsi v1472 c32_i32_1036
  let c1_i32_1042 : BitVec 32 := 1#32
  let v1488 : BitVec 32 := Scalar.subi v1473 c1_i32_1042
  let v1489 : BitVec 32 := Scalar.select v1487 v1488 v1473
  let c14_i32 : BitVec 32 := 14#32
  let v1373 : BitVec 32 := Scalar.addi v2 c14_i32
  let c0_i32_967 : BitVec 32 := 0#32
  let v1375 : BitVec 1 := Scalar.cmpi .sgt v1373 c0_i32_967
  let v1376 : BitVec 32 := Scalar.extui v1375
  let c0_i32_968 : BitVec 32 := 0#32
  let v1377 : BitVec 1 := Scalar.cmpi .slt v1373 c0_i32_968
  let v1378 : BitVec 32 := Scalar.extui v1377
  let v1379 : BitVec 32 := Scalar.subi v1376 v1378
  let c32_i32_966 : BitVec 32 := 32#32
  let c0_i32_969 : BitVec 32 := 0#32
  let v1380 : BitVec 1 := Scalar.cmpi .sgt c32_i32_966 c0_i32_969
  let v1381 : BitVec 32 := Scalar.extui v1380
  let c0_i32_970 : BitVec 32 := 0#32
  let v1382 : BitVec 1 := Scalar.cmpi .slt c32_i32_966 c0_i32_970
  let v1383 : BitVec 32 := Scalar.extui v1382
  let v1384 : BitVec 32 := Scalar.subi v1381 v1383
  let v1385 : BitVec 1 := Scalar.cmpi .ne v1379 v1384
  let v1386 : BitVec 32 := Scalar.remsi v1373 c32_i32_966
  let c0_i32_971 : BitVec 32 := 0#32
  let v1387 : BitVec 1 := Scalar.cmpi .ne v1386 c0_i32_971
  let v1388 : BitVec 1 := Scalar.andi v1385 v1387
  let v1374 : BitVec 32 := Scalar.divsi v1373 c32_i32_966
  let c1_i32_972 : BitVec 32 := 1#32
  let v1389 : BitVec 32 := Scalar.subi v1374 c1_i32_972
  let v1390 : BitVec 32 := Scalar.select v1388 v1389 v1374
  let v1500 : BitVec 1 := Scalar.cmpi .ne v1489 v1390
  let v1501 : BitVec 32 := Scalar.extui v1500
  let c0_i32_1049 : BitVec 32 := 0#32
  let v1502 : BitVec 1 := Scalar.cmpi .ne v1501 c0_i32_1049
  v1502

def k0_off141 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c15_i32 : BitVec 32 := 15#32
  let v1472 : BitVec 32 := Scalar.addi v2 c15_i32
  let c0_i32_1037 : BitVec 32 := 0#32
  let v1474 : BitVec 1 := Scalar.cmpi .sgt v1472 c0_i32_1037
  let v1475 : BitVec 32 := Scalar.extui v1474
  let c0_i32_1038 : BitVec 32 := 0#32
  let v1476 : BitVec 1 := Scalar.cmpi .slt v1472 c0_i32_1038
  let v1477 : BitVec 32 := Scalar.extui v1476
  let v1478 : BitVec 32 := Scalar.subi v1475 v1477
  let c32_i32_1036 : BitVec 32 := 32#32
  let c0_i32_1039 : BitVec 32 := 0#32
  let v1479 : BitVec 1 := Scalar.cmpi .sgt c32_i32_1036 c0_i32_1039
  let v1480 : BitVec 32 := Scalar.extui v1479
  let c0_i32_1040 : BitVec 32 := 0#32
  let v1481 : BitVec 1 := Scalar.cmpi .slt c32_i32_1036 c0_i32_1040
  let v1482 : BitVec 32 := Scalar.extui v1481
  let v1483 : BitVec 32 := Scalar.subi v1480 v1482
  let v1484 : BitVec 1 := Scalar.cmpi .ne v1478 v1483
  let v1485 : BitVec 32 := Scalar.remsi v1472 c32_i32_1036
  let c0_i32_1041 : BitVec 32 := 0#32
  let v1486 : BitVec 1 := Scalar.cmpi .ne v1485 c0_i32_1041
  let v1487 : BitVec 1 := Scalar.andi v1484 v1486
  let v1473 : BitVec 32 := Scalar.divsi v1472 c32_i32_1036
  let c1_i32_1042 : BitVec 32 := 1#32
  let v1488 : BitVec 32 := Scalar.subi v1473 c1_i32_1042
  let v1489 : BitVec 32 := Scalar.select v1487 v1488 v1473
  let c0_i32_1816_r30 : BitVec 32 := 0#32
  ![v1489.toNat, 0]
@[reducible] def k0_t61_loop : Scf.Loop 32 :=
  let c0_i32_1055 : BitVec 32 := 0#32
  let c256_i32_1056 : BitVec 32 := 256#32
  let v1511 : BitVec 32 := Scalar.addi c0_i32_1055 c256_i32_1056
  let c1_i32_1057 : BitVec 32 := 1#32
  ⟨c0_i32_1055, v1511, c1_i32_1057⟩
def k0_off142 (k0_t61 : Fin k0_t61_loop.trips) : Fin 1 → Nat :=
  let c0_i32_1819 : BitVec 32 := 0#32
  let c0_i32_1817 : BitVec 32 := 0#32
  let c0_i32_1055 : BitVec 32 := 0#32
  let c1_i32_1057 : BitVec 32 := 1#32
  let arg10 : BitVec 32 := Scf.iv c0_i32_1055 c1_i32_1057 k0_t61
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c0_i32_1819 v2579
  let v2581 : Index := Scalar.indexCast v2580
  ![v2581.toNat]

def k0_chk61 (v2582 : IVec S16 32) : Prop :=
  (∀ a x, ((![v2582] : Fin 1 → IVec S16 32) a x).toNat < S100000.size a)
theorem k0_idx61_inb : ∀ (v2582 : IVec S16 32) (k0_hw61 : k0_chk61 v2582), ∀ a x, ((![v2582] : Fin 1 → IVec S16 32) a x).toNat < S100000.size a := fun v2582 k0_hw61 => k0_hw61
def k0_off143 (k0_t61 : Fin k0_t61_loop.trips) : Fin 2 → Nat :=
  let c0_i32_1821 : BitVec 32 := 0#32
  let v2585 : Index := Scalar.indexCast c0_i32_1821
  let c0_i32_1817 : BitVec 32 := 0#32
  let c0_i32_1055 : BitVec 32 := 0#32
  let c1_i32_1057 : BitVec 32 := 1#32
  let arg10 : BitVec 32 := Scf.iv c0_i32_1055 c1_i32_1057 k0_t61
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t62_loop : Scf.Loop 32 :=
  let c0_i32_1069 : BitVec 32 := 0#32
  let c256_i32_1070 : BitVec 32 := 256#32
  let v1528 : BitVec 32 := Scalar.addi c0_i32_1069 c256_i32_1070
  let c1_i32_1071 : BitVec 32 := 1#32
  ⟨c0_i32_1069, v1528, c1_i32_1071⟩
def k0_off144 (k0_t62 : Fin k0_t62_loop.trips) : Fin 1 → Nat :=
  let c4096_i32_1819 : BitVec 32 := 4096#32
  let c0_i32_1817 : BitVec 32 := 0#32
  let c0_i32_1069 : BitVec 32 := 0#32
  let c1_i32_1071 : BitVec 32 := 1#32
  let arg10 : BitVec 32 := Scf.iv c0_i32_1069 c1_i32_1071 k0_t62
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c4096_i32_1819 v2579
  let v2581 : Index := Scalar.indexCast v2580
  ![v2581.toNat]

def k0_chk62 (v2582 : IVec S16 32) : Prop :=
  (∀ a x, ((![v2582] : Fin 1 → IVec S16 32) a x).toNat < S100000.size a)
theorem k0_idx62_inb : ∀ (v2582 : IVec S16 32) (k0_hw62 : k0_chk62 v2582), ∀ a x, ((![v2582] : Fin 1 → IVec S16 32) a x).toNat < S100000.size a := fun v2582 k0_hw62 => k0_hw62
def k0_off145 (k0_t62 : Fin k0_t62_loop.trips) : Fin 2 → Nat :=
  let c1_i32_1821 : BitVec 32 := 1#32
  let v2585 : Index := Scalar.indexCast c1_i32_1821
  let c0_i32_1817 : BitVec 32 := 0#32
  let c0_i32_1069 : BitVec 32 := 0#32
  let c1_i32_1071 : BitVec 32 := 1#32
  let arg10 : BitVec 32 := Scf.iv c0_i32_1069 c1_i32_1071 k0_t62
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
@[reducible] def k0_t63_loop : Scf.Loop 32 :=
  let c0_i32_1083 : BitVec 32 := 0#32
  let c256_i32_1084 : BitVec 32 := 256#32
  let v1545 : BitVec 32 := Scalar.addi c0_i32_1083 c256_i32_1084
  let c1_i32_1085 : BitVec 32 := 1#32
  ⟨c0_i32_1083, v1545, c1_i32_1085⟩
def k0_off146 (k0_t63 : Fin k0_t63_loop.trips) : Fin 1 → Nat :=
  let c8192_i32_1819 : BitVec 32 := 8192#32
  let c0_i32_1817 : BitVec 32 := 0#32
  let c0_i32_1083 : BitVec 32 := 0#32
  let c1_i32_1085 : BitVec 32 := 1#32
  let arg10 : BitVec 32 := Scf.iv c0_i32_1083 c1_i32_1085 k0_t63
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c8192_i32_1819 v2579
  let v2581 : Index := Scalar.indexCast v2580
  ![v2581.toNat]

def k0_chk63 (v2582 : IVec S16 32) : Prop :=
  (∀ a x, ((![v2582] : Fin 1 → IVec S16 32) a x).toNat < S100000.size a)
theorem k0_idx63_inb : ∀ (v2582 : IVec S16 32) (k0_hw63 : k0_chk63 v2582), ∀ a x, ((![v2582] : Fin 1 → IVec S16 32) a x).toNat < S100000.size a := fun v2582 k0_hw63 => k0_hw63
def k0_off147 (k0_t63 : Fin k0_t63_loop.trips) : Fin 2 → Nat :=
  let c0_i32_1821 : BitVec 32 := 0#32
  let v2585 : Index := Scalar.indexCast c0_i32_1821
  let c0_i32_1817 : BitVec 32 := 0#32
  let c0_i32_1083 : BitVec 32 := 0#32
  let c1_i32_1085 : BitVec 32 := 1#32
  let arg10 : BitVec 32 := Scf.iv c0_i32_1083 c1_i32_1085 k0_t63
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t64_loop : Scf.Loop 32 :=
  let c0_i32_1097 : BitVec 32 := 0#32
  let c256_i32_1098 : BitVec 32 := 256#32
  let v1562 : BitVec 32 := Scalar.addi c0_i32_1097 c256_i32_1098
  let c1_i32_1099 : BitVec 32 := 1#32
  ⟨c0_i32_1097, v1562, c1_i32_1099⟩
def k0_off148 (k0_t64 : Fin k0_t64_loop.trips) : Fin 1 → Nat :=
  let c12288_i32_1819 : BitVec 32 := 12288#32
  let c0_i32_1817 : BitVec 32 := 0#32
  let c0_i32_1097 : BitVec 32 := 0#32
  let c1_i32_1099 : BitVec 32 := 1#32
  let arg10 : BitVec 32 := Scf.iv c0_i32_1097 c1_i32_1099 k0_t64
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c12288_i32_1819 v2579
  let v2581 : Index := Scalar.indexCast v2580
  ![v2581.toNat]

def k0_chk64 (v2582 : IVec S16 32) : Prop :=
  (∀ a x, ((![v2582] : Fin 1 → IVec S16 32) a x).toNat < S100000.size a)
theorem k0_idx64_inb : ∀ (v2582 : IVec S16 32) (k0_hw64 : k0_chk64 v2582), ∀ a x, ((![v2582] : Fin 1 → IVec S16 32) a x).toNat < S100000.size a := fun v2582 k0_hw64 => k0_hw64
def k0_off149 (k0_t64 : Fin k0_t64_loop.trips) : Fin 2 → Nat :=
  let c1_i32_1821 : BitVec 32 := 1#32
  let v2585 : Index := Scalar.indexCast c1_i32_1821
  let c0_i32_1817 : BitVec 32 := 0#32
  let c0_i32_1097 : BitVec 32 := 0#32
  let c1_i32_1099 : BitVec 32 := 1#32
  let arg10 : BitVec 32 := Scf.iv c0_i32_1097 c1_i32_1099 k0_t64
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
def k0_cond17 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c16_i32 : BitVec 32 := 16#32
  let v1571 : BitVec 32 := Scalar.addi v2 c16_i32
  let c0_i32_1107 : BitVec 32 := 0#32
  let v1573 : BitVec 1 := Scalar.cmpi .sgt v1571 c0_i32_1107
  let v1574 : BitVec 32 := Scalar.extui v1573
  let c0_i32_1108 : BitVec 32 := 0#32
  let v1575 : BitVec 1 := Scalar.cmpi .slt v1571 c0_i32_1108
  let v1576 : BitVec 32 := Scalar.extui v1575
  let v1577 : BitVec 32 := Scalar.subi v1574 v1576
  let c32_i32_1106 : BitVec 32 := 32#32
  let c0_i32_1109 : BitVec 32 := 0#32
  let v1578 : BitVec 1 := Scalar.cmpi .sgt c32_i32_1106 c0_i32_1109
  let v1579 : BitVec 32 := Scalar.extui v1578
  let c0_i32_1110 : BitVec 32 := 0#32
  let v1580 : BitVec 1 := Scalar.cmpi .slt c32_i32_1106 c0_i32_1110
  let v1581 : BitVec 32 := Scalar.extui v1580
  let v1582 : BitVec 32 := Scalar.subi v1579 v1581
  let v1583 : BitVec 1 := Scalar.cmpi .ne v1577 v1582
  let v1584 : BitVec 32 := Scalar.remsi v1571 c32_i32_1106
  let c0_i32_1111 : BitVec 32 := 0#32
  let v1585 : BitVec 1 := Scalar.cmpi .ne v1584 c0_i32_1111
  let v1586 : BitVec 1 := Scalar.andi v1583 v1585
  let v1572 : BitVec 32 := Scalar.divsi v1571 c32_i32_1106
  let c1_i32_1112 : BitVec 32 := 1#32
  let v1587 : BitVec 32 := Scalar.subi v1572 c1_i32_1112
  let v1588 : BitVec 32 := Scalar.select v1586 v1587 v1572
  let c15_i32 : BitVec 32 := 15#32
  let v1472 : BitVec 32 := Scalar.addi v2 c15_i32
  let c0_i32_1037 : BitVec 32 := 0#32
  let v1474 : BitVec 1 := Scalar.cmpi .sgt v1472 c0_i32_1037
  let v1475 : BitVec 32 := Scalar.extui v1474
  let c0_i32_1038 : BitVec 32 := 0#32
  let v1476 : BitVec 1 := Scalar.cmpi .slt v1472 c0_i32_1038
  let v1477 : BitVec 32 := Scalar.extui v1476
  let v1478 : BitVec 32 := Scalar.subi v1475 v1477
  let c32_i32_1036 : BitVec 32 := 32#32
  let c0_i32_1039 : BitVec 32 := 0#32
  let v1479 : BitVec 1 := Scalar.cmpi .sgt c32_i32_1036 c0_i32_1039
  let v1480 : BitVec 32 := Scalar.extui v1479
  let c0_i32_1040 : BitVec 32 := 0#32
  let v1481 : BitVec 1 := Scalar.cmpi .slt c32_i32_1036 c0_i32_1040
  let v1482 : BitVec 32 := Scalar.extui v1481
  let v1483 : BitVec 32 := Scalar.subi v1480 v1482
  let v1484 : BitVec 1 := Scalar.cmpi .ne v1478 v1483
  let v1485 : BitVec 32 := Scalar.remsi v1472 c32_i32_1036
  let c0_i32_1041 : BitVec 32 := 0#32
  let v1486 : BitVec 1 := Scalar.cmpi .ne v1485 c0_i32_1041
  let v1487 : BitVec 1 := Scalar.andi v1484 v1486
  let v1473 : BitVec 32 := Scalar.divsi v1472 c32_i32_1036
  let c1_i32_1042 : BitVec 32 := 1#32
  let v1488 : BitVec 32 := Scalar.subi v1473 c1_i32_1042
  let v1489 : BitVec 32 := Scalar.select v1487 v1488 v1473
  let v1599 : BitVec 1 := Scalar.cmpi .ne v1588 v1489
  let v1600 : BitVec 32 := Scalar.extui v1599
  let c0_i32_1119 : BitVec 32 := 0#32
  let v1601 : BitVec 1 := Scalar.cmpi .ne v1600 c0_i32_1119
  v1601

def k0_off150 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c16_i32 : BitVec 32 := 16#32
  let v1571 : BitVec 32 := Scalar.addi v2 c16_i32
  let c0_i32_1107 : BitVec 32 := 0#32
  let v1573 : BitVec 1 := Scalar.cmpi .sgt v1571 c0_i32_1107
  let v1574 : BitVec 32 := Scalar.extui v1573
  let c0_i32_1108 : BitVec 32 := 0#32
  let v1575 : BitVec 1 := Scalar.cmpi .slt v1571 c0_i32_1108
  let v1576 : BitVec 32 := Scalar.extui v1575
  let v1577 : BitVec 32 := Scalar.subi v1574 v1576
  let c32_i32_1106 : BitVec 32 := 32#32
  let c0_i32_1109 : BitVec 32 := 0#32
  let v1578 : BitVec 1 := Scalar.cmpi .sgt c32_i32_1106 c0_i32_1109
  let v1579 : BitVec 32 := Scalar.extui v1578
  let c0_i32_1110 : BitVec 32 := 0#32
  let v1580 : BitVec 1 := Scalar.cmpi .slt c32_i32_1106 c0_i32_1110
  let v1581 : BitVec 32 := Scalar.extui v1580
  let v1582 : BitVec 32 := Scalar.subi v1579 v1581
  let v1583 : BitVec 1 := Scalar.cmpi .ne v1577 v1582
  let v1584 : BitVec 32 := Scalar.remsi v1571 c32_i32_1106
  let c0_i32_1111 : BitVec 32 := 0#32
  let v1585 : BitVec 1 := Scalar.cmpi .ne v1584 c0_i32_1111
  let v1586 : BitVec 1 := Scalar.andi v1583 v1585
  let v1572 : BitVec 32 := Scalar.divsi v1571 c32_i32_1106
  let c1_i32_1112 : BitVec 32 := 1#32
  let v1587 : BitVec 32 := Scalar.subi v1572 c1_i32_1112
  let v1588 : BitVec 32 := Scalar.select v1586 v1587 v1572
  let c0_i32_1816_r32 : BitVec 32 := 0#32
  ![v1588.toNat, 0]
@[reducible] def k0_t65_loop : Scf.Loop 32 :=
  let c0_i32_1125 : BitVec 32 := 0#32
  let c256_i32_1126 : BitVec 32 := 256#32
  let v1610 : BitVec 32 := Scalar.addi c0_i32_1125 c256_i32_1126
  let c1_i32_1127 : BitVec 32 := 1#32
  ⟨c0_i32_1125, v1610, c1_i32_1127⟩
def k0_off151 (k0_t65 : Fin k0_t65_loop.trips) : Fin 1 → Nat :=
  let c0_i32_1819 : BitVec 32 := 0#32
  let c0_i32_1817 : BitVec 32 := 0#32
  let c0_i32_1125 : BitVec 32 := 0#32
  let c1_i32_1127 : BitVec 32 := 1#32
  let arg10 : BitVec 32 := Scf.iv c0_i32_1125 c1_i32_1127 k0_t65
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c0_i32_1819 v2579
  let v2581 : Index := Scalar.indexCast v2580
  ![v2581.toNat]

def k0_chk65 (v2582 : IVec S16 32) : Prop :=
  (∀ a x, ((![v2582] : Fin 1 → IVec S16 32) a x).toNat < S100000.size a)
theorem k0_idx65_inb : ∀ (v2582 : IVec S16 32) (k0_hw65 : k0_chk65 v2582), ∀ a x, ((![v2582] : Fin 1 → IVec S16 32) a x).toNat < S100000.size a := fun v2582 k0_hw65 => k0_hw65
def k0_off152 (k0_t65 : Fin k0_t65_loop.trips) : Fin 2 → Nat :=
  let c0_i32_1821 : BitVec 32 := 0#32
  let v2585 : Index := Scalar.indexCast c0_i32_1821
  let c0_i32_1817 : BitVec 32 := 0#32
  let c0_i32_1125 : BitVec 32 := 0#32
  let c1_i32_1127 : BitVec 32 := 1#32
  let arg10 : BitVec 32 := Scf.iv c0_i32_1125 c1_i32_1127 k0_t65
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t66_loop : Scf.Loop 32 :=
  let c0_i32_1139 : BitVec 32 := 0#32
  let c256_i32_1140 : BitVec 32 := 256#32
  let v1627 : BitVec 32 := Scalar.addi c0_i32_1139 c256_i32_1140
  let c1_i32_1141 : BitVec 32 := 1#32
  ⟨c0_i32_1139, v1627, c1_i32_1141⟩
def k0_off153 (k0_t66 : Fin k0_t66_loop.trips) : Fin 1 → Nat :=
  let c4096_i32_1819 : BitVec 32 := 4096#32
  let c0_i32_1817 : BitVec 32 := 0#32
  let c0_i32_1139 : BitVec 32 := 0#32
  let c1_i32_1141 : BitVec 32 := 1#32
  let arg10 : BitVec 32 := Scf.iv c0_i32_1139 c1_i32_1141 k0_t66
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c4096_i32_1819 v2579
  let v2581 : Index := Scalar.indexCast v2580
  ![v2581.toNat]

def k0_chk66 (v2582 : IVec S16 32) : Prop :=
  (∀ a x, ((![v2582] : Fin 1 → IVec S16 32) a x).toNat < S100000.size a)
theorem k0_idx66_inb : ∀ (v2582 : IVec S16 32) (k0_hw66 : k0_chk66 v2582), ∀ a x, ((![v2582] : Fin 1 → IVec S16 32) a x).toNat < S100000.size a := fun v2582 k0_hw66 => k0_hw66
def k0_off154 (k0_t66 : Fin k0_t66_loop.trips) : Fin 2 → Nat :=
  let c1_i32_1821 : BitVec 32 := 1#32
  let v2585 : Index := Scalar.indexCast c1_i32_1821
  let c0_i32_1817 : BitVec 32 := 0#32
  let c0_i32_1139 : BitVec 32 := 0#32
  let c1_i32_1141 : BitVec 32 := 1#32
  let arg10 : BitVec 32 := Scf.iv c0_i32_1139 c1_i32_1141 k0_t66
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
@[reducible] def k0_t67_loop : Scf.Loop 32 :=
  let c0_i32_1153 : BitVec 32 := 0#32
  let c256_i32_1154 : BitVec 32 := 256#32
  let v1644 : BitVec 32 := Scalar.addi c0_i32_1153 c256_i32_1154
  let c1_i32_1155 : BitVec 32 := 1#32
  ⟨c0_i32_1153, v1644, c1_i32_1155⟩
def k0_off155 (k0_t67 : Fin k0_t67_loop.trips) : Fin 1 → Nat :=
  let c8192_i32_1819 : BitVec 32 := 8192#32
  let c0_i32_1817 : BitVec 32 := 0#32
  let c0_i32_1153 : BitVec 32 := 0#32
  let c1_i32_1155 : BitVec 32 := 1#32
  let arg10 : BitVec 32 := Scf.iv c0_i32_1153 c1_i32_1155 k0_t67
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c8192_i32_1819 v2579
  let v2581 : Index := Scalar.indexCast v2580
  ![v2581.toNat]

def k0_chk67 (v2582 : IVec S16 32) : Prop :=
  (∀ a x, ((![v2582] : Fin 1 → IVec S16 32) a x).toNat < S100000.size a)
theorem k0_idx67_inb : ∀ (v2582 : IVec S16 32) (k0_hw67 : k0_chk67 v2582), ∀ a x, ((![v2582] : Fin 1 → IVec S16 32) a x).toNat < S100000.size a := fun v2582 k0_hw67 => k0_hw67
def k0_off156 (k0_t67 : Fin k0_t67_loop.trips) : Fin 2 → Nat :=
  let c0_i32_1821 : BitVec 32 := 0#32
  let v2585 : Index := Scalar.indexCast c0_i32_1821
  let c0_i32_1817 : BitVec 32 := 0#32
  let c0_i32_1153 : BitVec 32 := 0#32
  let c1_i32_1155 : BitVec 32 := 1#32
  let arg10 : BitVec 32 := Scf.iv c0_i32_1153 c1_i32_1155 k0_t67
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t68_loop : Scf.Loop 32 :=
  let c0_i32_1167 : BitVec 32 := 0#32
  let c256_i32_1168 : BitVec 32 := 256#32
  let v1661 : BitVec 32 := Scalar.addi c0_i32_1167 c256_i32_1168
  let c1_i32_1169 : BitVec 32 := 1#32
  ⟨c0_i32_1167, v1661, c1_i32_1169⟩
def k0_off157 (k0_t68 : Fin k0_t68_loop.trips) : Fin 1 → Nat :=
  let c12288_i32_1819 : BitVec 32 := 12288#32
  let c0_i32_1817 : BitVec 32 := 0#32
  let c0_i32_1167 : BitVec 32 := 0#32
  let c1_i32_1169 : BitVec 32 := 1#32
  let arg10 : BitVec 32 := Scf.iv c0_i32_1167 c1_i32_1169 k0_t68
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c12288_i32_1819 v2579
  let v2581 : Index := Scalar.indexCast v2580
  ![v2581.toNat]

def k0_chk68 (v2582 : IVec S16 32) : Prop :=
  (∀ a x, ((![v2582] : Fin 1 → IVec S16 32) a x).toNat < S100000.size a)
theorem k0_idx68_inb : ∀ (v2582 : IVec S16 32) (k0_hw68 : k0_chk68 v2582), ∀ a x, ((![v2582] : Fin 1 → IVec S16 32) a x).toNat < S100000.size a := fun v2582 k0_hw68 => k0_hw68
def k0_off158 (k0_t68 : Fin k0_t68_loop.trips) : Fin 2 → Nat :=
  let c1_i32_1821 : BitVec 32 := 1#32
  let v2585 : Index := Scalar.indexCast c1_i32_1821
  let c0_i32_1817 : BitVec 32 := 0#32
  let c0_i32_1167 : BitVec 32 := 0#32
  let c1_i32_1169 : BitVec 32 := 1#32
  let arg10 : BitVec 32 := Scf.iv c0_i32_1167 c1_i32_1169 k0_t68
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
def k0_cond18 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c17_i32 : BitVec 32 := 17#32
  let v1670 : BitVec 32 := Scalar.addi v2 c17_i32
  let c0_i32_1177 : BitVec 32 := 0#32
  let v1672 : BitVec 1 := Scalar.cmpi .sgt v1670 c0_i32_1177
  let v1673 : BitVec 32 := Scalar.extui v1672
  let c0_i32_1178 : BitVec 32 := 0#32
  let v1674 : BitVec 1 := Scalar.cmpi .slt v1670 c0_i32_1178
  let v1675 : BitVec 32 := Scalar.extui v1674
  let v1676 : BitVec 32 := Scalar.subi v1673 v1675
  let c32_i32_1176 : BitVec 32 := 32#32
  let c0_i32_1179 : BitVec 32 := 0#32
  let v1677 : BitVec 1 := Scalar.cmpi .sgt c32_i32_1176 c0_i32_1179
  let v1678 : BitVec 32 := Scalar.extui v1677
  let c0_i32_1180 : BitVec 32 := 0#32
  let v1679 : BitVec 1 := Scalar.cmpi .slt c32_i32_1176 c0_i32_1180
  let v1680 : BitVec 32 := Scalar.extui v1679
  let v1681 : BitVec 32 := Scalar.subi v1678 v1680
  let v1682 : BitVec 1 := Scalar.cmpi .ne v1676 v1681
  let v1683 : BitVec 32 := Scalar.remsi v1670 c32_i32_1176
  let c0_i32_1181 : BitVec 32 := 0#32
  let v1684 : BitVec 1 := Scalar.cmpi .ne v1683 c0_i32_1181
  let v1685 : BitVec 1 := Scalar.andi v1682 v1684
  let v1671 : BitVec 32 := Scalar.divsi v1670 c32_i32_1176
  let c1_i32_1182 : BitVec 32 := 1#32
  let v1686 : BitVec 32 := Scalar.subi v1671 c1_i32_1182
  let v1687 : BitVec 32 := Scalar.select v1685 v1686 v1671
  let c16_i32 : BitVec 32 := 16#32
  let v1571 : BitVec 32 := Scalar.addi v2 c16_i32
  let c0_i32_1107 : BitVec 32 := 0#32
  let v1573 : BitVec 1 := Scalar.cmpi .sgt v1571 c0_i32_1107
  let v1574 : BitVec 32 := Scalar.extui v1573
  let c0_i32_1108 : BitVec 32 := 0#32
  let v1575 : BitVec 1 := Scalar.cmpi .slt v1571 c0_i32_1108
  let v1576 : BitVec 32 := Scalar.extui v1575
  let v1577 : BitVec 32 := Scalar.subi v1574 v1576
  let c32_i32_1106 : BitVec 32 := 32#32
  let c0_i32_1109 : BitVec 32 := 0#32
  let v1578 : BitVec 1 := Scalar.cmpi .sgt c32_i32_1106 c0_i32_1109
  let v1579 : BitVec 32 := Scalar.extui v1578
  let c0_i32_1110 : BitVec 32 := 0#32
  let v1580 : BitVec 1 := Scalar.cmpi .slt c32_i32_1106 c0_i32_1110
  let v1581 : BitVec 32 := Scalar.extui v1580
  let v1582 : BitVec 32 := Scalar.subi v1579 v1581
  let v1583 : BitVec 1 := Scalar.cmpi .ne v1577 v1582
  let v1584 : BitVec 32 := Scalar.remsi v1571 c32_i32_1106
  let c0_i32_1111 : BitVec 32 := 0#32
  let v1585 : BitVec 1 := Scalar.cmpi .ne v1584 c0_i32_1111
  let v1586 : BitVec 1 := Scalar.andi v1583 v1585
  let v1572 : BitVec 32 := Scalar.divsi v1571 c32_i32_1106
  let c1_i32_1112 : BitVec 32 := 1#32
  let v1587 : BitVec 32 := Scalar.subi v1572 c1_i32_1112
  let v1588 : BitVec 32 := Scalar.select v1586 v1587 v1572
  let v1698 : BitVec 1 := Scalar.cmpi .ne v1687 v1588
  let v1699 : BitVec 32 := Scalar.extui v1698
  let c0_i32_1189 : BitVec 32 := 0#32
  let v1700 : BitVec 1 := Scalar.cmpi .ne v1699 c0_i32_1189
  v1700

def k0_off159 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c17_i32 : BitVec 32 := 17#32
  let v1670 : BitVec 32 := Scalar.addi v2 c17_i32
  let c0_i32_1177 : BitVec 32 := 0#32
  let v1672 : BitVec 1 := Scalar.cmpi .sgt v1670 c0_i32_1177
  let v1673 : BitVec 32 := Scalar.extui v1672
  let c0_i32_1178 : BitVec 32 := 0#32
  let v1674 : BitVec 1 := Scalar.cmpi .slt v1670 c0_i32_1178
  let v1675 : BitVec 32 := Scalar.extui v1674
  let v1676 : BitVec 32 := Scalar.subi v1673 v1675
  let c32_i32_1176 : BitVec 32 := 32#32
  let c0_i32_1179 : BitVec 32 := 0#32
  let v1677 : BitVec 1 := Scalar.cmpi .sgt c32_i32_1176 c0_i32_1179
  let v1678 : BitVec 32 := Scalar.extui v1677
  let c0_i32_1180 : BitVec 32 := 0#32
  let v1679 : BitVec 1 := Scalar.cmpi .slt c32_i32_1176 c0_i32_1180
  let v1680 : BitVec 32 := Scalar.extui v1679
  let v1681 : BitVec 32 := Scalar.subi v1678 v1680
  let v1682 : BitVec 1 := Scalar.cmpi .ne v1676 v1681
  let v1683 : BitVec 32 := Scalar.remsi v1670 c32_i32_1176
  let c0_i32_1181 : BitVec 32 := 0#32
  let v1684 : BitVec 1 := Scalar.cmpi .ne v1683 c0_i32_1181
  let v1685 : BitVec 1 := Scalar.andi v1682 v1684
  let v1671 : BitVec 32 := Scalar.divsi v1670 c32_i32_1176
  let c1_i32_1182 : BitVec 32 := 1#32
  let v1686 : BitVec 32 := Scalar.subi v1671 c1_i32_1182
  let v1687 : BitVec 32 := Scalar.select v1685 v1686 v1671
  let c0_i32_1816_r34 : BitVec 32 := 0#32
  ![v1687.toNat, 0]
@[reducible] def k0_t69_loop : Scf.Loop 32 :=
  let c0_i32_1195 : BitVec 32 := 0#32
  let c256_i32_1196 : BitVec 32 := 256#32
  let v1709 : BitVec 32 := Scalar.addi c0_i32_1195 c256_i32_1196
  let c1_i32_1197 : BitVec 32 := 1#32
  ⟨c0_i32_1195, v1709, c1_i32_1197⟩
def k0_off160 (k0_t69 : Fin k0_t69_loop.trips) : Fin 1 → Nat :=
  let c0_i32_1819 : BitVec 32 := 0#32
  let c0_i32_1817 : BitVec 32 := 0#32
  let c0_i32_1195 : BitVec 32 := 0#32
  let c1_i32_1197 : BitVec 32 := 1#32
  let arg10 : BitVec 32 := Scf.iv c0_i32_1195 c1_i32_1197 k0_t69
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c0_i32_1819 v2579
  let v2581 : Index := Scalar.indexCast v2580
  ![v2581.toNat]

def k0_chk69 (v2582 : IVec S16 32) : Prop :=
  (∀ a x, ((![v2582] : Fin 1 → IVec S16 32) a x).toNat < S100000.size a)
theorem k0_idx69_inb : ∀ (v2582 : IVec S16 32) (k0_hw69 : k0_chk69 v2582), ∀ a x, ((![v2582] : Fin 1 → IVec S16 32) a x).toNat < S100000.size a := fun v2582 k0_hw69 => k0_hw69
def k0_off161 (k0_t69 : Fin k0_t69_loop.trips) : Fin 2 → Nat :=
  let c0_i32_1821 : BitVec 32 := 0#32
  let v2585 : Index := Scalar.indexCast c0_i32_1821
  let c0_i32_1817 : BitVec 32 := 0#32
  let c0_i32_1195 : BitVec 32 := 0#32
  let c1_i32_1197 : BitVec 32 := 1#32
  let arg10 : BitVec 32 := Scf.iv c0_i32_1195 c1_i32_1197 k0_t69
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t70_loop : Scf.Loop 32 :=
  let c0_i32_1209 : BitVec 32 := 0#32
  let c256_i32_1210 : BitVec 32 := 256#32
  let v1726 : BitVec 32 := Scalar.addi c0_i32_1209 c256_i32_1210
  let c1_i32_1211 : BitVec 32 := 1#32
  ⟨c0_i32_1209, v1726, c1_i32_1211⟩
def k0_off162 (k0_t70 : Fin k0_t70_loop.trips) : Fin 1 → Nat :=
  let c4096_i32_1819 : BitVec 32 := 4096#32
  let c0_i32_1817 : BitVec 32 := 0#32
  let c0_i32_1209 : BitVec 32 := 0#32
  let c1_i32_1211 : BitVec 32 := 1#32
  let arg10 : BitVec 32 := Scf.iv c0_i32_1209 c1_i32_1211 k0_t70
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c4096_i32_1819 v2579
  let v2581 : Index := Scalar.indexCast v2580
  ![v2581.toNat]

def k0_chk70 (v2582 : IVec S16 32) : Prop :=
  (∀ a x, ((![v2582] : Fin 1 → IVec S16 32) a x).toNat < S100000.size a)
theorem k0_idx70_inb : ∀ (v2582 : IVec S16 32) (k0_hw70 : k0_chk70 v2582), ∀ a x, ((![v2582] : Fin 1 → IVec S16 32) a x).toNat < S100000.size a := fun v2582 k0_hw70 => k0_hw70
def k0_off163 (k0_t70 : Fin k0_t70_loop.trips) : Fin 2 → Nat :=
  let c1_i32_1821 : BitVec 32 := 1#32
  let v2585 : Index := Scalar.indexCast c1_i32_1821
  let c0_i32_1817 : BitVec 32 := 0#32
  let c0_i32_1209 : BitVec 32 := 0#32
  let c1_i32_1211 : BitVec 32 := 1#32
  let arg10 : BitVec 32 := Scf.iv c0_i32_1209 c1_i32_1211 k0_t70
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
@[reducible] def k0_t71_loop : Scf.Loop 32 :=
  let c0_i32_1223 : BitVec 32 := 0#32
  let c256_i32_1224 : BitVec 32 := 256#32
  let v1743 : BitVec 32 := Scalar.addi c0_i32_1223 c256_i32_1224
  let c1_i32_1225 : BitVec 32 := 1#32
  ⟨c0_i32_1223, v1743, c1_i32_1225⟩
def k0_off164 (k0_t71 : Fin k0_t71_loop.trips) : Fin 1 → Nat :=
  let c8192_i32_1819 : BitVec 32 := 8192#32
  let c0_i32_1817 : BitVec 32 := 0#32
  let c0_i32_1223 : BitVec 32 := 0#32
  let c1_i32_1225 : BitVec 32 := 1#32
  let arg10 : BitVec 32 := Scf.iv c0_i32_1223 c1_i32_1225 k0_t71
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c8192_i32_1819 v2579
  let v2581 : Index := Scalar.indexCast v2580
  ![v2581.toNat]

def k0_chk71 (v2582 : IVec S16 32) : Prop :=
  (∀ a x, ((![v2582] : Fin 1 → IVec S16 32) a x).toNat < S100000.size a)
theorem k0_idx71_inb : ∀ (v2582 : IVec S16 32) (k0_hw71 : k0_chk71 v2582), ∀ a x, ((![v2582] : Fin 1 → IVec S16 32) a x).toNat < S100000.size a := fun v2582 k0_hw71 => k0_hw71
def k0_off165 (k0_t71 : Fin k0_t71_loop.trips) : Fin 2 → Nat :=
  let c0_i32_1821 : BitVec 32 := 0#32
  let v2585 : Index := Scalar.indexCast c0_i32_1821
  let c0_i32_1817 : BitVec 32 := 0#32
  let c0_i32_1223 : BitVec 32 := 0#32
  let c1_i32_1225 : BitVec 32 := 1#32
  let arg10 : BitVec 32 := Scf.iv c0_i32_1223 c1_i32_1225 k0_t71
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t72_loop : Scf.Loop 32 :=
  let c0_i32_1237 : BitVec 32 := 0#32
  let c256_i32_1238 : BitVec 32 := 256#32
  let v1760 : BitVec 32 := Scalar.addi c0_i32_1237 c256_i32_1238
  let c1_i32_1239 : BitVec 32 := 1#32
  ⟨c0_i32_1237, v1760, c1_i32_1239⟩
def k0_off166 (k0_t72 : Fin k0_t72_loop.trips) : Fin 1 → Nat :=
  let c12288_i32_1819 : BitVec 32 := 12288#32
  let c0_i32_1817 : BitVec 32 := 0#32
  let c0_i32_1237 : BitVec 32 := 0#32
  let c1_i32_1239 : BitVec 32 := 1#32
  let arg10 : BitVec 32 := Scf.iv c0_i32_1237 c1_i32_1239 k0_t72
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c12288_i32_1819 v2579
  let v2581 : Index := Scalar.indexCast v2580
  ![v2581.toNat]

def k0_chk72 (v2582 : IVec S16 32) : Prop :=
  (∀ a x, ((![v2582] : Fin 1 → IVec S16 32) a x).toNat < S100000.size a)
theorem k0_idx72_inb : ∀ (v2582 : IVec S16 32) (k0_hw72 : k0_chk72 v2582), ∀ a x, ((![v2582] : Fin 1 → IVec S16 32) a x).toNat < S100000.size a := fun v2582 k0_hw72 => k0_hw72
def k0_off167 (k0_t72 : Fin k0_t72_loop.trips) : Fin 2 → Nat :=
  let c1_i32_1821 : BitVec 32 := 1#32
  let v2585 : Index := Scalar.indexCast c1_i32_1821
  let c0_i32_1817 : BitVec 32 := 0#32
  let c0_i32_1237 : BitVec 32 := 0#32
  let c1_i32_1239 : BitVec 32 := 1#32
  let arg10 : BitVec 32 := Scf.iv c0_i32_1237 c1_i32_1239 k0_t72
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
def k0_cond19 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c18_i32 : BitVec 32 := 18#32
  let v1769 : BitVec 32 := Scalar.addi v2 c18_i32
  let c0_i32_1247 : BitVec 32 := 0#32
  let v1771 : BitVec 1 := Scalar.cmpi .sgt v1769 c0_i32_1247
  let v1772 : BitVec 32 := Scalar.extui v1771
  let c0_i32_1248 : BitVec 32 := 0#32
  let v1773 : BitVec 1 := Scalar.cmpi .slt v1769 c0_i32_1248
  let v1774 : BitVec 32 := Scalar.extui v1773
  let v1775 : BitVec 32 := Scalar.subi v1772 v1774
  let c32_i32_1246 : BitVec 32 := 32#32
  let c0_i32_1249 : BitVec 32 := 0#32
  let v1776 : BitVec 1 := Scalar.cmpi .sgt c32_i32_1246 c0_i32_1249
  let v1777 : BitVec 32 := Scalar.extui v1776
  let c0_i32_1250 : BitVec 32 := 0#32
  let v1778 : BitVec 1 := Scalar.cmpi .slt c32_i32_1246 c0_i32_1250
  let v1779 : BitVec 32 := Scalar.extui v1778
  let v1780 : BitVec 32 := Scalar.subi v1777 v1779
  let v1781 : BitVec 1 := Scalar.cmpi .ne v1775 v1780
  let v1782 : BitVec 32 := Scalar.remsi v1769 c32_i32_1246
  let c0_i32_1251 : BitVec 32 := 0#32
  let v1783 : BitVec 1 := Scalar.cmpi .ne v1782 c0_i32_1251
  let v1784 : BitVec 1 := Scalar.andi v1781 v1783
  let v1770 : BitVec 32 := Scalar.divsi v1769 c32_i32_1246
  let c1_i32_1252 : BitVec 32 := 1#32
  let v1785 : BitVec 32 := Scalar.subi v1770 c1_i32_1252
  let v1786 : BitVec 32 := Scalar.select v1784 v1785 v1770
  let c17_i32 : BitVec 32 := 17#32
  let v1670 : BitVec 32 := Scalar.addi v2 c17_i32
  let c0_i32_1177 : BitVec 32 := 0#32
  let v1672 : BitVec 1 := Scalar.cmpi .sgt v1670 c0_i32_1177
  let v1673 : BitVec 32 := Scalar.extui v1672
  let c0_i32_1178 : BitVec 32 := 0#32
  let v1674 : BitVec 1 := Scalar.cmpi .slt v1670 c0_i32_1178
  let v1675 : BitVec 32 := Scalar.extui v1674
  let v1676 : BitVec 32 := Scalar.subi v1673 v1675
  let c32_i32_1176 : BitVec 32 := 32#32
  let c0_i32_1179 : BitVec 32 := 0#32
  let v1677 : BitVec 1 := Scalar.cmpi .sgt c32_i32_1176 c0_i32_1179
  let v1678 : BitVec 32 := Scalar.extui v1677
  let c0_i32_1180 : BitVec 32 := 0#32
  let v1679 : BitVec 1 := Scalar.cmpi .slt c32_i32_1176 c0_i32_1180
  let v1680 : BitVec 32 := Scalar.extui v1679
  let v1681 : BitVec 32 := Scalar.subi v1678 v1680
  let v1682 : BitVec 1 := Scalar.cmpi .ne v1676 v1681
  let v1683 : BitVec 32 := Scalar.remsi v1670 c32_i32_1176
  let c0_i32_1181 : BitVec 32 := 0#32
  let v1684 : BitVec 1 := Scalar.cmpi .ne v1683 c0_i32_1181
  let v1685 : BitVec 1 := Scalar.andi v1682 v1684
  let v1671 : BitVec 32 := Scalar.divsi v1670 c32_i32_1176
  let c1_i32_1182 : BitVec 32 := 1#32
  let v1686 : BitVec 32 := Scalar.subi v1671 c1_i32_1182
  let v1687 : BitVec 32 := Scalar.select v1685 v1686 v1671
  let v1797 : BitVec 1 := Scalar.cmpi .ne v1786 v1687
  let v1798 : BitVec 32 := Scalar.extui v1797
  let c0_i32_1259 : BitVec 32 := 0#32
  let v1799 : BitVec 1 := Scalar.cmpi .ne v1798 c0_i32_1259
  v1799

def k0_off168 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c18_i32 : BitVec 32 := 18#32
  let v1769 : BitVec 32 := Scalar.addi v2 c18_i32
  let c0_i32_1247 : BitVec 32 := 0#32
  let v1771 : BitVec 1 := Scalar.cmpi .sgt v1769 c0_i32_1247
  let v1772 : BitVec 32 := Scalar.extui v1771
  let c0_i32_1248 : BitVec 32 := 0#32
  let v1773 : BitVec 1 := Scalar.cmpi .slt v1769 c0_i32_1248
  let v1774 : BitVec 32 := Scalar.extui v1773
  let v1775 : BitVec 32 := Scalar.subi v1772 v1774
  let c32_i32_1246 : BitVec 32 := 32#32
  let c0_i32_1249 : BitVec 32 := 0#32
  let v1776 : BitVec 1 := Scalar.cmpi .sgt c32_i32_1246 c0_i32_1249
  let v1777 : BitVec 32 := Scalar.extui v1776
  let c0_i32_1250 : BitVec 32 := 0#32
  let v1778 : BitVec 1 := Scalar.cmpi .slt c32_i32_1246 c0_i32_1250
  let v1779 : BitVec 32 := Scalar.extui v1778
  let v1780 : BitVec 32 := Scalar.subi v1777 v1779
  let v1781 : BitVec 1 := Scalar.cmpi .ne v1775 v1780
  let v1782 : BitVec 32 := Scalar.remsi v1769 c32_i32_1246
  let c0_i32_1251 : BitVec 32 := 0#32
  let v1783 : BitVec 1 := Scalar.cmpi .ne v1782 c0_i32_1251
  let v1784 : BitVec 1 := Scalar.andi v1781 v1783
  let v1770 : BitVec 32 := Scalar.divsi v1769 c32_i32_1246
  let c1_i32_1252 : BitVec 32 := 1#32
  let v1785 : BitVec 32 := Scalar.subi v1770 c1_i32_1252
  let v1786 : BitVec 32 := Scalar.select v1784 v1785 v1770
  let c0_i32_1816_r36 : BitVec 32 := 0#32
  ![v1786.toNat, 0]
@[reducible] def k0_t73_loop : Scf.Loop 32 :=
  let c0_i32_1265 : BitVec 32 := 0#32
  let c256_i32_1266 : BitVec 32 := 256#32
  let v1808 : BitVec 32 := Scalar.addi c0_i32_1265 c256_i32_1266
  let c1_i32_1267 : BitVec 32 := 1#32
  ⟨c0_i32_1265, v1808, c1_i32_1267⟩
def k0_off169 (k0_t73 : Fin k0_t73_loop.trips) : Fin 1 → Nat :=
  let c0_i32_1819 : BitVec 32 := 0#32
  let c0_i32_1817 : BitVec 32 := 0#32
  let c0_i32_1265 : BitVec 32 := 0#32
  let c1_i32_1267 : BitVec 32 := 1#32
  let arg10 : BitVec 32 := Scf.iv c0_i32_1265 c1_i32_1267 k0_t73
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c0_i32_1819 v2579
  let v2581 : Index := Scalar.indexCast v2580
  ![v2581.toNat]

def k0_chk73 (v2582 : IVec S16 32) : Prop :=
  (∀ a x, ((![v2582] : Fin 1 → IVec S16 32) a x).toNat < S100000.size a)
theorem k0_idx73_inb : ∀ (v2582 : IVec S16 32) (k0_hw73 : k0_chk73 v2582), ∀ a x, ((![v2582] : Fin 1 → IVec S16 32) a x).toNat < S100000.size a := fun v2582 k0_hw73 => k0_hw73
def k0_off170 (k0_t73 : Fin k0_t73_loop.trips) : Fin 2 → Nat :=
  let c0_i32_1821 : BitVec 32 := 0#32
  let v2585 : Index := Scalar.indexCast c0_i32_1821
  let c0_i32_1817 : BitVec 32 := 0#32
  let c0_i32_1265 : BitVec 32 := 0#32
  let c1_i32_1267 : BitVec 32 := 1#32
  let arg10 : BitVec 32 := Scf.iv c0_i32_1265 c1_i32_1267 k0_t73
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t74_loop : Scf.Loop 32 :=
  let c0_i32_1279 : BitVec 32 := 0#32
  let c256_i32_1280 : BitVec 32 := 256#32
  let v1825 : BitVec 32 := Scalar.addi c0_i32_1279 c256_i32_1280
  let c1_i32_1281 : BitVec 32 := 1#32
  ⟨c0_i32_1279, v1825, c1_i32_1281⟩
def k0_off171 (k0_t74 : Fin k0_t74_loop.trips) : Fin 1 → Nat :=
  let c4096_i32_1819 : BitVec 32 := 4096#32
  let c0_i32_1817 : BitVec 32 := 0#32
  let c0_i32_1279 : BitVec 32 := 0#32
  let c1_i32_1281 : BitVec 32 := 1#32
  let arg10 : BitVec 32 := Scf.iv c0_i32_1279 c1_i32_1281 k0_t74
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c4096_i32_1819 v2579
  let v2581 : Index := Scalar.indexCast v2580
  ![v2581.toNat]

def k0_chk74 (v2582 : IVec S16 32) : Prop :=
  (∀ a x, ((![v2582] : Fin 1 → IVec S16 32) a x).toNat < S100000.size a)
theorem k0_idx74_inb : ∀ (v2582 : IVec S16 32) (k0_hw74 : k0_chk74 v2582), ∀ a x, ((![v2582] : Fin 1 → IVec S16 32) a x).toNat < S100000.size a := fun v2582 k0_hw74 => k0_hw74
def k0_off172 (k0_t74 : Fin k0_t74_loop.trips) : Fin 2 → Nat :=
  let c1_i32_1821 : BitVec 32 := 1#32
  let v2585 : Index := Scalar.indexCast c1_i32_1821
  let c0_i32_1817 : BitVec 32 := 0#32
  let c0_i32_1279 : BitVec 32 := 0#32
  let c1_i32_1281 : BitVec 32 := 1#32
  let arg10 : BitVec 32 := Scf.iv c0_i32_1279 c1_i32_1281 k0_t74
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
@[reducible] def k0_t75_loop : Scf.Loop 32 :=
  let c0_i32_1293 : BitVec 32 := 0#32
  let c256_i32_1294 : BitVec 32 := 256#32
  let v1842 : BitVec 32 := Scalar.addi c0_i32_1293 c256_i32_1294
  let c1_i32_1295 : BitVec 32 := 1#32
  ⟨c0_i32_1293, v1842, c1_i32_1295⟩
def k0_off173 (k0_t75 : Fin k0_t75_loop.trips) : Fin 1 → Nat :=
  let c8192_i32_1819 : BitVec 32 := 8192#32
  let c0_i32_1817 : BitVec 32 := 0#32
  let c0_i32_1293 : BitVec 32 := 0#32
  let c1_i32_1295 : BitVec 32 := 1#32
  let arg10 : BitVec 32 := Scf.iv c0_i32_1293 c1_i32_1295 k0_t75
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c8192_i32_1819 v2579
  let v2581 : Index := Scalar.indexCast v2580
  ![v2581.toNat]

def k0_chk75 (v2582 : IVec S16 32) : Prop :=
  (∀ a x, ((![v2582] : Fin 1 → IVec S16 32) a x).toNat < S100000.size a)
theorem k0_idx75_inb : ∀ (v2582 : IVec S16 32) (k0_hw75 : k0_chk75 v2582), ∀ a x, ((![v2582] : Fin 1 → IVec S16 32) a x).toNat < S100000.size a := fun v2582 k0_hw75 => k0_hw75
def k0_off174 (k0_t75 : Fin k0_t75_loop.trips) : Fin 2 → Nat :=
  let c0_i32_1821 : BitVec 32 := 0#32
  let v2585 : Index := Scalar.indexCast c0_i32_1821
  let c0_i32_1817 : BitVec 32 := 0#32
  let c0_i32_1293 : BitVec 32 := 0#32
  let c1_i32_1295 : BitVec 32 := 1#32
  let arg10 : BitVec 32 := Scf.iv c0_i32_1293 c1_i32_1295 k0_t75
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t76_loop : Scf.Loop 32 :=
  let c0_i32_1307 : BitVec 32 := 0#32
  let c256_i32_1308 : BitVec 32 := 256#32
  let v1859 : BitVec 32 := Scalar.addi c0_i32_1307 c256_i32_1308
  let c1_i32_1309 : BitVec 32 := 1#32
  ⟨c0_i32_1307, v1859, c1_i32_1309⟩
def k0_off175 (k0_t76 : Fin k0_t76_loop.trips) : Fin 1 → Nat :=
  let c12288_i32_1819 : BitVec 32 := 12288#32
  let c0_i32_1817 : BitVec 32 := 0#32
  let c0_i32_1307 : BitVec 32 := 0#32
  let c1_i32_1309 : BitVec 32 := 1#32
  let arg10 : BitVec 32 := Scf.iv c0_i32_1307 c1_i32_1309 k0_t76
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c12288_i32_1819 v2579
  let v2581 : Index := Scalar.indexCast v2580
  ![v2581.toNat]

def k0_chk76 (v2582 : IVec S16 32) : Prop :=
  (∀ a x, ((![v2582] : Fin 1 → IVec S16 32) a x).toNat < S100000.size a)
theorem k0_idx76_inb : ∀ (v2582 : IVec S16 32) (k0_hw76 : k0_chk76 v2582), ∀ a x, ((![v2582] : Fin 1 → IVec S16 32) a x).toNat < S100000.size a := fun v2582 k0_hw76 => k0_hw76
def k0_off176 (k0_t76 : Fin k0_t76_loop.trips) : Fin 2 → Nat :=
  let c1_i32_1821 : BitVec 32 := 1#32
  let v2585 : Index := Scalar.indexCast c1_i32_1821
  let c0_i32_1817 : BitVec 32 := 0#32
  let c0_i32_1307 : BitVec 32 := 0#32
  let c1_i32_1309 : BitVec 32 := 1#32
  let arg10 : BitVec 32 := Scf.iv c0_i32_1307 c1_i32_1309 k0_t76
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
def k0_cond20 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c19_i32 : BitVec 32 := 19#32
  let v1868 : BitVec 32 := Scalar.addi v2 c19_i32
  let c0_i32_1317 : BitVec 32 := 0#32
  let v1870 : BitVec 1 := Scalar.cmpi .sgt v1868 c0_i32_1317
  let v1871 : BitVec 32 := Scalar.extui v1870
  let c0_i32_1318 : BitVec 32 := 0#32
  let v1872 : BitVec 1 := Scalar.cmpi .slt v1868 c0_i32_1318
  let v1873 : BitVec 32 := Scalar.extui v1872
  let v1874 : BitVec 32 := Scalar.subi v1871 v1873
  let c32_i32_1316 : BitVec 32 := 32#32
  let c0_i32_1319 : BitVec 32 := 0#32
  let v1875 : BitVec 1 := Scalar.cmpi .sgt c32_i32_1316 c0_i32_1319
  let v1876 : BitVec 32 := Scalar.extui v1875
  let c0_i32_1320 : BitVec 32 := 0#32
  let v1877 : BitVec 1 := Scalar.cmpi .slt c32_i32_1316 c0_i32_1320
  let v1878 : BitVec 32 := Scalar.extui v1877
  let v1879 : BitVec 32 := Scalar.subi v1876 v1878
  let v1880 : BitVec 1 := Scalar.cmpi .ne v1874 v1879
  let v1881 : BitVec 32 := Scalar.remsi v1868 c32_i32_1316
  let c0_i32_1321 : BitVec 32 := 0#32
  let v1882 : BitVec 1 := Scalar.cmpi .ne v1881 c0_i32_1321
  let v1883 : BitVec 1 := Scalar.andi v1880 v1882
  let v1869 : BitVec 32 := Scalar.divsi v1868 c32_i32_1316
  let c1_i32_1322 : BitVec 32 := 1#32
  let v1884 : BitVec 32 := Scalar.subi v1869 c1_i32_1322
  let v1885 : BitVec 32 := Scalar.select v1883 v1884 v1869
  let c18_i32 : BitVec 32 := 18#32
  let v1769 : BitVec 32 := Scalar.addi v2 c18_i32
  let c0_i32_1247 : BitVec 32 := 0#32
  let v1771 : BitVec 1 := Scalar.cmpi .sgt v1769 c0_i32_1247
  let v1772 : BitVec 32 := Scalar.extui v1771
  let c0_i32_1248 : BitVec 32 := 0#32
  let v1773 : BitVec 1 := Scalar.cmpi .slt v1769 c0_i32_1248
  let v1774 : BitVec 32 := Scalar.extui v1773
  let v1775 : BitVec 32 := Scalar.subi v1772 v1774
  let c32_i32_1246 : BitVec 32 := 32#32
  let c0_i32_1249 : BitVec 32 := 0#32
  let v1776 : BitVec 1 := Scalar.cmpi .sgt c32_i32_1246 c0_i32_1249
  let v1777 : BitVec 32 := Scalar.extui v1776
  let c0_i32_1250 : BitVec 32 := 0#32
  let v1778 : BitVec 1 := Scalar.cmpi .slt c32_i32_1246 c0_i32_1250
  let v1779 : BitVec 32 := Scalar.extui v1778
  let v1780 : BitVec 32 := Scalar.subi v1777 v1779
  let v1781 : BitVec 1 := Scalar.cmpi .ne v1775 v1780
  let v1782 : BitVec 32 := Scalar.remsi v1769 c32_i32_1246
  let c0_i32_1251 : BitVec 32 := 0#32
  let v1783 : BitVec 1 := Scalar.cmpi .ne v1782 c0_i32_1251
  let v1784 : BitVec 1 := Scalar.andi v1781 v1783
  let v1770 : BitVec 32 := Scalar.divsi v1769 c32_i32_1246
  let c1_i32_1252 : BitVec 32 := 1#32
  let v1785 : BitVec 32 := Scalar.subi v1770 c1_i32_1252
  let v1786 : BitVec 32 := Scalar.select v1784 v1785 v1770
  let v1896 : BitVec 1 := Scalar.cmpi .ne v1885 v1786
  let v1897 : BitVec 32 := Scalar.extui v1896
  let c0_i32_1329 : BitVec 32 := 0#32
  let v1898 : BitVec 1 := Scalar.cmpi .ne v1897 c0_i32_1329
  v1898

def k0_off177 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c19_i32 : BitVec 32 := 19#32
  let v1868 : BitVec 32 := Scalar.addi v2 c19_i32
  let c0_i32_1317 : BitVec 32 := 0#32
  let v1870 : BitVec 1 := Scalar.cmpi .sgt v1868 c0_i32_1317
  let v1871 : BitVec 32 := Scalar.extui v1870
  let c0_i32_1318 : BitVec 32 := 0#32
  let v1872 : BitVec 1 := Scalar.cmpi .slt v1868 c0_i32_1318
  let v1873 : BitVec 32 := Scalar.extui v1872
  let v1874 : BitVec 32 := Scalar.subi v1871 v1873
  let c32_i32_1316 : BitVec 32 := 32#32
  let c0_i32_1319 : BitVec 32 := 0#32
  let v1875 : BitVec 1 := Scalar.cmpi .sgt c32_i32_1316 c0_i32_1319
  let v1876 : BitVec 32 := Scalar.extui v1875
  let c0_i32_1320 : BitVec 32 := 0#32
  let v1877 : BitVec 1 := Scalar.cmpi .slt c32_i32_1316 c0_i32_1320
  let v1878 : BitVec 32 := Scalar.extui v1877
  let v1879 : BitVec 32 := Scalar.subi v1876 v1878
  let v1880 : BitVec 1 := Scalar.cmpi .ne v1874 v1879
  let v1881 : BitVec 32 := Scalar.remsi v1868 c32_i32_1316
  let c0_i32_1321 : BitVec 32 := 0#32
  let v1882 : BitVec 1 := Scalar.cmpi .ne v1881 c0_i32_1321
  let v1883 : BitVec 1 := Scalar.andi v1880 v1882
  let v1869 : BitVec 32 := Scalar.divsi v1868 c32_i32_1316
  let c1_i32_1322 : BitVec 32 := 1#32
  let v1884 : BitVec 32 := Scalar.subi v1869 c1_i32_1322
  let v1885 : BitVec 32 := Scalar.select v1883 v1884 v1869
  let c0_i32_1816_r38 : BitVec 32 := 0#32
  ![v1885.toNat, 0]
@[reducible] def k0_t77_loop : Scf.Loop 32 :=
  let c0_i32_1335 : BitVec 32 := 0#32
  let c256_i32_1336 : BitVec 32 := 256#32
  let v1907 : BitVec 32 := Scalar.addi c0_i32_1335 c256_i32_1336
  let c1_i32_1337 : BitVec 32 := 1#32
  ⟨c0_i32_1335, v1907, c1_i32_1337⟩
def k0_off178 (k0_t77 : Fin k0_t77_loop.trips) : Fin 1 → Nat :=
  let c0_i32_1819 : BitVec 32 := 0#32
  let c0_i32_1817 : BitVec 32 := 0#32
  let c0_i32_1335 : BitVec 32 := 0#32
  let c1_i32_1337 : BitVec 32 := 1#32
  let arg10 : BitVec 32 := Scf.iv c0_i32_1335 c1_i32_1337 k0_t77
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c0_i32_1819 v2579
  let v2581 : Index := Scalar.indexCast v2580
  ![v2581.toNat]

def k0_chk77 (v2582 : IVec S16 32) : Prop :=
  (∀ a x, ((![v2582] : Fin 1 → IVec S16 32) a x).toNat < S100000.size a)
theorem k0_idx77_inb : ∀ (v2582 : IVec S16 32) (k0_hw77 : k0_chk77 v2582), ∀ a x, ((![v2582] : Fin 1 → IVec S16 32) a x).toNat < S100000.size a := fun v2582 k0_hw77 => k0_hw77
def k0_off179 (k0_t77 : Fin k0_t77_loop.trips) : Fin 2 → Nat :=
  let c0_i32_1821 : BitVec 32 := 0#32
  let v2585 : Index := Scalar.indexCast c0_i32_1821
  let c0_i32_1817 : BitVec 32 := 0#32
  let c0_i32_1335 : BitVec 32 := 0#32
  let c1_i32_1337 : BitVec 32 := 1#32
  let arg10 : BitVec 32 := Scf.iv c0_i32_1335 c1_i32_1337 k0_t77
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t78_loop : Scf.Loop 32 :=
  let c0_i32_1349 : BitVec 32 := 0#32
  let c256_i32_1350 : BitVec 32 := 256#32
  let v1924 : BitVec 32 := Scalar.addi c0_i32_1349 c256_i32_1350
  let c1_i32_1351 : BitVec 32 := 1#32
  ⟨c0_i32_1349, v1924, c1_i32_1351⟩
def k0_off180 (k0_t78 : Fin k0_t78_loop.trips) : Fin 1 → Nat :=
  let c4096_i32_1819 : BitVec 32 := 4096#32
  let c0_i32_1817 : BitVec 32 := 0#32
  let c0_i32_1349 : BitVec 32 := 0#32
  let c1_i32_1351 : BitVec 32 := 1#32
  let arg10 : BitVec 32 := Scf.iv c0_i32_1349 c1_i32_1351 k0_t78
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c4096_i32_1819 v2579
  let v2581 : Index := Scalar.indexCast v2580
  ![v2581.toNat]

def k0_chk78 (v2582 : IVec S16 32) : Prop :=
  (∀ a x, ((![v2582] : Fin 1 → IVec S16 32) a x).toNat < S100000.size a)
theorem k0_idx78_inb : ∀ (v2582 : IVec S16 32) (k0_hw78 : k0_chk78 v2582), ∀ a x, ((![v2582] : Fin 1 → IVec S16 32) a x).toNat < S100000.size a := fun v2582 k0_hw78 => k0_hw78
def k0_off181 (k0_t78 : Fin k0_t78_loop.trips) : Fin 2 → Nat :=
  let c1_i32_1821 : BitVec 32 := 1#32
  let v2585 : Index := Scalar.indexCast c1_i32_1821
  let c0_i32_1817 : BitVec 32 := 0#32
  let c0_i32_1349 : BitVec 32 := 0#32
  let c1_i32_1351 : BitVec 32 := 1#32
  let arg10 : BitVec 32 := Scf.iv c0_i32_1349 c1_i32_1351 k0_t78
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
@[reducible] def k0_t79_loop : Scf.Loop 32 :=
  let c0_i32_1363 : BitVec 32 := 0#32
  let c256_i32_1364 : BitVec 32 := 256#32
  let v1941 : BitVec 32 := Scalar.addi c0_i32_1363 c256_i32_1364
  let c1_i32_1365 : BitVec 32 := 1#32
  ⟨c0_i32_1363, v1941, c1_i32_1365⟩
def k0_off182 (k0_t79 : Fin k0_t79_loop.trips) : Fin 1 → Nat :=
  let c8192_i32_1819 : BitVec 32 := 8192#32
  let c0_i32_1817 : BitVec 32 := 0#32
  let c0_i32_1363 : BitVec 32 := 0#32
  let c1_i32_1365 : BitVec 32 := 1#32
  let arg10 : BitVec 32 := Scf.iv c0_i32_1363 c1_i32_1365 k0_t79
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c8192_i32_1819 v2579
  let v2581 : Index := Scalar.indexCast v2580
  ![v2581.toNat]

def k0_chk79 (v2582 : IVec S16 32) : Prop :=
  (∀ a x, ((![v2582] : Fin 1 → IVec S16 32) a x).toNat < S100000.size a)
theorem k0_idx79_inb : ∀ (v2582 : IVec S16 32) (k0_hw79 : k0_chk79 v2582), ∀ a x, ((![v2582] : Fin 1 → IVec S16 32) a x).toNat < S100000.size a := fun v2582 k0_hw79 => k0_hw79
def k0_off183 (k0_t79 : Fin k0_t79_loop.trips) : Fin 2 → Nat :=
  let c0_i32_1821 : BitVec 32 := 0#32
  let v2585 : Index := Scalar.indexCast c0_i32_1821
  let c0_i32_1817 : BitVec 32 := 0#32
  let c0_i32_1363 : BitVec 32 := 0#32
  let c1_i32_1365 : BitVec 32 := 1#32
  let arg10 : BitVec 32 := Scf.iv c0_i32_1363 c1_i32_1365 k0_t79
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t80_loop : Scf.Loop 32 :=
  let c0_i32_1377 : BitVec 32 := 0#32
  let c256_i32_1378 : BitVec 32 := 256#32
  let v1958 : BitVec 32 := Scalar.addi c0_i32_1377 c256_i32_1378
  let c1_i32_1379 : BitVec 32 := 1#32
  ⟨c0_i32_1377, v1958, c1_i32_1379⟩
def k0_off184 (k0_t80 : Fin k0_t80_loop.trips) : Fin 1 → Nat :=
  let c12288_i32_1819 : BitVec 32 := 12288#32
  let c0_i32_1817 : BitVec 32 := 0#32
  let c0_i32_1377 : BitVec 32 := 0#32
  let c1_i32_1379 : BitVec 32 := 1#32
  let arg10 : BitVec 32 := Scf.iv c0_i32_1377 c1_i32_1379 k0_t80
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c12288_i32_1819 v2579
  let v2581 : Index := Scalar.indexCast v2580
  ![v2581.toNat]

def k0_chk80 (v2582 : IVec S16 32) : Prop :=
  (∀ a x, ((![v2582] : Fin 1 → IVec S16 32) a x).toNat < S100000.size a)
theorem k0_idx80_inb : ∀ (v2582 : IVec S16 32) (k0_hw80 : k0_chk80 v2582), ∀ a x, ((![v2582] : Fin 1 → IVec S16 32) a x).toNat < S100000.size a := fun v2582 k0_hw80 => k0_hw80
def k0_off185 (k0_t80 : Fin k0_t80_loop.trips) : Fin 2 → Nat :=
  let c1_i32_1821 : BitVec 32 := 1#32
  let v2585 : Index := Scalar.indexCast c1_i32_1821
  let c0_i32_1817 : BitVec 32 := 0#32
  let c0_i32_1377 : BitVec 32 := 0#32
  let c1_i32_1379 : BitVec 32 := 1#32
  let arg10 : BitVec 32 := Scf.iv c0_i32_1377 c1_i32_1379 k0_t80
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
def k0_cond21 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c20_i32 : BitVec 32 := 20#32
  let v1967 : BitVec 32 := Scalar.addi v2 c20_i32
  let c0_i32_1387 : BitVec 32 := 0#32
  let v1969 : BitVec 1 := Scalar.cmpi .sgt v1967 c0_i32_1387
  let v1970 : BitVec 32 := Scalar.extui v1969
  let c0_i32_1388 : BitVec 32 := 0#32
  let v1971 : BitVec 1 := Scalar.cmpi .slt v1967 c0_i32_1388
  let v1972 : BitVec 32 := Scalar.extui v1971
  let v1973 : BitVec 32 := Scalar.subi v1970 v1972
  let c32_i32_1386 : BitVec 32 := 32#32
  let c0_i32_1389 : BitVec 32 := 0#32
  let v1974 : BitVec 1 := Scalar.cmpi .sgt c32_i32_1386 c0_i32_1389
  let v1975 : BitVec 32 := Scalar.extui v1974
  let c0_i32_1390 : BitVec 32 := 0#32
  let v1976 : BitVec 1 := Scalar.cmpi .slt c32_i32_1386 c0_i32_1390
  let v1977 : BitVec 32 := Scalar.extui v1976
  let v1978 : BitVec 32 := Scalar.subi v1975 v1977
  let v1979 : BitVec 1 := Scalar.cmpi .ne v1973 v1978
  let v1980 : BitVec 32 := Scalar.remsi v1967 c32_i32_1386
  let c0_i32_1391 : BitVec 32 := 0#32
  let v1981 : BitVec 1 := Scalar.cmpi .ne v1980 c0_i32_1391
  let v1982 : BitVec 1 := Scalar.andi v1979 v1981
  let v1968 : BitVec 32 := Scalar.divsi v1967 c32_i32_1386
  let c1_i32_1392 : BitVec 32 := 1#32
  let v1983 : BitVec 32 := Scalar.subi v1968 c1_i32_1392
  let v1984 : BitVec 32 := Scalar.select v1982 v1983 v1968
  let c19_i32 : BitVec 32 := 19#32
  let v1868 : BitVec 32 := Scalar.addi v2 c19_i32
  let c0_i32_1317 : BitVec 32 := 0#32
  let v1870 : BitVec 1 := Scalar.cmpi .sgt v1868 c0_i32_1317
  let v1871 : BitVec 32 := Scalar.extui v1870
  let c0_i32_1318 : BitVec 32 := 0#32
  let v1872 : BitVec 1 := Scalar.cmpi .slt v1868 c0_i32_1318
  let v1873 : BitVec 32 := Scalar.extui v1872
  let v1874 : BitVec 32 := Scalar.subi v1871 v1873
  let c32_i32_1316 : BitVec 32 := 32#32
  let c0_i32_1319 : BitVec 32 := 0#32
  let v1875 : BitVec 1 := Scalar.cmpi .sgt c32_i32_1316 c0_i32_1319
  let v1876 : BitVec 32 := Scalar.extui v1875
  let c0_i32_1320 : BitVec 32 := 0#32
  let v1877 : BitVec 1 := Scalar.cmpi .slt c32_i32_1316 c0_i32_1320
  let v1878 : BitVec 32 := Scalar.extui v1877
  let v1879 : BitVec 32 := Scalar.subi v1876 v1878
  let v1880 : BitVec 1 := Scalar.cmpi .ne v1874 v1879
  let v1881 : BitVec 32 := Scalar.remsi v1868 c32_i32_1316
  let c0_i32_1321 : BitVec 32 := 0#32
  let v1882 : BitVec 1 := Scalar.cmpi .ne v1881 c0_i32_1321
  let v1883 : BitVec 1 := Scalar.andi v1880 v1882
  let v1869 : BitVec 32 := Scalar.divsi v1868 c32_i32_1316
  let c1_i32_1322 : BitVec 32 := 1#32
  let v1884 : BitVec 32 := Scalar.subi v1869 c1_i32_1322
  let v1885 : BitVec 32 := Scalar.select v1883 v1884 v1869
  let v1995 : BitVec 1 := Scalar.cmpi .ne v1984 v1885
  let v1996 : BitVec 32 := Scalar.extui v1995
  let c0_i32_1399 : BitVec 32 := 0#32
  let v1997 : BitVec 1 := Scalar.cmpi .ne v1996 c0_i32_1399
  v1997

def k0_off186 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c20_i32 : BitVec 32 := 20#32
  let v1967 : BitVec 32 := Scalar.addi v2 c20_i32
  let c0_i32_1387 : BitVec 32 := 0#32
  let v1969 : BitVec 1 := Scalar.cmpi .sgt v1967 c0_i32_1387
  let v1970 : BitVec 32 := Scalar.extui v1969
  let c0_i32_1388 : BitVec 32 := 0#32
  let v1971 : BitVec 1 := Scalar.cmpi .slt v1967 c0_i32_1388
  let v1972 : BitVec 32 := Scalar.extui v1971
  let v1973 : BitVec 32 := Scalar.subi v1970 v1972
  let c32_i32_1386 : BitVec 32 := 32#32
  let c0_i32_1389 : BitVec 32 := 0#32
  let v1974 : BitVec 1 := Scalar.cmpi .sgt c32_i32_1386 c0_i32_1389
  let v1975 : BitVec 32 := Scalar.extui v1974
  let c0_i32_1390 : BitVec 32 := 0#32
  let v1976 : BitVec 1 := Scalar.cmpi .slt c32_i32_1386 c0_i32_1390
  let v1977 : BitVec 32 := Scalar.extui v1976
  let v1978 : BitVec 32 := Scalar.subi v1975 v1977
  let v1979 : BitVec 1 := Scalar.cmpi .ne v1973 v1978
  let v1980 : BitVec 32 := Scalar.remsi v1967 c32_i32_1386
  let c0_i32_1391 : BitVec 32 := 0#32
  let v1981 : BitVec 1 := Scalar.cmpi .ne v1980 c0_i32_1391
  let v1982 : BitVec 1 := Scalar.andi v1979 v1981
  let v1968 : BitVec 32 := Scalar.divsi v1967 c32_i32_1386
  let c1_i32_1392 : BitVec 32 := 1#32
  let v1983 : BitVec 32 := Scalar.subi v1968 c1_i32_1392
  let v1984 : BitVec 32 := Scalar.select v1982 v1983 v1968
  let c0_i32_1816_r40 : BitVec 32 := 0#32
  ![v1984.toNat, 0]
@[reducible] def k0_t81_loop : Scf.Loop 32 :=
  let c0_i32_1405 : BitVec 32 := 0#32
  let c256_i32_1406 : BitVec 32 := 256#32
  let v2006 : BitVec 32 := Scalar.addi c0_i32_1405 c256_i32_1406
  let c1_i32_1407 : BitVec 32 := 1#32
  ⟨c0_i32_1405, v2006, c1_i32_1407⟩
def k0_off187 (k0_t81 : Fin k0_t81_loop.trips) : Fin 1 → Nat :=
  let c0_i32_1819 : BitVec 32 := 0#32
  let c0_i32_1817 : BitVec 32 := 0#32
  let c0_i32_1405 : BitVec 32 := 0#32
  let c1_i32_1407 : BitVec 32 := 1#32
  let arg10 : BitVec 32 := Scf.iv c0_i32_1405 c1_i32_1407 k0_t81
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c0_i32_1819 v2579
  let v2581 : Index := Scalar.indexCast v2580
  ![v2581.toNat]

def k0_chk81 (v2582 : IVec S16 32) : Prop :=
  (∀ a x, ((![v2582] : Fin 1 → IVec S16 32) a x).toNat < S100000.size a)
theorem k0_idx81_inb : ∀ (v2582 : IVec S16 32) (k0_hw81 : k0_chk81 v2582), ∀ a x, ((![v2582] : Fin 1 → IVec S16 32) a x).toNat < S100000.size a := fun v2582 k0_hw81 => k0_hw81
def k0_off188 (k0_t81 : Fin k0_t81_loop.trips) : Fin 2 → Nat :=
  let c0_i32_1821 : BitVec 32 := 0#32
  let v2585 : Index := Scalar.indexCast c0_i32_1821
  let c0_i32_1817 : BitVec 32 := 0#32
  let c0_i32_1405 : BitVec 32 := 0#32
  let c1_i32_1407 : BitVec 32 := 1#32
  let arg10 : BitVec 32 := Scf.iv c0_i32_1405 c1_i32_1407 k0_t81
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t82_loop : Scf.Loop 32 :=
  let c0_i32_1419 : BitVec 32 := 0#32
  let c256_i32_1420 : BitVec 32 := 256#32
  let v2023 : BitVec 32 := Scalar.addi c0_i32_1419 c256_i32_1420
  let c1_i32_1421 : BitVec 32 := 1#32
  ⟨c0_i32_1419, v2023, c1_i32_1421⟩
def k0_off189 (k0_t82 : Fin k0_t82_loop.trips) : Fin 1 → Nat :=
  let c4096_i32_1819 : BitVec 32 := 4096#32
  let c0_i32_1817 : BitVec 32 := 0#32
  let c0_i32_1419 : BitVec 32 := 0#32
  let c1_i32_1421 : BitVec 32 := 1#32
  let arg10 : BitVec 32 := Scf.iv c0_i32_1419 c1_i32_1421 k0_t82
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c4096_i32_1819 v2579
  let v2581 : Index := Scalar.indexCast v2580
  ![v2581.toNat]

def k0_chk82 (v2582 : IVec S16 32) : Prop :=
  (∀ a x, ((![v2582] : Fin 1 → IVec S16 32) a x).toNat < S100000.size a)
theorem k0_idx82_inb : ∀ (v2582 : IVec S16 32) (k0_hw82 : k0_chk82 v2582), ∀ a x, ((![v2582] : Fin 1 → IVec S16 32) a x).toNat < S100000.size a := fun v2582 k0_hw82 => k0_hw82
def k0_off190 (k0_t82 : Fin k0_t82_loop.trips) : Fin 2 → Nat :=
  let c1_i32_1821 : BitVec 32 := 1#32
  let v2585 : Index := Scalar.indexCast c1_i32_1821
  let c0_i32_1817 : BitVec 32 := 0#32
  let c0_i32_1419 : BitVec 32 := 0#32
  let c1_i32_1421 : BitVec 32 := 1#32
  let arg10 : BitVec 32 := Scf.iv c0_i32_1419 c1_i32_1421 k0_t82
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
@[reducible] def k0_t83_loop : Scf.Loop 32 :=
  let c0_i32_1433 : BitVec 32 := 0#32
  let c256_i32_1434 : BitVec 32 := 256#32
  let v2040 : BitVec 32 := Scalar.addi c0_i32_1433 c256_i32_1434
  let c1_i32_1435 : BitVec 32 := 1#32
  ⟨c0_i32_1433, v2040, c1_i32_1435⟩
def k0_off191 (k0_t83 : Fin k0_t83_loop.trips) : Fin 1 → Nat :=
  let c8192_i32_1819 : BitVec 32 := 8192#32
  let c0_i32_1817 : BitVec 32 := 0#32
  let c0_i32_1433 : BitVec 32 := 0#32
  let c1_i32_1435 : BitVec 32 := 1#32
  let arg10 : BitVec 32 := Scf.iv c0_i32_1433 c1_i32_1435 k0_t83
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c8192_i32_1819 v2579
  let v2581 : Index := Scalar.indexCast v2580
  ![v2581.toNat]

def k0_chk83 (v2582 : IVec S16 32) : Prop :=
  (∀ a x, ((![v2582] : Fin 1 → IVec S16 32) a x).toNat < S100000.size a)
theorem k0_idx83_inb : ∀ (v2582 : IVec S16 32) (k0_hw83 : k0_chk83 v2582), ∀ a x, ((![v2582] : Fin 1 → IVec S16 32) a x).toNat < S100000.size a := fun v2582 k0_hw83 => k0_hw83
def k0_off192 (k0_t83 : Fin k0_t83_loop.trips) : Fin 2 → Nat :=
  let c0_i32_1821 : BitVec 32 := 0#32
  let v2585 : Index := Scalar.indexCast c0_i32_1821
  let c0_i32_1817 : BitVec 32 := 0#32
  let c0_i32_1433 : BitVec 32 := 0#32
  let c1_i32_1435 : BitVec 32 := 1#32
  let arg10 : BitVec 32 := Scf.iv c0_i32_1433 c1_i32_1435 k0_t83
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t84_loop : Scf.Loop 32 :=
  let c0_i32_1447 : BitVec 32 := 0#32
  let c256_i32_1448 : BitVec 32 := 256#32
  let v2057 : BitVec 32 := Scalar.addi c0_i32_1447 c256_i32_1448
  let c1_i32_1449 : BitVec 32 := 1#32
  ⟨c0_i32_1447, v2057, c1_i32_1449⟩
def k0_off193 (k0_t84 : Fin k0_t84_loop.trips) : Fin 1 → Nat :=
  let c12288_i32_1819 : BitVec 32 := 12288#32
  let c0_i32_1817 : BitVec 32 := 0#32
  let c0_i32_1447 : BitVec 32 := 0#32
  let c1_i32_1449 : BitVec 32 := 1#32
  let arg10 : BitVec 32 := Scf.iv c0_i32_1447 c1_i32_1449 k0_t84
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c12288_i32_1819 v2579
  let v2581 : Index := Scalar.indexCast v2580
  ![v2581.toNat]

def k0_chk84 (v2582 : IVec S16 32) : Prop :=
  (∀ a x, ((![v2582] : Fin 1 → IVec S16 32) a x).toNat < S100000.size a)
theorem k0_idx84_inb : ∀ (v2582 : IVec S16 32) (k0_hw84 : k0_chk84 v2582), ∀ a x, ((![v2582] : Fin 1 → IVec S16 32) a x).toNat < S100000.size a := fun v2582 k0_hw84 => k0_hw84
def k0_off194 (k0_t84 : Fin k0_t84_loop.trips) : Fin 2 → Nat :=
  let c1_i32_1821 : BitVec 32 := 1#32
  let v2585 : Index := Scalar.indexCast c1_i32_1821
  let c0_i32_1817 : BitVec 32 := 0#32
  let c0_i32_1447 : BitVec 32 := 0#32
  let c1_i32_1449 : BitVec 32 := 1#32
  let arg10 : BitVec 32 := Scf.iv c0_i32_1447 c1_i32_1449 k0_t84
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
def k0_cond22 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c21_i32 : BitVec 32 := 21#32
  let v2066 : BitVec 32 := Scalar.addi v2 c21_i32
  let c0_i32_1457 : BitVec 32 := 0#32
  let v2068 : BitVec 1 := Scalar.cmpi .sgt v2066 c0_i32_1457
  let v2069 : BitVec 32 := Scalar.extui v2068
  let c0_i32_1458 : BitVec 32 := 0#32
  let v2070 : BitVec 1 := Scalar.cmpi .slt v2066 c0_i32_1458
  let v2071 : BitVec 32 := Scalar.extui v2070
  let v2072 : BitVec 32 := Scalar.subi v2069 v2071
  let c32_i32_1456 : BitVec 32 := 32#32
  let c0_i32_1459 : BitVec 32 := 0#32
  let v2073 : BitVec 1 := Scalar.cmpi .sgt c32_i32_1456 c0_i32_1459
  let v2074 : BitVec 32 := Scalar.extui v2073
  let c0_i32_1460 : BitVec 32 := 0#32
  let v2075 : BitVec 1 := Scalar.cmpi .slt c32_i32_1456 c0_i32_1460
  let v2076 : BitVec 32 := Scalar.extui v2075
  let v2077 : BitVec 32 := Scalar.subi v2074 v2076
  let v2078 : BitVec 1 := Scalar.cmpi .ne v2072 v2077
  let v2079 : BitVec 32 := Scalar.remsi v2066 c32_i32_1456
  let c0_i32_1461 : BitVec 32 := 0#32
  let v2080 : BitVec 1 := Scalar.cmpi .ne v2079 c0_i32_1461
  let v2081 : BitVec 1 := Scalar.andi v2078 v2080
  let v2067 : BitVec 32 := Scalar.divsi v2066 c32_i32_1456
  let c1_i32_1462 : BitVec 32 := 1#32
  let v2082 : BitVec 32 := Scalar.subi v2067 c1_i32_1462
  let v2083 : BitVec 32 := Scalar.select v2081 v2082 v2067
  let c20_i32 : BitVec 32 := 20#32
  let v1967 : BitVec 32 := Scalar.addi v2 c20_i32
  let c0_i32_1387 : BitVec 32 := 0#32
  let v1969 : BitVec 1 := Scalar.cmpi .sgt v1967 c0_i32_1387
  let v1970 : BitVec 32 := Scalar.extui v1969
  let c0_i32_1388 : BitVec 32 := 0#32
  let v1971 : BitVec 1 := Scalar.cmpi .slt v1967 c0_i32_1388
  let v1972 : BitVec 32 := Scalar.extui v1971
  let v1973 : BitVec 32 := Scalar.subi v1970 v1972
  let c32_i32_1386 : BitVec 32 := 32#32
  let c0_i32_1389 : BitVec 32 := 0#32
  let v1974 : BitVec 1 := Scalar.cmpi .sgt c32_i32_1386 c0_i32_1389
  let v1975 : BitVec 32 := Scalar.extui v1974
  let c0_i32_1390 : BitVec 32 := 0#32
  let v1976 : BitVec 1 := Scalar.cmpi .slt c32_i32_1386 c0_i32_1390
  let v1977 : BitVec 32 := Scalar.extui v1976
  let v1978 : BitVec 32 := Scalar.subi v1975 v1977
  let v1979 : BitVec 1 := Scalar.cmpi .ne v1973 v1978
  let v1980 : BitVec 32 := Scalar.remsi v1967 c32_i32_1386
  let c0_i32_1391 : BitVec 32 := 0#32
  let v1981 : BitVec 1 := Scalar.cmpi .ne v1980 c0_i32_1391
  let v1982 : BitVec 1 := Scalar.andi v1979 v1981
  let v1968 : BitVec 32 := Scalar.divsi v1967 c32_i32_1386
  let c1_i32_1392 : BitVec 32 := 1#32
  let v1983 : BitVec 32 := Scalar.subi v1968 c1_i32_1392
  let v1984 : BitVec 32 := Scalar.select v1982 v1983 v1968
  let v2094 : BitVec 1 := Scalar.cmpi .ne v2083 v1984
  let v2095 : BitVec 32 := Scalar.extui v2094
  let c0_i32_1469 : BitVec 32 := 0#32
  let v2096 : BitVec 1 := Scalar.cmpi .ne v2095 c0_i32_1469
  v2096

def k0_off195 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c21_i32 : BitVec 32 := 21#32
  let v2066 : BitVec 32 := Scalar.addi v2 c21_i32
  let c0_i32_1457 : BitVec 32 := 0#32
  let v2068 : BitVec 1 := Scalar.cmpi .sgt v2066 c0_i32_1457
  let v2069 : BitVec 32 := Scalar.extui v2068
  let c0_i32_1458 : BitVec 32 := 0#32
  let v2070 : BitVec 1 := Scalar.cmpi .slt v2066 c0_i32_1458
  let v2071 : BitVec 32 := Scalar.extui v2070
  let v2072 : BitVec 32 := Scalar.subi v2069 v2071
  let c32_i32_1456 : BitVec 32 := 32#32
  let c0_i32_1459 : BitVec 32 := 0#32
  let v2073 : BitVec 1 := Scalar.cmpi .sgt c32_i32_1456 c0_i32_1459
  let v2074 : BitVec 32 := Scalar.extui v2073
  let c0_i32_1460 : BitVec 32 := 0#32
  let v2075 : BitVec 1 := Scalar.cmpi .slt c32_i32_1456 c0_i32_1460
  let v2076 : BitVec 32 := Scalar.extui v2075
  let v2077 : BitVec 32 := Scalar.subi v2074 v2076
  let v2078 : BitVec 1 := Scalar.cmpi .ne v2072 v2077
  let v2079 : BitVec 32 := Scalar.remsi v2066 c32_i32_1456
  let c0_i32_1461 : BitVec 32 := 0#32
  let v2080 : BitVec 1 := Scalar.cmpi .ne v2079 c0_i32_1461
  let v2081 : BitVec 1 := Scalar.andi v2078 v2080
  let v2067 : BitVec 32 := Scalar.divsi v2066 c32_i32_1456
  let c1_i32_1462 : BitVec 32 := 1#32
  let v2082 : BitVec 32 := Scalar.subi v2067 c1_i32_1462
  let v2083 : BitVec 32 := Scalar.select v2081 v2082 v2067
  let c0_i32_1816_r42 : BitVec 32 := 0#32
  ![v2083.toNat, 0]
@[reducible] def k0_t85_loop : Scf.Loop 32 :=
  let c0_i32_1475 : BitVec 32 := 0#32
  let c256_i32_1476 : BitVec 32 := 256#32
  let v2105 : BitVec 32 := Scalar.addi c0_i32_1475 c256_i32_1476
  let c1_i32_1477 : BitVec 32 := 1#32
  ⟨c0_i32_1475, v2105, c1_i32_1477⟩
def k0_off196 (k0_t85 : Fin k0_t85_loop.trips) : Fin 1 → Nat :=
  let c0_i32_1819 : BitVec 32 := 0#32
  let c0_i32_1817 : BitVec 32 := 0#32
  let c0_i32_1475 : BitVec 32 := 0#32
  let c1_i32_1477 : BitVec 32 := 1#32
  let arg10 : BitVec 32 := Scf.iv c0_i32_1475 c1_i32_1477 k0_t85
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c0_i32_1819 v2579
  let v2581 : Index := Scalar.indexCast v2580
  ![v2581.toNat]

def k0_chk85 (v2582 : IVec S16 32) : Prop :=
  (∀ a x, ((![v2582] : Fin 1 → IVec S16 32) a x).toNat < S100000.size a)
theorem k0_idx85_inb : ∀ (v2582 : IVec S16 32) (k0_hw85 : k0_chk85 v2582), ∀ a x, ((![v2582] : Fin 1 → IVec S16 32) a x).toNat < S100000.size a := fun v2582 k0_hw85 => k0_hw85
def k0_off197 (k0_t85 : Fin k0_t85_loop.trips) : Fin 2 → Nat :=
  let c0_i32_1821 : BitVec 32 := 0#32
  let v2585 : Index := Scalar.indexCast c0_i32_1821
  let c0_i32_1817 : BitVec 32 := 0#32
  let c0_i32_1475 : BitVec 32 := 0#32
  let c1_i32_1477 : BitVec 32 := 1#32
  let arg10 : BitVec 32 := Scf.iv c0_i32_1475 c1_i32_1477 k0_t85
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t86_loop : Scf.Loop 32 :=
  let c0_i32_1489 : BitVec 32 := 0#32
  let c256_i32_1490 : BitVec 32 := 256#32
  let v2122 : BitVec 32 := Scalar.addi c0_i32_1489 c256_i32_1490
  let c1_i32_1491 : BitVec 32 := 1#32
  ⟨c0_i32_1489, v2122, c1_i32_1491⟩
def k0_off198 (k0_t86 : Fin k0_t86_loop.trips) : Fin 1 → Nat :=
  let c4096_i32_1819 : BitVec 32 := 4096#32
  let c0_i32_1817 : BitVec 32 := 0#32
  let c0_i32_1489 : BitVec 32 := 0#32
  let c1_i32_1491 : BitVec 32 := 1#32
  let arg10 : BitVec 32 := Scf.iv c0_i32_1489 c1_i32_1491 k0_t86
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c4096_i32_1819 v2579
  let v2581 : Index := Scalar.indexCast v2580
  ![v2581.toNat]

def k0_chk86 (v2582 : IVec S16 32) : Prop :=
  (∀ a x, ((![v2582] : Fin 1 → IVec S16 32) a x).toNat < S100000.size a)
theorem k0_idx86_inb : ∀ (v2582 : IVec S16 32) (k0_hw86 : k0_chk86 v2582), ∀ a x, ((![v2582] : Fin 1 → IVec S16 32) a x).toNat < S100000.size a := fun v2582 k0_hw86 => k0_hw86
def k0_off199 (k0_t86 : Fin k0_t86_loop.trips) : Fin 2 → Nat :=
  let c1_i32_1821 : BitVec 32 := 1#32
  let v2585 : Index := Scalar.indexCast c1_i32_1821
  let c0_i32_1817 : BitVec 32 := 0#32
  let c0_i32_1489 : BitVec 32 := 0#32
  let c1_i32_1491 : BitVec 32 := 1#32
  let arg10 : BitVec 32 := Scf.iv c0_i32_1489 c1_i32_1491 k0_t86
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
@[reducible] def k0_t87_loop : Scf.Loop 32 :=
  let c0_i32_1503 : BitVec 32 := 0#32
  let c256_i32_1504 : BitVec 32 := 256#32
  let v2139 : BitVec 32 := Scalar.addi c0_i32_1503 c256_i32_1504
  let c1_i32_1505 : BitVec 32 := 1#32
  ⟨c0_i32_1503, v2139, c1_i32_1505⟩
def k0_off200 (k0_t87 : Fin k0_t87_loop.trips) : Fin 1 → Nat :=
  let c8192_i32_1819 : BitVec 32 := 8192#32
  let c0_i32_1817 : BitVec 32 := 0#32
  let c0_i32_1503 : BitVec 32 := 0#32
  let c1_i32_1505 : BitVec 32 := 1#32
  let arg10 : BitVec 32 := Scf.iv c0_i32_1503 c1_i32_1505 k0_t87
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c8192_i32_1819 v2579
  let v2581 : Index := Scalar.indexCast v2580
  ![v2581.toNat]

def k0_chk87 (v2582 : IVec S16 32) : Prop :=
  (∀ a x, ((![v2582] : Fin 1 → IVec S16 32) a x).toNat < S100000.size a)
theorem k0_idx87_inb : ∀ (v2582 : IVec S16 32) (k0_hw87 : k0_chk87 v2582), ∀ a x, ((![v2582] : Fin 1 → IVec S16 32) a x).toNat < S100000.size a := fun v2582 k0_hw87 => k0_hw87
def k0_off201 (k0_t87 : Fin k0_t87_loop.trips) : Fin 2 → Nat :=
  let c0_i32_1821 : BitVec 32 := 0#32
  let v2585 : Index := Scalar.indexCast c0_i32_1821
  let c0_i32_1817 : BitVec 32 := 0#32
  let c0_i32_1503 : BitVec 32 := 0#32
  let c1_i32_1505 : BitVec 32 := 1#32
  let arg10 : BitVec 32 := Scf.iv c0_i32_1503 c1_i32_1505 k0_t87
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t88_loop : Scf.Loop 32 :=
  let c0_i32_1517 : BitVec 32 := 0#32
  let c256_i32_1518 : BitVec 32 := 256#32
  let v2156 : BitVec 32 := Scalar.addi c0_i32_1517 c256_i32_1518
  let c1_i32_1519 : BitVec 32 := 1#32
  ⟨c0_i32_1517, v2156, c1_i32_1519⟩
def k0_off202 (k0_t88 : Fin k0_t88_loop.trips) : Fin 1 → Nat :=
  let c12288_i32_1819 : BitVec 32 := 12288#32
  let c0_i32_1817 : BitVec 32 := 0#32
  let c0_i32_1517 : BitVec 32 := 0#32
  let c1_i32_1519 : BitVec 32 := 1#32
  let arg10 : BitVec 32 := Scf.iv c0_i32_1517 c1_i32_1519 k0_t88
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c12288_i32_1819 v2579
  let v2581 : Index := Scalar.indexCast v2580
  ![v2581.toNat]

def k0_chk88 (v2582 : IVec S16 32) : Prop :=
  (∀ a x, ((![v2582] : Fin 1 → IVec S16 32) a x).toNat < S100000.size a)
theorem k0_idx88_inb : ∀ (v2582 : IVec S16 32) (k0_hw88 : k0_chk88 v2582), ∀ a x, ((![v2582] : Fin 1 → IVec S16 32) a x).toNat < S100000.size a := fun v2582 k0_hw88 => k0_hw88
def k0_off203 (k0_t88 : Fin k0_t88_loop.trips) : Fin 2 → Nat :=
  let c1_i32_1821 : BitVec 32 := 1#32
  let v2585 : Index := Scalar.indexCast c1_i32_1821
  let c0_i32_1817 : BitVec 32 := 0#32
  let c0_i32_1517 : BitVec 32 := 0#32
  let c1_i32_1519 : BitVec 32 := 1#32
  let arg10 : BitVec 32 := Scf.iv c0_i32_1517 c1_i32_1519 k0_t88
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
def k0_cond23 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c22_i32 : BitVec 32 := 22#32
  let v2165 : BitVec 32 := Scalar.addi v2 c22_i32
  let c0_i32_1527 : BitVec 32 := 0#32
  let v2167 : BitVec 1 := Scalar.cmpi .sgt v2165 c0_i32_1527
  let v2168 : BitVec 32 := Scalar.extui v2167
  let c0_i32_1528 : BitVec 32 := 0#32
  let v2169 : BitVec 1 := Scalar.cmpi .slt v2165 c0_i32_1528
  let v2170 : BitVec 32 := Scalar.extui v2169
  let v2171 : BitVec 32 := Scalar.subi v2168 v2170
  let c32_i32_1526 : BitVec 32 := 32#32
  let c0_i32_1529 : BitVec 32 := 0#32
  let v2172 : BitVec 1 := Scalar.cmpi .sgt c32_i32_1526 c0_i32_1529
  let v2173 : BitVec 32 := Scalar.extui v2172
  let c0_i32_1530 : BitVec 32 := 0#32
  let v2174 : BitVec 1 := Scalar.cmpi .slt c32_i32_1526 c0_i32_1530
  let v2175 : BitVec 32 := Scalar.extui v2174
  let v2176 : BitVec 32 := Scalar.subi v2173 v2175
  let v2177 : BitVec 1 := Scalar.cmpi .ne v2171 v2176
  let v2178 : BitVec 32 := Scalar.remsi v2165 c32_i32_1526
  let c0_i32_1531 : BitVec 32 := 0#32
  let v2179 : BitVec 1 := Scalar.cmpi .ne v2178 c0_i32_1531
  let v2180 : BitVec 1 := Scalar.andi v2177 v2179
  let v2166 : BitVec 32 := Scalar.divsi v2165 c32_i32_1526
  let c1_i32_1532 : BitVec 32 := 1#32
  let v2181 : BitVec 32 := Scalar.subi v2166 c1_i32_1532
  let v2182 : BitVec 32 := Scalar.select v2180 v2181 v2166
  let c21_i32 : BitVec 32 := 21#32
  let v2066 : BitVec 32 := Scalar.addi v2 c21_i32
  let c0_i32_1457 : BitVec 32 := 0#32
  let v2068 : BitVec 1 := Scalar.cmpi .sgt v2066 c0_i32_1457
  let v2069 : BitVec 32 := Scalar.extui v2068
  let c0_i32_1458 : BitVec 32 := 0#32
  let v2070 : BitVec 1 := Scalar.cmpi .slt v2066 c0_i32_1458
  let v2071 : BitVec 32 := Scalar.extui v2070
  let v2072 : BitVec 32 := Scalar.subi v2069 v2071
  let c32_i32_1456 : BitVec 32 := 32#32
  let c0_i32_1459 : BitVec 32 := 0#32
  let v2073 : BitVec 1 := Scalar.cmpi .sgt c32_i32_1456 c0_i32_1459
  let v2074 : BitVec 32 := Scalar.extui v2073
  let c0_i32_1460 : BitVec 32 := 0#32
  let v2075 : BitVec 1 := Scalar.cmpi .slt c32_i32_1456 c0_i32_1460
  let v2076 : BitVec 32 := Scalar.extui v2075
  let v2077 : BitVec 32 := Scalar.subi v2074 v2076
  let v2078 : BitVec 1 := Scalar.cmpi .ne v2072 v2077
  let v2079 : BitVec 32 := Scalar.remsi v2066 c32_i32_1456
  let c0_i32_1461 : BitVec 32 := 0#32
  let v2080 : BitVec 1 := Scalar.cmpi .ne v2079 c0_i32_1461
  let v2081 : BitVec 1 := Scalar.andi v2078 v2080
  let v2067 : BitVec 32 := Scalar.divsi v2066 c32_i32_1456
  let c1_i32_1462 : BitVec 32 := 1#32
  let v2082 : BitVec 32 := Scalar.subi v2067 c1_i32_1462
  let v2083 : BitVec 32 := Scalar.select v2081 v2082 v2067
  let v2193 : BitVec 1 := Scalar.cmpi .ne v2182 v2083
  let v2194 : BitVec 32 := Scalar.extui v2193
  let c0_i32_1539 : BitVec 32 := 0#32
  let v2195 : BitVec 1 := Scalar.cmpi .ne v2194 c0_i32_1539
  v2195

def k0_off204 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c22_i32 : BitVec 32 := 22#32
  let v2165 : BitVec 32 := Scalar.addi v2 c22_i32
  let c0_i32_1527 : BitVec 32 := 0#32
  let v2167 : BitVec 1 := Scalar.cmpi .sgt v2165 c0_i32_1527
  let v2168 : BitVec 32 := Scalar.extui v2167
  let c0_i32_1528 : BitVec 32 := 0#32
  let v2169 : BitVec 1 := Scalar.cmpi .slt v2165 c0_i32_1528
  let v2170 : BitVec 32 := Scalar.extui v2169
  let v2171 : BitVec 32 := Scalar.subi v2168 v2170
  let c32_i32_1526 : BitVec 32 := 32#32
  let c0_i32_1529 : BitVec 32 := 0#32
  let v2172 : BitVec 1 := Scalar.cmpi .sgt c32_i32_1526 c0_i32_1529
  let v2173 : BitVec 32 := Scalar.extui v2172
  let c0_i32_1530 : BitVec 32 := 0#32
  let v2174 : BitVec 1 := Scalar.cmpi .slt c32_i32_1526 c0_i32_1530
  let v2175 : BitVec 32 := Scalar.extui v2174
  let v2176 : BitVec 32 := Scalar.subi v2173 v2175
  let v2177 : BitVec 1 := Scalar.cmpi .ne v2171 v2176
  let v2178 : BitVec 32 := Scalar.remsi v2165 c32_i32_1526
  let c0_i32_1531 : BitVec 32 := 0#32
  let v2179 : BitVec 1 := Scalar.cmpi .ne v2178 c0_i32_1531
  let v2180 : BitVec 1 := Scalar.andi v2177 v2179
  let v2166 : BitVec 32 := Scalar.divsi v2165 c32_i32_1526
  let c1_i32_1532 : BitVec 32 := 1#32
  let v2181 : BitVec 32 := Scalar.subi v2166 c1_i32_1532
  let v2182 : BitVec 32 := Scalar.select v2180 v2181 v2166
  let c0_i32_1816_r44 : BitVec 32 := 0#32
  ![v2182.toNat, 0]
@[reducible] def k0_t89_loop : Scf.Loop 32 :=
  let c0_i32_1545 : BitVec 32 := 0#32
  let c256_i32_1546 : BitVec 32 := 256#32
  let v2204 : BitVec 32 := Scalar.addi c0_i32_1545 c256_i32_1546
  let c1_i32_1547 : BitVec 32 := 1#32
  ⟨c0_i32_1545, v2204, c1_i32_1547⟩
def k0_off205 (k0_t89 : Fin k0_t89_loop.trips) : Fin 1 → Nat :=
  let c0_i32_1819 : BitVec 32 := 0#32
  let c0_i32_1817 : BitVec 32 := 0#32
  let c0_i32_1545 : BitVec 32 := 0#32
  let c1_i32_1547 : BitVec 32 := 1#32
  let arg10 : BitVec 32 := Scf.iv c0_i32_1545 c1_i32_1547 k0_t89
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c0_i32_1819 v2579
  let v2581 : Index := Scalar.indexCast v2580
  ![v2581.toNat]

def k0_chk89 (v2582 : IVec S16 32) : Prop :=
  (∀ a x, ((![v2582] : Fin 1 → IVec S16 32) a x).toNat < S100000.size a)
theorem k0_idx89_inb : ∀ (v2582 : IVec S16 32) (k0_hw89 : k0_chk89 v2582), ∀ a x, ((![v2582] : Fin 1 → IVec S16 32) a x).toNat < S100000.size a := fun v2582 k0_hw89 => k0_hw89
def k0_off206 (k0_t89 : Fin k0_t89_loop.trips) : Fin 2 → Nat :=
  let c0_i32_1821 : BitVec 32 := 0#32
  let v2585 : Index := Scalar.indexCast c0_i32_1821
  let c0_i32_1817 : BitVec 32 := 0#32
  let c0_i32_1545 : BitVec 32 := 0#32
  let c1_i32_1547 : BitVec 32 := 1#32
  let arg10 : BitVec 32 := Scf.iv c0_i32_1545 c1_i32_1547 k0_t89
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t90_loop : Scf.Loop 32 :=
  let c0_i32_1559 : BitVec 32 := 0#32
  let c256_i32_1560 : BitVec 32 := 256#32
  let v2221 : BitVec 32 := Scalar.addi c0_i32_1559 c256_i32_1560
  let c1_i32_1561 : BitVec 32 := 1#32
  ⟨c0_i32_1559, v2221, c1_i32_1561⟩
def k0_off207 (k0_t90 : Fin k0_t90_loop.trips) : Fin 1 → Nat :=
  let c4096_i32_1819 : BitVec 32 := 4096#32
  let c0_i32_1817 : BitVec 32 := 0#32
  let c0_i32_1559 : BitVec 32 := 0#32
  let c1_i32_1561 : BitVec 32 := 1#32
  let arg10 : BitVec 32 := Scf.iv c0_i32_1559 c1_i32_1561 k0_t90
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c4096_i32_1819 v2579
  let v2581 : Index := Scalar.indexCast v2580
  ![v2581.toNat]

def k0_chk90 (v2582 : IVec S16 32) : Prop :=
  (∀ a x, ((![v2582] : Fin 1 → IVec S16 32) a x).toNat < S100000.size a)
theorem k0_idx90_inb : ∀ (v2582 : IVec S16 32) (k0_hw90 : k0_chk90 v2582), ∀ a x, ((![v2582] : Fin 1 → IVec S16 32) a x).toNat < S100000.size a := fun v2582 k0_hw90 => k0_hw90
def k0_off208 (k0_t90 : Fin k0_t90_loop.trips) : Fin 2 → Nat :=
  let c1_i32_1821 : BitVec 32 := 1#32
  let v2585 : Index := Scalar.indexCast c1_i32_1821
  let c0_i32_1817 : BitVec 32 := 0#32
  let c0_i32_1559 : BitVec 32 := 0#32
  let c1_i32_1561 : BitVec 32 := 1#32
  let arg10 : BitVec 32 := Scf.iv c0_i32_1559 c1_i32_1561 k0_t90
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
@[reducible] def k0_t91_loop : Scf.Loop 32 :=
  let c0_i32_1573 : BitVec 32 := 0#32
  let c256_i32_1574 : BitVec 32 := 256#32
  let v2238 : BitVec 32 := Scalar.addi c0_i32_1573 c256_i32_1574
  let c1_i32_1575 : BitVec 32 := 1#32
  ⟨c0_i32_1573, v2238, c1_i32_1575⟩
def k0_off209 (k0_t91 : Fin k0_t91_loop.trips) : Fin 1 → Nat :=
  let c8192_i32_1819 : BitVec 32 := 8192#32
  let c0_i32_1817 : BitVec 32 := 0#32
  let c0_i32_1573 : BitVec 32 := 0#32
  let c1_i32_1575 : BitVec 32 := 1#32
  let arg10 : BitVec 32 := Scf.iv c0_i32_1573 c1_i32_1575 k0_t91
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c8192_i32_1819 v2579
  let v2581 : Index := Scalar.indexCast v2580
  ![v2581.toNat]

def k0_chk91 (v2582 : IVec S16 32) : Prop :=
  (∀ a x, ((![v2582] : Fin 1 → IVec S16 32) a x).toNat < S100000.size a)
theorem k0_idx91_inb : ∀ (v2582 : IVec S16 32) (k0_hw91 : k0_chk91 v2582), ∀ a x, ((![v2582] : Fin 1 → IVec S16 32) a x).toNat < S100000.size a := fun v2582 k0_hw91 => k0_hw91
def k0_off210 (k0_t91 : Fin k0_t91_loop.trips) : Fin 2 → Nat :=
  let c0_i32_1821 : BitVec 32 := 0#32
  let v2585 : Index := Scalar.indexCast c0_i32_1821
  let c0_i32_1817 : BitVec 32 := 0#32
  let c0_i32_1573 : BitVec 32 := 0#32
  let c1_i32_1575 : BitVec 32 := 1#32
  let arg10 : BitVec 32 := Scf.iv c0_i32_1573 c1_i32_1575 k0_t91
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t92_loop : Scf.Loop 32 :=
  let c0_i32_1587 : BitVec 32 := 0#32
  let c256_i32_1588 : BitVec 32 := 256#32
  let v2255 : BitVec 32 := Scalar.addi c0_i32_1587 c256_i32_1588
  let c1_i32_1589 : BitVec 32 := 1#32
  ⟨c0_i32_1587, v2255, c1_i32_1589⟩
def k0_off211 (k0_t92 : Fin k0_t92_loop.trips) : Fin 1 → Nat :=
  let c12288_i32_1819 : BitVec 32 := 12288#32
  let c0_i32_1817 : BitVec 32 := 0#32
  let c0_i32_1587 : BitVec 32 := 0#32
  let c1_i32_1589 : BitVec 32 := 1#32
  let arg10 : BitVec 32 := Scf.iv c0_i32_1587 c1_i32_1589 k0_t92
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c12288_i32_1819 v2579
  let v2581 : Index := Scalar.indexCast v2580
  ![v2581.toNat]

def k0_chk92 (v2582 : IVec S16 32) : Prop :=
  (∀ a x, ((![v2582] : Fin 1 → IVec S16 32) a x).toNat < S100000.size a)
theorem k0_idx92_inb : ∀ (v2582 : IVec S16 32) (k0_hw92 : k0_chk92 v2582), ∀ a x, ((![v2582] : Fin 1 → IVec S16 32) a x).toNat < S100000.size a := fun v2582 k0_hw92 => k0_hw92
def k0_off212 (k0_t92 : Fin k0_t92_loop.trips) : Fin 2 → Nat :=
  let c1_i32_1821 : BitVec 32 := 1#32
  let v2585 : Index := Scalar.indexCast c1_i32_1821
  let c0_i32_1817 : BitVec 32 := 0#32
  let c0_i32_1587 : BitVec 32 := 0#32
  let c1_i32_1589 : BitVec 32 := 1#32
  let arg10 : BitVec 32 := Scf.iv c0_i32_1587 c1_i32_1589 k0_t92
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
def k0_cond24 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c23_i32 : BitVec 32 := 23#32
  let v2264 : BitVec 32 := Scalar.addi v2 c23_i32
  let c0_i32_1597 : BitVec 32 := 0#32
  let v2266 : BitVec 1 := Scalar.cmpi .sgt v2264 c0_i32_1597
  let v2267 : BitVec 32 := Scalar.extui v2266
  let c0_i32_1598 : BitVec 32 := 0#32
  let v2268 : BitVec 1 := Scalar.cmpi .slt v2264 c0_i32_1598
  let v2269 : BitVec 32 := Scalar.extui v2268
  let v2270 : BitVec 32 := Scalar.subi v2267 v2269
  let c32_i32_1596 : BitVec 32 := 32#32
  let c0_i32_1599 : BitVec 32 := 0#32
  let v2271 : BitVec 1 := Scalar.cmpi .sgt c32_i32_1596 c0_i32_1599
  let v2272 : BitVec 32 := Scalar.extui v2271
  let c0_i32_1600 : BitVec 32 := 0#32
  let v2273 : BitVec 1 := Scalar.cmpi .slt c32_i32_1596 c0_i32_1600
  let v2274 : BitVec 32 := Scalar.extui v2273
  let v2275 : BitVec 32 := Scalar.subi v2272 v2274
  let v2276 : BitVec 1 := Scalar.cmpi .ne v2270 v2275
  let v2277 : BitVec 32 := Scalar.remsi v2264 c32_i32_1596
  let c0_i32_1601 : BitVec 32 := 0#32
  let v2278 : BitVec 1 := Scalar.cmpi .ne v2277 c0_i32_1601
  let v2279 : BitVec 1 := Scalar.andi v2276 v2278
  let v2265 : BitVec 32 := Scalar.divsi v2264 c32_i32_1596
  let c1_i32_1602 : BitVec 32 := 1#32
  let v2280 : BitVec 32 := Scalar.subi v2265 c1_i32_1602
  let v2281 : BitVec 32 := Scalar.select v2279 v2280 v2265
  let c22_i32 : BitVec 32 := 22#32
  let v2165 : BitVec 32 := Scalar.addi v2 c22_i32
  let c0_i32_1527 : BitVec 32 := 0#32
  let v2167 : BitVec 1 := Scalar.cmpi .sgt v2165 c0_i32_1527
  let v2168 : BitVec 32 := Scalar.extui v2167
  let c0_i32_1528 : BitVec 32 := 0#32
  let v2169 : BitVec 1 := Scalar.cmpi .slt v2165 c0_i32_1528
  let v2170 : BitVec 32 := Scalar.extui v2169
  let v2171 : BitVec 32 := Scalar.subi v2168 v2170
  let c32_i32_1526 : BitVec 32 := 32#32
  let c0_i32_1529 : BitVec 32 := 0#32
  let v2172 : BitVec 1 := Scalar.cmpi .sgt c32_i32_1526 c0_i32_1529
  let v2173 : BitVec 32 := Scalar.extui v2172
  let c0_i32_1530 : BitVec 32 := 0#32
  let v2174 : BitVec 1 := Scalar.cmpi .slt c32_i32_1526 c0_i32_1530
  let v2175 : BitVec 32 := Scalar.extui v2174
  let v2176 : BitVec 32 := Scalar.subi v2173 v2175
  let v2177 : BitVec 1 := Scalar.cmpi .ne v2171 v2176
  let v2178 : BitVec 32 := Scalar.remsi v2165 c32_i32_1526
  let c0_i32_1531 : BitVec 32 := 0#32
  let v2179 : BitVec 1 := Scalar.cmpi .ne v2178 c0_i32_1531
  let v2180 : BitVec 1 := Scalar.andi v2177 v2179
  let v2166 : BitVec 32 := Scalar.divsi v2165 c32_i32_1526
  let c1_i32_1532 : BitVec 32 := 1#32
  let v2181 : BitVec 32 := Scalar.subi v2166 c1_i32_1532
  let v2182 : BitVec 32 := Scalar.select v2180 v2181 v2166
  let v2292 : BitVec 1 := Scalar.cmpi .ne v2281 v2182
  let v2293 : BitVec 32 := Scalar.extui v2292
  let c0_i32_1609 : BitVec 32 := 0#32
  let v2294 : BitVec 1 := Scalar.cmpi .ne v2293 c0_i32_1609
  v2294

def k0_off213 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c23_i32 : BitVec 32 := 23#32
  let v2264 : BitVec 32 := Scalar.addi v2 c23_i32
  let c0_i32_1597 : BitVec 32 := 0#32
  let v2266 : BitVec 1 := Scalar.cmpi .sgt v2264 c0_i32_1597
  let v2267 : BitVec 32 := Scalar.extui v2266
  let c0_i32_1598 : BitVec 32 := 0#32
  let v2268 : BitVec 1 := Scalar.cmpi .slt v2264 c0_i32_1598
  let v2269 : BitVec 32 := Scalar.extui v2268
  let v2270 : BitVec 32 := Scalar.subi v2267 v2269
  let c32_i32_1596 : BitVec 32 := 32#32
  let c0_i32_1599 : BitVec 32 := 0#32
  let v2271 : BitVec 1 := Scalar.cmpi .sgt c32_i32_1596 c0_i32_1599
  let v2272 : BitVec 32 := Scalar.extui v2271
  let c0_i32_1600 : BitVec 32 := 0#32
  let v2273 : BitVec 1 := Scalar.cmpi .slt c32_i32_1596 c0_i32_1600
  let v2274 : BitVec 32 := Scalar.extui v2273
  let v2275 : BitVec 32 := Scalar.subi v2272 v2274
  let v2276 : BitVec 1 := Scalar.cmpi .ne v2270 v2275
  let v2277 : BitVec 32 := Scalar.remsi v2264 c32_i32_1596
  let c0_i32_1601 : BitVec 32 := 0#32
  let v2278 : BitVec 1 := Scalar.cmpi .ne v2277 c0_i32_1601
  let v2279 : BitVec 1 := Scalar.andi v2276 v2278
  let v2265 : BitVec 32 := Scalar.divsi v2264 c32_i32_1596
  let c1_i32_1602 : BitVec 32 := 1#32
  let v2280 : BitVec 32 := Scalar.subi v2265 c1_i32_1602
  let v2281 : BitVec 32 := Scalar.select v2279 v2280 v2265
  let c0_i32_1816_r46 : BitVec 32 := 0#32
  ![v2281.toNat, 0]
@[reducible] def k0_t93_loop : Scf.Loop 32 :=
  let c0_i32_1615 : BitVec 32 := 0#32
  let c256_i32_1616 : BitVec 32 := 256#32
  let v2303 : BitVec 32 := Scalar.addi c0_i32_1615 c256_i32_1616
  let c1_i32_1617 : BitVec 32 := 1#32
  ⟨c0_i32_1615, v2303, c1_i32_1617⟩
def k0_off214 (k0_t93 : Fin k0_t93_loop.trips) : Fin 1 → Nat :=
  let c0_i32_1819 : BitVec 32 := 0#32
  let c0_i32_1817 : BitVec 32 := 0#32
  let c0_i32_1615 : BitVec 32 := 0#32
  let c1_i32_1617 : BitVec 32 := 1#32
  let arg10 : BitVec 32 := Scf.iv c0_i32_1615 c1_i32_1617 k0_t93
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c0_i32_1819 v2579
  let v2581 : Index := Scalar.indexCast v2580
  ![v2581.toNat]

def k0_chk93 (v2582 : IVec S16 32) : Prop :=
  (∀ a x, ((![v2582] : Fin 1 → IVec S16 32) a x).toNat < S100000.size a)
theorem k0_idx93_inb : ∀ (v2582 : IVec S16 32) (k0_hw93 : k0_chk93 v2582), ∀ a x, ((![v2582] : Fin 1 → IVec S16 32) a x).toNat < S100000.size a := fun v2582 k0_hw93 => k0_hw93
def k0_off215 (k0_t93 : Fin k0_t93_loop.trips) : Fin 2 → Nat :=
  let c0_i32_1821 : BitVec 32 := 0#32
  let v2585 : Index := Scalar.indexCast c0_i32_1821
  let c0_i32_1817 : BitVec 32 := 0#32
  let c0_i32_1615 : BitVec 32 := 0#32
  let c1_i32_1617 : BitVec 32 := 1#32
  let arg10 : BitVec 32 := Scf.iv c0_i32_1615 c1_i32_1617 k0_t93
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t94_loop : Scf.Loop 32 :=
  let c0_i32_1629 : BitVec 32 := 0#32
  let c256_i32_1630 : BitVec 32 := 256#32
  let v2320 : BitVec 32 := Scalar.addi c0_i32_1629 c256_i32_1630
  let c1_i32_1631 : BitVec 32 := 1#32
  ⟨c0_i32_1629, v2320, c1_i32_1631⟩
def k0_off216 (k0_t94 : Fin k0_t94_loop.trips) : Fin 1 → Nat :=
  let c4096_i32_1819 : BitVec 32 := 4096#32
  let c0_i32_1817 : BitVec 32 := 0#32
  let c0_i32_1629 : BitVec 32 := 0#32
  let c1_i32_1631 : BitVec 32 := 1#32
  let arg10 : BitVec 32 := Scf.iv c0_i32_1629 c1_i32_1631 k0_t94
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c4096_i32_1819 v2579
  let v2581 : Index := Scalar.indexCast v2580
  ![v2581.toNat]

def k0_chk94 (v2582 : IVec S16 32) : Prop :=
  (∀ a x, ((![v2582] : Fin 1 → IVec S16 32) a x).toNat < S100000.size a)
theorem k0_idx94_inb : ∀ (v2582 : IVec S16 32) (k0_hw94 : k0_chk94 v2582), ∀ a x, ((![v2582] : Fin 1 → IVec S16 32) a x).toNat < S100000.size a := fun v2582 k0_hw94 => k0_hw94
def k0_off217 (k0_t94 : Fin k0_t94_loop.trips) : Fin 2 → Nat :=
  let c1_i32_1821 : BitVec 32 := 1#32
  let v2585 : Index := Scalar.indexCast c1_i32_1821
  let c0_i32_1817 : BitVec 32 := 0#32
  let c0_i32_1629 : BitVec 32 := 0#32
  let c1_i32_1631 : BitVec 32 := 1#32
  let arg10 : BitVec 32 := Scf.iv c0_i32_1629 c1_i32_1631 k0_t94
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
@[reducible] def k0_t95_loop : Scf.Loop 32 :=
  let c0_i32_1643 : BitVec 32 := 0#32
  let c256_i32_1644 : BitVec 32 := 256#32
  let v2337 : BitVec 32 := Scalar.addi c0_i32_1643 c256_i32_1644
  let c1_i32_1645 : BitVec 32 := 1#32
  ⟨c0_i32_1643, v2337, c1_i32_1645⟩
def k0_off218 (k0_t95 : Fin k0_t95_loop.trips) : Fin 1 → Nat :=
  let c8192_i32_1819 : BitVec 32 := 8192#32
  let c0_i32_1817 : BitVec 32 := 0#32
  let c0_i32_1643 : BitVec 32 := 0#32
  let c1_i32_1645 : BitVec 32 := 1#32
  let arg10 : BitVec 32 := Scf.iv c0_i32_1643 c1_i32_1645 k0_t95
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c8192_i32_1819 v2579
  let v2581 : Index := Scalar.indexCast v2580
  ![v2581.toNat]

def k0_chk95 (v2582 : IVec S16 32) : Prop :=
  (∀ a x, ((![v2582] : Fin 1 → IVec S16 32) a x).toNat < S100000.size a)
theorem k0_idx95_inb : ∀ (v2582 : IVec S16 32) (k0_hw95 : k0_chk95 v2582), ∀ a x, ((![v2582] : Fin 1 → IVec S16 32) a x).toNat < S100000.size a := fun v2582 k0_hw95 => k0_hw95
def k0_off219 (k0_t95 : Fin k0_t95_loop.trips) : Fin 2 → Nat :=
  let c0_i32_1821 : BitVec 32 := 0#32
  let v2585 : Index := Scalar.indexCast c0_i32_1821
  let c0_i32_1817 : BitVec 32 := 0#32
  let c0_i32_1643 : BitVec 32 := 0#32
  let c1_i32_1645 : BitVec 32 := 1#32
  let arg10 : BitVec 32 := Scf.iv c0_i32_1643 c1_i32_1645 k0_t95
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t96_loop : Scf.Loop 32 :=
  let c0_i32_1657 : BitVec 32 := 0#32
  let c256_i32_1658 : BitVec 32 := 256#32
  let v2354 : BitVec 32 := Scalar.addi c0_i32_1657 c256_i32_1658
  let c1_i32_1659 : BitVec 32 := 1#32
  ⟨c0_i32_1657, v2354, c1_i32_1659⟩
def k0_off220 (k0_t96 : Fin k0_t96_loop.trips) : Fin 1 → Nat :=
  let c12288_i32_1819 : BitVec 32 := 12288#32
  let c0_i32_1817 : BitVec 32 := 0#32
  let c0_i32_1657 : BitVec 32 := 0#32
  let c1_i32_1659 : BitVec 32 := 1#32
  let arg10 : BitVec 32 := Scf.iv c0_i32_1657 c1_i32_1659 k0_t96
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c12288_i32_1819 v2579
  let v2581 : Index := Scalar.indexCast v2580
  ![v2581.toNat]

def k0_chk96 (v2582 : IVec S16 32) : Prop :=
  (∀ a x, ((![v2582] : Fin 1 → IVec S16 32) a x).toNat < S100000.size a)
theorem k0_idx96_inb : ∀ (v2582 : IVec S16 32) (k0_hw96 : k0_chk96 v2582), ∀ a x, ((![v2582] : Fin 1 → IVec S16 32) a x).toNat < S100000.size a := fun v2582 k0_hw96 => k0_hw96
def k0_off221 (k0_t96 : Fin k0_t96_loop.trips) : Fin 2 → Nat :=
  let c1_i32_1821 : BitVec 32 := 1#32
  let v2585 : Index := Scalar.indexCast c1_i32_1821
  let c0_i32_1817 : BitVec 32 := 0#32
  let c0_i32_1657 : BitVec 32 := 0#32
  let c1_i32_1659 : BitVec 32 := 1#32
  let arg10 : BitVec 32 := Scf.iv c0_i32_1657 c1_i32_1659 k0_t96
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
def k0_cond25 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c24_i32 : BitVec 32 := 24#32
  let v2363 : BitVec 32 := Scalar.addi v2 c24_i32
  let c0_i32_1667 : BitVec 32 := 0#32
  let v2365 : BitVec 1 := Scalar.cmpi .sgt v2363 c0_i32_1667
  let v2366 : BitVec 32 := Scalar.extui v2365
  let c0_i32_1668 : BitVec 32 := 0#32
  let v2367 : BitVec 1 := Scalar.cmpi .slt v2363 c0_i32_1668
  let v2368 : BitVec 32 := Scalar.extui v2367
  let v2369 : BitVec 32 := Scalar.subi v2366 v2368
  let c32_i32_1666 : BitVec 32 := 32#32
  let c0_i32_1669 : BitVec 32 := 0#32
  let v2370 : BitVec 1 := Scalar.cmpi .sgt c32_i32_1666 c0_i32_1669
  let v2371 : BitVec 32 := Scalar.extui v2370
  let c0_i32_1670 : BitVec 32 := 0#32
  let v2372 : BitVec 1 := Scalar.cmpi .slt c32_i32_1666 c0_i32_1670
  let v2373 : BitVec 32 := Scalar.extui v2372
  let v2374 : BitVec 32 := Scalar.subi v2371 v2373
  let v2375 : BitVec 1 := Scalar.cmpi .ne v2369 v2374
  let v2376 : BitVec 32 := Scalar.remsi v2363 c32_i32_1666
  let c0_i32_1671 : BitVec 32 := 0#32
  let v2377 : BitVec 1 := Scalar.cmpi .ne v2376 c0_i32_1671
  let v2378 : BitVec 1 := Scalar.andi v2375 v2377
  let v2364 : BitVec 32 := Scalar.divsi v2363 c32_i32_1666
  let c1_i32_1672 : BitVec 32 := 1#32
  let v2379 : BitVec 32 := Scalar.subi v2364 c1_i32_1672
  let v2380 : BitVec 32 := Scalar.select v2378 v2379 v2364
  let c23_i32 : BitVec 32 := 23#32
  let v2264 : BitVec 32 := Scalar.addi v2 c23_i32
  let c0_i32_1597 : BitVec 32 := 0#32
  let v2266 : BitVec 1 := Scalar.cmpi .sgt v2264 c0_i32_1597
  let v2267 : BitVec 32 := Scalar.extui v2266
  let c0_i32_1598 : BitVec 32 := 0#32
  let v2268 : BitVec 1 := Scalar.cmpi .slt v2264 c0_i32_1598
  let v2269 : BitVec 32 := Scalar.extui v2268
  let v2270 : BitVec 32 := Scalar.subi v2267 v2269
  let c32_i32_1596 : BitVec 32 := 32#32
  let c0_i32_1599 : BitVec 32 := 0#32
  let v2271 : BitVec 1 := Scalar.cmpi .sgt c32_i32_1596 c0_i32_1599
  let v2272 : BitVec 32 := Scalar.extui v2271
  let c0_i32_1600 : BitVec 32 := 0#32
  let v2273 : BitVec 1 := Scalar.cmpi .slt c32_i32_1596 c0_i32_1600
  let v2274 : BitVec 32 := Scalar.extui v2273
  let v2275 : BitVec 32 := Scalar.subi v2272 v2274
  let v2276 : BitVec 1 := Scalar.cmpi .ne v2270 v2275
  let v2277 : BitVec 32 := Scalar.remsi v2264 c32_i32_1596
  let c0_i32_1601 : BitVec 32 := 0#32
  let v2278 : BitVec 1 := Scalar.cmpi .ne v2277 c0_i32_1601
  let v2279 : BitVec 1 := Scalar.andi v2276 v2278
  let v2265 : BitVec 32 := Scalar.divsi v2264 c32_i32_1596
  let c1_i32_1602 : BitVec 32 := 1#32
  let v2280 : BitVec 32 := Scalar.subi v2265 c1_i32_1602
  let v2281 : BitVec 32 := Scalar.select v2279 v2280 v2265
  let v2391 : BitVec 1 := Scalar.cmpi .ne v2380 v2281
  let v2392 : BitVec 32 := Scalar.extui v2391
  let c0_i32_1679 : BitVec 32 := 0#32
  let v2393 : BitVec 1 := Scalar.cmpi .ne v2392 c0_i32_1679
  v2393

def k0_off222 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c24_i32 : BitVec 32 := 24#32
  let v2363 : BitVec 32 := Scalar.addi v2 c24_i32
  let c0_i32_1667 : BitVec 32 := 0#32
  let v2365 : BitVec 1 := Scalar.cmpi .sgt v2363 c0_i32_1667
  let v2366 : BitVec 32 := Scalar.extui v2365
  let c0_i32_1668 : BitVec 32 := 0#32
  let v2367 : BitVec 1 := Scalar.cmpi .slt v2363 c0_i32_1668
  let v2368 : BitVec 32 := Scalar.extui v2367
  let v2369 : BitVec 32 := Scalar.subi v2366 v2368
  let c32_i32_1666 : BitVec 32 := 32#32
  let c0_i32_1669 : BitVec 32 := 0#32
  let v2370 : BitVec 1 := Scalar.cmpi .sgt c32_i32_1666 c0_i32_1669
  let v2371 : BitVec 32 := Scalar.extui v2370
  let c0_i32_1670 : BitVec 32 := 0#32
  let v2372 : BitVec 1 := Scalar.cmpi .slt c32_i32_1666 c0_i32_1670
  let v2373 : BitVec 32 := Scalar.extui v2372
  let v2374 : BitVec 32 := Scalar.subi v2371 v2373
  let v2375 : BitVec 1 := Scalar.cmpi .ne v2369 v2374
  let v2376 : BitVec 32 := Scalar.remsi v2363 c32_i32_1666
  let c0_i32_1671 : BitVec 32 := 0#32
  let v2377 : BitVec 1 := Scalar.cmpi .ne v2376 c0_i32_1671
  let v2378 : BitVec 1 := Scalar.andi v2375 v2377
  let v2364 : BitVec 32 := Scalar.divsi v2363 c32_i32_1666
  let c1_i32_1672 : BitVec 32 := 1#32
  let v2379 : BitVec 32 := Scalar.subi v2364 c1_i32_1672
  let v2380 : BitVec 32 := Scalar.select v2378 v2379 v2364
  let c0_i32_1816_r48 : BitVec 32 := 0#32
  ![v2380.toNat, 0]
@[reducible] def k0_t97_loop : Scf.Loop 32 :=
  let c0_i32_1685 : BitVec 32 := 0#32
  let c256_i32_1686 : BitVec 32 := 256#32
  let v2402 : BitVec 32 := Scalar.addi c0_i32_1685 c256_i32_1686
  let c1_i32_1687 : BitVec 32 := 1#32
  ⟨c0_i32_1685, v2402, c1_i32_1687⟩
def k0_off223 (k0_t97 : Fin k0_t97_loop.trips) : Fin 1 → Nat :=
  let c0_i32_1819 : BitVec 32 := 0#32
  let c0_i32_1817 : BitVec 32 := 0#32
  let c0_i32_1685 : BitVec 32 := 0#32
  let c1_i32_1687 : BitVec 32 := 1#32
  let arg10 : BitVec 32 := Scf.iv c0_i32_1685 c1_i32_1687 k0_t97
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c0_i32_1819 v2579
  let v2581 : Index := Scalar.indexCast v2580
  ![v2581.toNat]

def k0_chk97 (v2582 : IVec S16 32) : Prop :=
  (∀ a x, ((![v2582] : Fin 1 → IVec S16 32) a x).toNat < S100000.size a)
theorem k0_idx97_inb : ∀ (v2582 : IVec S16 32) (k0_hw97 : k0_chk97 v2582), ∀ a x, ((![v2582] : Fin 1 → IVec S16 32) a x).toNat < S100000.size a := fun v2582 k0_hw97 => k0_hw97
def k0_off224 (k0_t97 : Fin k0_t97_loop.trips) : Fin 2 → Nat :=
  let c0_i32_1821 : BitVec 32 := 0#32
  let v2585 : Index := Scalar.indexCast c0_i32_1821
  let c0_i32_1817 : BitVec 32 := 0#32
  let c0_i32_1685 : BitVec 32 := 0#32
  let c1_i32_1687 : BitVec 32 := 1#32
  let arg10 : BitVec 32 := Scf.iv c0_i32_1685 c1_i32_1687 k0_t97
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t98_loop : Scf.Loop 32 :=
  let c0_i32_1699 : BitVec 32 := 0#32
  let c256_i32_1700 : BitVec 32 := 256#32
  let v2419 : BitVec 32 := Scalar.addi c0_i32_1699 c256_i32_1700
  let c1_i32_1701 : BitVec 32 := 1#32
  ⟨c0_i32_1699, v2419, c1_i32_1701⟩
def k0_off225 (k0_t98 : Fin k0_t98_loop.trips) : Fin 1 → Nat :=
  let c4096_i32_1819 : BitVec 32 := 4096#32
  let c0_i32_1817 : BitVec 32 := 0#32
  let c0_i32_1699 : BitVec 32 := 0#32
  let c1_i32_1701 : BitVec 32 := 1#32
  let arg10 : BitVec 32 := Scf.iv c0_i32_1699 c1_i32_1701 k0_t98
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c4096_i32_1819 v2579
  let v2581 : Index := Scalar.indexCast v2580
  ![v2581.toNat]

def k0_chk98 (v2582 : IVec S16 32) : Prop :=
  (∀ a x, ((![v2582] : Fin 1 → IVec S16 32) a x).toNat < S100000.size a)
theorem k0_idx98_inb : ∀ (v2582 : IVec S16 32) (k0_hw98 : k0_chk98 v2582), ∀ a x, ((![v2582] : Fin 1 → IVec S16 32) a x).toNat < S100000.size a := fun v2582 k0_hw98 => k0_hw98
def k0_off226 (k0_t98 : Fin k0_t98_loop.trips) : Fin 2 → Nat :=
  let c1_i32_1821 : BitVec 32 := 1#32
  let v2585 : Index := Scalar.indexCast c1_i32_1821
  let c0_i32_1817 : BitVec 32 := 0#32
  let c0_i32_1699 : BitVec 32 := 0#32
  let c1_i32_1701 : BitVec 32 := 1#32
  let arg10 : BitVec 32 := Scf.iv c0_i32_1699 c1_i32_1701 k0_t98
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
@[reducible] def k0_t99_loop : Scf.Loop 32 :=
  let c0_i32_1713 : BitVec 32 := 0#32
  let c256_i32_1714 : BitVec 32 := 256#32
  let v2436 : BitVec 32 := Scalar.addi c0_i32_1713 c256_i32_1714
  let c1_i32_1715 : BitVec 32 := 1#32
  ⟨c0_i32_1713, v2436, c1_i32_1715⟩
def k0_off227 (k0_t99 : Fin k0_t99_loop.trips) : Fin 1 → Nat :=
  let c8192_i32_1819 : BitVec 32 := 8192#32
  let c0_i32_1817 : BitVec 32 := 0#32
  let c0_i32_1713 : BitVec 32 := 0#32
  let c1_i32_1715 : BitVec 32 := 1#32
  let arg10 : BitVec 32 := Scf.iv c0_i32_1713 c1_i32_1715 k0_t99
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c8192_i32_1819 v2579
  let v2581 : Index := Scalar.indexCast v2580
  ![v2581.toNat]

def k0_chk99 (v2582 : IVec S16 32) : Prop :=
  (∀ a x, ((![v2582] : Fin 1 → IVec S16 32) a x).toNat < S100000.size a)
theorem k0_idx99_inb : ∀ (v2582 : IVec S16 32) (k0_hw99 : k0_chk99 v2582), ∀ a x, ((![v2582] : Fin 1 → IVec S16 32) a x).toNat < S100000.size a := fun v2582 k0_hw99 => k0_hw99
def k0_off228 (k0_t99 : Fin k0_t99_loop.trips) : Fin 2 → Nat :=
  let c0_i32_1821 : BitVec 32 := 0#32
  let v2585 : Index := Scalar.indexCast c0_i32_1821
  let c0_i32_1817 : BitVec 32 := 0#32
  let c0_i32_1713 : BitVec 32 := 0#32
  let c1_i32_1715 : BitVec 32 := 1#32
  let arg10 : BitVec 32 := Scf.iv c0_i32_1713 c1_i32_1715 k0_t99
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t100_loop : Scf.Loop 32 :=
  let c0_i32_1727 : BitVec 32 := 0#32
  let c256_i32_1728 : BitVec 32 := 256#32
  let v2453 : BitVec 32 := Scalar.addi c0_i32_1727 c256_i32_1728
  let c1_i32_1729 : BitVec 32 := 1#32
  ⟨c0_i32_1727, v2453, c1_i32_1729⟩
def k0_off229 (k0_t100 : Fin k0_t100_loop.trips) : Fin 1 → Nat :=
  let c12288_i32_1819 : BitVec 32 := 12288#32
  let c0_i32_1817 : BitVec 32 := 0#32
  let c0_i32_1727 : BitVec 32 := 0#32
  let c1_i32_1729 : BitVec 32 := 1#32
  let arg10 : BitVec 32 := Scf.iv c0_i32_1727 c1_i32_1729 k0_t100
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c12288_i32_1819 v2579
  let v2581 : Index := Scalar.indexCast v2580
  ![v2581.toNat]

def k0_chk100 (v2582 : IVec S16 32) : Prop :=
  (∀ a x, ((![v2582] : Fin 1 → IVec S16 32) a x).toNat < S100000.size a)
theorem k0_idx100_inb : ∀ (v2582 : IVec S16 32) (k0_hw100 : k0_chk100 v2582), ∀ a x, ((![v2582] : Fin 1 → IVec S16 32) a x).toNat < S100000.size a := fun v2582 k0_hw100 => k0_hw100
def k0_off230 (k0_t100 : Fin k0_t100_loop.trips) : Fin 2 → Nat :=
  let c1_i32_1821 : BitVec 32 := 1#32
  let v2585 : Index := Scalar.indexCast c1_i32_1821
  let c0_i32_1817 : BitVec 32 := 0#32
  let c0_i32_1727 : BitVec 32 := 0#32
  let c1_i32_1729 : BitVec 32 := 1#32
  let arg10 : BitVec 32 := Scf.iv c0_i32_1727 c1_i32_1729 k0_t100
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
def k0_cond26 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c25_i32 : BitVec 32 := 25#32
  let v2462 : BitVec 32 := Scalar.addi v2 c25_i32
  let c0_i32_1737 : BitVec 32 := 0#32
  let v2464 : BitVec 1 := Scalar.cmpi .sgt v2462 c0_i32_1737
  let v2465 : BitVec 32 := Scalar.extui v2464
  let c0_i32_1738 : BitVec 32 := 0#32
  let v2466 : BitVec 1 := Scalar.cmpi .slt v2462 c0_i32_1738
  let v2467 : BitVec 32 := Scalar.extui v2466
  let v2468 : BitVec 32 := Scalar.subi v2465 v2467
  let c32_i32_1736 : BitVec 32 := 32#32
  let c0_i32_1739 : BitVec 32 := 0#32
  let v2469 : BitVec 1 := Scalar.cmpi .sgt c32_i32_1736 c0_i32_1739
  let v2470 : BitVec 32 := Scalar.extui v2469
  let c0_i32_1740 : BitVec 32 := 0#32
  let v2471 : BitVec 1 := Scalar.cmpi .slt c32_i32_1736 c0_i32_1740
  let v2472 : BitVec 32 := Scalar.extui v2471
  let v2473 : BitVec 32 := Scalar.subi v2470 v2472
  let v2474 : BitVec 1 := Scalar.cmpi .ne v2468 v2473
  let v2475 : BitVec 32 := Scalar.remsi v2462 c32_i32_1736
  let c0_i32_1741 : BitVec 32 := 0#32
  let v2476 : BitVec 1 := Scalar.cmpi .ne v2475 c0_i32_1741
  let v2477 : BitVec 1 := Scalar.andi v2474 v2476
  let v2463 : BitVec 32 := Scalar.divsi v2462 c32_i32_1736
  let c1_i32_1742 : BitVec 32 := 1#32
  let v2478 : BitVec 32 := Scalar.subi v2463 c1_i32_1742
  let v2479 : BitVec 32 := Scalar.select v2477 v2478 v2463
  let c24_i32 : BitVec 32 := 24#32
  let v2363 : BitVec 32 := Scalar.addi v2 c24_i32
  let c0_i32_1667 : BitVec 32 := 0#32
  let v2365 : BitVec 1 := Scalar.cmpi .sgt v2363 c0_i32_1667
  let v2366 : BitVec 32 := Scalar.extui v2365
  let c0_i32_1668 : BitVec 32 := 0#32
  let v2367 : BitVec 1 := Scalar.cmpi .slt v2363 c0_i32_1668
  let v2368 : BitVec 32 := Scalar.extui v2367
  let v2369 : BitVec 32 := Scalar.subi v2366 v2368
  let c32_i32_1666 : BitVec 32 := 32#32
  let c0_i32_1669 : BitVec 32 := 0#32
  let v2370 : BitVec 1 := Scalar.cmpi .sgt c32_i32_1666 c0_i32_1669
  let v2371 : BitVec 32 := Scalar.extui v2370
  let c0_i32_1670 : BitVec 32 := 0#32
  let v2372 : BitVec 1 := Scalar.cmpi .slt c32_i32_1666 c0_i32_1670
  let v2373 : BitVec 32 := Scalar.extui v2372
  let v2374 : BitVec 32 := Scalar.subi v2371 v2373
  let v2375 : BitVec 1 := Scalar.cmpi .ne v2369 v2374
  let v2376 : BitVec 32 := Scalar.remsi v2363 c32_i32_1666
  let c0_i32_1671 : BitVec 32 := 0#32
  let v2377 : BitVec 1 := Scalar.cmpi .ne v2376 c0_i32_1671
  let v2378 : BitVec 1 := Scalar.andi v2375 v2377
  let v2364 : BitVec 32 := Scalar.divsi v2363 c32_i32_1666
  let c1_i32_1672 : BitVec 32 := 1#32
  let v2379 : BitVec 32 := Scalar.subi v2364 c1_i32_1672
  let v2380 : BitVec 32 := Scalar.select v2378 v2379 v2364
  let v2490 : BitVec 1 := Scalar.cmpi .ne v2479 v2380
  let v2491 : BitVec 32 := Scalar.extui v2490
  let c0_i32_1749 : BitVec 32 := 0#32
  let v2492 : BitVec 1 := Scalar.cmpi .ne v2491 c0_i32_1749
  v2492

def k0_off231 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c25_i32 : BitVec 32 := 25#32
  let v2462 : BitVec 32 := Scalar.addi v2 c25_i32
  let c0_i32_1737 : BitVec 32 := 0#32
  let v2464 : BitVec 1 := Scalar.cmpi .sgt v2462 c0_i32_1737
  let v2465 : BitVec 32 := Scalar.extui v2464
  let c0_i32_1738 : BitVec 32 := 0#32
  let v2466 : BitVec 1 := Scalar.cmpi .slt v2462 c0_i32_1738
  let v2467 : BitVec 32 := Scalar.extui v2466
  let v2468 : BitVec 32 := Scalar.subi v2465 v2467
  let c32_i32_1736 : BitVec 32 := 32#32
  let c0_i32_1739 : BitVec 32 := 0#32
  let v2469 : BitVec 1 := Scalar.cmpi .sgt c32_i32_1736 c0_i32_1739
  let v2470 : BitVec 32 := Scalar.extui v2469
  let c0_i32_1740 : BitVec 32 := 0#32
  let v2471 : BitVec 1 := Scalar.cmpi .slt c32_i32_1736 c0_i32_1740
  let v2472 : BitVec 32 := Scalar.extui v2471
  let v2473 : BitVec 32 := Scalar.subi v2470 v2472
  let v2474 : BitVec 1 := Scalar.cmpi .ne v2468 v2473
  let v2475 : BitVec 32 := Scalar.remsi v2462 c32_i32_1736
  let c0_i32_1741 : BitVec 32 := 0#32
  let v2476 : BitVec 1 := Scalar.cmpi .ne v2475 c0_i32_1741
  let v2477 : BitVec 1 := Scalar.andi v2474 v2476
  let v2463 : BitVec 32 := Scalar.divsi v2462 c32_i32_1736
  let c1_i32_1742 : BitVec 32 := 1#32
  let v2478 : BitVec 32 := Scalar.subi v2463 c1_i32_1742
  let v2479 : BitVec 32 := Scalar.select v2477 v2478 v2463
  let c0_i32_1816_r50 : BitVec 32 := 0#32
  ![v2479.toNat, 0]
@[reducible] def k0_t101_loop : Scf.Loop 32 :=
  let c0_i32_1755 : BitVec 32 := 0#32
  let c256_i32_1756 : BitVec 32 := 256#32
  let v2501 : BitVec 32 := Scalar.addi c0_i32_1755 c256_i32_1756
  let c1_i32_1757 : BitVec 32 := 1#32
  ⟨c0_i32_1755, v2501, c1_i32_1757⟩
def k0_off232 (k0_t101 : Fin k0_t101_loop.trips) : Fin 1 → Nat :=
  let c0_i32_1819 : BitVec 32 := 0#32
  let c0_i32_1817 : BitVec 32 := 0#32
  let c0_i32_1755 : BitVec 32 := 0#32
  let c1_i32_1757 : BitVec 32 := 1#32
  let arg10 : BitVec 32 := Scf.iv c0_i32_1755 c1_i32_1757 k0_t101
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c0_i32_1819 v2579
  let v2581 : Index := Scalar.indexCast v2580
  ![v2581.toNat]

def k0_chk101 (v2582 : IVec S16 32) : Prop :=
  (∀ a x, ((![v2582] : Fin 1 → IVec S16 32) a x).toNat < S100000.size a)
theorem k0_idx101_inb : ∀ (v2582 : IVec S16 32) (k0_hw101 : k0_chk101 v2582), ∀ a x, ((![v2582] : Fin 1 → IVec S16 32) a x).toNat < S100000.size a := fun v2582 k0_hw101 => k0_hw101
def k0_off233 (k0_t101 : Fin k0_t101_loop.trips) : Fin 2 → Nat :=
  let c0_i32_1821 : BitVec 32 := 0#32
  let v2585 : Index := Scalar.indexCast c0_i32_1821
  let c0_i32_1817 : BitVec 32 := 0#32
  let c0_i32_1755 : BitVec 32 := 0#32
  let c1_i32_1757 : BitVec 32 := 1#32
  let arg10 : BitVec 32 := Scf.iv c0_i32_1755 c1_i32_1757 k0_t101
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t102_loop : Scf.Loop 32 :=
  let c0_i32_1769 : BitVec 32 := 0#32
  let c256_i32_1770 : BitVec 32 := 256#32
  let v2518 : BitVec 32 := Scalar.addi c0_i32_1769 c256_i32_1770
  let c1_i32_1771 : BitVec 32 := 1#32
  ⟨c0_i32_1769, v2518, c1_i32_1771⟩
def k0_off234 (k0_t102 : Fin k0_t102_loop.trips) : Fin 1 → Nat :=
  let c4096_i32_1819 : BitVec 32 := 4096#32
  let c0_i32_1817 : BitVec 32 := 0#32
  let c0_i32_1769 : BitVec 32 := 0#32
  let c1_i32_1771 : BitVec 32 := 1#32
  let arg10 : BitVec 32 := Scf.iv c0_i32_1769 c1_i32_1771 k0_t102
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c4096_i32_1819 v2579
  let v2581 : Index := Scalar.indexCast v2580
  ![v2581.toNat]

def k0_chk102 (v2582 : IVec S16 32) : Prop :=
  (∀ a x, ((![v2582] : Fin 1 → IVec S16 32) a x).toNat < S100000.size a)
theorem k0_idx102_inb : ∀ (v2582 : IVec S16 32) (k0_hw102 : k0_chk102 v2582), ∀ a x, ((![v2582] : Fin 1 → IVec S16 32) a x).toNat < S100000.size a := fun v2582 k0_hw102 => k0_hw102
def k0_off235 (k0_t102 : Fin k0_t102_loop.trips) : Fin 2 → Nat :=
  let c1_i32_1821 : BitVec 32 := 1#32
  let v2585 : Index := Scalar.indexCast c1_i32_1821
  let c0_i32_1817 : BitVec 32 := 0#32
  let c0_i32_1769 : BitVec 32 := 0#32
  let c1_i32_1771 : BitVec 32 := 1#32
  let arg10 : BitVec 32 := Scf.iv c0_i32_1769 c1_i32_1771 k0_t102
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
@[reducible] def k0_t103_loop : Scf.Loop 32 :=
  let c0_i32_1783 : BitVec 32 := 0#32
  let c256_i32_1784 : BitVec 32 := 256#32
  let v2535 : BitVec 32 := Scalar.addi c0_i32_1783 c256_i32_1784
  let c1_i32_1785 : BitVec 32 := 1#32
  ⟨c0_i32_1783, v2535, c1_i32_1785⟩
def k0_off236 (k0_t103 : Fin k0_t103_loop.trips) : Fin 1 → Nat :=
  let c8192_i32_1819 : BitVec 32 := 8192#32
  let c0_i32_1817 : BitVec 32 := 0#32
  let c0_i32_1783 : BitVec 32 := 0#32
  let c1_i32_1785 : BitVec 32 := 1#32
  let arg10 : BitVec 32 := Scf.iv c0_i32_1783 c1_i32_1785 k0_t103
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c8192_i32_1819 v2579
  let v2581 : Index := Scalar.indexCast v2580
  ![v2581.toNat]

def k0_chk103 (v2582 : IVec S16 32) : Prop :=
  (∀ a x, ((![v2582] : Fin 1 → IVec S16 32) a x).toNat < S100000.size a)
theorem k0_idx103_inb : ∀ (v2582 : IVec S16 32) (k0_hw103 : k0_chk103 v2582), ∀ a x, ((![v2582] : Fin 1 → IVec S16 32) a x).toNat < S100000.size a := fun v2582 k0_hw103 => k0_hw103
def k0_off237 (k0_t103 : Fin k0_t103_loop.trips) : Fin 2 → Nat :=
  let c0_i32_1821 : BitVec 32 := 0#32
  let v2585 : Index := Scalar.indexCast c0_i32_1821
  let c0_i32_1817 : BitVec 32 := 0#32
  let c0_i32_1783 : BitVec 32 := 0#32
  let c1_i32_1785 : BitVec 32 := 1#32
  let arg10 : BitVec 32 := Scf.iv c0_i32_1783 c1_i32_1785 k0_t103
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![0, v2586.toNat]
@[reducible] def k0_t104_loop : Scf.Loop 32 :=
  let c0_i32_1797 : BitVec 32 := 0#32
  let c256_i32_1798 : BitVec 32 := 256#32
  let v2552 : BitVec 32 := Scalar.addi c0_i32_1797 c256_i32_1798
  let c1_i32_1799 : BitVec 32 := 1#32
  ⟨c0_i32_1797, v2552, c1_i32_1799⟩
def k0_off238 (k0_t104 : Fin k0_t104_loop.trips) : Fin 1 → Nat :=
  let c12288_i32_1819 : BitVec 32 := 12288#32
  let c0_i32_1817 : BitVec 32 := 0#32
  let c0_i32_1797 : BitVec 32 := 0#32
  let c1_i32_1799 : BitVec 32 := 1#32
  let arg10 : BitVec 32 := Scf.iv c0_i32_1797 c1_i32_1799 k0_t104
  let c1_i32_1816 : BitVec 32 := 1#32
  let v2577 : BitVec 32 := Scalar.muli arg10 c1_i32_1816
  let v2578 : BitVec 32 := Scalar.addi c0_i32_1817 v2577
  let c16_i32_1818 : BitVec 32 := 16#32
  let v2579 : BitVec 32 := Scalar.muli v2578 c16_i32_1818
  let v2580 : BitVec 32 := Scalar.addi c12288_i32_1819 v2579
  let v2581 : Index := Scalar.indexCast v2580
  ![v2581.toNat]

def k0_chk104 (v2582 : IVec S16 32) : Prop :=
  (∀ a x, ((![v2582] : Fin 1 → IVec S16 32) a x).toNat < S100000.size a)
theorem k0_idx104_inb : ∀ (v2582 : IVec S16 32) (k0_hw104 : k0_chk104 v2582), ∀ a x, ((![v2582] : Fin 1 → IVec S16 32) a x).toNat < S100000.size a := fun v2582 k0_hw104 => k0_hw104
def k0_off239 (k0_t104 : Fin k0_t104_loop.trips) : Fin 2 → Nat :=
  let c1_i32_1821 : BitVec 32 := 1#32
  let v2585 : Index := Scalar.indexCast c1_i32_1821
  let c0_i32_1817 : BitVec 32 := 0#32
  let c0_i32_1797 : BitVec 32 := 0#32
  let c1_i32_1799 : BitVec 32 := 1#32
  let arg10 : BitVec 32 := Scf.iv c0_i32_1797 c1_i32_1799 k0_t104
  let c1_i32_1816 : BitVec 32 := 1#32
  let v2577 : BitVec 32 := Scalar.muli arg10 c1_i32_1816
  let v2578 : BitVec 32 := Scalar.addi c0_i32_1817 v2577
  let c16_i32_1820 : BitVec 32 := 16#32
  let v2584 : BitVec 32 := Scalar.muli v2578 c16_i32_1820
  let v2586 : Index := Scalar.indexCast v2584
  ![1, v2586.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x26 : Shape := ⟨2, ![16384, 26]⟩
abbrev S26x100000x32 : Shape := ⟨3, ![26, 100000, 32]⟩
abbrev S1x100000x32 : Shape := ⟨3, ![1, 100000, 32]⟩
abbrev S100000x32 : Shape := ⟨2, ![100000, 32]⟩
abbrev S16384x1 : Shape := ⟨2, ![16384, 1]⟩
abbrev S16384 : Shape := ⟨1, ![16384]⟩
abbrev S_ : Shape := ⟨0, ![]⟩
abbrev S1 : Shape := ⟨1, ![1]⟩
abbrev S1x1 : Shape := ⟨2, ![1, 1]⟩
abbrev S16384x32 : Shape := ⟨2, ![16384, 32]⟩
abbrev S16384x1x32 : Shape := ⟨3, ![16384, 1, 32]⟩
abbrev S16384x16x32 : Shape := ⟨3, ![16384, 16, 32]⟩
abbrev S16384x10x32 : Shape := ⟨3, ![16384, 10, 32]⟩
abbrev S16384x26x32 : Shape := ⟨3, ![16384, 26, 32]⟩

abbrev nBuf : Space → Nat
  | .hbm => 733
  | .vmem => 0
  | .smem => 0
  | _ => 0

abbrev hbmTy0_0 (i : Nat) : BufTy := match i % 128 with
  | 0 => ⟨S16384x26, .i32⟩
  | 1 => ⟨S26x100000x32, .f32⟩
  | 2 => ⟨S1x100000x32, .f32⟩
  | 3 => ⟨S100000x32, .f32⟩
  | 4 => ⟨S16384x1, .i32⟩
  | 5 => ⟨S16384, .i32⟩
  | 6 => ⟨S_, .i32⟩
  | 7 => ⟨S16384, .i32⟩
  | 8 => ⟨S16384, .i1⟩
  | 9 => ⟨S_, .i32⟩
  | 10 => ⟨S16384, .i32⟩
  | 11 => ⟨S16384, .i32⟩
  | 12 => ⟨S16384, .i32⟩
  | 13 => ⟨S16384x1, .i32⟩
  | 14 => ⟨S1, .i32⟩
  | 15 => ⟨S_, .i32⟩
  | 16 => ⟨S16384x1, .i32⟩
  | 17 => ⟨S16384x1, .i1⟩
  | 18 => ⟨S1x1, .i32⟩
  | 19 => ⟨S16384x1, .i32⟩
  | 20 => ⟨S16384x1, .i1⟩
  | 21 => ⟨S16384x1, .i1⟩
  | 22 => ⟨S_, .i1⟩
  | 23 => ⟨S16384, .i1⟩
  | 24 => ⟨S16384x32, .f32⟩
  | 25 => ⟨S16384x32, .i1⟩
  | 26 => ⟨S_, .f32⟩
  | 27 => ⟨S16384x32, .f32⟩
  | 28 => ⟨S16384x32, .f32⟩
  | 29 => ⟨S1x100000x32, .f32⟩
  | 30 => ⟨S100000x32, .f32⟩
  | 31 => ⟨S16384x1, .i32⟩
  | 32 => ⟨S16384, .i32⟩
  | 33 => ⟨S_, .i32⟩
  | 34 => ⟨S16384, .i32⟩
  | 35 => ⟨S16384, .i1⟩
  | 36 => ⟨S_, .i32⟩
  | 37 => ⟨S16384, .i32⟩
  | 38 => ⟨S16384, .i32⟩
  | 39 => ⟨S16384, .i32⟩
  | 40 => ⟨S16384x1, .i32⟩
  | 41 => ⟨S1, .i32⟩
  | 42 => ⟨S_, .i32⟩
  | 43 => ⟨S16384x1, .i32⟩
  | 44 => ⟨S16384x1, .i1⟩
  | 45 => ⟨S1x1, .i32⟩
  | 46 => ⟨S16384x1, .i32⟩
  | 47 => ⟨S16384x1, .i1⟩
  | 48 => ⟨S16384x1, .i1⟩
  | 49 => ⟨S_, .i1⟩
  | 50 => ⟨S16384, .i1⟩
  | 51 => ⟨S16384x32, .f32⟩
  | 52 => ⟨S16384x32, .i1⟩
  | 53 => ⟨S_, .f32⟩
  | 54 => ⟨S16384x32, .f32⟩
  | 55 => ⟨S16384x32, .f32⟩
  | 56 => ⟨S1x100000x32, .f32⟩
  | 57 => ⟨S100000x32, .f32⟩
  | 58 => ⟨S16384x1, .i32⟩
  | 59 => ⟨S16384, .i32⟩
  | 60 => ⟨S_, .i32⟩
  | 61 => ⟨S16384, .i32⟩
  | 62 => ⟨S16384, .i1⟩
  | 63 => ⟨S_, .i32⟩
  | 64 => ⟨S16384, .i32⟩
  | 65 => ⟨S16384, .i32⟩
  | 66 => ⟨S16384, .i32⟩
  | 67 => ⟨S16384x1, .i32⟩
  | 68 => ⟨S1, .i32⟩
  | 69 => ⟨S_, .i32⟩
  | 70 => ⟨S16384x1, .i32⟩
  | 71 => ⟨S16384x1, .i1⟩
  | 72 => ⟨S1x1, .i32⟩
  | 73 => ⟨S16384x1, .i32⟩
  | 74 => ⟨S16384x1, .i1⟩
  | 75 => ⟨S16384x1, .i1⟩
  | 76 => ⟨S_, .i1⟩
  | 77 => ⟨S16384, .i1⟩
  | 78 => ⟨S16384x32, .f32⟩
  | 79 => ⟨S16384x32, .i1⟩
  | 80 => ⟨S_, .f32⟩
  | 81 => ⟨S16384x32, .f32⟩
  | 82 => ⟨S16384x32, .f32⟩
  | 83 => ⟨S1x100000x32, .f32⟩
  | 84 => ⟨S100000x32, .f32⟩
  | 85 => ⟨S16384x1, .i32⟩
  | 86 => ⟨S16384, .i32⟩
  | 87 => ⟨S_, .i32⟩
  | 88 => ⟨S16384, .i32⟩
  | 89 => ⟨S16384, .i1⟩
  | 90 => ⟨S_, .i32⟩
  | 91 => ⟨S16384, .i32⟩
  | 92 => ⟨S16384, .i32⟩
  | 93 => ⟨S16384, .i32⟩
  | 94 => ⟨S16384x1, .i32⟩
  | 95 => ⟨S1, .i32⟩
  | 96 => ⟨S_, .i32⟩
  | 97 => ⟨S16384x1, .i32⟩
  | 98 => ⟨S16384x1, .i1⟩
  | 99 => ⟨S1x1, .i32⟩
  | 100 => ⟨S16384x1, .i32⟩
  | 101 => ⟨S16384x1, .i1⟩
  | 102 => ⟨S16384x1, .i1⟩
  | 103 => ⟨S_, .i1⟩
  | 104 => ⟨S16384, .i1⟩
  | 105 => ⟨S16384x32, .f32⟩
  | 106 => ⟨S16384x32, .i1⟩
  | 107 => ⟨S_, .f32⟩
  | 108 => ⟨S16384x32, .f32⟩
  | 109 => ⟨S16384x32, .f32⟩
  | 110 => ⟨S1x100000x32, .f32⟩
  | 111 => ⟨S100000x32, .f32⟩
  | 112 => ⟨S16384x1, .i32⟩
  | 113 => ⟨S16384, .i32⟩
  | 114 => ⟨S_, .i32⟩
  | 115 => ⟨S16384, .i32⟩
  | 116 => ⟨S16384, .i1⟩
  | 117 => ⟨S_, .i32⟩
  | 118 => ⟨S16384, .i32⟩
  | 119 => ⟨S16384, .i32⟩
  | 120 => ⟨S16384, .i32⟩
  | 121 => ⟨S16384x1, .i32⟩
  | 122 => ⟨S1, .i32⟩
  | 123 => ⟨S_, .i32⟩
  | 124 => ⟨S16384x1, .i32⟩
  | 125 => ⟨S16384x1, .i1⟩
  | 126 => ⟨S1x1, .i32⟩
  | 127 => ⟨S16384x1, .i32⟩
  | _ => ⟨S16384x26, .i32⟩

abbrev hbmTy0_1 (i : Nat) : BufTy := match i % 128 with
  | 0 => ⟨S16384x1, .i1⟩
  | 1 => ⟨S16384x1, .i1⟩
  | 2 => ⟨S_, .i1⟩
  | 3 => ⟨S16384, .i1⟩
  | 4 => ⟨S16384x32, .f32⟩
  | 5 => ⟨S16384x32, .i1⟩
  | 6 => ⟨S_, .f32⟩
  | 7 => ⟨S16384x32, .f32⟩
  | 8 => ⟨S16384x32, .f32⟩
  | 9 => ⟨S1x100000x32, .f32⟩
  | 10 => ⟨S100000x32, .f32⟩
  | 11 => ⟨S16384x1, .i32⟩
  | 12 => ⟨S16384, .i32⟩
  | 13 => ⟨S_, .i32⟩
  | 14 => ⟨S16384, .i32⟩
  | 15 => ⟨S16384, .i1⟩
  | 16 => ⟨S_, .i32⟩
  | 17 => ⟨S16384, .i32⟩
  | 18 => ⟨S16384, .i32⟩
  | 19 => ⟨S16384, .i32⟩
  | 20 => ⟨S16384x1, .i32⟩
  | 21 => ⟨S1, .i32⟩
  | 22 => ⟨S_, .i32⟩
  | 23 => ⟨S16384x1, .i32⟩
  | 24 => ⟨S16384x1, .i1⟩
  | 25 => ⟨S1x1, .i32⟩
  | 26 => ⟨S16384x1, .i32⟩
  | 27 => ⟨S16384x1, .i1⟩
  | 28 => ⟨S16384x1, .i1⟩
  | 29 => ⟨S_, .i1⟩
  | 30 => ⟨S16384, .i1⟩
  | 31 => ⟨S16384x32, .f32⟩
  | 32 => ⟨S16384x32, .i1⟩
  | 33 => ⟨S_, .f32⟩
  | 34 => ⟨S16384x32, .f32⟩
  | 35 => ⟨S16384x32, .f32⟩
  | 36 => ⟨S1x100000x32, .f32⟩
  | 37 => ⟨S100000x32, .f32⟩
  | 38 => ⟨S16384x1, .i32⟩
  | 39 => ⟨S16384, .i32⟩
  | 40 => ⟨S_, .i32⟩
  | 41 => ⟨S16384, .i32⟩
  | 42 => ⟨S16384, .i1⟩
  | 43 => ⟨S_, .i32⟩
  | 44 => ⟨S16384, .i32⟩
  | 45 => ⟨S16384, .i32⟩
  | 46 => ⟨S16384, .i32⟩
  | 47 => ⟨S16384x1, .i32⟩
  | 48 => ⟨S1, .i32⟩
  | 49 => ⟨S_, .i32⟩
  | 50 => ⟨S16384x1, .i32⟩
  | 51 => ⟨S16384x1, .i1⟩
  | 52 => ⟨S1x1, .i32⟩
  | 53 => ⟨S16384x1, .i32⟩
  | 54 => ⟨S16384x1, .i1⟩
  | 55 => ⟨S16384x1, .i1⟩
  | 56 => ⟨S_, .i1⟩
  | 57 => ⟨S16384, .i1⟩
  | 58 => ⟨S16384x32, .f32⟩
  | 59 => ⟨S16384x32, .i1⟩
  | 60 => ⟨S_, .f32⟩
  | 61 => ⟨S16384x32, .f32⟩
  | 62 => ⟨S16384x32, .f32⟩
  | 63 => ⟨S1x100000x32, .f32⟩
  | 64 => ⟨S100000x32, .f32⟩
  | 65 => ⟨S16384x1, .i32⟩
  | 66 => ⟨S16384, .i32⟩
  | 67 => ⟨S_, .i32⟩
  | 68 => ⟨S16384, .i32⟩
  | 69 => ⟨S16384, .i1⟩
  | 70 => ⟨S_, .i32⟩
  | 71 => ⟨S16384, .i32⟩
  | 72 => ⟨S16384, .i32⟩
  | 73 => ⟨S16384, .i32⟩
  | 74 => ⟨S16384x1, .i32⟩
  | 75 => ⟨S1, .i32⟩
  | 76 => ⟨S_, .i32⟩
  | 77 => ⟨S16384x1, .i32⟩
  | 78 => ⟨S16384x1, .i1⟩
  | 79 => ⟨S1x1, .i32⟩
  | 80 => ⟨S16384x1, .i32⟩
  | 81 => ⟨S16384x1, .i1⟩
  | 82 => ⟨S16384x1, .i1⟩
  | 83 => ⟨S_, .i1⟩
  | 84 => ⟨S16384, .i1⟩
  | 85 => ⟨S16384x32, .f32⟩
  | 86 => ⟨S16384x32, .i1⟩
  | 87 => ⟨S_, .f32⟩
  | 88 => ⟨S16384x32, .f32⟩
  | 89 => ⟨S16384x32, .f32⟩
  | 90 => ⟨S1x100000x32, .f32⟩
  | 91 => ⟨S100000x32, .f32⟩
  | 92 => ⟨S16384x1, .i32⟩
  | 93 => ⟨S16384, .i32⟩
  | 94 => ⟨S_, .i32⟩
  | 95 => ⟨S16384, .i32⟩
  | 96 => ⟨S16384, .i1⟩
  | 97 => ⟨S_, .i32⟩
  | 98 => ⟨S16384, .i32⟩
  | 99 => ⟨S16384, .i32⟩
  | 100 => ⟨S16384, .i32⟩
  | 101 => ⟨S16384x1, .i32⟩
  | 102 => ⟨S1, .i32⟩
  | 103 => ⟨S_, .i32⟩
  | 104 => ⟨S16384x1, .i32⟩
  | 105 => ⟨S16384x1, .i1⟩
  | 106 => ⟨S1x1, .i32⟩
  | 107 => ⟨S16384x1, .i32⟩
  | 108 => ⟨S16384x1, .i1⟩
  | 109 => ⟨S16384x1, .i1⟩
  | 110 => ⟨S_, .i1⟩
  | 111 => ⟨S16384, .i1⟩
  | 112 => ⟨S16384x32, .f32⟩
  | 113 => ⟨S16384x32, .i1⟩
  | 114 => ⟨S_, .f32⟩
  | 115 => ⟨S16384x32, .f32⟩
  | 116 => ⟨S16384x32, .f32⟩
  | 117 => ⟨S1x100000x32, .f32⟩
  | 118 => ⟨S100000x32, .f32⟩
  | 119 => ⟨S16384x1, .i32⟩
  | 120 => ⟨S16384, .i32⟩
  | 121 => ⟨S_, .i32⟩
  | 122 => ⟨S16384, .i32⟩
  | 123 => ⟨S16384, .i1⟩
  | 124 => ⟨S_, .i32⟩
  | 125 => ⟨S16384, .i32⟩
  | 126 => ⟨S16384, .i32⟩
  | 127 => ⟨S16384, .i32⟩
  | _ => ⟨S16384x26, .i32⟩

abbrev hbmTy0_2 (i : Nat) : BufTy := match i % 128 with
  | 0 => ⟨S16384x1, .i32⟩
  | 1 => ⟨S1, .i32⟩
  | 2 => ⟨S_, .i32⟩
  | 3 => ⟨S16384x1, .i32⟩
  | 4 => ⟨S16384x1, .i1⟩
  | 5 => ⟨S1x1, .i32⟩
  | 6 => ⟨S16384x1, .i32⟩
  | 7 => ⟨S16384x1, .i1⟩
  | 8 => ⟨S16384x1, .i1⟩
  | 9 => ⟨S_, .i1⟩
  | 10 => ⟨S16384, .i1⟩
  | 11 => ⟨S16384x32, .f32⟩
  | 12 => ⟨S16384x32, .i1⟩
  | 13 => ⟨S_, .f32⟩
  | 14 => ⟨S16384x32, .f32⟩
  | 15 => ⟨S16384x32, .f32⟩
  | 16 => ⟨S1x100000x32, .f32⟩
  | 17 => ⟨S100000x32, .f32⟩
  | 18 => ⟨S16384x1, .i32⟩
  | 19 => ⟨S16384, .i32⟩
  | 20 => ⟨S_, .i32⟩
  | 21 => ⟨S16384, .i32⟩
  | 22 => ⟨S16384, .i1⟩
  | 23 => ⟨S_, .i32⟩
  | 24 => ⟨S16384, .i32⟩
  | 25 => ⟨S16384, .i32⟩
  | 26 => ⟨S16384, .i32⟩
  | 27 => ⟨S16384x1, .i32⟩
  | 28 => ⟨S1, .i32⟩
  | 29 => ⟨S_, .i32⟩
  | 30 => ⟨S16384x1, .i32⟩
  | 31 => ⟨S16384x1, .i1⟩
  | 32 => ⟨S1x1, .i32⟩
  | 33 => ⟨S16384x1, .i32⟩
  | 34 => ⟨S16384x1, .i1⟩
  | 35 => ⟨S16384x1, .i1⟩
  | 36 => ⟨S_, .i1⟩
  | 37 => ⟨S16384, .i1⟩
  | 38 => ⟨S16384x32, .f32⟩
  | 39 => ⟨S16384x32, .i1⟩
  | 40 => ⟨S_, .f32⟩
  | 41 => ⟨S16384x32, .f32⟩
  | 42 => ⟨S16384x32, .f32⟩
  | 43 => ⟨S1x100000x32, .f32⟩
  | 44 => ⟨S100000x32, .f32⟩
  | 45 => ⟨S16384x1, .i32⟩
  | 46 => ⟨S16384, .i32⟩
  | 47 => ⟨S_, .i32⟩
  | 48 => ⟨S16384, .i32⟩
  | 49 => ⟨S16384, .i1⟩
  | 50 => ⟨S_, .i32⟩
  | 51 => ⟨S16384, .i32⟩
  | 52 => ⟨S16384, .i32⟩
  | 53 => ⟨S16384, .i32⟩
  | 54 => ⟨S16384x1, .i32⟩
  | 55 => ⟨S1, .i32⟩
  | 56 => ⟨S_, .i32⟩
  | 57 => ⟨S16384x1, .i32⟩
  | 58 => ⟨S16384x1, .i1⟩
  | 59 => ⟨S1x1, .i32⟩
  | 60 => ⟨S16384x1, .i32⟩
  | 61 => ⟨S16384x1, .i1⟩
  | 62 => ⟨S16384x1, .i1⟩
  | 63 => ⟨S_, .i1⟩
  | 64 => ⟨S16384, .i1⟩
  | 65 => ⟨S16384x32, .f32⟩
  | 66 => ⟨S16384x32, .i1⟩
  | 67 => ⟨S_, .f32⟩
  | 68 => ⟨S16384x32, .f32⟩
  | 69 => ⟨S16384x32, .f32⟩
  | 70 => ⟨S1x100000x32, .f32⟩
  | 71 => ⟨S100000x32, .f32⟩
  | 72 => ⟨S16384x1, .i32⟩
  | 73 => ⟨S16384, .i32⟩
  | 74 => ⟨S_, .i32⟩
  | 75 => ⟨S16384, .i32⟩
  | 76 => ⟨S16384, .i1⟩
  | 77 => ⟨S_, .i32⟩
  | 78 => ⟨S16384, .i32⟩
  | 79 => ⟨S16384, .i32⟩
  | 80 => ⟨S16384, .i32⟩
  | 81 => ⟨S16384x1, .i32⟩
  | 82 => ⟨S1, .i32⟩
  | 83 => ⟨S_, .i32⟩
  | 84 => ⟨S16384x1, .i32⟩
  | 85 => ⟨S16384x1, .i1⟩
  | 86 => ⟨S1x1, .i32⟩
  | 87 => ⟨S16384x1, .i32⟩
  | 88 => ⟨S16384x1, .i1⟩
  | 89 => ⟨S16384x1, .i1⟩
  | 90 => ⟨S_, .i1⟩
  | 91 => ⟨S16384, .i1⟩
  | 92 => ⟨S16384x32, .f32⟩
  | 93 => ⟨S16384x32, .i1⟩
  | 94 => ⟨S_, .f32⟩
  | 95 => ⟨S16384x32, .f32⟩
  | 96 => ⟨S16384x32, .f32⟩
  | 97 => ⟨S1x100000x32, .f32⟩
  | 98 => ⟨S100000x32, .f32⟩
  | 99 => ⟨S16384x1, .i32⟩
  | 100 => ⟨S16384, .i32⟩
  | 101 => ⟨S_, .i32⟩
  | 102 => ⟨S16384, .i32⟩
  | 103 => ⟨S16384, .i1⟩
  | 104 => ⟨S_, .i32⟩
  | 105 => ⟨S16384, .i32⟩
  | 106 => ⟨S16384, .i32⟩
  | 107 => ⟨S16384, .i32⟩
  | 108 => ⟨S16384x1, .i32⟩
  | 109 => ⟨S1, .i32⟩
  | 110 => ⟨S_, .i32⟩
  | 111 => ⟨S16384x1, .i32⟩
  | 112 => ⟨S16384x1, .i1⟩
  | 113 => ⟨S1x1, .i32⟩
  | 114 => ⟨S16384x1, .i32⟩
  | 115 => ⟨S16384x1, .i1⟩
  | 116 => ⟨S16384x1, .i1⟩
  | 117 => ⟨S_, .i1⟩
  | 118 => ⟨S16384, .i1⟩
  | 119 => ⟨S16384x32, .f32⟩
  | 120 => ⟨S16384x32, .i1⟩
  | 121 => ⟨S_, .f32⟩
  | 122 => ⟨S16384x32, .f32⟩
  | 123 => ⟨S16384x32, .f32⟩
  | 124 => ⟨S1x100000x32, .f32⟩
  | 125 => ⟨S100000x32, .f32⟩
  | 126 => ⟨S16384x1, .i32⟩
  | 127 => ⟨S16384, .i32⟩
  | _ => ⟨S16384x26, .i32⟩

abbrev hbmTy0_3 (i : Nat) : BufTy := match i % 128 with
  | 0 => ⟨S_, .i32⟩
  | 1 => ⟨S16384, .i32⟩
  | 2 => ⟨S16384, .i1⟩
  | 3 => ⟨S_, .i32⟩
  | 4 => ⟨S16384, .i32⟩
  | 5 => ⟨S16384, .i32⟩
  | 6 => ⟨S16384, .i32⟩
  | 7 => ⟨S16384x1, .i32⟩
  | 8 => ⟨S1, .i32⟩
  | 9 => ⟨S_, .i32⟩
  | 10 => ⟨S16384x1, .i32⟩
  | 11 => ⟨S16384x1, .i1⟩
  | 12 => ⟨S1x1, .i32⟩
  | 13 => ⟨S16384x1, .i32⟩
  | 14 => ⟨S16384x1, .i1⟩
  | 15 => ⟨S16384x1, .i1⟩
  | 16 => ⟨S_, .i1⟩
  | 17 => ⟨S16384, .i1⟩
  | 18 => ⟨S16384x32, .f32⟩
  | 19 => ⟨S16384x32, .i1⟩
  | 20 => ⟨S_, .f32⟩
  | 21 => ⟨S16384x32, .f32⟩
  | 22 => ⟨S16384x32, .f32⟩
  | 23 => ⟨S1x100000x32, .f32⟩
  | 24 => ⟨S100000x32, .f32⟩
  | 25 => ⟨S16384x1, .i32⟩
  | 26 => ⟨S16384, .i32⟩
  | 27 => ⟨S_, .i32⟩
  | 28 => ⟨S16384, .i32⟩
  | 29 => ⟨S16384, .i1⟩
  | 30 => ⟨S_, .i32⟩
  | 31 => ⟨S16384, .i32⟩
  | 32 => ⟨S16384, .i32⟩
  | 33 => ⟨S16384, .i32⟩
  | 34 => ⟨S16384x1, .i32⟩
  | 35 => ⟨S1, .i32⟩
  | 36 => ⟨S_, .i32⟩
  | 37 => ⟨S16384x1, .i32⟩
  | 38 => ⟨S16384x1, .i1⟩
  | 39 => ⟨S1x1, .i32⟩
  | 40 => ⟨S16384x1, .i32⟩
  | 41 => ⟨S16384x1, .i1⟩
  | 42 => ⟨S16384x1, .i1⟩
  | 43 => ⟨S_, .i1⟩
  | 44 => ⟨S16384, .i1⟩
  | 45 => ⟨S16384x32, .f32⟩
  | 46 => ⟨S16384x32, .i1⟩
  | 47 => ⟨S_, .f32⟩
  | 48 => ⟨S16384x32, .f32⟩
  | 49 => ⟨S16384x32, .f32⟩
  | 50 => ⟨S1x100000x32, .f32⟩
  | 51 => ⟨S100000x32, .f32⟩
  | 52 => ⟨S16384x1, .i32⟩
  | 53 => ⟨S16384, .i32⟩
  | 54 => ⟨S_, .i32⟩
  | 55 => ⟨S16384, .i32⟩
  | 56 => ⟨S16384, .i1⟩
  | 57 => ⟨S_, .i32⟩
  | 58 => ⟨S16384, .i32⟩
  | 59 => ⟨S16384, .i32⟩
  | 60 => ⟨S16384, .i32⟩
  | 61 => ⟨S16384x1, .i32⟩
  | 62 => ⟨S1, .i32⟩
  | 63 => ⟨S_, .i32⟩
  | 64 => ⟨S16384x1, .i32⟩
  | 65 => ⟨S16384x1, .i1⟩
  | 66 => ⟨S1x1, .i32⟩
  | 67 => ⟨S16384x1, .i32⟩
  | 68 => ⟨S16384x1, .i1⟩
  | 69 => ⟨S16384x1, .i1⟩
  | 70 => ⟨S_, .i1⟩
  | 71 => ⟨S16384, .i1⟩
  | 72 => ⟨S16384x32, .f32⟩
  | 73 => ⟨S16384x32, .i1⟩
  | 74 => ⟨S_, .f32⟩
  | 75 => ⟨S16384x32, .f32⟩
  | 76 => ⟨S16384x32, .f32⟩
  | 77 => ⟨S1x100000x32, .f32⟩
  | 78 => ⟨S100000x32, .f32⟩
  | 79 => ⟨S16384x1, .i32⟩
  | 80 => ⟨S16384, .i32⟩
  | 81 => ⟨S_, .i32⟩
  | 82 => ⟨S16384, .i32⟩
  | 83 => ⟨S16384, .i1⟩
  | 84 => ⟨S_, .i32⟩
  | 85 => ⟨S16384, .i32⟩
  | 86 => ⟨S16384, .i32⟩
  | 87 => ⟨S16384, .i32⟩
  | 88 => ⟨S16384x1, .i32⟩
  | 89 => ⟨S1, .i32⟩
  | 90 => ⟨S_, .i32⟩
  | 91 => ⟨S16384x1, .i32⟩
  | 92 => ⟨S16384x1, .i1⟩
  | 93 => ⟨S1x1, .i32⟩
  | 94 => ⟨S16384x1, .i32⟩
  | 95 => ⟨S16384x1, .i1⟩
  | 96 => ⟨S16384x1, .i1⟩
  | 97 => ⟨S_, .i1⟩
  | 98 => ⟨S16384, .i1⟩
  | 99 => ⟨S16384x32, .f32⟩
  | 100 => ⟨S16384x32, .i1⟩
  | 101 => ⟨S_, .f32⟩
  | 102 => ⟨S16384x32, .f32⟩
  | 103 => ⟨S16384x32, .f32⟩
  | 104 => ⟨S1x100000x32, .f32⟩
  | 105 => ⟨S100000x32, .f32⟩
  | 106 => ⟨S16384x1, .i32⟩
  | 107 => ⟨S16384, .i32⟩
  | 108 => ⟨S_, .i32⟩
  | 109 => ⟨S16384, .i32⟩
  | 110 => ⟨S16384, .i1⟩
  | 111 => ⟨S_, .i32⟩
  | 112 => ⟨S16384, .i32⟩
  | 113 => ⟨S16384, .i32⟩
  | 114 => ⟨S16384, .i32⟩
  | 115 => ⟨S16384x1, .i32⟩
  | 116 => ⟨S1, .i32⟩
  | 117 => ⟨S_, .i32⟩
  | 118 => ⟨S16384x1, .i32⟩
  | 119 => ⟨S16384x1, .i1⟩
  | 120 => ⟨S1x1, .i32⟩
  | 121 => ⟨S16384x1, .i32⟩
  | 122 => ⟨S16384x1, .i1⟩
  | 123 => ⟨S16384x1, .i1⟩
  | 124 => ⟨S_, .i1⟩
  | 125 => ⟨S16384, .i1⟩
  | 126 => ⟨S16384x32, .f32⟩
  | 127 => ⟨S16384x32, .i1⟩
  | _ => ⟨S16384x26, .i32⟩

abbrev hbmTy0_4 (i : Nat) : BufTy := match i % 128 with
  | 0 => ⟨S_, .f32⟩
  | 1 => ⟨S16384x32, .f32⟩
  | 2 => ⟨S16384x32, .f32⟩
  | 3 => ⟨S1x100000x32, .f32⟩
  | 4 => ⟨S100000x32, .f32⟩
  | 5 => ⟨S16384x1, .i32⟩
  | 6 => ⟨S16384, .i32⟩
  | 7 => ⟨S_, .i32⟩
  | 8 => ⟨S16384, .i32⟩
  | 9 => ⟨S16384, .i1⟩
  | 10 => ⟨S_, .i32⟩
  | 11 => ⟨S16384, .i32⟩
  | 12 => ⟨S16384, .i32⟩
  | 13 => ⟨S16384, .i32⟩
  | 14 => ⟨S16384x1, .i32⟩
  | 15 => ⟨S1, .i32⟩
  | 16 => ⟨S_, .i32⟩
  | 17 => ⟨S16384x1, .i32⟩
  | 18 => ⟨S16384x1, .i1⟩
  | 19 => ⟨S1x1, .i32⟩
  | 20 => ⟨S16384x1, .i32⟩
  | 21 => ⟨S16384x1, .i1⟩
  | 22 => ⟨S16384x1, .i1⟩
  | 23 => ⟨S_, .i1⟩
  | 24 => ⟨S16384, .i1⟩
  | 25 => ⟨S16384x32, .f32⟩
  | 26 => ⟨S16384x32, .i1⟩
  | 27 => ⟨S_, .f32⟩
  | 28 => ⟨S16384x32, .f32⟩
  | 29 => ⟨S16384x32, .f32⟩
  | 30 => ⟨S1x100000x32, .f32⟩
  | 31 => ⟨S100000x32, .f32⟩
  | 32 => ⟨S16384x1, .i32⟩
  | 33 => ⟨S16384, .i32⟩
  | 34 => ⟨S_, .i32⟩
  | 35 => ⟨S16384, .i32⟩
  | 36 => ⟨S16384, .i1⟩
  | 37 => ⟨S_, .i32⟩
  | 38 => ⟨S16384, .i32⟩
  | 39 => ⟨S16384, .i32⟩
  | 40 => ⟨S16384, .i32⟩
  | 41 => ⟨S16384x1, .i32⟩
  | 42 => ⟨S1, .i32⟩
  | 43 => ⟨S_, .i32⟩
  | 44 => ⟨S16384x1, .i32⟩
  | 45 => ⟨S16384x1, .i1⟩
  | 46 => ⟨S1x1, .i32⟩
  | 47 => ⟨S16384x1, .i32⟩
  | 48 => ⟨S16384x1, .i1⟩
  | 49 => ⟨S16384x1, .i1⟩
  | 50 => ⟨S_, .i1⟩
  | 51 => ⟨S16384, .i1⟩
  | 52 => ⟨S16384x32, .f32⟩
  | 53 => ⟨S16384x32, .i1⟩
  | 54 => ⟨S_, .f32⟩
  | 55 => ⟨S16384x32, .f32⟩
  | 56 => ⟨S16384x32, .f32⟩
  | 57 => ⟨S1x100000x32, .f32⟩
  | 58 => ⟨S100000x32, .f32⟩
  | 59 => ⟨S16384x1, .i32⟩
  | 60 => ⟨S16384, .i32⟩
  | 61 => ⟨S_, .i32⟩
  | 62 => ⟨S16384, .i32⟩
  | 63 => ⟨S16384, .i1⟩
  | 64 => ⟨S_, .i32⟩
  | 65 => ⟨S16384, .i32⟩
  | 66 => ⟨S16384, .i32⟩
  | 67 => ⟨S16384, .i32⟩
  | 68 => ⟨S16384x1, .i32⟩
  | 69 => ⟨S1, .i32⟩
  | 70 => ⟨S_, .i32⟩
  | 71 => ⟨S16384x1, .i32⟩
  | 72 => ⟨S16384x1, .i1⟩
  | 73 => ⟨S1x1, .i32⟩
  | 74 => ⟨S16384x1, .i32⟩
  | 75 => ⟨S16384x1, .i1⟩
  | 76 => ⟨S16384x1, .i1⟩
  | 77 => ⟨S_, .i1⟩
  | 78 => ⟨S16384, .i1⟩
  | 79 => ⟨S16384x32, .f32⟩
  | 80 => ⟨S16384x32, .i1⟩
  | 81 => ⟨S_, .f32⟩
  | 82 => ⟨S16384x32, .f32⟩
  | 83 => ⟨S16384x32, .f32⟩
  | 84 => ⟨S1x100000x32, .f32⟩
  | 85 => ⟨S100000x32, .f32⟩
  | 86 => ⟨S16384x1, .i32⟩
  | 87 => ⟨S16384, .i32⟩
  | 88 => ⟨S_, .i32⟩
  | 89 => ⟨S16384, .i32⟩
  | 90 => ⟨S16384, .i1⟩
  | 91 => ⟨S_, .i32⟩
  | 92 => ⟨S16384, .i32⟩
  | 93 => ⟨S16384, .i32⟩
  | 94 => ⟨S16384, .i32⟩
  | 95 => ⟨S16384x1, .i32⟩
  | 96 => ⟨S1, .i32⟩
  | 97 => ⟨S_, .i32⟩
  | 98 => ⟨S16384x1, .i32⟩
  | 99 => ⟨S16384x1, .i1⟩
  | 100 => ⟨S1x1, .i32⟩
  | 101 => ⟨S16384x1, .i32⟩
  | 102 => ⟨S16384x1, .i1⟩
  | 103 => ⟨S16384x1, .i1⟩
  | 104 => ⟨S_, .i1⟩
  | 105 => ⟨S16384, .i1⟩
  | 106 => ⟨S16384x32, .f32⟩
  | 107 => ⟨S16384x32, .i1⟩
  | 108 => ⟨S_, .f32⟩
  | 109 => ⟨S16384x32, .f32⟩
  | 110 => ⟨S16384x32, .f32⟩
  | 111 => ⟨S1x100000x32, .f32⟩
  | 112 => ⟨S100000x32, .f32⟩
  | 113 => ⟨S16384x1, .i32⟩
  | 114 => ⟨S16384, .i32⟩
  | 115 => ⟨S_, .i32⟩
  | 116 => ⟨S16384, .i32⟩
  | 117 => ⟨S16384, .i1⟩
  | 118 => ⟨S_, .i32⟩
  | 119 => ⟨S16384, .i32⟩
  | 120 => ⟨S16384, .i32⟩
  | 121 => ⟨S16384, .i32⟩
  | 122 => ⟨S16384x1, .i32⟩
  | 123 => ⟨S1, .i32⟩
  | 124 => ⟨S_, .i32⟩
  | 125 => ⟨S16384x1, .i32⟩
  | 126 => ⟨S16384x1, .i1⟩
  | 127 => ⟨S1x1, .i32⟩
  | _ => ⟨S16384x26, .i32⟩

abbrev hbmTy0_5 (i : Nat) : BufTy := match i % 128 with
  | 0 => ⟨S16384x1, .i32⟩
  | 1 => ⟨S16384x1, .i1⟩
  | 2 => ⟨S16384x1, .i1⟩
  | 3 => ⟨S_, .i1⟩
  | 4 => ⟨S16384, .i1⟩
  | 5 => ⟨S16384x32, .f32⟩
  | 6 => ⟨S16384x32, .i1⟩
  | 7 => ⟨S_, .f32⟩
  | 8 => ⟨S16384x32, .f32⟩
  | 9 => ⟨S16384x32, .f32⟩
  | 10 => ⟨S1x100000x32, .f32⟩
  | 11 => ⟨S100000x32, .f32⟩
  | 12 => ⟨S16384x1, .i32⟩
  | 13 => ⟨S16384, .i32⟩
  | 14 => ⟨S_, .i32⟩
  | 15 => ⟨S16384, .i32⟩
  | 16 => ⟨S16384, .i1⟩
  | 17 => ⟨S_, .i32⟩
  | 18 => ⟨S16384, .i32⟩
  | 19 => ⟨S16384, .i32⟩
  | 20 => ⟨S16384, .i32⟩
  | 21 => ⟨S16384x1, .i32⟩
  | 22 => ⟨S1, .i32⟩
  | 23 => ⟨S_, .i32⟩
  | 24 => ⟨S16384x1, .i32⟩
  | 25 => ⟨S16384x1, .i1⟩
  | 26 => ⟨S1x1, .i32⟩
  | 27 => ⟨S16384x1, .i32⟩
  | 28 => ⟨S16384x1, .i1⟩
  | 29 => ⟨S16384x1, .i1⟩
  | 30 => ⟨S_, .i1⟩
  | 31 => ⟨S16384, .i1⟩
  | 32 => ⟨S16384x32, .f32⟩
  | 33 => ⟨S16384x32, .i1⟩
  | 34 => ⟨S_, .f32⟩
  | 35 => ⟨S16384x32, .f32⟩
  | 36 => ⟨S16384x32, .f32⟩
  | 37 => ⟨S1x100000x32, .f32⟩
  | 38 => ⟨S100000x32, .f32⟩
  | 39 => ⟨S16384x1, .i32⟩
  | 40 => ⟨S16384, .i32⟩
  | 41 => ⟨S_, .i32⟩
  | 42 => ⟨S16384, .i32⟩
  | 43 => ⟨S16384, .i1⟩
  | 44 => ⟨S_, .i32⟩
  | 45 => ⟨S16384, .i32⟩
  | 46 => ⟨S16384, .i32⟩
  | 47 => ⟨S16384, .i32⟩
  | 48 => ⟨S16384x1, .i32⟩
  | 49 => ⟨S1, .i32⟩
  | 50 => ⟨S_, .i32⟩
  | 51 => ⟨S16384x1, .i32⟩
  | 52 => ⟨S16384x1, .i1⟩
  | 53 => ⟨S1x1, .i32⟩
  | 54 => ⟨S16384x1, .i32⟩
  | 55 => ⟨S16384x1, .i1⟩
  | 56 => ⟨S16384x1, .i1⟩
  | 57 => ⟨S_, .i1⟩
  | 58 => ⟨S16384, .i1⟩
  | 59 => ⟨S16384x32, .f32⟩
  | 60 => ⟨S16384x32, .i1⟩
  | 61 => ⟨S_, .f32⟩
  | 62 => ⟨S16384x32, .f32⟩
  | 63 => ⟨S16384x32, .f32⟩
  | 64 => ⟨S16384x1x32, .f32⟩
  | 65 => ⟨S16384x1x32, .f32⟩
  | 66 => ⟨S16384x1x32, .f32⟩
  | 67 => ⟨S16384x1x32, .f32⟩
  | 68 => ⟨S16384x1x32, .f32⟩
  | 69 => ⟨S16384x1x32, .f32⟩
  | 70 => ⟨S16384x1x32, .f32⟩
  | 71 => ⟨S16384x1x32, .f32⟩
  | 72 => ⟨S16384x1x32, .f32⟩
  | 73 => ⟨S16384x1x32, .f32⟩
  | 74 => ⟨S16384x1x32, .f32⟩
  | 75 => ⟨S16384x1x32, .f32⟩
  | 76 => ⟨S16384x1x32, .f32⟩
  | 77 => ⟨S16384x1x32, .f32⟩
  | 78 => ⟨S16384x1x32, .f32⟩
  | 79 => ⟨S16384x1x32, .f32⟩
  | 80 => ⟨S16384x1x32, .f32⟩
  | 81 => ⟨S16384x1x32, .f32⟩
  | 82 => ⟨S16384x1x32, .f32⟩
  | 83 => ⟨S16384x1x32, .f32⟩
  | 84 => ⟨S16384x1x32, .f32⟩
  | 85 => ⟨S16384x1x32, .f32⟩
  | 86 => ⟨S16384x1x32, .f32⟩
  | 87 => ⟨S16384x1x32, .f32⟩
  | 88 => ⟨S16384x1x32, .f32⟩
  | 89 => ⟨S16384x1x32, .f32⟩
  | 90 => ⟨S16384x16x32, .f32⟩
  | 91 => ⟨S16384x10x32, .f32⟩
  | 92 => ⟨S16384x26x32, .f32⟩
  | _ => ⟨S16384x26, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S16384x26, .i32⟩

abbrev bufTy : (tb : Table) → Fin (tcTables nBuf tb) → BufTy
  | .hbm, ⟨i, _⟩ => hbmTy i
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_call2_c : Ref sig .tc := ⟨.hbm, 60, rfl⟩
abbrev main_call2_v0 : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_c_1 : Ref sig .tc := ⟨.hbm, 68, rfl⟩
abbrev main_call2_c_2 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_3 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_call2_cst : Ref sig .tc := ⟨.hbm, 80, rfl⟩
abbrev main_call2_v15 : Ref sig .tc := ⟨.hbm, 81, rfl⟩
abbrev main_v14 : Ref sig .tc := ⟨.hbm, 82, rfl⟩
abbrev main_v15 : Ref sig .tc := ⟨.hbm, 83, rfl⟩
abbrev main_v16 : Ref sig .tc := ⟨.hbm, 84, rfl⟩
abbrev main_v17 : Ref sig .tc := ⟨.hbm, 85, rfl⟩
abbrev main_v18 : Ref sig .tc := ⟨.hbm, 86, rfl⟩
abbrev main_call3_c : Ref sig .tc := ⟨.hbm, 87, rfl⟩
abbrev main_call3_v0 : Ref sig .tc := ⟨.hbm, 88, rfl⟩
abbrev main_call3_v1 : Ref sig .tc := ⟨.hbm, 89, rfl⟩
abbrev main_call3_c_0 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_c_1 : Ref sig .tc := ⟨.hbm, 95, rfl⟩
abbrev main_call3_c_2 : Ref sig .tc := ⟨.hbm, 96, rfl⟩
abbrev main_call3_v6 : Ref sig .tc := ⟨.hbm, 97, rfl⟩
abbrev main_call3_v7 : Ref sig .tc := ⟨.hbm, 98, rfl⟩
abbrev main_call3_v8 : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_c_3 : Ref sig .tc := ⟨.hbm, 103, rfl⟩
abbrev main_call3_v12 : Ref sig .tc := ⟨.hbm, 104, rfl⟩
abbrev main_call3_v13 : Ref sig .tc := ⟨.hbm, 105, rfl⟩
abbrev main_call3_v14 : Ref sig .tc := ⟨.hbm, 106, rfl⟩
abbrev main_call3_cst : Ref sig .tc := ⟨.hbm, 107, rfl⟩
abbrev main_call3_v15 : Ref sig .tc := ⟨.hbm, 108, rfl⟩
abbrev main_v19 : Ref sig .tc := ⟨.hbm, 109, rfl⟩
abbrev main_v20 : Ref sig .tc := ⟨.hbm, 110, rfl⟩
abbrev main_v21 : Ref sig .tc := ⟨.hbm, 111, rfl⟩
abbrev main_v22 : Ref sig .tc := ⟨.hbm, 112, rfl⟩
abbrev main_v23 : Ref sig .tc := ⟨.hbm, 113, rfl⟩
abbrev main_call4_c : Ref sig .tc := ⟨.hbm, 114, rfl⟩
abbrev main_call4_v0 : Ref sig .tc := ⟨.hbm, 115, rfl⟩
abbrev main_call4_v1 : Ref sig .tc := ⟨.hbm, 116, rfl⟩
abbrev main_call4_c_0 : Ref sig .tc := ⟨.hbm, 117, rfl⟩
abbrev main_call4_v2 : Ref sig .tc := ⟨.hbm, 118, rfl⟩
abbrev main_call4_v3 : Ref sig .tc := ⟨.hbm, 119, rfl⟩
abbrev main_call4_v4 : Ref sig .tc := ⟨.hbm, 120, rfl⟩
abbrev main_call4_v5 : Ref sig .tc := ⟨.hbm, 121, rfl⟩
abbrev main_call4_c_1 : Ref sig .tc := ⟨.hbm, 122, rfl⟩
abbrev main_call4_c_2 : Ref sig .tc := ⟨.hbm, 123, rfl⟩
abbrev main_call4_v6 : Ref sig .tc := ⟨.hbm, 124, rfl⟩
abbrev main_call4_v7 : Ref sig .tc := ⟨.hbm, 125, rfl⟩
abbrev main_call4_v8 : Ref sig .tc := ⟨.hbm, 126, rfl⟩
abbrev main_call4_v9 : Ref sig .tc := ⟨.hbm, 127, rfl⟩
abbrev main_call4_v10 : Ref sig .tc := ⟨.hbm, 128, rfl⟩
abbrev main_call4_v11 : Ref sig .tc := ⟨.hbm, 129, rfl⟩
abbrev main_call4_c_3 : Ref sig .tc := ⟨.hbm, 130, rfl⟩
abbrev main_call4_v12 : Ref sig .tc := ⟨.hbm, 131, rfl⟩
abbrev main_call4_v13 : Ref sig .tc := ⟨.hbm, 132, rfl⟩
abbrev main_call4_v14 : Ref sig .tc := ⟨.hbm, 133, rfl⟩
abbrev main_call4_cst : Ref sig .tc := ⟨.hbm, 134, rfl⟩
abbrev main_call4_v15 : Ref sig .tc := ⟨.hbm, 135, rfl⟩
abbrev main_v24 : Ref sig .tc := ⟨.hbm, 136, rfl⟩
abbrev main_v25 : Ref sig .tc := ⟨.hbm, 137, rfl⟩
abbrev main_v26 : Ref sig .tc := ⟨.hbm, 138, rfl⟩
abbrev main_v27 : Ref sig .tc := ⟨.hbm, 139, rfl⟩
abbrev main_v28 : Ref sig .tc := ⟨.hbm, 140, rfl⟩
abbrev main_call5_c : Ref sig .tc := ⟨.hbm, 141, rfl⟩
abbrev main_call5_v0 : Ref sig .tc := ⟨.hbm, 142, rfl⟩
abbrev main_call5_v1 : Ref sig .tc := ⟨.hbm, 143, rfl⟩
abbrev main_call5_c_0 : Ref sig .tc := ⟨.hbm, 144, rfl⟩
abbrev main_call5_v2 : Ref sig .tc := ⟨.hbm, 145, rfl⟩
abbrev main_call5_v3 : Ref sig .tc := ⟨.hbm, 146, rfl⟩
abbrev main_call5_v4 : Ref sig .tc := ⟨.hbm, 147, rfl⟩
abbrev main_call5_v5 : Ref sig .tc := ⟨.hbm, 148, rfl⟩
abbrev main_call5_c_1 : Ref sig .tc := ⟨.hbm, 149, rfl⟩
abbrev main_call5_c_2 : Ref sig .tc := ⟨.hbm, 150, rfl⟩
abbrev main_call5_v6 : Ref sig .tc := ⟨.hbm, 151, rfl⟩
abbrev main_call5_v7 : Ref sig .tc := ⟨.hbm, 152, rfl⟩
abbrev main_call5_v8 : Ref sig .tc := ⟨.hbm, 153, rfl⟩
abbrev main_call5_v9 : Ref sig .tc := ⟨.hbm, 154, rfl⟩
abbrev main_call5_v10 : Ref sig .tc := ⟨.hbm, 155, rfl⟩
abbrev main_call5_v11 : Ref sig .tc := ⟨.hbm, 156, rfl⟩
abbrev main_call5_c_3 : Ref sig .tc := ⟨.hbm, 157, rfl⟩
abbrev main_call5_v12 : Ref sig .tc := ⟨.hbm, 158, rfl⟩
abbrev main_call5_v13 : Ref sig .tc := ⟨.hbm, 159, rfl⟩
abbrev main_call5_v14 : Ref sig .tc := ⟨.hbm, 160, rfl⟩
abbrev main_call5_cst : Ref sig .tc := ⟨.hbm, 161, rfl⟩
abbrev main_call5_v15 : Ref sig .tc := ⟨.hbm, 162, rfl⟩
abbrev main_v29 : Ref sig .tc := ⟨.hbm, 163, rfl⟩
abbrev main_v30 : Ref sig .tc := ⟨.hbm, 164, rfl⟩
abbrev main_v31 : Ref sig .tc := ⟨.hbm, 165, rfl⟩
abbrev main_v32 : Ref sig .tc := ⟨.hbm, 166, rfl⟩
abbrev main_v33 : Ref sig .tc := ⟨.hbm, 167, rfl⟩
abbrev main_call6_c : Ref sig .tc := ⟨.hbm, 168, rfl⟩
abbrev main_call6_v0 : Ref sig .tc := ⟨.hbm, 169, rfl⟩
abbrev main_call6_v1 : Ref sig .tc := ⟨.hbm, 170, rfl⟩
abbrev main_call6_c_0 : Ref sig .tc := ⟨.hbm, 171, rfl⟩
abbrev main_call6_v2 : Ref sig .tc := ⟨.hbm, 172, rfl⟩
abbrev main_call6_v3 : Ref sig .tc := ⟨.hbm, 173, rfl⟩
abbrev main_call6_v4 : Ref sig .tc := ⟨.hbm, 174, rfl⟩
abbrev main_call6_v5 : Ref sig .tc := ⟨.hbm, 175, rfl⟩
abbrev main_call6_c_1 : Ref sig .tc := ⟨.hbm, 176, rfl⟩
abbrev main_call6_c_2 : Ref sig .tc := ⟨.hbm, 177, rfl⟩
abbrev main_call6_v6 : Ref sig .tc := ⟨.hbm, 178, rfl⟩
abbrev main_call6_v7 : Ref sig .tc := ⟨.hbm, 179, rfl⟩
abbrev main_call6_v8 : Ref sig .tc := ⟨.hbm, 180, rfl⟩
abbrev main_call6_v9 : Ref sig .tc := ⟨.hbm, 181, rfl⟩
abbrev main_call6_v10 : Ref sig .tc := ⟨.hbm, 182, rfl⟩
abbrev main_call6_v11 : Ref sig .tc := ⟨.hbm, 183, rfl⟩
abbrev main_call6_c_3 : Ref sig .tc := ⟨.hbm, 184, rfl⟩
abbrev main_call6_v12 : Ref sig .tc := ⟨.hbm, 185, rfl⟩
abbrev main_call6_v13 : Ref sig .tc := ⟨.hbm, 186, rfl⟩
abbrev main_call6_v14 : Ref sig .tc := ⟨.hbm, 187, rfl⟩
abbrev main_call6_cst : Ref sig .tc := ⟨.hbm, 188, rfl⟩
abbrev main_call6_v15 : Ref sig .tc := ⟨.hbm, 189, rfl⟩
abbrev main_v34 : Ref sig .tc := ⟨.hbm, 190, rfl⟩
abbrev main_v35 : Ref sig .tc := ⟨.hbm, 191, rfl⟩
abbrev main_v36 : Ref sig .tc := ⟨.hbm, 192, rfl⟩
abbrev main_v37 : Ref sig .tc := ⟨.hbm, 193, rfl⟩
abbrev main_v38 : Ref sig .tc := ⟨.hbm, 194, rfl⟩
abbrev main_call7_c : Ref sig .tc := ⟨.hbm, 195, rfl⟩
abbrev main_call7_v0 : Ref sig .tc := ⟨.hbm, 196, rfl⟩
abbrev main_call7_v1 : Ref sig .tc := ⟨.hbm, 197, rfl⟩
abbrev main_call7_c_0 : Ref sig .tc := ⟨.hbm, 198, rfl⟩
abbrev main_call7_v2 : Ref sig .tc := ⟨.hbm, 199, rfl⟩
abbrev main_call7_v3 : Ref sig .tc := ⟨.hbm, 200, rfl⟩
abbrev main_call7_v4 : Ref sig .tc := ⟨.hbm, 201, rfl⟩
abbrev main_call7_v5 : Ref sig .tc := ⟨.hbm, 202, rfl⟩
abbrev main_call7_c_1 : Ref sig .tc := ⟨.hbm, 203, rfl⟩
abbrev main_call7_c_2 : Ref sig .tc := ⟨.hbm, 204, rfl⟩
abbrev main_call7_v6 : Ref sig .tc := ⟨.hbm, 205, rfl⟩
abbrev main_call7_v7 : Ref sig .tc := ⟨.hbm, 206, rfl⟩
abbrev main_call7_v8 : Ref sig .tc := ⟨.hbm, 207, rfl⟩
abbrev main_call7_v9 : Ref sig .tc := ⟨.hbm, 208, rfl⟩
abbrev main_call7_v10 : Ref sig .tc := ⟨.hbm, 209, rfl⟩
abbrev main_call7_v11 : Ref sig .tc := ⟨.hbm, 210, rfl⟩
abbrev main_call7_c_3 : Ref sig .tc := ⟨.hbm, 211, rfl⟩
abbrev main_call7_v12 : Ref sig .tc := ⟨.hbm, 212, rfl⟩
abbrev main_call7_v13 : Ref sig .tc := ⟨.hbm, 213, rfl⟩
abbrev main_call7_v14 : Ref sig .tc := ⟨.hbm, 214, rfl⟩
abbrev main_call7_cst : Ref sig .tc := ⟨.hbm, 215, rfl⟩
abbrev main_call7_v15 : Ref sig .tc := ⟨.hbm, 216, rfl⟩
abbrev main_v39 : Ref sig .tc := ⟨.hbm, 217, rfl⟩
abbrev main_v40 : Ref sig .tc := ⟨.hbm, 218, rfl⟩
abbrev main_v41 : Ref sig .tc := ⟨.hbm, 219, rfl⟩
abbrev main_v42 : Ref sig .tc := ⟨.hbm, 220, rfl⟩
abbrev main_v43 : Ref sig .tc := ⟨.hbm, 221, rfl⟩
abbrev main_call8_c : Ref sig .tc := ⟨.hbm, 222, rfl⟩
abbrev main_call8_v0 : Ref sig .tc := ⟨.hbm, 223, rfl⟩
abbrev main_call8_v1 : Ref sig .tc := ⟨.hbm, 224, rfl⟩
abbrev main_call8_c_0 : Ref sig .tc := ⟨.hbm, 225, rfl⟩
abbrev main_call8_v2 : Ref sig .tc := ⟨.hbm, 226, rfl⟩
abbrev main_call8_v3 : Ref sig .tc := ⟨.hbm, 227, rfl⟩
abbrev main_call8_v4 : Ref sig .tc := ⟨.hbm, 228, rfl⟩
abbrev main_call8_v5 : Ref sig .tc := ⟨.hbm, 229, rfl⟩
abbrev main_call8_c_1 : Ref sig .tc := ⟨.hbm, 230, rfl⟩
abbrev main_call8_c_2 : Ref sig .tc := ⟨.hbm, 231, rfl⟩
abbrev main_call8_v6 : Ref sig .tc := ⟨.hbm, 232, rfl⟩
abbrev main_call8_v7 : Ref sig .tc := ⟨.hbm, 233, rfl⟩
abbrev main_call8_v8 : Ref sig .tc := ⟨.hbm, 234, rfl⟩
abbrev main_call8_v9 : Ref sig .tc := ⟨.hbm, 235, rfl⟩
abbrev main_call8_v10 : Ref sig .tc := ⟨.hbm, 236, rfl⟩
abbrev main_call8_v11 : Ref sig .tc := ⟨.hbm, 237, rfl⟩
abbrev main_call8_c_3 : Ref sig .tc := ⟨.hbm, 238, rfl⟩
abbrev main_call8_v12 : Ref sig .tc := ⟨.hbm, 239, rfl⟩
abbrev main_call8_v13 : Ref sig .tc := ⟨.hbm, 240, rfl⟩
abbrev main_call8_v14 : Ref sig .tc := ⟨.hbm, 241, rfl⟩
abbrev main_call8_cst : Ref sig .tc := ⟨.hbm, 242, rfl⟩
abbrev main_call8_v15 : Ref sig .tc := ⟨.hbm, 243, rfl⟩
abbrev main_v44 : Ref sig .tc := ⟨.hbm, 244, rfl⟩
abbrev main_v45 : Ref sig .tc := ⟨.hbm, 245, rfl⟩
abbrev main_v46 : Ref sig .tc := ⟨.hbm, 246, rfl⟩
abbrev main_v47 : Ref sig .tc := ⟨.hbm, 247, rfl⟩
abbrev main_v48 : Ref sig .tc := ⟨.hbm, 248, rfl⟩
abbrev main_call9_c : Ref sig .tc := ⟨.hbm, 249, rfl⟩
abbrev main_call9_v0 : Ref sig .tc := ⟨.hbm, 250, rfl⟩
abbrev main_call9_v1 : Ref sig .tc := ⟨.hbm, 251, rfl⟩
abbrev main_call9_c_0 : Ref sig .tc := ⟨.hbm, 252, rfl⟩
abbrev main_call9_v2 : Ref sig .tc := ⟨.hbm, 253, rfl⟩
abbrev main_call9_v3 : Ref sig .tc := ⟨.hbm, 254, rfl⟩
abbrev main_call9_v4 : Ref sig .tc := ⟨.hbm, 255, rfl⟩
abbrev main_call9_v5 : Ref sig .tc := ⟨.hbm, 256, rfl⟩
abbrev main_call9_c_1 : Ref sig .tc := ⟨.hbm, 257, rfl⟩
abbrev main_call9_c_2 : Ref sig .tc := ⟨.hbm, 258, rfl⟩
abbrev main_call9_v6 : Ref sig .tc := ⟨.hbm, 259, rfl⟩
abbrev main_call9_v7 : Ref sig .tc := ⟨.hbm, 260, rfl⟩
abbrev main_call9_v8 : Ref sig .tc := ⟨.hbm, 261, rfl⟩
abbrev main_call9_v9 : Ref sig .tc := ⟨.hbm, 262, rfl⟩
abbrev main_call9_v10 : Ref sig .tc := ⟨.hbm, 263, rfl⟩
abbrev main_call9_v11 : Ref sig .tc := ⟨.hbm, 264, rfl⟩
abbrev main_call9_c_3 : Ref sig .tc := ⟨.hbm, 265, rfl⟩
abbrev main_call9_v12 : Ref sig .tc := ⟨.hbm, 266, rfl⟩
abbrev main_call9_v13 : Ref sig .tc := ⟨.hbm, 267, rfl⟩
abbrev main_call9_v14 : Ref sig .tc := ⟨.hbm, 268, rfl⟩
abbrev main_call9_cst : Ref sig .tc := ⟨.hbm, 269, rfl⟩
abbrev main_call9_v15 : Ref sig .tc := ⟨.hbm, 270, rfl⟩
abbrev main_v49 : Ref sig .tc := ⟨.hbm, 271, rfl⟩
abbrev main_v50 : Ref sig .tc := ⟨.hbm, 272, rfl⟩
abbrev main_v51 : Ref sig .tc := ⟨.hbm, 273, rfl⟩
abbrev main_v52 : Ref sig .tc := ⟨.hbm, 274, rfl⟩
abbrev main_v53 : Ref sig .tc := ⟨.hbm, 275, rfl⟩
abbrev main_call10_c : Ref sig .tc := ⟨.hbm, 276, rfl⟩
abbrev main_call10_v0 : Ref sig .tc := ⟨.hbm, 277, rfl⟩
abbrev main_call10_v1 : Ref sig .tc := ⟨.hbm, 278, rfl⟩
abbrev main_call10_c_0 : Ref sig .tc := ⟨.hbm, 279, rfl⟩
abbrev main_call10_v2 : Ref sig .tc := ⟨.hbm, 280, rfl⟩
abbrev main_call10_v3 : Ref sig .tc := ⟨.hbm, 281, rfl⟩
abbrev main_call10_v4 : Ref sig .tc := ⟨.hbm, 282, rfl⟩
abbrev main_call10_v5 : Ref sig .tc := ⟨.hbm, 283, rfl⟩
abbrev main_call10_c_1 : Ref sig .tc := ⟨.hbm, 284, rfl⟩
abbrev main_call10_c_2 : Ref sig .tc := ⟨.hbm, 285, rfl⟩
abbrev main_call10_v6 : Ref sig .tc := ⟨.hbm, 286, rfl⟩
abbrev main_call10_v7 : Ref sig .tc := ⟨.hbm, 287, rfl⟩
abbrev main_call10_v8 : Ref sig .tc := ⟨.hbm, 288, rfl⟩
abbrev main_call10_v9 : Ref sig .tc := ⟨.hbm, 289, rfl⟩
abbrev main_call10_v10 : Ref sig .tc := ⟨.hbm, 290, rfl⟩
abbrev main_call10_v11 : Ref sig .tc := ⟨.hbm, 291, rfl⟩
abbrev main_call10_c_3 : Ref sig .tc := ⟨.hbm, 292, rfl⟩
abbrev main_call10_v12 : Ref sig .tc := ⟨.hbm, 293, rfl⟩
abbrev main_call10_v13 : Ref sig .tc := ⟨.hbm, 294, rfl⟩
abbrev main_call10_v14 : Ref sig .tc := ⟨.hbm, 295, rfl⟩
abbrev main_call10_cst : Ref sig .tc := ⟨.hbm, 296, rfl⟩
abbrev main_call10_v15 : Ref sig .tc := ⟨.hbm, 297, rfl⟩
abbrev main_v54 : Ref sig .tc := ⟨.hbm, 298, rfl⟩
abbrev main_v55 : Ref sig .tc := ⟨.hbm, 299, rfl⟩
abbrev main_v56 : Ref sig .tc := ⟨.hbm, 300, rfl⟩
abbrev main_v57 : Ref sig .tc := ⟨.hbm, 301, rfl⟩
abbrev main_v58 : Ref sig .tc := ⟨.hbm, 302, rfl⟩
abbrev main_call11_c : Ref sig .tc := ⟨.hbm, 303, rfl⟩
abbrev main_call11_v0 : Ref sig .tc := ⟨.hbm, 304, rfl⟩
abbrev main_call11_v1 : Ref sig .tc := ⟨.hbm, 305, rfl⟩
abbrev main_call11_c_0 : Ref sig .tc := ⟨.hbm, 306, rfl⟩
abbrev main_call11_v2 : Ref sig .tc := ⟨.hbm, 307, rfl⟩
abbrev main_call11_v3 : Ref sig .tc := ⟨.hbm, 308, rfl⟩
abbrev main_call11_v4 : Ref sig .tc := ⟨.hbm, 309, rfl⟩
abbrev main_call11_v5 : Ref sig .tc := ⟨.hbm, 310, rfl⟩
abbrev main_call11_c_1 : Ref sig .tc := ⟨.hbm, 311, rfl⟩
abbrev main_call11_c_2 : Ref sig .tc := ⟨.hbm, 312, rfl⟩
abbrev main_call11_v6 : Ref sig .tc := ⟨.hbm, 313, rfl⟩
abbrev main_call11_v7 : Ref sig .tc := ⟨.hbm, 314, rfl⟩
abbrev main_call11_v8 : Ref sig .tc := ⟨.hbm, 315, rfl⟩
abbrev main_call11_v9 : Ref sig .tc := ⟨.hbm, 316, rfl⟩
abbrev main_call11_v10 : Ref sig .tc := ⟨.hbm, 317, rfl⟩
abbrev main_call11_v11 : Ref sig .tc := ⟨.hbm, 318, rfl⟩
abbrev main_call11_c_3 : Ref sig .tc := ⟨.hbm, 319, rfl⟩
abbrev main_call11_v12 : Ref sig .tc := ⟨.hbm, 320, rfl⟩
abbrev main_call11_v13 : Ref sig .tc := ⟨.hbm, 321, rfl⟩
abbrev main_call11_v14 : Ref sig .tc := ⟨.hbm, 322, rfl⟩
abbrev main_call11_cst : Ref sig .tc := ⟨.hbm, 323, rfl⟩
abbrev main_call11_v15 : Ref sig .tc := ⟨.hbm, 324, rfl⟩
abbrev main_v59 : Ref sig .tc := ⟨.hbm, 325, rfl⟩
abbrev main_v60 : Ref sig .tc := ⟨.hbm, 326, rfl⟩
abbrev main_v61 : Ref sig .tc := ⟨.hbm, 327, rfl⟩
abbrev main_v62 : Ref sig .tc := ⟨.hbm, 328, rfl⟩
abbrev main_v63 : Ref sig .tc := ⟨.hbm, 329, rfl⟩
abbrev main_call12_c : Ref sig .tc := ⟨.hbm, 330, rfl⟩
abbrev main_call12_v0 : Ref sig .tc := ⟨.hbm, 331, rfl⟩
abbrev main_call12_v1 : Ref sig .tc := ⟨.hbm, 332, rfl⟩
abbrev main_call12_c_0 : Ref sig .tc := ⟨.hbm, 333, rfl⟩
abbrev main_call12_v2 : Ref sig .tc := ⟨.hbm, 334, rfl⟩
abbrev main_call12_v3 : Ref sig .tc := ⟨.hbm, 335, rfl⟩
abbrev main_call12_v4 : Ref sig .tc := ⟨.hbm, 336, rfl⟩
abbrev main_call12_v5 : Ref sig .tc := ⟨.hbm, 337, rfl⟩
abbrev main_call12_c_1 : Ref sig .tc := ⟨.hbm, 338, rfl⟩
abbrev main_call12_c_2 : Ref sig .tc := ⟨.hbm, 339, rfl⟩
abbrev main_call12_v6 : Ref sig .tc := ⟨.hbm, 340, rfl⟩
abbrev main_call12_v7 : Ref sig .tc := ⟨.hbm, 341, rfl⟩
abbrev main_call12_v8 : Ref sig .tc := ⟨.hbm, 342, rfl⟩
abbrev main_call12_v9 : Ref sig .tc := ⟨.hbm, 343, rfl⟩
abbrev main_call12_v10 : Ref sig .tc := ⟨.hbm, 344, rfl⟩
abbrev main_call12_v11 : Ref sig .tc := ⟨.hbm, 345, rfl⟩
abbrev main_call12_c_3 : Ref sig .tc := ⟨.hbm, 346, rfl⟩
abbrev main_call12_v12 : Ref sig .tc := ⟨.hbm, 347, rfl⟩
abbrev main_call12_v13 : Ref sig .tc := ⟨.hbm, 348, rfl⟩
abbrev main_call12_v14 : Ref sig .tc := ⟨.hbm, 349, rfl⟩
abbrev main_call12_cst : Ref sig .tc := ⟨.hbm, 350, rfl⟩
abbrev main_call12_v15 : Ref sig .tc := ⟨.hbm, 351, rfl⟩
abbrev main_v64 : Ref sig .tc := ⟨.hbm, 352, rfl⟩
abbrev main_v65 : Ref sig .tc := ⟨.hbm, 353, rfl⟩
abbrev main_v66 : Ref sig .tc := ⟨.hbm, 354, rfl⟩
abbrev main_v67 : Ref sig .tc := ⟨.hbm, 355, rfl⟩
abbrev main_v68 : Ref sig .tc := ⟨.hbm, 356, rfl⟩
abbrev main_call13_c : Ref sig .tc := ⟨.hbm, 357, rfl⟩
abbrev main_call13_v0 : Ref sig .tc := ⟨.hbm, 358, rfl⟩
abbrev main_call13_v1 : Ref sig .tc := ⟨.hbm, 359, rfl⟩
abbrev main_call13_c_0 : Ref sig .tc := ⟨.hbm, 360, rfl⟩
abbrev main_call13_v2 : Ref sig .tc := ⟨.hbm, 361, rfl⟩
abbrev main_call13_v3 : Ref sig .tc := ⟨.hbm, 362, rfl⟩
abbrev main_call13_v4 : Ref sig .tc := ⟨.hbm, 363, rfl⟩
abbrev main_call13_v5 : Ref sig .tc := ⟨.hbm, 364, rfl⟩
abbrev main_call13_c_1 : Ref sig .tc := ⟨.hbm, 365, rfl⟩
abbrev main_call13_c_2 : Ref sig .tc := ⟨.hbm, 366, rfl⟩
abbrev main_call13_v6 : Ref sig .tc := ⟨.hbm, 367, rfl⟩
abbrev main_call13_v7 : Ref sig .tc := ⟨.hbm, 368, rfl⟩
abbrev main_call13_v8 : Ref sig .tc := ⟨.hbm, 369, rfl⟩
abbrev main_call13_v9 : Ref sig .tc := ⟨.hbm, 370, rfl⟩
abbrev main_call13_v10 : Ref sig .tc := ⟨.hbm, 371, rfl⟩
abbrev main_call13_v11 : Ref sig .tc := ⟨.hbm, 372, rfl⟩
abbrev main_call13_c_3 : Ref sig .tc := ⟨.hbm, 373, rfl⟩
abbrev main_call13_v12 : Ref sig .tc := ⟨.hbm, 374, rfl⟩
abbrev main_call13_v13 : Ref sig .tc := ⟨.hbm, 375, rfl⟩
abbrev main_call13_v14 : Ref sig .tc := ⟨.hbm, 376, rfl⟩
abbrev main_call13_cst : Ref sig .tc := ⟨.hbm, 377, rfl⟩
abbrev main_call13_v15 : Ref sig .tc := ⟨.hbm, 378, rfl⟩
abbrev main_v69 : Ref sig .tc := ⟨.hbm, 379, rfl⟩
abbrev main_v70 : Ref sig .tc := ⟨.hbm, 380, rfl⟩
abbrev main_v71 : Ref sig .tc := ⟨.hbm, 381, rfl⟩
abbrev main_v72 : Ref sig .tc := ⟨.hbm, 382, rfl⟩
abbrev main_v73 : Ref sig .tc := ⟨.hbm, 383, rfl⟩
abbrev main_call14_c : Ref sig .tc := ⟨.hbm, 384, rfl⟩
abbrev main_call14_v0 : Ref sig .tc := ⟨.hbm, 385, rfl⟩
abbrev main_call14_v1 : Ref sig .tc := ⟨.hbm, 386, rfl⟩
abbrev main_call14_c_0 : Ref sig .tc := ⟨.hbm, 387, rfl⟩
abbrev main_call14_v2 : Ref sig .tc := ⟨.hbm, 388, rfl⟩
abbrev main_call14_v3 : Ref sig .tc := ⟨.hbm, 389, rfl⟩
abbrev main_call14_v4 : Ref sig .tc := ⟨.hbm, 390, rfl⟩
abbrev main_call14_v5 : Ref sig .tc := ⟨.hbm, 391, rfl⟩
abbrev main_call14_c_1 : Ref sig .tc := ⟨.hbm, 392, rfl⟩
abbrev main_call14_c_2 : Ref sig .tc := ⟨.hbm, 393, rfl⟩
abbrev main_call14_v6 : Ref sig .tc := ⟨.hbm, 394, rfl⟩
abbrev main_call14_v7 : Ref sig .tc := ⟨.hbm, 395, rfl⟩
abbrev main_call14_v8 : Ref sig .tc := ⟨.hbm, 396, rfl⟩
abbrev main_call14_v9 : Ref sig .tc := ⟨.hbm, 397, rfl⟩
abbrev main_call14_v10 : Ref sig .tc := ⟨.hbm, 398, rfl⟩
abbrev main_call14_v11 : Ref sig .tc := ⟨.hbm, 399, rfl⟩
abbrev main_call14_c_3 : Ref sig .tc := ⟨.hbm, 400, rfl⟩
abbrev main_call14_v12 : Ref sig .tc := ⟨.hbm, 401, rfl⟩
abbrev main_call14_v13 : Ref sig .tc := ⟨.hbm, 402, rfl⟩
abbrev main_call14_v14 : Ref sig .tc := ⟨.hbm, 403, rfl⟩
abbrev main_call14_cst : Ref sig .tc := ⟨.hbm, 404, rfl⟩
abbrev main_call14_v15 : Ref sig .tc := ⟨.hbm, 405, rfl⟩
abbrev main_v74 : Ref sig .tc := ⟨.hbm, 406, rfl⟩
abbrev main_v75 : Ref sig .tc := ⟨.hbm, 407, rfl⟩
abbrev main_v76 : Ref sig .tc := ⟨.hbm, 408, rfl⟩
abbrev main_v77 : Ref sig .tc := ⟨.hbm, 409, rfl⟩
abbrev main_v78 : Ref sig .tc := ⟨.hbm, 410, rfl⟩
abbrev main_call15_c : Ref sig .tc := ⟨.hbm, 411, rfl⟩
abbrev main_call15_v0 : Ref sig .tc := ⟨.hbm, 412, rfl⟩
abbrev main_call15_v1 : Ref sig .tc := ⟨.hbm, 413, rfl⟩
abbrev main_call15_c_0 : Ref sig .tc := ⟨.hbm, 414, rfl⟩
abbrev main_call15_v2 : Ref sig .tc := ⟨.hbm, 415, rfl⟩
abbrev main_call15_v3 : Ref sig .tc := ⟨.hbm, 416, rfl⟩
abbrev main_call15_v4 : Ref sig .tc := ⟨.hbm, 417, rfl⟩
abbrev main_call15_v5 : Ref sig .tc := ⟨.hbm, 418, rfl⟩
abbrev main_call15_c_1 : Ref sig .tc := ⟨.hbm, 419, rfl⟩
abbrev main_call15_c_2 : Ref sig .tc := ⟨.hbm, 420, rfl⟩
abbrev main_call15_v6 : Ref sig .tc := ⟨.hbm, 421, rfl⟩
abbrev main_call15_v7 : Ref sig .tc := ⟨.hbm, 422, rfl⟩
abbrev main_call15_v8 : Ref sig .tc := ⟨.hbm, 423, rfl⟩
abbrev main_call15_v9 : Ref sig .tc := ⟨.hbm, 424, rfl⟩
abbrev main_call15_v10 : Ref sig .tc := ⟨.hbm, 425, rfl⟩
abbrev main_call15_v11 : Ref sig .tc := ⟨.hbm, 426, rfl⟩
abbrev main_call15_c_3 : Ref sig .tc := ⟨.hbm, 427, rfl⟩
abbrev main_call15_v12 : Ref sig .tc := ⟨.hbm, 428, rfl⟩
abbrev main_call15_v13 : Ref sig .tc := ⟨.hbm, 429, rfl⟩
abbrev main_call15_v14 : Ref sig .tc := ⟨.hbm, 430, rfl⟩
abbrev main_call15_cst : Ref sig .tc := ⟨.hbm, 431, rfl⟩
abbrev main_call15_v15 : Ref sig .tc := ⟨.hbm, 432, rfl⟩
abbrev main_v79 : Ref sig .tc := ⟨.hbm, 433, rfl⟩
abbrev main_v80 : Ref sig .tc := ⟨.hbm, 434, rfl⟩
abbrev main_v81 : Ref sig .tc := ⟨.hbm, 435, rfl⟩
abbrev main_v82 : Ref sig .tc := ⟨.hbm, 436, rfl⟩
abbrev main_v83 : Ref sig .tc := ⟨.hbm, 437, rfl⟩
abbrev main_call16_c : Ref sig .tc := ⟨.hbm, 438, rfl⟩
abbrev main_call16_v0 : Ref sig .tc := ⟨.hbm, 439, rfl⟩
abbrev main_call16_v1 : Ref sig .tc := ⟨.hbm, 440, rfl⟩
abbrev main_call16_c_0 : Ref sig .tc := ⟨.hbm, 441, rfl⟩
abbrev main_call16_v2 : Ref sig .tc := ⟨.hbm, 442, rfl⟩
abbrev main_call16_v3 : Ref sig .tc := ⟨.hbm, 443, rfl⟩
abbrev main_call16_v4 : Ref sig .tc := ⟨.hbm, 444, rfl⟩
abbrev main_call16_v5 : Ref sig .tc := ⟨.hbm, 445, rfl⟩
abbrev main_call16_c_1 : Ref sig .tc := ⟨.hbm, 446, rfl⟩
abbrev main_call16_c_2 : Ref sig .tc := ⟨.hbm, 447, rfl⟩
abbrev main_call16_v6 : Ref sig .tc := ⟨.hbm, 448, rfl⟩
abbrev main_call16_v7 : Ref sig .tc := ⟨.hbm, 449, rfl⟩
abbrev main_call16_v8 : Ref sig .tc := ⟨.hbm, 450, rfl⟩
abbrev main_call16_v9 : Ref sig .tc := ⟨.hbm, 451, rfl⟩
abbrev main_call16_v10 : Ref sig .tc := ⟨.hbm, 452, rfl⟩
abbrev main_call16_v11 : Ref sig .tc := ⟨.hbm, 453, rfl⟩
abbrev main_call16_c_3 : Ref sig .tc := ⟨.hbm, 454, rfl⟩
abbrev main_call16_v12 : Ref sig .tc := ⟨.hbm, 455, rfl⟩
abbrev main_call16_v13 : Ref sig .tc := ⟨.hbm, 456, rfl⟩
abbrev main_call16_v14 : Ref sig .tc := ⟨.hbm, 457, rfl⟩
abbrev main_call16_cst : Ref sig .tc := ⟨.hbm, 458, rfl⟩
abbrev main_call16_v15 : Ref sig .tc := ⟨.hbm, 459, rfl⟩
abbrev main_v84 : Ref sig .tc := ⟨.hbm, 460, rfl⟩
abbrev main_v85 : Ref sig .tc := ⟨.hbm, 461, rfl⟩
abbrev main_v86 : Ref sig .tc := ⟨.hbm, 462, rfl⟩
abbrev main_v87 : Ref sig .tc := ⟨.hbm, 463, rfl⟩
abbrev main_v88 : Ref sig .tc := ⟨.hbm, 464, rfl⟩
abbrev main_call17_c : Ref sig .tc := ⟨.hbm, 465, rfl⟩
abbrev main_call17_v0 : Ref sig .tc := ⟨.hbm, 466, rfl⟩
abbrev main_call17_v1 : Ref sig .tc := ⟨.hbm, 467, rfl⟩
abbrev main_call17_c_0 : Ref sig .tc := ⟨.hbm, 468, rfl⟩
abbrev main_call17_v2 : Ref sig .tc := ⟨.hbm, 469, rfl⟩
abbrev main_call17_v3 : Ref sig .tc := ⟨.hbm, 470, rfl⟩
abbrev main_call17_v4 : Ref sig .tc := ⟨.hbm, 471, rfl⟩
abbrev main_call17_v5 : Ref sig .tc := ⟨.hbm, 472, rfl⟩
abbrev main_call17_c_1 : Ref sig .tc := ⟨.hbm, 473, rfl⟩
abbrev main_call17_c_2 : Ref sig .tc := ⟨.hbm, 474, rfl⟩
abbrev main_call17_v6 : Ref sig .tc := ⟨.hbm, 475, rfl⟩
abbrev main_call17_v7 : Ref sig .tc := ⟨.hbm, 476, rfl⟩
abbrev main_call17_v8 : Ref sig .tc := ⟨.hbm, 477, rfl⟩
abbrev main_call17_v9 : Ref sig .tc := ⟨.hbm, 478, rfl⟩
abbrev main_call17_v10 : Ref sig .tc := ⟨.hbm, 479, rfl⟩
abbrev main_call17_v11 : Ref sig .tc := ⟨.hbm, 480, rfl⟩
abbrev main_call17_c_3 : Ref sig .tc := ⟨.hbm, 481, rfl⟩
abbrev main_call17_v12 : Ref sig .tc := ⟨.hbm, 482, rfl⟩
abbrev main_call17_v13 : Ref sig .tc := ⟨.hbm, 483, rfl⟩
abbrev main_call17_v14 : Ref sig .tc := ⟨.hbm, 484, rfl⟩
abbrev main_call17_cst : Ref sig .tc := ⟨.hbm, 485, rfl⟩
abbrev main_call17_v15 : Ref sig .tc := ⟨.hbm, 486, rfl⟩
abbrev main_v89 : Ref sig .tc := ⟨.hbm, 487, rfl⟩
abbrev main_v90 : Ref sig .tc := ⟨.hbm, 488, rfl⟩
abbrev main_v91 : Ref sig .tc := ⟨.hbm, 489, rfl⟩
abbrev main_v92 : Ref sig .tc := ⟨.hbm, 490, rfl⟩
abbrev main_v93 : Ref sig .tc := ⟨.hbm, 491, rfl⟩
abbrev main_call18_c : Ref sig .tc := ⟨.hbm, 492, rfl⟩
abbrev main_call18_v0 : Ref sig .tc := ⟨.hbm, 493, rfl⟩
abbrev main_call18_v1 : Ref sig .tc := ⟨.hbm, 494, rfl⟩
abbrev main_call18_c_0 : Ref sig .tc := ⟨.hbm, 495, rfl⟩
abbrev main_call18_v2 : Ref sig .tc := ⟨.hbm, 496, rfl⟩
abbrev main_call18_v3 : Ref sig .tc := ⟨.hbm, 497, rfl⟩
abbrev main_call18_v4 : Ref sig .tc := ⟨.hbm, 498, rfl⟩
abbrev main_call18_v5 : Ref sig .tc := ⟨.hbm, 499, rfl⟩
abbrev main_call18_c_1 : Ref sig .tc := ⟨.hbm, 500, rfl⟩
abbrev main_call18_c_2 : Ref sig .tc := ⟨.hbm, 501, rfl⟩
abbrev main_call18_v6 : Ref sig .tc := ⟨.hbm, 502, rfl⟩
abbrev main_call18_v7 : Ref sig .tc := ⟨.hbm, 503, rfl⟩
abbrev main_call18_v8 : Ref sig .tc := ⟨.hbm, 504, rfl⟩
abbrev main_call18_v9 : Ref sig .tc := ⟨.hbm, 505, rfl⟩
abbrev main_call18_v10 : Ref sig .tc := ⟨.hbm, 506, rfl⟩
abbrev main_call18_v11 : Ref sig .tc := ⟨.hbm, 507, rfl⟩
abbrev main_call18_c_3 : Ref sig .tc := ⟨.hbm, 508, rfl⟩
abbrev main_call18_v12 : Ref sig .tc := ⟨.hbm, 509, rfl⟩
abbrev main_call18_v13 : Ref sig .tc := ⟨.hbm, 510, rfl⟩
abbrev main_call18_v14 : Ref sig .tc := ⟨.hbm, 511, rfl⟩
abbrev main_call18_cst : Ref sig .tc := ⟨.hbm, 512, rfl⟩
abbrev main_call18_v15 : Ref sig .tc := ⟨.hbm, 513, rfl⟩
abbrev main_v94 : Ref sig .tc := ⟨.hbm, 514, rfl⟩
abbrev main_v95 : Ref sig .tc := ⟨.hbm, 515, rfl⟩
abbrev main_v96 : Ref sig .tc := ⟨.hbm, 516, rfl⟩
abbrev main_v97 : Ref sig .tc := ⟨.hbm, 517, rfl⟩
abbrev main_v98 : Ref sig .tc := ⟨.hbm, 518, rfl⟩
abbrev main_call19_c : Ref sig .tc := ⟨.hbm, 519, rfl⟩
abbrev main_call19_v0 : Ref sig .tc := ⟨.hbm, 520, rfl⟩
abbrev main_call19_v1 : Ref sig .tc := ⟨.hbm, 521, rfl⟩
abbrev main_call19_c_0 : Ref sig .tc := ⟨.hbm, 522, rfl⟩
abbrev main_call19_v2 : Ref sig .tc := ⟨.hbm, 523, rfl⟩
abbrev main_call19_v3 : Ref sig .tc := ⟨.hbm, 524, rfl⟩
abbrev main_call19_v4 : Ref sig .tc := ⟨.hbm, 525, rfl⟩
abbrev main_call19_v5 : Ref sig .tc := ⟨.hbm, 526, rfl⟩
abbrev main_call19_c_1 : Ref sig .tc := ⟨.hbm, 527, rfl⟩
abbrev main_call19_c_2 : Ref sig .tc := ⟨.hbm, 528, rfl⟩
abbrev main_call19_v6 : Ref sig .tc := ⟨.hbm, 529, rfl⟩
abbrev main_call19_v7 : Ref sig .tc := ⟨.hbm, 530, rfl⟩
abbrev main_call19_v8 : Ref sig .tc := ⟨.hbm, 531, rfl⟩
abbrev main_call19_v9 : Ref sig .tc := ⟨.hbm, 532, rfl⟩
abbrev main_call19_v10 : Ref sig .tc := ⟨.hbm, 533, rfl⟩
abbrev main_call19_v11 : Ref sig .tc := ⟨.hbm, 534, rfl⟩
abbrev main_call19_c_3 : Ref sig .tc := ⟨.hbm, 535, rfl⟩
abbrev main_call19_v12 : Ref sig .tc := ⟨.hbm, 536, rfl⟩
abbrev main_call19_v13 : Ref sig .tc := ⟨.hbm, 537, rfl⟩
abbrev main_call19_v14 : Ref sig .tc := ⟨.hbm, 538, rfl⟩
abbrev main_call19_cst : Ref sig .tc := ⟨.hbm, 539, rfl⟩
abbrev main_call19_v15 : Ref sig .tc := ⟨.hbm, 540, rfl⟩
abbrev main_v99 : Ref sig .tc := ⟨.hbm, 541, rfl⟩
abbrev main_v100 : Ref sig .tc := ⟨.hbm, 542, rfl⟩
abbrev main_v101 : Ref sig .tc := ⟨.hbm, 543, rfl⟩
abbrev main_v102 : Ref sig .tc := ⟨.hbm, 544, rfl⟩
abbrev main_v103 : Ref sig .tc := ⟨.hbm, 545, rfl⟩
abbrev main_call20_c : Ref sig .tc := ⟨.hbm, 546, rfl⟩
abbrev main_call20_v0 : Ref sig .tc := ⟨.hbm, 547, rfl⟩
abbrev main_call20_v1 : Ref sig .tc := ⟨.hbm, 548, rfl⟩
abbrev main_call20_c_0 : Ref sig .tc := ⟨.hbm, 549, rfl⟩
abbrev main_call20_v2 : Ref sig .tc := ⟨.hbm, 550, rfl⟩
abbrev main_call20_v3 : Ref sig .tc := ⟨.hbm, 551, rfl⟩
abbrev main_call20_v4 : Ref sig .tc := ⟨.hbm, 552, rfl⟩
abbrev main_call20_v5 : Ref sig .tc := ⟨.hbm, 553, rfl⟩
abbrev main_call20_c_1 : Ref sig .tc := ⟨.hbm, 554, rfl⟩
abbrev main_call20_c_2 : Ref sig .tc := ⟨.hbm, 555, rfl⟩
abbrev main_call20_v6 : Ref sig .tc := ⟨.hbm, 556, rfl⟩
abbrev main_call20_v7 : Ref sig .tc := ⟨.hbm, 557, rfl⟩
abbrev main_call20_v8 : Ref sig .tc := ⟨.hbm, 558, rfl⟩
abbrev main_call20_v9 : Ref sig .tc := ⟨.hbm, 559, rfl⟩
abbrev main_call20_v10 : Ref sig .tc := ⟨.hbm, 560, rfl⟩
abbrev main_call20_v11 : Ref sig .tc := ⟨.hbm, 561, rfl⟩
abbrev main_call20_c_3 : Ref sig .tc := ⟨.hbm, 562, rfl⟩
abbrev main_call20_v12 : Ref sig .tc := ⟨.hbm, 563, rfl⟩
abbrev main_call20_v13 : Ref sig .tc := ⟨.hbm, 564, rfl⟩
abbrev main_call20_v14 : Ref sig .tc := ⟨.hbm, 565, rfl⟩
abbrev main_call20_cst : Ref sig .tc := ⟨.hbm, 566, rfl⟩
abbrev main_call20_v15 : Ref sig .tc := ⟨.hbm, 567, rfl⟩
abbrev main_v104 : Ref sig .tc := ⟨.hbm, 568, rfl⟩
abbrev main_v105 : Ref sig .tc := ⟨.hbm, 569, rfl⟩
abbrev main_v106 : Ref sig .tc := ⟨.hbm, 570, rfl⟩
abbrev main_v107 : Ref sig .tc := ⟨.hbm, 571, rfl⟩
abbrev main_v108 : Ref sig .tc := ⟨.hbm, 572, rfl⟩
abbrev main_call21_c : Ref sig .tc := ⟨.hbm, 573, rfl⟩
abbrev main_call21_v0 : Ref sig .tc := ⟨.hbm, 574, rfl⟩
abbrev main_call21_v1 : Ref sig .tc := ⟨.hbm, 575, rfl⟩
abbrev main_call21_c_0 : Ref sig .tc := ⟨.hbm, 576, rfl⟩
abbrev main_call21_v2 : Ref sig .tc := ⟨.hbm, 577, rfl⟩
abbrev main_call21_v3 : Ref sig .tc := ⟨.hbm, 578, rfl⟩
abbrev main_call21_v4 : Ref sig .tc := ⟨.hbm, 579, rfl⟩
abbrev main_call21_v5 : Ref sig .tc := ⟨.hbm, 580, rfl⟩
abbrev main_call21_c_1 : Ref sig .tc := ⟨.hbm, 581, rfl⟩
abbrev main_call21_c_2 : Ref sig .tc := ⟨.hbm, 582, rfl⟩
abbrev main_call21_v6 : Ref sig .tc := ⟨.hbm, 583, rfl⟩
abbrev main_call21_v7 : Ref sig .tc := ⟨.hbm, 584, rfl⟩
abbrev main_call21_v8 : Ref sig .tc := ⟨.hbm, 585, rfl⟩
abbrev main_call21_v9 : Ref sig .tc := ⟨.hbm, 586, rfl⟩
abbrev main_call21_v10 : Ref sig .tc := ⟨.hbm, 587, rfl⟩
abbrev main_call21_v11 : Ref sig .tc := ⟨.hbm, 588, rfl⟩
abbrev main_call21_c_3 : Ref sig .tc := ⟨.hbm, 589, rfl⟩
abbrev main_call21_v12 : Ref sig .tc := ⟨.hbm, 590, rfl⟩
abbrev main_call21_v13 : Ref sig .tc := ⟨.hbm, 591, rfl⟩
abbrev main_call21_v14 : Ref sig .tc := ⟨.hbm, 592, rfl⟩
abbrev main_call21_cst : Ref sig .tc := ⟨.hbm, 593, rfl⟩
abbrev main_call21_v15 : Ref sig .tc := ⟨.hbm, 594, rfl⟩
abbrev main_v109 : Ref sig .tc := ⟨.hbm, 595, rfl⟩
abbrev main_v110 : Ref sig .tc := ⟨.hbm, 596, rfl⟩
abbrev main_v111 : Ref sig .tc := ⟨.hbm, 597, rfl⟩
abbrev main_v112 : Ref sig .tc := ⟨.hbm, 598, rfl⟩
abbrev main_v113 : Ref sig .tc := ⟨.hbm, 599, rfl⟩
abbrev main_call22_c : Ref sig .tc := ⟨.hbm, 600, rfl⟩
abbrev main_call22_v0 : Ref sig .tc := ⟨.hbm, 601, rfl⟩
abbrev main_call22_v1 : Ref sig .tc := ⟨.hbm, 602, rfl⟩
abbrev main_call22_c_0 : Ref sig .tc := ⟨.hbm, 603, rfl⟩
abbrev main_call22_v2 : Ref sig .tc := ⟨.hbm, 604, rfl⟩
abbrev main_call22_v3 : Ref sig .tc := ⟨.hbm, 605, rfl⟩
abbrev main_call22_v4 : Ref sig .tc := ⟨.hbm, 606, rfl⟩
abbrev main_call22_v5 : Ref sig .tc := ⟨.hbm, 607, rfl⟩
abbrev main_call22_c_1 : Ref sig .tc := ⟨.hbm, 608, rfl⟩
abbrev main_call22_c_2 : Ref sig .tc := ⟨.hbm, 609, rfl⟩
abbrev main_call22_v6 : Ref sig .tc := ⟨.hbm, 610, rfl⟩
abbrev main_call22_v7 : Ref sig .tc := ⟨.hbm, 611, rfl⟩
abbrev main_call22_v8 : Ref sig .tc := ⟨.hbm, 612, rfl⟩
abbrev main_call22_v9 : Ref sig .tc := ⟨.hbm, 613, rfl⟩
abbrev main_call22_v10 : Ref sig .tc := ⟨.hbm, 614, rfl⟩
abbrev main_call22_v11 : Ref sig .tc := ⟨.hbm, 615, rfl⟩
abbrev main_call22_c_3 : Ref sig .tc := ⟨.hbm, 616, rfl⟩
abbrev main_call22_v12 : Ref sig .tc := ⟨.hbm, 617, rfl⟩
abbrev main_call22_v13 : Ref sig .tc := ⟨.hbm, 618, rfl⟩
abbrev main_call22_v14 : Ref sig .tc := ⟨.hbm, 619, rfl⟩
abbrev main_call22_cst : Ref sig .tc := ⟨.hbm, 620, rfl⟩
abbrev main_call22_v15 : Ref sig .tc := ⟨.hbm, 621, rfl⟩
abbrev main_v114 : Ref sig .tc := ⟨.hbm, 622, rfl⟩
abbrev main_v115 : Ref sig .tc := ⟨.hbm, 623, rfl⟩
abbrev main_v116 : Ref sig .tc := ⟨.hbm, 624, rfl⟩
abbrev main_v117 : Ref sig .tc := ⟨.hbm, 625, rfl⟩
abbrev main_v118 : Ref sig .tc := ⟨.hbm, 626, rfl⟩
abbrev main_call23_c : Ref sig .tc := ⟨.hbm, 627, rfl⟩
abbrev main_call23_v0 : Ref sig .tc := ⟨.hbm, 628, rfl⟩
abbrev main_call23_v1 : Ref sig .tc := ⟨.hbm, 629, rfl⟩
abbrev main_call23_c_0 : Ref sig .tc := ⟨.hbm, 630, rfl⟩
abbrev main_call23_v2 : Ref sig .tc := ⟨.hbm, 631, rfl⟩
abbrev main_call23_v3 : Ref sig .tc := ⟨.hbm, 632, rfl⟩
abbrev main_call23_v4 : Ref sig .tc := ⟨.hbm, 633, rfl⟩
abbrev main_call23_v5 : Ref sig .tc := ⟨.hbm, 634, rfl⟩
abbrev main_call23_c_1 : Ref sig .tc := ⟨.hbm, 635, rfl⟩
abbrev main_call23_c_2 : Ref sig .tc := ⟨.hbm, 636, rfl⟩
abbrev main_call23_v6 : Ref sig .tc := ⟨.hbm, 637, rfl⟩
abbrev main_call23_v7 : Ref sig .tc := ⟨.hbm, 638, rfl⟩
abbrev main_call23_v8 : Ref sig .tc := ⟨.hbm, 639, rfl⟩
abbrev main_call23_v9 : Ref sig .tc := ⟨.hbm, 640, rfl⟩
abbrev main_call23_v10 : Ref sig .tc := ⟨.hbm, 641, rfl⟩
abbrev main_call23_v11 : Ref sig .tc := ⟨.hbm, 642, rfl⟩
abbrev main_call23_c_3 : Ref sig .tc := ⟨.hbm, 643, rfl⟩
abbrev main_call23_v12 : Ref sig .tc := ⟨.hbm, 644, rfl⟩
abbrev main_call23_v13 : Ref sig .tc := ⟨.hbm, 645, rfl⟩
abbrev main_call23_v14 : Ref sig .tc := ⟨.hbm, 646, rfl⟩
abbrev main_call23_cst : Ref sig .tc := ⟨.hbm, 647, rfl⟩
abbrev main_call23_v15 : Ref sig .tc := ⟨.hbm, 648, rfl⟩
abbrev main_v119 : Ref sig .tc := ⟨.hbm, 649, rfl⟩
abbrev main_v120 : Ref sig .tc := ⟨.hbm, 650, rfl⟩
abbrev main_v121 : Ref sig .tc := ⟨.hbm, 651, rfl⟩
abbrev main_v122 : Ref sig .tc := ⟨.hbm, 652, rfl⟩
abbrev main_v123 : Ref sig .tc := ⟨.hbm, 653, rfl⟩
abbrev main_call24_c : Ref sig .tc := ⟨.hbm, 654, rfl⟩
abbrev main_call24_v0 : Ref sig .tc := ⟨.hbm, 655, rfl⟩
abbrev main_call24_v1 : Ref sig .tc := ⟨.hbm, 656, rfl⟩
abbrev main_call24_c_0 : Ref sig .tc := ⟨.hbm, 657, rfl⟩
abbrev main_call24_v2 : Ref sig .tc := ⟨.hbm, 658, rfl⟩
abbrev main_call24_v3 : Ref sig .tc := ⟨.hbm, 659, rfl⟩
abbrev main_call24_v4 : Ref sig .tc := ⟨.hbm, 660, rfl⟩
abbrev main_call24_v5 : Ref sig .tc := ⟨.hbm, 661, rfl⟩
abbrev main_call24_c_1 : Ref sig .tc := ⟨.hbm, 662, rfl⟩
abbrev main_call24_c_2 : Ref sig .tc := ⟨.hbm, 663, rfl⟩
abbrev main_call24_v6 : Ref sig .tc := ⟨.hbm, 664, rfl⟩
abbrev main_call24_v7 : Ref sig .tc := ⟨.hbm, 665, rfl⟩
abbrev main_call24_v8 : Ref sig .tc := ⟨.hbm, 666, rfl⟩
abbrev main_call24_v9 : Ref sig .tc := ⟨.hbm, 667, rfl⟩
abbrev main_call24_v10 : Ref sig .tc := ⟨.hbm, 668, rfl⟩
abbrev main_call24_v11 : Ref sig .tc := ⟨.hbm, 669, rfl⟩
abbrev main_call24_c_3 : Ref sig .tc := ⟨.hbm, 670, rfl⟩
abbrev main_call24_v12 : Ref sig .tc := ⟨.hbm, 671, rfl⟩
abbrev main_call24_v13 : Ref sig .tc := ⟨.hbm, 672, rfl⟩
abbrev main_call24_v14 : Ref sig .tc := ⟨.hbm, 673, rfl⟩
abbrev main_call24_cst : Ref sig .tc := ⟨.hbm, 674, rfl⟩
abbrev main_call24_v15 : Ref sig .tc := ⟨.hbm, 675, rfl⟩
abbrev main_v124 : Ref sig .tc := ⟨.hbm, 676, rfl⟩
abbrev main_v125 : Ref sig .tc := ⟨.hbm, 677, rfl⟩
abbrev main_v126 : Ref sig .tc := ⟨.hbm, 678, rfl⟩
abbrev main_v127 : Ref sig .tc := ⟨.hbm, 679, rfl⟩
abbrev main_v128 : Ref sig .tc := ⟨.hbm, 680, rfl⟩
abbrev main_call25_c : Ref sig .tc := ⟨.hbm, 681, rfl⟩
abbrev main_call25_v0 : Ref sig .tc := ⟨.hbm, 682, rfl⟩
abbrev main_call25_v1 : Ref sig .tc := ⟨.hbm, 683, rfl⟩
abbrev main_call25_c_0 : Ref sig .tc := ⟨.hbm, 684, rfl⟩
abbrev main_call25_v2 : Ref sig .tc := ⟨.hbm, 685, rfl⟩
abbrev main_call25_v3 : Ref sig .tc := ⟨.hbm, 686, rfl⟩
abbrev main_call25_v4 : Ref sig .tc := ⟨.hbm, 687, rfl⟩
abbrev main_call25_v5 : Ref sig .tc := ⟨.hbm, 688, rfl⟩
abbrev main_call25_c_1 : Ref sig .tc := ⟨.hbm, 689, rfl⟩
abbrev main_call25_c_2 : Ref sig .tc := ⟨.hbm, 690, rfl⟩
abbrev main_call25_v6 : Ref sig .tc := ⟨.hbm, 691, rfl⟩
abbrev main_call25_v7 : Ref sig .tc := ⟨.hbm, 692, rfl⟩
abbrev main_call25_v8 : Ref sig .tc := ⟨.hbm, 693, rfl⟩
abbrev main_call25_v9 : Ref sig .tc := ⟨.hbm, 694, rfl⟩
abbrev main_call25_v10 : Ref sig .tc := ⟨.hbm, 695, rfl⟩
abbrev main_call25_v11 : Ref sig .tc := ⟨.hbm, 696, rfl⟩
abbrev main_call25_c_3 : Ref sig .tc := ⟨.hbm, 697, rfl⟩
abbrev main_call25_v12 : Ref sig .tc := ⟨.hbm, 698, rfl⟩
abbrev main_call25_v13 : Ref sig .tc := ⟨.hbm, 699, rfl⟩
abbrev main_call25_v14 : Ref sig .tc := ⟨.hbm, 700, rfl⟩
abbrev main_call25_cst : Ref sig .tc := ⟨.hbm, 701, rfl⟩
abbrev main_call25_v15 : Ref sig .tc := ⟨.hbm, 702, rfl⟩
abbrev main_v129 : Ref sig .tc := ⟨.hbm, 703, rfl⟩
abbrev main_v130 : Ref sig .tc := ⟨.hbm, 704, rfl⟩
abbrev main_v131 : Ref sig .tc := ⟨.hbm, 705, rfl⟩
abbrev main_v132 : Ref sig .tc := ⟨.hbm, 706, rfl⟩
abbrev main_v133 : Ref sig .tc := ⟨.hbm, 707, rfl⟩
abbrev main_v134 : Ref sig .tc := ⟨.hbm, 708, rfl⟩
abbrev main_v135 : Ref sig .tc := ⟨.hbm, 709, rfl⟩
abbrev main_v136 : Ref sig .tc := ⟨.hbm, 710, rfl⟩
abbrev main_v137 : Ref sig .tc := ⟨.hbm, 711, rfl⟩
abbrev main_v138 : Ref sig .tc := ⟨.hbm, 712, rfl⟩
abbrev main_v139 : Ref sig .tc := ⟨.hbm, 713, rfl⟩
abbrev main_v140 : Ref sig .tc := ⟨.hbm, 714, rfl⟩
abbrev main_v141 : Ref sig .tc := ⟨.hbm, 715, rfl⟩
abbrev main_v142 : Ref sig .tc := ⟨.hbm, 716, rfl⟩
abbrev main_v143 : Ref sig .tc := ⟨.hbm, 717, rfl⟩
abbrev main_v144 : Ref sig .tc := ⟨.hbm, 718, rfl⟩
abbrev main_v145 : Ref sig .tc := ⟨.hbm, 719, rfl⟩
abbrev main_v146 : Ref sig .tc := ⟨.hbm, 720, rfl⟩
abbrev main_v147 : Ref sig .tc := ⟨.hbm, 721, rfl⟩
abbrev main_v148 : Ref sig .tc := ⟨.hbm, 722, rfl⟩
abbrev main_v149 : Ref sig .tc := ⟨.hbm, 723, rfl⟩
abbrev main_v150 : Ref sig .tc := ⟨.hbm, 724, rfl⟩
abbrev main_v151 : Ref sig .tc := ⟨.hbm, 725, rfl⟩
abbrev main_v152 : Ref sig .tc := ⟨.hbm, 726, rfl⟩
abbrev main_v153 : Ref sig .tc := ⟨.hbm, 727, rfl⟩
abbrev main_v154 : Ref sig .tc := ⟨.hbm, 728, rfl⟩
abbrev main_v155 : Ref sig .tc := ⟨.hbm, 729, rfl⟩
abbrev main_v156 : Ref sig .tc := ⟨.hbm, 730, rfl⟩
abbrev main_v157 : Ref sig .tc := ⟨.hbm, 731, rfl⟩
abbrev main_v158 : Ref sig .tc := ⟨.hbm, 732, rfl⟩

abbrev nD : Nat := 1
abbrev τ : Topo := Topo.v7x

variable {F : FTy → Type} [FloatOps F]
-- ==== Proof.ISteps.lean ====
/-
  The idealized program has the kernel's own text under its own names; this is Proof/KSteps.lean at those names.

  The kernel's task as ONE list of memory steps. The kernel's body is a straight line of twenty-six rows, printed as
  eighty-six windows cut by position; this module names the six kinds of step a row is made of (`Step`), lists the
  rows' steps (`steps`: the first row waits for nothing before its first two quarters, every later row waits there for
  the row before's last two, the end waits for the last row's), and shows that the printed body is the run of that
  list (`body_eq`): each window is a stretch of it, by unfolding, and stretches compose (`Win.bind`).
-/
module

public import proofs.«01_k».proof.Defs
public import proofs.«01_k».proof.Proof.Gen.KernelIdeal
public import proofs.«01_k».proof.Proof.KLaunch

@[expose] public section

noncomputable section

namespace Cert.Proof.KernelIdeal

open Cert.KernelIdeal Cert.KernelIdeal.Gen
open Idealize.ShloMosaic Idealize.SL.Sem

variable {F : FTy → Type} [FloatOps F]

/-! ## The steps -/

/-- One memory step of a row: fetch the row's index row unless it is the one already there (`idx`), start and await the
    fetch of the row's table row (`tabS`, `tabW`), gather one quarter (`gather`), start and await the copy of one
    quarter of the row's output (`outS`, `outW`). -/
inductive Step
  | idx (j : Fin 26)
  | tabS (j : Fin 26)
  | tabW (j : Fin 26)
  | gather (q : Fin 4)
  | outS (q : Fin 4) (j : Fin 26)
  | outW (q : Fin 4) (j : Fin 26)

/-- Whether row `j` fetches its index row. -/
def cond (i : grid0.Coords) : Nat → BitVec 1
  | 0 => k0_cond1 i
  | 1 => k0_cond2 i
  | 2 => k0_cond3 i
  | 3 => k0_cond4 i
  | 4 => k0_cond5 i
  | 5 => k0_cond6 i
  | 6 => k0_cond7 i
  | 7 => k0_cond8 i
  | 8 => k0_cond9 i
  | 9 => k0_cond10 i
  | 10 => k0_cond11 i
  | 11 => k0_cond12 i
  | 12 => k0_cond13 i
  | 13 => k0_cond14 i
  | 14 => k0_cond15 i
  | 15 => k0_cond16 i
  | 16 => k0_cond17 i
  | 17 => k0_cond18 i
  | 18 => k0_cond19 i
  | 19 => k0_cond20 i
  | 20 => k0_cond21 i
  | 21 => k0_cond22 i
  | 22 => k0_cond23 i
  | 23 => k0_cond24 i
  | 24 => k0_cond25 i
  | _ => k0_cond26 i

/-- Where row `j`'s index row lies in the transposed indices. -/
def idxOff (i : grid0.Coords) : Nat → Fin 2 → Nat
  | 0 => k0_off1 i
  | 1 => k0_off15 i
  | 2 => k0_off24 i
  | 3 => k0_off33 i
  | 4 => k0_off42 i
  | 5 => k0_off51 i
  | 6 => k0_off60 i
  | 7 => k0_off69 i
  | 8 => k0_off78 i
  | 9 => k0_off87 i
  | 10 => k0_off96 i
  | 11 => k0_off105 i
  | 12 => k0_off114 i
  | 13 => k0_off123 i
  | 14 => k0_off132 i
  | 15 => k0_off141 i
  | 16 => k0_off150 i
  | 17 => k0_off159 i
  | 18 => k0_off168 i
  | 19 => k0_off177 i
  | 20 => k0_off186 i
  | 21 => k0_off195 i
  | 22 => k0_off204 i
  | 23 => k0_off213 i
  | 24 => k0_off222 i
  | _ => k0_off231 i

theorem idxOff_inb (i : grid0.Coords) : ∀ j : Fin 26, cond i j = 1#1 → ∀ a, idxOff i j a + S1x16384.size a ≤ S26x16384.size a
  | ⟨0, _⟩ => k0_off1_inb i
  | ⟨1, _⟩ => k0_off15_inb i
  | ⟨2, _⟩ => k0_off24_inb i
  | ⟨3, _⟩ => k0_off33_inb i
  | ⟨4, _⟩ => k0_off42_inb i
  | ⟨5, _⟩ => k0_off51_inb i
  | ⟨6, _⟩ => k0_off60_inb i
  | ⟨7, _⟩ => k0_off69_inb i
  | ⟨8, _⟩ => k0_off78_inb i
  | ⟨9, _⟩ => k0_off87_inb i
  | ⟨10, _⟩ => k0_off96_inb i
  | ⟨11, _⟩ => k0_off105_inb i
  | ⟨12, _⟩ => k0_off114_inb i
  | ⟨13, _⟩ => k0_off123_inb i
  | ⟨14, _⟩ => k0_off132_inb i
  | ⟨15, _⟩ => k0_off141_inb i
  | ⟨16, _⟩ => k0_off150_inb i
  | ⟨17, _⟩ => k0_off159_inb i
  | ⟨18, _⟩ => k0_off168_inb i
  | ⟨19, _⟩ => k0_off177_inb i
  | ⟨20, _⟩ => k0_off186_inb i
  | ⟨21, _⟩ => k0_off195_inb i
  | ⟨22, _⟩ => k0_off204_inb i
  | ⟨23, _⟩ => k0_off213_inb i
  | ⟨24, _⟩ => k0_off222_inb i
  | ⟨25, _⟩ => k0_off231_inb i
  | ⟨n + 26, h⟩ => absurd h (by omega)

/-- Where quarter `q` of the `c`-th row's output lies. -/
def outOff (i : grid0.Coords) : Fin 4 → BitVec 32 → Fin 3 → Nat
  | 0, c => k0_off5 i c
  | 1, c => k0_off8 i c
  | 2, c => k0_off11 i c
  | 3, c => k0_off14 i c

theorem outOff_inb (i : grid0.Coords) : ∀ (q : Fin 4) (j : Fin 26), ∀ a, outOff i q (BitVec.ofNat 32 j.val) a + S1x1x4096.size a ≤ S26x32x16384.size a
  | 0, j => k0_off5_inb i j
  | 1, j => k0_off8_inb i j
  | 2, j => k0_off11_inb i j
  | 3, j => k0_off14_inb i j

/-- Where a trip of quarter `q`'s loop reads its sixteen indices, -/
def ldOff : Fin 4 → Fin k0_t1_loop.trips → Fin 1 → Nat
  | 0, t => k0_off3 t
  | 1, t => k0_off6 t
  | 2, t => k0_off9 t
  | 3, t => k0_off12 t

theorem ldOff_inb : ∀ (q : Fin 4) (t : Fin k0_t1_loop.trips), ∀ a, ldOff q t a + S16.size a ≤ S16384.size a
  | 0, t => k0_off3_inb t
  | 1, t => k0_off6_inb t
  | 2, t => k0_off9_inb t
  | 3, t => k0_off12_inb t

/-- and where it stores what it gathered. -/
def stOff : Fin 4 → Fin k0_t1_loop.trips → Fin 2 → Nat
  | 0, t => k0_off4 t
  | 1, t => k0_off7 t
  | 2, t => k0_off10 t
  | 3, t => k0_off13 t

theorem stOff_inb : ∀ (q : Fin 4) (t : Fin k0_t1_loop.trips), ∀ a, stOff q t a + S1x16.size a ≤ S2x4096.size a
  | 0, t => k0_off4_inb t
  | 1, t => k0_off7_inb t
  | 2, t => k0_off10_inb t
  | 3, t => k0_off13_inb t

/-- The staging half quarter `q` goes through: the two halves alternate. -/
def halfOff : Fin 4 → Fin 2 → Nat
  | 0 => ![0, 0]
  | 1 => ![1, 0]
  | 2 => ![0, 0]
  | 3 => ![1, 0]

theorem halfOff_inb : ∀ (q : Fin 4), ∀ a, halfOff q a + S1x4096.size a ≤ S2x4096.size a
  | 0 => inb_S2x4096_S1x4096_0_0
  | 1 => inb_S2x4096_S1x4096_1_0
  | 2 => inb_S2x4096_S1x4096_0_0
  | 3 => inb_S2x4096_S1x4096_1_0

/-- The semaphore of row `j`'s index fetch, -/
def semI (j : Fin 26) : DmaSems sig S_ := SemArray.consecutive (2 + 2 * j.val) S_ (by have := j.isLt; show _ + 1 ≤ 54; omega)
/-- of its table fetch, -/
def semT (j : Fin 26) : DmaSems sig S_ := SemArray.consecutive (3 + 2 * j.val) S_ (by have := j.isLt; show _ + 1 ≤ 54; omega)
/-- and of the copies out of quarter `q`'s half. -/
def semO : Fin 4 → DmaSems sig S_
  | 0 => cc0_scratch3
  | 1 => cc0_scratch4
  | 2 => cc0_scratch3
  | 3 => cc0_scratch4

/-- The transposed tables, the transposed indices, the output, and the task's three scratches, whole. -/
abbrev mTab : Memref sig .scVector .hbm S26x32x100000 .f32 := Memref.whole main_v0_scv
abbrev mIdx : Memref sig .scVector .hbm S26x16384 .i32 := Memref.whole main_v1_scv
abbrev mOut : Memref sig .scVector .hbm S26x32x16384 .f32 := Memref.whole main_v2_scv
abbrev mRow : Memref sig .scVector .vmem S100000 .f32 := Memref.whole cc0_scratch0
abbrev mIx : Memref sig .scVector .vmem S16384 .i32 := Memref.whole cc0_scratch1
abbrev mStage : Memref sig .scVector .vmem S2x4096 .f32 := Memref.whole cc0_scratch2

/-- Row `j`'s index row in the transposed indices, -/
abbrev idxV (i : grid0.Coords) (j : Fin 26) (h : cond i j = 1#1) : Memref sig .scVector .hbm S16384 .i32 :=
  (mIdx.slice (Rect.unit (s := S26x16384) (idxOff i j) S1x16384.size (idxOff_inb i j h)) (fun _ => rfl)).squeeze S16384 squeezes_S1x16384_S16384
/-- its table row, -/
abbrev tabV (i : grid0.Coords) (j : Fin 26) : Memref sig .scVector .hbm S100000 .f32 :=
  (mTab.slice (Rect.unit (s := S26x32x100000) (k0_off2 i (BitVec.ofNat 32 j.val)) S1x1x100000.size (k0_off2_inb i j)) (fun _ => rfl)).squeeze S100000 squeezes_S1x1x100000_S100000
/-- quarter `q` of its output, -/
abbrev outV (i : grid0.Coords) (q : Fin 4) (j : Fin 26) : Memref sig .scVector .hbm S4096 .f32 :=
  (mOut.slice (Rect.unit (s := S26x32x16384) (outOff i q (BitVec.ofNat 32 j.val)) S1x1x4096.size (outOff_inb i q j)) (fun _ => rfl)).squeeze S4096 squeezes_S1x1x4096_S4096
/-- and the staging half quarter `q` goes through. -/
abbrev halfV (q : Fin 4) : Memref sig .scVector .vmem S4096 .f32 :=
  (mStage.slice (Rect.unit (s := S2x4096) (halfOff q) S1x4096.size (halfOff_inb q)) (fun _ => rfl)).squeeze S4096 squeezes_S1x4096_S4096

/-- The processor of the task at coordinates `i`. -/
abbrev proc (i : grid0.Coords) : Proc τ := .scVector ((i 0).castLE hcore0) ((i 1).castLE hsub0)

/-- One trip of quarter `q`'s loop: sixteen indices loaded and checked, sixteen elements gathered and stored. -/
def trip (i : grid0.Coords) (q : Fin 4) (t : Fin k0_t1_loop.trips) : Prog (TpuEff nD τ sig (Elt F) Λ₀ (proc i)) Unit := do
  let v : Vec F S16 .i32 ← Prog.lift (.load mIx (Rect.unit (s := S16384) (ldOff q t) S16.size (ldOff_inb q t)).toLoadRect (View.loadsAt_vmem h_S16))
  have hw : k0_chk1 v := (← Prog.lift (TpuEff.assume (k0_chk1 v) (k0_chk1.dec v))).down
  let g : Vec F S16 .f32 ← SparseCore.vectorLoadIdx mRow ![v] (k0_idx1_inb v hw) (View.loads_vmem h_S100000)
  let _ ← Prog.lift (.load mStage (Rect.unit (s := S2x4096) (stOff q t) S1x16.size (stOff_inb q t)).toLoadRect (View.loadsAt_vmem h_S1x16))
  Prog.lift (.store mStage (Rect.unit (s := S2x4096) (stOff q t) S1x16.size (stOff_inb q t)) (shapeCast S1x16 g shapeCasts_S16_S1x16) Finset.univ (View.stores_vmem_bits_univ h_S1x16 rfl) (.inl rfl))
  pure ⟨⟩

/-- A step, and then `k`. -/
def Step.andThen {α : Type} (i : grid0.Coords) (s : Step) (k : Prog (TpuEff nD τ sig (Elt F) Λ₀ (proc i)) α) : Prog (TpuEff nD τ sig (Elt F) Λ₀ (proc i)) α :=
  match s with
  | .idx j =>
    if h : cond i j = 1#1 then do
      Prog.lift (.enqueueDma (idxV i j h) (.here mIx) (.dma (semI j).sem) ((View.wordExact_bits rfl).reshape _ _) (Memref.isWhole_whole _).wordExact ⟨Or.inl rfl, trivial⟩)
      Prog.lift (.waitDma2 (semI j).sem (idxV i j h) mIx ((View.wordExact_bits rfl).reshape _ _) (Memref.isWhole_whole _).wordExact)
      k
    else k
  | .tabS j => do
    Prog.lift (.enqueueDma (tabV i j) (.here mRow) (.dma (semT j).sem) ((View.wordExact_bits rfl).reshape _ _) (Memref.isWhole_whole _).wordExact ⟨Or.inl rfl, trivial⟩)
    k
  | .tabW j => do
    Prog.lift (.waitDma2 (semT j).sem (tabV i j) mRow ((View.wordExact_bits rfl).reshape _ _) (Memref.isWhole_whole _).wordExact)
    k
  | .gather q => do
    Scf.Loop.for k0_t1_loop k0_t1_ok ⟨⟩ fun t _ => trip i q t
    k
  | .outS q j => do
    Prog.lift (.enqueueDma (halfV q) (.here (outV i q j)) (.dma (semO q).sem) ((View.wordExact_bits rfl).reshape _ _) ((View.wordExact_bits rfl).reshape _ _) ⟨Or.inl rfl, trivial⟩)
    k
  | .outW q j => do
    Prog.lift (.waitDma2 (semO q).sem (halfV q) (outV i q j) ((View.wordExact_bits rfl).reshape _ _) ((View.wordExact_bits rfl).reshape _ _))
    k

/-- The steps `l` in order, then `k`. -/
def run {α : Type} (i : grid0.Coords) : List Step → Prog (TpuEff nD τ sig (Elt F) Λ₀ (proc i)) α → Prog (TpuEff nD τ sig (Elt F) Λ₀ (proc i)) α
  | [], k => k
  | s :: l, k => s.andThen i (run i l k)

/-! ## The rows -/

/-- A row's last two quarters, which every row gathers alike: each once the quarter two before it has left its half. -/
abbrev rowEnd (j : Fin 26) : List Step :=
  [.outW 0 j, .gather 2, .outS 2 j, .outW 1 j, .gather 3, .outS 3 j]

/-- The first row. -/
def row0 : List Step :=
  .idx 0 :: .tabS 0 :: .tabW 0 :: .gather 0 :: .outS 0 0 :: .gather 1 :: .outS 1 0 :: rowEnd 0

/-- Row `j`, after row `p`: its first two quarters wait for row `p`'s last two. -/
def rowS (p j : Fin 26) : List Step :=
  .idx j :: .tabS j :: .tabW j :: .outW 2 p :: .gather 0 :: .outS 0 j :: .outW 3 p :: .gather 1 :: .outS 1 j :: rowEnd j

/-- The last `n` rows and the two waits that end the task. -/
def rest : (n : Nat) → n < 26 → List Step
  | 0, _ => [.outW 2 25, .outW 3 25]
  | n + 1, h => rowS ⟨24 - n, by omega⟩ ⟨25 - n, by omega⟩ ++ rest n (by omega)

/-- All twenty-six rows. -/
def steps : List Step := row0 ++ rest 25 (by decide)

/-! ## The windows -/

/-- `p` is the `n` steps from the `a`-th on, whatever words it hands on. -/
def Win {α : Type} (i : grid0.Coords) (p : Prog (TpuEff nD τ sig (Elt F) Λ₀ (proc i)) α) (a n : Nat) : Prop :=
  ∃ v, p = run i ((steps.drop a).take n) (.ret v)

theorem andThen_bind {α β : Type} (i : grid0.Coords) (s : Step) (k : Prog (TpuEff nD τ sig (Elt F) Λ₀ (proc i)) α)
    (f : α → Prog (TpuEff nD τ sig (Elt F) Λ₀ (proc i)) β) : s.andThen i k >>= f = s.andThen i (k >>= f) := by
  cases s with
  | idx j => unfold Step.andThen; dsimp only; split <;> simp only [bind_assoc]
  | _ => simp only [Step.andThen, bind_assoc]

theorem run_bind {α β : Type} (i : grid0.Coords) (l : List Step) (k : Prog (TpuEff nD τ sig (Elt F) Λ₀ (proc i)) α)
    (f : α → Prog (TpuEff nD τ sig (Elt F) Λ₀ (proc i)) β) : run i l k >>= f = run i l (k >>= f) := by
  induction l with
  | nil => rfl
  | cons s l ih => simp only [run, andThen_bind, ih]

theorem run_append {α : Type} (i : grid0.Coords) (l l' : List Step) (k : Prog (TpuEff nD τ sig (Elt F) Λ₀ (proc i)) α) :
    run i (l ++ l') k = run i l (run i l' k) := by
  induction l with
  | nil => rfl
  | cons s l ih => simp only [run, List.cons_append, ih]

/-- A stretch of steps and the stretch after it, whatever words pass between them, are one stretch. -/
theorem Win.bind {α β : Type} {i : grid0.Coords} {p : Prog (TpuEff nD τ sig (Elt F) Λ₀ (proc i)) α}
    {f : α → Prog (TpuEff nD τ sig (Elt F) Λ₀ (proc i)) β} {a n N : Nat} (hp : Win i p a n) (hn : n ≤ N) (hf : ∀ v, Win i (f v) (a + n) (N - n)) :
    Win i (p >>= f) a N := by
  obtain ⟨v, rfl⟩ := hp
  obtain ⟨w, hw⟩ := hf v
  refine ⟨w, ?_⟩
  obtain ⟨m, rfl⟩ := Nat.exists_eq_add_of_le hn
  rw [Nat.add_sub_cancel_left] at hw
  rw [run_bind, List.take_add, run_append, List.drop_drop]
  exact congrArg (run i _) hw

/-- What the windows are functions of, after the coordinates: the arrays, the scratches and the semaphores. -/
abbrev OfRefs (X : Type 1) : Type 1 :=
    (a0 : Memref sig .scVector .hbm S26x32x100000 .f32) → a0.IsWhole →
    (a1 : Memref sig .scVector .hbm S26x16384 .i32) → a1.IsWhole →
    (a2 : Memref sig .scVector .hbm S26x32x16384 .f32) → a2.IsWhole →
    (a3 : Memref sig .scVector .vmem S100000 .f32) → a3.IsWhole →
    (a4 : Memref sig .scVector .vmem S16384 .i32) → a4.IsWhole →
    (a5 : Memref sig .scVector .vmem S2x4096 .f32) → a5.IsWhole →
    DmaSems sig S_ → DmaSems sig S_ →
    DmaSems sig S_ → DmaSems sig S_ → DmaSems sig S_ → DmaSems sig S_ → DmaSems sig S_ → DmaSems sig S_ →
    DmaSems sig S_ → DmaSems sig S_ → DmaSems sig S_ → DmaSems sig S_ → DmaSems sig S_ → DmaSems sig S_ →
    DmaSems sig S_ → DmaSems sig S_ → DmaSems sig S_ → DmaSems sig S_ → DmaSems sig S_ → DmaSems sig S_ →
    DmaSems sig S_ → DmaSems sig S_ → DmaSems sig S_ → DmaSems sig S_ → DmaSems sig S_ → DmaSems sig S_ →
    DmaSems sig S_ → DmaSems sig S_ → DmaSems sig S_ → DmaSems sig S_ → DmaSems sig S_ → DmaSems sig S_ →
    DmaSems sig S_ → DmaSems sig S_ → DmaSems sig S_ → DmaSems sig S_ → DmaSems sig S_ → DmaSems sig S_ →
    DmaSems sig S_ → DmaSems sig S_ → DmaSems sig S_ → DmaSems sig S_ → DmaSems sig S_ → DmaSems sig S_ →
    DmaSems sig S_ → DmaSems sig S_ → DmaSems sig S_ → DmaSems sig S_ → DmaSems sig S_ → DmaSems sig S_ →
    DmaSems sig S_ → DmaSems sig S_ → DmaSems sig S_ → DmaSems sig S_ → X

/-- At the program's own. -/
abbrev atRefs {X : Type 1} (f : OfRefs X) : X :=
  f (Memref.whole main_v0_scv) (Memref.isWhole_whole _) (Memref.whole main_v1_scv) (Memref.isWhole_whole _) (Memref.whole main_v2_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51

variable (i : grid0.Coords)

theorem win1 : Win (F := F) i (atRefs (k0_part1 i)) 0 1 := ⟨_, rfl⟩
theorem win2 : Win (F := F) i (atRefs (k0_part2 i)) 1 6 := ⟨_, rfl⟩
theorem win3 : ∀ a0, Win (F := F) i (atRefs (k0_part3 i) a0) 7 6 := fun _ => ⟨_, rfl⟩
theorem win4 : ∀ a0 a1 a2, Win (F := F) i (atRefs (k0_part4 i) a0 a1 a2) 13 3 := fun _ _ _ => ⟨_, rfl⟩
theorem win5 : Win (F := F) i (atRefs (k0_part5 i)) 16 5 := ⟨_, rfl⟩
theorem win6 : Win (F := F) i (atRefs (k0_part6 i)) 21 6 := ⟨_, rfl⟩
theorem win7 : ∀ a0 a1, Win (F := F) i (atRefs (k0_part7 i) a0 a1) 27 1 := fun _ _ => ⟨_, rfl⟩
theorem win8 : Win (F := F) i (atRefs (k0_part8 i)) 28 6 := ⟨_, rfl⟩
theorem win9 : Win (F := F) i (atRefs (k0_part9 i)) 34 6 := ⟨_, rfl⟩
theorem win10 : ∀ a0, Win (F := F) i (atRefs (k0_part10 i) a0) 40 3 := fun _ => ⟨_, rfl⟩
theorem win11 : ∀ a0 a1 a2 a3 a4, Win (F := F) i (atRefs (k0_part11 i) a0 a1 a2 a3 a4) 43 5 := fun _ _ _ _ _ => ⟨_, rfl⟩
theorem win12 : Win (F := F) i (atRefs (k0_part12 i)) 48 6 := ⟨_, rfl⟩
theorem win13 : ∀ a0, Win (F := F) i (atRefs (k0_part13 i) a0) 54 4 := fun _ => ⟨_, rfl⟩
theorem win14 : ∀ a0 a1 a2 a3 a4 a5, Win (F := F) i (atRefs (k0_part14 i) a0 a1 a2 a3 a4 a5) 58 3 := fun _ _ _ _ _ _ => ⟨_, rfl⟩
theorem win15 : Win (F := F) i (atRefs (k0_part15 i)) 61 6 := ⟨_, rfl⟩
theorem win16 : Win (F := F) i (atRefs (k0_part16 i)) 67 5 := ⟨_, rfl⟩
theorem win17 : ∀ a0 a1, Win (F := F) i (atRefs (k0_part17 i) a0 a1) 72 3 := fun _ _ => ⟨_, rfl⟩
theorem win18 : Win (F := F) i (atRefs (k0_part18 i)) 75 6 := ⟨_, rfl⟩
theorem win19 : Win (F := F) i (atRefs (k0_part19 i)) 81 4 := ⟨_, rfl⟩
theorem win20 : ∀ a0, Win (F := F) i (atRefs (k0_part20 i) a0) 85 3 := fun _ => ⟨_, rfl⟩
theorem win21 : ∀ a0 a1 a2 a3 a4 a5 a6, Win (F := F) i (atRefs (k0_part21 i) a0 a1 a2 a3 a4 a5 a6) 88 6 := fun _ _ _ _ _ _ _ => ⟨_, rfl⟩
theorem win22 : Win (F := F) i (atRefs (k0_part22 i)) 94 5 := ⟨_, rfl⟩
theorem win23 : ∀ a0, Win (F := F) i (atRefs (k0_part23 i) a0) 99 4 := fun _ => ⟨_, rfl⟩
theorem win24 : ∀ a0 a1 a2 a3 a4 a5, Win (F := F) i (atRefs (k0_part24 i) a0 a1 a2 a3 a4 a5) 103 5 := fun _ _ _ _ _ _ => ⟨_, rfl⟩
theorem win25 : Win (F := F) i (atRefs (k0_part25 i)) 108 4 := ⟨_, rfl⟩
theorem win26 : ∀ a0, Win (F := F) i (atRefs (k0_part26 i) a0) 112 6 := fun _ => ⟨_, rfl⟩
theorem win27 : ∀ a0 a1 a2 a3, Win (F := F) i (atRefs (k0_part27 i) a0 a1 a2 a3) 118 3 := fun _ _ _ _ => ⟨_, rfl⟩
theorem win28 : Win (F := F) i (atRefs (k0_part28 i)) 121 5 := ⟨_, rfl⟩
theorem win29 : Win (F := F) i (atRefs (k0_part29 i)) 126 6 := ⟨_, rfl⟩
theorem win30 : ∀ a0 a1, Win (F := F) i (atRefs (k0_part30 i) a0 a1) 132 2 := fun _ _ => ⟨_, rfl⟩
theorem win31 : Win (F := F) i (atRefs (k0_part31 i)) 134 5 := ⟨_, rfl⟩
theorem win32 : Win (F := F) i (atRefs (k0_part32 i)) 139 6 := ⟨_, rfl⟩
theorem win33 : ∀ a0, Win (F := F) i (atRefs (k0_part33 i) a0) 145 3 := fun _ => ⟨_, rfl⟩
theorem win34 : ∀ a0 a1 a2 a3 a4 a5, Win (F := F) i (atRefs (k0_part34 i) a0 a1 a2 a3 a4 a5) 148 5 := fun _ _ _ _ _ _ => ⟨_, rfl⟩
theorem win35 : Win (F := F) i (atRefs (k0_part35 i)) 153 6 := ⟨_, rfl⟩
theorem win36 : ∀ a0, Win (F := F) i (atRefs (k0_part36 i) a0) 159 4 := fun _ => ⟨_, rfl⟩
theorem win37 : ∀ a0 a1 a2 a3 a4 a5, Win (F := F) i (atRefs (k0_part37 i) a0 a1 a2 a3 a4 a5) 163 3 := fun _ _ _ _ _ _ => ⟨_, rfl⟩
theorem win38 : Win (F := F) i (atRefs (k0_part38 i)) 166 6 := ⟨_, rfl⟩
theorem win39 : Win (F := F) i (atRefs (k0_part39 i)) 172 5 := ⟨_, rfl⟩
theorem win40 : ∀ a0 a1, Win (F := F) i (atRefs (k0_part40 i) a0 a1) 177 3 := fun _ _ => ⟨_, rfl⟩
theorem win41 : Win (F := F) i (atRefs (k0_part41 i)) 180 6 := ⟨_, rfl⟩
theorem win42 : Win (F := F) i (atRefs (k0_part42 i)) 186 4 := ⟨_, rfl⟩
theorem win43 : ∀ a0, Win (F := F) i (atRefs (k0_part43 i) a0) 190 3 := fun _ => ⟨_, rfl⟩
theorem win44 : ∀ a0 a1 a2 a3 a4 a5, Win (F := F) i (atRefs (k0_part44 i) a0 a1 a2 a3 a4 a5) 193 6 := fun _ _ _ _ _ _ => ⟨_, rfl⟩
theorem win45 : Win (F := F) i (atRefs (k0_part45 i)) 199 5 := ⟨_, rfl⟩
theorem win46 : ∀ a0, Win (F := F) i (atRefs (k0_part46 i) a0) 204 4 := fun _ => ⟨_, rfl⟩
theorem win47 : ∀ a0 a1 a2 a3 a4, Win (F := F) i (atRefs (k0_part47 i) a0 a1 a2 a3 a4) 208 5 := fun _ _ _ _ _ => ⟨_, rfl⟩
theorem win48 : Win (F := F) i (atRefs (k0_part48 i)) 213 4 := ⟨_, rfl⟩
theorem win49 : ∀ a0, Win (F := F) i (atRefs (k0_part49 i) a0) 217 6 := fun _ => ⟨_, rfl⟩
theorem win50 : ∀ a0 a1 a2 a3 a4, Win (F := F) i (atRefs (k0_part50 i) a0 a1 a2 a3 a4) 223 3 := fun _ _ _ _ _ => ⟨_, rfl⟩
theorem win51 : Win (F := F) i (atRefs (k0_part51 i)) 226 5 := ⟨_, rfl⟩
theorem win52 : Win (F := F) i (atRefs (k0_part52 i)) 231 6 := ⟨_, rfl⟩
theorem win53 : ∀ a0 a1, Win (F := F) i (atRefs (k0_part53 i) a0 a1) 237 2 := fun _ _ => ⟨_, rfl⟩
theorem win54 : Win (F := F) i (atRefs (k0_part54 i)) 239 5 := ⟨_, rfl⟩
theorem win55 : Win (F := F) i (atRefs (k0_part55 i)) 244 6 := ⟨_, rfl⟩
theorem win56 : ∀ a0, Win (F := F) i (atRefs (k0_part56 i) a0) 250 3 := fun _ => ⟨_, rfl⟩
theorem win57 : ∀ a0 a1 a2 a3, Win (F := F) i (atRefs (k0_part57 i) a0 a1 a2 a3) 253 5 := fun _ _ _ _ => ⟨_, rfl⟩
theorem win58 : Win (F := F) i (atRefs (k0_part58 i)) 258 6 := ⟨_, rfl⟩
theorem win59 : ∀ a0, Win (F := F) i (atRefs (k0_part59 i) a0) 264 4 := fun _ => ⟨_, rfl⟩
theorem win60 : ∀ a0 a1 a2 a3 a4 a5, Win (F := F) i (atRefs (k0_part60 i) a0 a1 a2 a3 a4 a5) 268 3 := fun _ _ _ _ _ _ => ⟨_, rfl⟩
theorem win61 : Win (F := F) i (atRefs (k0_part61 i)) 271 6 := ⟨_, rfl⟩
theorem win62 : Win (F := F) i (atRefs (k0_part62 i)) 277 5 := ⟨_, rfl⟩
theorem win63 : ∀ a0 a1, Win (F := F) i (atRefs (k0_part63 i) a0 a1) 282 3 := fun _ _ => ⟨_, rfl⟩
theorem win64 : Win (F := F) i (atRefs (k0_part64 i)) 285 6 := ⟨_, rfl⟩
theorem win65 : Win (F := F) i (atRefs (k0_part65 i)) 291 5 := ⟨_, rfl⟩
theorem win66 : ∀ a0, Win (F := F) i (atRefs (k0_part66 i) a0) 296 2 := fun _ => ⟨_, rfl⟩
theorem win67 : ∀ a0 a1 a2 a3 a4, Win (F := F) i (atRefs (k0_part67 i) a0 a1 a2 a3 a4) 298 6 := fun _ _ _ _ _ => ⟨_, rfl⟩
theorem win68 : Win (F := F) i (atRefs (k0_part68 i)) 304 5 := ⟨_, rfl⟩
theorem win69 : ∀ a0, Win (F := F) i (atRefs (k0_part69 i) a0) 309 4 := fun _ => ⟨_, rfl⟩
theorem win70 : ∀ a0 a1 a2 a3, Win (F := F) i (atRefs (k0_part70 i) a0 a1 a2 a3) 313 5 := fun _ _ _ _ => ⟨_, rfl⟩
theorem win71 : Win (F := F) i (atRefs (k0_part71 i)) 318 5 := ⟨_, rfl⟩
theorem win72 : ∀ a0, Win (F := F) i (atRefs (k0_part72 i) a0) 323 5 := fun _ => ⟨_, rfl⟩
theorem win73 : ∀ a0 a1 a2 a3 a4, Win (F := F) i (atRefs (k0_part73 i) a0 a1 a2 a3 a4) 328 3 := fun _ _ _ _ _ => ⟨_, rfl⟩
theorem win74 : Win (F := F) i (atRefs (k0_part74 i)) 331 5 := ⟨_, rfl⟩
theorem win75 : Win (F := F) i (atRefs (k0_part75 i)) 336 6 := ⟨_, rfl⟩
theorem win76 : ∀ a0 a1, Win (F := F) i (atRefs (k0_part76 i) a0 a1) 342 2 := fun _ _ => ⟨_, rfl⟩
theorem win77 : Win (F := F) i (atRefs (k0_part77 i)) 344 6 := ⟨_, rfl⟩
theorem win78 : Win (F := F) i (atRefs (k0_part78 i)) 350 5 := ⟨_, rfl⟩
theorem win79 : ∀ a0, Win (F := F) i (atRefs (k0_part79 i) a0) 355 3 := fun _ => ⟨_, rfl⟩
theorem win80 : ∀ a0 a1 a2 a3, Win (F := F) i (atRefs (k0_part80 i) a0 a1 a2 a3) 358 5 := fun _ _ _ _ => ⟨_, rfl⟩
theorem win81 : Win (F := F) i (atRefs (k0_part81 i)) 363 6 := ⟨_, rfl⟩
theorem win82 : ∀ a0, Win (F := F) i (atRefs (k0_part82 i) a0) 369 4 := fun _ => ⟨_, rfl⟩
theorem win83 : ∀ a0 a1 a2 a3 a4 a5 a6, Win (F := F) i (atRefs (k0_part83 i) a0 a1 a2 a3 a4 a5 a6) 373 4 := fun _ _ _ _ _ _ _ => ⟨_, rfl⟩
theorem win84 : Win (F := F) i (atRefs (k0_part84 i)) 377 5 := ⟨_, rfl⟩
theorem win85 : Win (F := F) i (atRefs (k0_part85 i)) 382 5 := ⟨_, rfl⟩

/-- The first sixty windows. -/
theorem win86 : Win (F := F) i (atRefs (k0_part86 i)) 0 271 := by
  unfold atRefs k0_part86
  refine Win.bind (win1 i) (by decide) fun _ => ?_
  refine Win.bind (win2 i) (by decide) fun _ => ?_
  refine Win.bind (win3 i _) (by decide) fun _ => ?_
  refine Win.bind (win4 i _ _ _) (by decide) fun _ => ?_
  refine Win.bind (win5 i) (by decide) fun _ => ?_
  refine Win.bind (win6 i) (by decide) fun _ => ?_
  refine Win.bind (win7 i _ _) (by decide) fun _ => ?_
  refine Win.bind (win8 i) (by decide) fun _ => ?_
  refine Win.bind (win9 i) (by decide) fun _ => ?_
  refine Win.bind (win10 i _) (by decide) fun _ => ?_
  refine Win.bind (win11 i _ _ _ _ _) (by decide) fun _ => ?_
  refine Win.bind (win12 i) (by decide) fun _ => ?_
  refine Win.bind (win13 i _) (by decide) fun _ => ?_
  refine Win.bind (win14 i _ _ _ _ _ _) (by decide) fun _ => ?_
  refine Win.bind (win15 i) (by decide) fun _ => ?_
  refine Win.bind (win16 i) (by decide) fun _ => ?_
  refine Win.bind (win17 i _ _) (by decide) fun _ => ?_
  refine Win.bind (win18 i) (by decide) fun _ => ?_
  refine Win.bind (win19 i) (by decide) fun _ => ?_
  refine Win.bind (win20 i _) (by decide) fun _ => ?_
  refine Win.bind (win21 i _ _ _ _ _ _ _) (by decide) fun _ => ?_
  refine Win.bind (win22 i) (by decide) fun _ => ?_
  refine Win.bind (win23 i _) (by decide) fun _ => ?_
  refine Win.bind (win24 i _ _ _ _ _ _) (by decide) fun _ => ?_
  refine Win.bind (win25 i) (by decide) fun _ => ?_
  refine Win.bind (win26 i _) (by decide) fun _ => ?_
  refine Win.bind (win27 i _ _ _ _) (by decide) fun _ => ?_
  refine Win.bind (win28 i) (by decide) fun _ => ?_
  refine Win.bind (win29 i) (by decide) fun _ => ?_
  refine Win.bind (win30 i _ _) (by decide) fun _ => ?_
  refine Win.bind (win31 i) (by decide) fun _ => ?_
  refine Win.bind (win32 i) (by decide) fun _ => ?_
  refine Win.bind (win33 i _) (by decide) fun _ => ?_
  refine Win.bind (win34 i _ _ _ _ _ _) (by decide) fun _ => ?_
  refine Win.bind (win35 i) (by decide) fun _ => ?_
  refine Win.bind (win36 i _) (by decide) fun _ => ?_
  refine Win.bind (win37 i _ _ _ _ _ _) (by decide) fun _ => ?_
  refine Win.bind (win38 i) (by decide) fun _ => ?_
  refine Win.bind (win39 i) (by decide) fun _ => ?_
  refine Win.bind (win40 i _ _) (by decide) fun _ => ?_
  refine Win.bind (win41 i) (by decide) fun _ => ?_
  refine Win.bind (win42 i) (by decide) fun _ => ?_
  refine Win.bind (win43 i _) (by decide) fun _ => ?_
  refine Win.bind (win44 i _ _ _ _ _ _) (by decide) fun _ => ?_
  refine Win.bind (win45 i) (by decide) fun _ => ?_
  refine Win.bind (win46 i _) (by decide) fun _ => ?_
  refine Win.bind (win47 i _ _ _ _ _) (by decide) fun _ => ?_
  refine Win.bind (win48 i) (by decide) fun _ => ?_
  refine Win.bind (win49 i _) (by decide) fun _ => ?_
  refine Win.bind (win50 i _ _ _ _ _) (by decide) fun _ => ?_
  refine Win.bind (win51 i) (by decide) fun _ => ?_
  refine Win.bind (win52 i) (by decide) fun _ => ?_
  refine Win.bind (win53 i _ _) (by decide) fun _ => ?_
  refine Win.bind (win54 i) (by decide) fun _ => ?_
  refine Win.bind (win55 i) (by decide) fun _ => ?_
  refine Win.bind (win56 i _) (by decide) fun _ => ?_
  refine Win.bind (win57 i _ _ _ _) (by decide) fun _ => ?_
  refine Win.bind (win58 i) (by decide) fun _ => ?_
  refine Win.bind (win59 i _) (by decide) fun _ => ?_
  refine Win.bind (win60 i _ _ _ _ _ _) (by decide) fun _ => ?_
  exact ⟨_, rfl⟩

/-- The task's body is the run of the steps. -/
theorem body_eq : atRefs (cc0_k (F := F) i) = run i steps (.ret ⟨⟩) := by
  have h : Win (F := F) i (atRefs (cc0_k i)) 0 390 := by
    unfold atRefs cc0_k
    refine Win.bind (win86 i) (by decide) fun _ => ?_
    refine Win.bind (win61 i) (by decide) fun _ => ?_
    refine Win.bind (win62 i) (by decide) fun _ => ?_
    refine Win.bind (win63 i _ _) (by decide) fun _ => ?_
    refine Win.bind (win64 i) (by decide) fun _ => ?_
    refine Win.bind (win65 i) (by decide) fun _ => ?_
    refine Win.bind (win66 i _) (by decide) fun _ => ?_
    refine Win.bind (win67 i _ _ _ _ _) (by decide) fun _ => ?_
    refine Win.bind (win68 i) (by decide) fun _ => ?_
    refine Win.bind (win69 i _) (by decide) fun _ => ?_
    refine Win.bind (win70 i _ _ _ _) (by decide) fun _ => ?_
    refine Win.bind (win71 i) (by decide) fun _ => ?_
    refine Win.bind (win72 i _) (by decide) fun _ => ?_
    refine Win.bind (win73 i _ _ _ _ _) (by decide) fun _ => ?_
    refine Win.bind (win74 i) (by decide) fun _ => ?_
    refine Win.bind (win75 i) (by decide) fun _ => ?_
    refine Win.bind (win76 i _ _) (by decide) fun _ => ?_
    refine Win.bind (win77 i) (by decide) fun _ => ?_
    refine Win.bind (win78 i) (by decide) fun _ => ?_
    refine Win.bind (win79 i _) (by decide) fun _ => ?_
    refine Win.bind (win80 i _ _ _ _) (by decide) fun _ => ?_
    refine Win.bind (win81 i) (by decide) fun _ => ?_
    refine Win.bind (win82 i _) (by decide) fun _ => ?_
    refine Win.bind (win83 i _ _ _ _ _ _ _) (by decide) fun _ => ?_
    refine Win.bind (win84 i) (by decide) fun _ => ?_
    refine Win.bind (win85 i) (by decide) fun _ => ?_
    exact ⟨_, rfl⟩
  obtain ⟨v, h⟩ := h
  exact h

end Cert.Proof.KernelIdeal
-- ==== Proof.IValue.lean ====
/-
  The idealized program has the kernel's own text under its own names; this is Proof/KValue.lean at those names.

  Where the kernel's slices lie and what it computes. Task `(c, s)` of the grid is worker `w = 2s + c` and takes the
  twenty-six rows `26w, …, 26w + 25` of the 832 rows of the output: row `r` is table `r / 32` at embedding coordinate
  `r % 32` (`rN`, `fOf`, `dOf`). Each slice the kernel takes, squeezed, places its elements at plain coordinates
  (`idxV_emb`, `tabV_emb`, `outV_emb`, `halfV_emb`); the output is cut into the pieces the copies write (`piece`,
  `outV_set`), and what the kernel leaves there is the table's element that the index names (`gath`).
-/
module

public import proofs.«01_k».proof.Proof.ISteps
public import Idealize.ShloMosaic.Lib.ValueIdxCore

@[expose] public section

noncomputable section

namespace Cert.Proof.KernelIdeal

open Cert.KernelIdeal Cert.KernelIdeal.Gen
open Idealize.ShloMosaic Idealize.SL.Sem
open Idealize.ShloMosaic.ValueIdx

variable {F : FTy → Type} [FloatOps F]

/-! ## The rows -/

/-- The `j`-th row of the task at `i`, among the 832. -/
def rN (i : grid0.Coords) (j : Fin 26) : Nat := 52 * (i 1).val + 26 * (i 0).val + j.val

theorem coord0_lt (i : grid0.Coords) : (i 0).val < 2 := (i 0).isLt
theorem coord1_lt (i : grid0.Coords) : (i 1).val < 16 := (i 1).isLt

theorem rN_lt (i : grid0.Coords) (j : Fin 26) : rN i j < 832 := by
  have h0 := coord0_lt i
  have h1 := coord1_lt i
  have := j.isLt
  unfold rN; omega

/-- Its table, -/
def fOf (i : grid0.Coords) (j : Fin 26) : Fin 26 := ⟨rN i j / 32, by have := rN_lt i j; omega⟩
/-- and its embedding coordinate. -/
def dOf (i : grid0.Coords) (j : Fin 26) : Fin 32 := ⟨rN i j % 32, Nat.mod_lt _ (by decide)⟩

theorem idxOff_eq : ∀ (i : grid0.Coords) (j : Fin 26), idxOff i j = ![rN i j / 32, 0] := by decide +kernel
theorem tabOff_eq : ∀ (i : grid0.Coords) (j : Fin 26), k0_off2 i (BitVec.ofNat 32 j.val) = ![rN i j / 32, rN i j % 32, 0] := by decide +kernel
theorem outOff_eq : ∀ (i : grid0.Coords) (q : Fin 4) (j : Fin 26),
    outOff i q (BitVec.ofNat 32 j.val) = ![rN i j / 32, rN i j % 32, 4096 * q.val] := by decide +kernel
theorem halfOff_eq : ∀ q : Fin 4, halfOff q = ![q.val % 2, 0] := by decide
theorem cond_zero : ∀ i : grid0.Coords, cond i 0 = 1#1 := by decide +kernel
/-- A row that does not fetch its index row has the row before's. -/
theorem cond_succ : ∀ (i : grid0.Coords) (p : Fin 25), cond i (p.val + 1) ≠ 1#1 → rN i p.castSucc / 32 = rN i p.succ / 32 := by decide +kernel

theorem ldOff_eq (q : Fin 4) (t : Fin k0_t1_loop.trips) : ldOff q t = ![4096 * q.val + 16 * t.val] := by
  match q with
  | 0 => exact (k0_off3_eq t).trans (by congr 1; simp)
  | 1 => exact (k0_off6_eq t).trans (by congr 1; simp; omega)
  | 2 => exact (k0_off9_eq t).trans (by congr 1; simp; omega)
  | 3 => exact (k0_off12_eq t).trans (by congr 1; simp; omega)
theorem stOff_eq (q : Fin 4) (t : Fin k0_t1_loop.trips) : stOff q t = ![q.val % 2, 16 * t.val] := by
  match q with
  | 0 => exact k0_off4_eq t
  | 1 => exact k0_off7_eq t
  | 2 => exact k0_off10_eq t
  | 3 => exact k0_off13_eq t

theorem trips_eq : k0_t1_loop.trips = 256 := by decide +kernel

/-! ## The slices' placements -/

/-- A squeezed `1 × n`: element `b` is `(0, b)`. -/
theorem squeeze_two {n : Nat} (h : (⟨1, ![n]⟩ : Shape).numel = (⟨2, ![1, n]⟩ : Shape).numel) (b : Fin n) :
    Shape.reshapeEquiv h (ix1 b) = ix2 (0 : Fin 1) b :=
  Shape.reshapeEquiv_eq_of_rowMajor h (by
    rw [Shape.rowMajor_val_two, Shape.rowMajor_val_one]
    show 0 * n + b.val = b.val
    omega)
/-- A squeezed `1 × 1 × n`: element `b` is `(0, 0, b)`. -/
theorem squeeze_three {n : Nat} (h : (⟨1, ![n]⟩ : Shape).numel = (⟨3, ![1, 1, n]⟩ : Shape).numel) (b : Fin n) :
    Shape.reshapeEquiv h (ix1 b) = ix3 (0 : Fin 1) (0 : Fin 1) b :=
  Shape.reshapeEquiv_eq_of_rowMajor h (by
    rw [Shape.rowMajor_val_three, Shape.rowMajor_val_one]
    show (0 * 1 + 0) * n + b.val = b.val
    omega)

/-- A unit-stride slice adds its offset. -/
theorem unit_emb_val {s : Shape} {off size : Fin s.rank → Nat} (inb : ∀ a, off a + size a ≤ s.size a)
    (x : (Rect.unit off size inb).shape.Idx) (a : Fin s.rank) : ((Rect.unit off size inb).emb x a).val = off a + (x a).val := by
  rw [Rect.emb_apply]
  show off a + 1 * _ = _
  rw [Nat.one_mul]

theorem idxV_emb (i : grid0.Coords) (j : Fin 26) (h : cond i j = 1#1) (b : Fin 16384) :
    (idxV i j h).view.emb (ix1 b) = ix2 (fOf i j) b := by
  show (Rect.unit (s := S26x16384) (idxOff i j) S1x16384.size (idxOff_inb i j h)).emb (Shape.reshapeEquiv _ (ix1 b)) = _
  rw [squeeze_two]
  funext a; apply Fin.ext
  rw [unit_emb_val, congrFun (idxOff_eq i j) a]
  match a with
  | ⟨0, _⟩ => simp [fOf]
  | ⟨1, _⟩ => simp

theorem tabV_emb (i : grid0.Coords) (j : Fin 26) (v : Fin 100000) :
    (tabV i j).view.emb (ix1 v) = ix3 (fOf i j) (dOf i j) v := by
  show (Rect.unit (s := S26x32x100000) (k0_off2 i (BitVec.ofNat 32 j.val)) S1x1x100000.size (k0_off2_inb i j)).emb (Shape.reshapeEquiv _ (ix1 v)) = _
  rw [squeeze_three]
  funext a; apply Fin.ext
  rw [unit_emb_val, congrFun (tabOff_eq i j) a]
  match a with
  | ⟨0, _⟩ => simp [fOf]
  | ⟨1, _⟩ => simp [dOf]
  | ⟨2, _⟩ => simp

/-- Column `y` of quarter `q`, among the 16384. -/
def col (q : Fin 4) (y : Fin 4096) : Fin 16384 := ⟨4096 * q.val + y.val, by have := q.isLt; have := y.isLt; omega⟩

theorem outV_emb (i : grid0.Coords) (q : Fin 4) (j : Fin 26) (y : Fin 4096) :
    (outV i q j).view.emb (ix1 y) = ix3 (fOf i j) (dOf i j) (col q y) := by
  show (Rect.unit (s := S26x32x16384) (outOff i q (BitVec.ofNat 32 j.val)) S1x1x4096.size (outOff_inb i q j)).emb (Shape.reshapeEquiv _ (ix1 y)) = _
  rw [squeeze_three]
  funext a; apply Fin.ext
  rw [unit_emb_val, congrFun (outOff_eq i q j) a]
  match a with
  | ⟨0, _⟩ => simp [fOf]
  | ⟨1, _⟩ => simp [dOf]
  | ⟨2, _⟩ => simp [col]

/-- The staging half quarter `q` goes through. -/
def half (q : Fin 4) : Fin 2 := ⟨q.val % 2, Nat.mod_lt _ (by decide)⟩

theorem halfV_emb (q : Fin 4) (y : Fin 4096) : (halfV q).view.emb (ix1 y) = ix2 (half q) y := by
  show (Rect.unit (s := S2x4096) (halfOff q) S1x4096.size (halfOff_inb q)).emb (Shape.reshapeEquiv _ (ix1 y)) = _
  rw [squeeze_two]
  funext a; apply Fin.ext
  rw [unit_emb_val, congrFun (halfOff_eq q) a]
  match a with
  | ⟨0, _⟩ => simp [half]
  | ⟨1, _⟩ => simp

/-- The elements of staging half `h`. -/
def halfSet (h : Fin 2) : Finset S2x4096.Idx := Finset.univ.filter fun x => (x 0).val = h.val

theorem halfV_set (q : Fin 4) : (halfV q).view.set = halfSet (half q) := by
  ext x
  constructor
  · intro hx
    obtain ⟨y, -, rfl⟩ := Finset.mem_map.mp hx
    obtain ⟨b, rfl⟩ : ∃ b, y = ix1 b := ⟨y 0, eq_ix1 y⟩
    rw [halfV_emb]
    exact Finset.mem_filter.mpr ⟨Finset.mem_univ _, rfl⟩
  · intro hx
    obtain ⟨a, b, rfl⟩ : ∃ (a : Fin 2) (b : Fin 4096), x = ix2 a b := ⟨x 0, x 1, eq_ix2 x⟩
    obtain rfl : a = half q := Fin.ext (Finset.mem_filter.mp hx).2
    rw [← halfV_emb]
    exact View.emb_mem_set _ _

/-! ## The output's pieces -/

/-- Output row `r`'s quarter `q`. -/
def piece (r : Nat) (q : Fin 4) : Finset S26x32x16384.Idx :=
  Finset.univ.filter fun x => 32 * (x 0).val + (x 1).val = r ∧ (x 2).val / 4096 = q.val

theorem outV_set (i : grid0.Coords) (q : Fin 4) (j : Fin 26) : (outV i q j).view.set = piece (rN i j) q := by
  ext x
  constructor
  · intro hx
    obtain ⟨y, -, rfl⟩ := Finset.mem_map.mp hx
    obtain ⟨b, rfl⟩ : ∃ b, y = ix1 b := ⟨y 0, eq_ix1 y⟩
    rw [outV_emb]
    refine Finset.mem_filter.mpr ⟨Finset.mem_univ _, ?_, ?_⟩
    · show 32 * (rN i j / 32) + rN i j % 32 = rN i j
      omega
    · show (4096 * q.val + b.val) / 4096 = q.val
      have := b.isLt
      omega
  · intro hx
    obtain ⟨h1, h2⟩ := (Finset.mem_filter.mp hx).2
    have hx1 : (x 1).val < 32 := (x 1).isLt
    have e : x = (outV i q j).view.emb (ix1 ⟨(x 2).val % 4096, Nat.mod_lt _ (by decide)⟩) := by
      rw [outV_emb]
      funext a; apply Fin.ext
      match a with
      | ⟨0, _⟩ => show (x 0).val = rN i j / 32; omega
      | ⟨1, _⟩ => show (x 1).val = rN i j % 32; omega
      | ⟨2, _⟩ => show (x 2).val = 4096 * q.val + (x 2).val % 4096; omega
    rw [e]
    exact View.emb_mem_set _ _

/-! ## The values -/

/-- The table position an index word names (the kernel's words are below 100000, where this is the word itself). -/
def posOf (w : BitVec 32) : Fin 100000 := ⟨w.toNat % 100000, Nat.mod_lt _ (by decide)⟩

theorem posOf_val {w : BitVec 32} (h : w.toNat < 100000) : (posOf w).val = w.toNat := Nat.mod_eq_of_lt h

/-- The gathered output: at table `f`, coordinate `d`, column `b`, the transposed table's element the index names. -/
def gath (T : Vec F S26x32x100000 .f32) (X : Vec F S26x16384 .i32) : Vec F S26x32x16384 .f32 := fun x =>
  T (ix3 (x 0) (x 1) (posOf (X (ix2 (x 0) (x 2)))))

end Cert.Proof.KernelIdeal
-- ==== Proof.IBody.lean ====
/-
  The idealized program has the kernel's own text under its own names; this is Proof/KBody.lean at those names.

  One task of the kernel, from its steps. A task holds a read share of the transposed tables and of the transposed
  indices, its own rows of the output, and its three scratches. What it keeps through the rows is `Core`; each kind of
  step has its rule (`step_idx`, `step_tab`, `step_gather`, `step_outS`, `step_outW`); a row is the rules in order
  (`row_first`, `row_next`), and the rows follow by induction on how many are left (`rest_wp`, `task_wp`). The VALUES are
  carried all along: the index scratch holds the row's index row, the row scratch its table row, a gathered half the
  quarter's part of `gath`, and a copy in flight promises its piece of the output at `gath`.
-/
module

public import proofs.«01_k».proof.Proof.IValue
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.ValueLayout

@[expose] public section

noncomputable section

namespace Cert.Proof.KernelIdeal

open Cert.KernelIdeal Cert.KernelIdeal.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The resource algebra: the handshakes' rounds beside the transfers' counters -/

abbrev 𝒱₀ : Variants := Variants.none
abbrev UH : Type := URounds (GSem nD τ sig) ℕ
abbrev UU : Type := UH × Counters

local notation "𝕄" => MT nD τ sig (HIx 1) (Elt F) ℕ UU ℕ

abbrev EC : UEmb Counters (MT nD τ sig (HIx 1) (Elt F) ℕ UU ℕ) := countersEmb

variable [FloatOps F]

/-! ## The task's places -/

section Task

abbrev cV (i : grid0.Coords) : Fin τ.nSC := (i 0).castLE hcore0
abbrev jV (i : grid0.Coords) : Fin τ.nSub := (i 1).castLE hsub0

variable (d : Dev nD) (i : grid0.Coords)

/-- The transposed tables, the transposed indices and the output, as locations of device `d`; -/
abbrev tLoc : Loc nD τ sig := (SparseCore.T d).loc main_v0
abbrev xLoc : Loc nD τ sig := (SparseCore.T d).loc main_v1
abbrev oLoc : Loc nD τ sig := (SparseCore.T d).loc main_v2
/-- the task's row, index and staging scratches. -/
abbrev rowLoc : Loc nD τ sig := (V d (cV i) (jV i)).loc cc0_scratch0
abbrev ixLoc : Loc nD τ sig := (V d (cV i) (jV i)).loc cc0_scratch1
abbrev stLoc : Loc nD τ sig := (V d (cV i) (jV i)).loc cc0_scratch2

/-- The cell the copies out of quarter `q`'s half complete on. -/
abbrev cO (q : Fin 4) : GSem nD τ sig := (V d (cV i) (jV i), .dma (semO q).sem)
abbrev cI (j : Fin 26) : GSem nD τ sig := (V d (cV i) (jV i), .dma (semI j).sem)
abbrev cT (j : Fin 26) : GSem nD τ sig := (V d (cV i) (jV i), .dma (semT j).sem)

/-- The task's other cells. -/
def fetchCells : Finset (GSem nD τ sig) := ((ownCells (V d (cV i) (jV i))).erase (cO d i 0)).erase (cO d i 1)

omit [FloatOps F] in
theorem semI_free : ∀ j : Fin 26, (SemLoc.dma (semI j).sem : SemLoc sig).isScoped .scVector = true
    ∧ (semI j).sem ≠ (semO 0).sem ∧ (semI j).sem ≠ (semO 1).sem := by decide +kernel
omit [FloatOps F] in
theorem semT_free : ∀ j : Fin 26, (SemLoc.dma (semT j).sem : SemLoc sig).isScoped .scVector = true
    ∧ (semT j).sem ≠ (semO 0).sem ∧ (semT j).sem ≠ (semO 1).sem := by decide +kernel

omit [FloatOps F] in
theorem mem_fetch {s : DmaSem sig} (h : (SemLoc.dma s : SemLoc sig).isScoped .scVector = true ∧ s ≠ (semO 0).sem ∧ s ≠ (semO 1).sem) :
    ((V d (cV i) (jV i), .dma s) : GSem nD τ sig) ∈ fetchCells d i :=
  Finset.mem_erase.mpr ⟨fun e => h.2.2 (SemLoc.dma.inj (Prod.mk.inj e).2), Finset.mem_erase.mpr
    ⟨fun e => h.2.1 (SemLoc.dma.inj (Prod.mk.inj e).2), mem_ownCells.mpr ⟨rfl, h.1⟩⟩⟩

/-! ## What a task keeps -/

variable (T : Vec F S26x32x100000 .f32) (X : Vec F S26x16384 .i32) (qT qX : PosShare TreeShare)
variable (O : CellTallies nD τ sig (HIx 1)) (W : Waits sig (HIx 1))

/-- The two read shares, the fetches' cells at zero, what the task owes and that it may wait. -/
def Core : sProp 𝕄 :=
  iprop(Transfers.MayWaits (V d (cV i) (jV i)) none O ∗ (tLoc d ↦{qT} T) ∗ (xLoc d ↦{qX} X) ∗ (bigSep (fetchCells d i) fun g => semVal g 0)
    ∗ ∃ W', ⌜∀ p ∈ W', p ∈ W ∨ p.2 = none⌝ ∗ owes (V d (cV i) (jV i)) O W')

/-- Table `f`'s index row, and its table row at coordinate `c`. -/
def rowX (f : Fin 26) : Vec F S16384 .i32 := fun b => X (ix2 f (b 0))
def rowT (f : Fin 26) (c : Fin 32) : Vec F S100000 .f32 := fun v => T (ix3 f c (v 0))

/-- What a copy of quarter `q` of row `j` in flight promises: its piece of the output gathered, its half back. -/
def Fl (q : Fin 4) (j : Fin 26) : sProp 𝕄 :=
  Transfers.Flight EC (V d (cV i) (jV i)) (.dma (semO q).sem) none (outV i q j).view.dmaCredit
    iprop((oLoc d ↦[piece (rN i j) q]{fullShare} gath T X) ∗ ∃ g, stLoc d i ↦[halfSet (half q)]{fullShare} g)

variable {α : Type} {Q : α → sProp (MT nD τ sig (HIx 1) (Elt F) ℕ UU ℕ)} {k : Prog (TpuEff nD τ sig (Elt F) Λ₀ (proc i)) α}

local notation "WP" => wp frame (wpE (defs₀ (F := F)) 𝒱₀ (V d (cV i) (jV i)) none) Set.univ

/-! ## The fetches -/

omit [FloatOps F] in
theorem idx_read (j : Fin 26) (h : cond i j = 1#1) : (idxV i j h).view.read (Elt F) X = rowX X (fOf i j) := by
  funext b
  obtain ⟨b, rfl⟩ : ∃ b' : Fin 16384, b = ix1 b' := ⟨b 0, eq_ix1 b⟩
  rw [View.read_apply, idxV_emb]
  rfl
omit [FloatOps F] in
theorem tab_read (j : Fin 26) : (tabV i j).view.read (Elt F) T = rowT T (fOf i j) (dOf i j) := by
  funext b
  obtain ⟨b, rfl⟩ : ∃ b' : Fin 100000, b = ix1 b' := ⟨b 0, eq_ix1 b⟩
  rw [View.read_apply, tabV_emb]
  rfl

omit [FloatOps F] in
theorem ix_write (s : Vec F S16384 .i32) (w : Vec F S16384 .i32) : mIx.view.write (Elt F) s w Finset.univ = w :=
  View.write_whole_univ _ _ _
omit [FloatOps F] in
theorem row_write (s : Vec F S100000 .f32) (w : Vec F S100000 .f32) : mRow.view.write (Elt F) s w Finset.univ = w :=
  View.write_whole_univ _ _ _

/-- The index step: after it the index scratch holds the row's index row, fetched or already there. -/
theorem step_idx (j : Fin 26) :
    iprop(Core d i T X qT qX O W ∗ ∃ s : Vec F S16384 .i32, ⌜cond i j = 1#1 ∨ s = rowX X (fOf i j)⌝ ∗ ixLoc d i ↦{fullShare} s)
      ⊢ iprop((iprop(Core d i T X qT qX O W ∗ ixLoc d i ↦{fullShare} rowX X (fOf i j)) -∗ WP k Q) -∗ WP (Step.andThen i (.idx j) k) Q) := by
  by_cases h : cond i j = 1#1
  · simp only [Step.andThen, dif_pos h, Prog.lift, Prog.bind_op, Prog.bind_ret]
    unfold Core
    rw [SparseCore.bigSep_erase' (mem_fetch d i (semI_free j))]
    iintro ⟨⟨#Hmw, HT, HX, ⟨Hsem, Hsems⟩, %W', %hW', HO⟩, %s, -, Hs⟩ Hk
    ihave HX' := (pointsTo_split_subset (ℓ := xLoc d) (S := Finset.univ) (q := qX) (f := X) (Finset.subset_univ (idxV i j h).view.set)).1 $$ HX
    icases HX' with ⟨HX, HXr⟩
    iapply (Transfers.wp_dmaLocal EC 𝒱₀ (V d (cV i) (jV i)) none (src := idxV i j h) (dst := mIx) (Sd := Finset.univ) (q := qX) (fs := X) (fd := s)
      none _ rfl (View.amount_pos _ _ (by decide)) (Finset.subset_univ _)) $$ [HX Hs Hsem]
    · isplitl [HX]; · iexact HX
      isplitl [Hs] <;> iassumption
    iintro Hfl
    iapply (Transfers.wp_waitLocalO EC 𝒱₀ (V d (cV i) (jV i)) none (srcw := idxV i j h) (dstw := mIx) none rfl (O := O) (W := W')) $$ [Hfl HO]
    · isplitl [Hfl]; · iexact Hfl
      isplitl [HO]; · iexact HO
      iapply (Transfers.MayWaits.elim _) $$ Hmw
    iintro ⟨⟨Hs, HX⟩, Hsem, HO⟩
    ihave HX' := (pointsTo_split_subset (ℓ := xLoc d) (S := Finset.univ) (q := qX) (f := X) (Finset.subset_univ (idxV i j h).view.set)).2 $$ [HX HXr]
    · isplitl [HX] <;> iassumption
    iapply Hk
    isplitr [Hs]
    · isplitr; · iexact Hmw
      isplitl [HT]; · iexact HT
      isplitl [HX']; · iexact HX'
      isplitl [Hsem Hsems]; · isplitl [Hsem] <;> iassumption
      iexists _
      isplitr
      swap
      · iexact HO
      ipureintro
      intro p hp
      rcases Finset.mem_insert.mp hp with rfl | hp
      · exact .inr rfl
      · exact hW' p hp
    · ihave Hs' := (Entails.of_eq (congrArg (fun w => (ixLoc d i ↦{fullShare} w : sProp 𝕄)) ((ix_write s _).trans (idx_read i X j h)))) $$ Hs
      iexact Hs'
  · simp only [Step.andThen, dif_neg h]
    iintro ⟨HC, %s, %hs, Hs⟩ Hk
    obtain rfl := hs.resolve_left h
    iapply Hk
    isplitl [HC] <;> iassumption

/-- The table step, its fetch and the wait for it: after it the row scratch holds the row's table row. -/
theorem step_tab (j : Fin 26) :
    iprop(Core d i T X qT qX O W ∗ ∃ r : Vec F S100000 .f32, rowLoc d i ↦{fullShare} r)
      ⊢ iprop((iprop(Core d i T X qT qX O W ∗ rowLoc d i ↦{fullShare} rowT T (fOf i j) (dOf i j)) -∗ WP k Q)
          -∗ WP (Step.andThen i (.tabS j) (Step.andThen i (.tabW j) k)) Q) := by
  simp only [Step.andThen, Prog.lift, Prog.bind_op, Prog.bind_ret]
  unfold Core
  rw [SparseCore.bigSep_erase' (mem_fetch d i (semT_free j))]
  iintro ⟨⟨#Hmw, HT, HX, ⟨Hsem, Hsems⟩, %W', %hW', HO⟩, %r, Hs⟩ Hk
  ihave HT' := (pointsTo_split_subset (ℓ := tLoc d) (S := Finset.univ) (q := qT) (f := T) (Finset.subset_univ (tabV i j).view.set)).1 $$ HT
  icases HT' with ⟨HT, HTr⟩
  iapply (Transfers.wp_dmaLocal EC 𝒱₀ (V d (cV i) (jV i)) none (src := tabV i j) (dst := mRow) (Sd := Finset.univ) (q := qT) (fs := T) (fd := r)
    none _ rfl (View.amount_pos _ _ (by decide)) (Finset.subset_univ _)) $$ [HT Hs Hsem]
  · isplitl [HT]; · iexact HT
    isplitl [Hs] <;> iassumption
  iintro Hfl
  iapply (Transfers.wp_waitLocalO EC 𝒱₀ (V d (cV i) (jV i)) none (srcw := tabV i j) (dstw := mRow) none rfl (O := O) (W := W')) $$ [Hfl HO]
  · isplitl [Hfl]; · iexact Hfl
    isplitl [HO]; · iexact HO
    iapply (Transfers.MayWaits.elim _) $$ Hmw
  iintro ⟨⟨Hs, HT⟩, Hsem, HO⟩
  ihave HT' := (pointsTo_split_subset (ℓ := tLoc d) (S := Finset.univ) (q := qT) (f := T) (Finset.subset_univ (tabV i j).view.set)).2 $$ [HT HTr]
  · isplitl [HT] <;> iassumption
  iapply Hk
  isplitr [Hs]
  · isplitr; · iexact Hmw
    isplitl [HT']; · iexact HT'
    isplitl [HX]; · iexact HX
    isplitl [Hsem Hsems]; · isplitl [Hsem] <;> iassumption
    iexists _
    isplitr
    swap
    · iexact HO
    ipureintro
    intro p hp
    rcases Finset.mem_insert.mp hp with rfl | hp
    · exact .inr rfl
    · exact hW' p hp
  · ihave Hs' := (Entails.of_eq (congrArg (fun w => (rowLoc d i ↦{fullShare} w : sProp 𝕄)) ((row_write r _).trans (tab_read i T j)))) $$ Hs
    iexact Hs'

/-! ## The gather -/

/-- Lane `x` of trip `t`, among a quarter's columns. -/
def lane (t : Fin k0_t1_loop.trips) (x : Fin 16) : Fin 4096 := ⟨16 * t.val + x.val, by
  have h := t.isLt
  have e := trips_eq
  have := x.isLt
  omega⟩

omit [FloatOps F] in
/-- The sixteen indices a trip loads. -/
theorem ix_load (q : Fin 4) (t : Fin k0_t1_loop.trips) (s : Vec F S16384 .i32) (x : Fin 16) :
    mIx.view.readAt (Elt F) (Rect.unit (s := S16384) (ldOff q t) S16.size (ldOff_inb q t)).toLoadRect s (ix1 x) = s (ix1 (col q (lane t x))) := by
  rw [View.readAt_apply]
  show s ((Rect.unit (s := S16384) (ldOff q t) S16.size (ldOff_inb q t)).toLoadRect.idx (ix1 x)) = s _
  refine congrArg s (funext fun a => Fin.ext ?_)
  rw [LoadRect.idx_apply]
  show ldOff q t a + 1 * _ = _
  rw [congrFun (ldOff_eq q t) a]
  match a with
  | ⟨0, _⟩ => show 4096 * q.val + 16 * t.val + 1 * x.val = 4096 * q.val + (16 * t.val + x.val); omega

omit [FloatOps F] in
theorem st_emb (q : Fin 4) (t : Fin k0_t1_loop.trips) (x : Fin 16) :
    (mStage.access (Rect.unit (s := S2x4096) (stOff q t) S1x16.size (stOff_inb q t))).emb (ix2 (0 : Fin 1) x) = ix2 (half q) (lane t x) := by
  show (Rect.unit (s := S2x4096) (stOff q t) S1x16.size (stOff_inb q t)).emb _ = _
  funext a; apply Fin.ext
  rw [unit_emb_val, congrFun (stOff_eq q t) a]
  match a with
  | ⟨0, _⟩ => rfl
  | ⟨1, _⟩ => rfl

omit [FloatOps F] in
theorem st_sub (q : Fin 4) (t : Fin k0_t1_loop.trips) :
    (mStage.access (Rect.unit (s := S2x4096) (stOff q t) S1x16.size (stOff_inb q t))).set ⊆ halfSet (half q) := by
  intro x hx
  obtain ⟨y, -, rfl⟩ := Finset.mem_map.mp hx
  obtain ⟨a, b, rfl⟩ : ∃ (a : Fin 1) (b : Fin 16), y = ix2 a b := ⟨y 0, y 1, eq_ix2 y⟩
  obtain rfl : a = 0 := Subsingleton.elim _ _
  rw [st_emb]
  exact Finset.mem_filter.mpr ⟨Finset.mem_univ _, rfl⟩

/-- The first `n` columns of half `q` hold what the row scratch has at the indices of quarter `q`. -/
def Gathered (q : Fin 4) (r : Vec F S100000 .f32) (s : Vec F S16384 .i32) (n : Nat) (g : Vec F S2x4096 .f32) : Prop :=
  ∀ y : Fin 4096, y.val < n → g (ix2 (half q) y) = r (ix1 (posOf (s (ix1 (col q y)))))

omit [FloatOps F] in
theorem row_read (r : Vec F S100000 .f32) : (mRow.access (.whole S100000)).read (Elt F) r = r := Memref.read_access_whole _ _ _

omit [FloatOps F] in
/-- A trip gathers sixteen columns more. -/
theorem gathered_trip (q : Fin 4) (t : Fin k0_t1_loop.trips) (r : Vec F S100000 .f32) (s : Vec F S16384 .i32) (hs : ∀ b, (s b).toNat < 100000)
    (g : Vec F S2x4096 .f32) (hg : Gathered q r s (16 * t.val) g)
    (h : ∀ a x, ((![mIx.view.readAt (Elt F) (Rect.unit (s := S16384) (ldOff q t) S16.size (ldOff_inb q t)).toLoadRect s] : Fin 1 → IVec S16 32) a x).toNat < S100000.size a) :
    Gathered q r s (16 * (t.val + 1))
      ((mStage.access (Rect.unit (s := S2x4096) (stOff q t) S1x16.size (stOff_inb q t))).write (Elt F) g
        (shapeCast S1x16 (loadIdx ((mRow.access (.whole S100000)).read (Elt F) r)
          ![mIx.view.readAt (Elt F) (Rect.unit (s := S16384) (ldOff q t) S16.size (ldOff_inb q t)).toLoadRect s] h) shapeCasts_S16_S1x16) Finset.univ) := by
  intro y hy
  by_cases hlt : y.val < 16 * t.val
  · rw [View.write_of_not_mem, hg y hlt]
    intro hm
    obtain ⟨z, -, hz⟩ := Finset.mem_map.mp hm
    obtain ⟨a, b, rfl⟩ : ∃ (a : Fin 1) (b : Fin 16), z = ix2 a b := ⟨z 0, z 1, eq_ix2 z⟩
    obtain rfl : a = 0 := Subsingleton.elim _ _
    rw [st_emb] at hz
    have e : 16 * t.val + b.val = y.val := congrArg Fin.val (congrFun hz 1)
    omega
  · obtain ⟨x, rfl⟩ : ∃ x : Fin 16, y = lane t x := ⟨⟨y.val - 16 * t.val, by omega⟩, Fin.ext (by show y.val = 16 * t.val + (y.val - 16 * t.val); omega)⟩
    rw [← st_emb, View.write_emb_of_mem _ _ (Finset.mem_univ _)]
    refine (cast_eq _ _).trans ?_
    rw [shapeCast_a_1a_apply]
    show (mRow.access (.whole S100000)).read (Elt F) r (idxAt _ h (ix1 x)) = _
    rw [row_read]
    refine congrArg r (funext fun a => Fin.ext ?_)
    obtain rfl : a = (0 : Fin 1) := Subsingleton.elim _ _
    show (mIx.view.readAt (Elt F) (Rect.unit (s := S16384) (ldOff q t) S16.size (ldOff_inb q t)).toLoadRect s (ix1 x)).toNat = _
    rw [ix_load]
    exact (posOf_val (hs _)).symm

omit [FloatOps F] in
theorem chk_ok (q : Fin 4) (t : Fin k0_t1_loop.trips) (s : Vec F S16384 .i32) (hs : ∀ b, (s b).toNat < 100000) :
    k0_chk1 (mIx.view.readAt (Elt F) (Rect.unit (s := S16384) (ldOff q t) S16.size (ldOff_inb q t)).toLoadRect s) := by
  intro a x
  obtain rfl : a = 0 := Subsingleton.elim _ _
  exact hs _

/-- The gather's invariant after `n` trips. -/
def GI (q : Fin 4) (r : Vec F S100000 .f32) (s : Vec F S16384 .i32) (n : Nat) : sProp 𝕄 :=
  iprop((rowLoc d i ↦{fullShare} r) ∗ (ixLoc d i ↦{fullShare} s) ∗ ∃ g : Vec F S2x4096 .f32, ⌜Gathered q r s (16 * n) g⌝ ∗ stLoc d i ↦[halfSet (half q)]{fullShare} g)

theorem trip_wp (q : Fin 4) (t : Fin k0_t1_loop.trips) (r : Vec F S100000 .f32) (s : Vec F S16384 .i32) (hs : ∀ b, (s b).toNat < 100000) :
    GI d i q r s t.val ⊢ wp frame (wpE (defs₀ (F := F)) 𝒱₀ (V d (cV i) (jV i)) none) Set.univ (trip i q t) fun _ => GI d i q r s (t.val + 1) := by
  unfold trip GI
  simp only [Prog.lift, Prog.bind_op, Prog.bind_ret, Prog.pure_eq_ret]
  iintro ⟨Hr, Hs, %g, %hg, Hg⟩
  iapply (wp_load 𝒱₀ (V d (cV i) (jV i)) none Set.univ (m := mIx) (S := Finset.univ) (Finset.subset_univ _)) $$ Hs; iintro Hs
  rw [wp_assume_of _ _ _ _ (chk_ok q t s hs)]
  iapply (SparseCore.wp_vectorLoadIdx 𝒱₀ (V d (cV i) (jV i)) none Set.univ (base := mRow) (S := Finset.univ) (q := fullShare) (Finset.subset_univ _)) $$ Hr; iintro Hr
  iapply (wp_load_rect 𝒱₀ (V d (cV i) (jV i)) none Set.univ (m := mStage) (r := Rect.unit (s := S2x4096) (stOff q t) S1x16.size (stOff_inb q t))
    (S := halfSet (half q)) (st_sub q t)) $$ Hg
  iintro Hg
  iapply (wp_store 𝒱₀ (V d (cV i) (jV i)) none Set.univ (m := mStage) (r := Rect.unit (s := S2x4096) (stOff q t) S1x16.size (stOff_inb q t))
    (S := halfSet (half q)) (st_sub q t)) $$ Hg
  iintro Hg
  rw [wp_ret]; imodintro
  isplitl [Hr]; · iexact Hr
  isplitl [Hs]; · iexact Hs
  iexists _
  isplitr
  · ipureintro
    exact gathered_trip q t r s hs g hg (k0_idx1_inb _ (chk_ok q t s hs))
  iexact Hg

/-- The gather step: the quarter's half gathered. -/
theorem step_gather (q : Fin 4) (r : Vec F S100000 .f32) (s : Vec F S16384 .i32) (hs : ∀ b, (s b).toNat < 100000) :
    iprop((rowLoc d i ↦{fullShare} r) ∗ (ixLoc d i ↦{fullShare} s) ∗ ∃ g : Vec F S2x4096 .f32, stLoc d i ↦[halfSet (half q)]{fullShare} g)
      ⊢ iprop((GI d i q r s 256 -∗ WP k Q) -∗ WP (Step.andThen i (.gather q) k) Q) := by
  unfold Step.andThen
  iintro ⟨Hr, Hs, %g, Hg⟩ Hk
  iapply (Scf.wp_for_bind frame (wpE (defs₀ (F := F)) 𝒱₀ (V d (cV i) (jV i)) none) Set.univ _ _ _ k0_t1_ok _ (fun t _ => trip i q t)
    (fun n _ => GI d i q r s n) (fun t _ => trip_wp d i q t r s hs)) $$ [Hr Hs Hg]
  · unfold GI
    isplitl [Hr]; · iexact Hr
    isplitl [Hs]; · iexact Hs
    iexists g
    isplitr
    · ipureintro
      intro y hy
      exact absurd hy (by omega)
    iexact Hg
  iintro %_ HI
  iapply Hk
  ihave HI' := (Entails.of_eq (congrArg (GI d i q r s) trips_eq)) $$ HI
  iexact HI'

/-! ## The copies out -/

/-- Half `q` holds quarter `q` of row `j`. -/
def Part (q : Fin 4) (j : Fin 26) (g : Vec F S2x4096 .f32) : Prop :=
  ∀ y : Fin 4096, g (ix2 (half q) y) = gath T X (ix3 (fOf i j) (dOf i j) (col q y))

omit [FloatOps F] in
theorem part_of_gathered (q : Fin 4) (j : Fin 26) (g : Vec F S2x4096 .f32) (h : Gathered q (rowT T (fOf i j) (dOf i j)) (rowX X (fOf i j)) (16 * 256) g) :
    Part i T X q j g := fun y => h y y.isLt

omit [FloatOps F] in
theorem out_write (q : Fin 4) (j : Fin 26) (g : Vec F S2x4096 .f32) (hg : Part i T X q j g) (o : Vec F S26x32x16384 .f32) :
    ∀ x ∈ piece (rN i j) q, (outV i q j).view.write (Elt F) o ((halfV q).view.read (Elt F) g) Finset.univ x = gath T X x := by
  intro x hx
  rw [← outV_set] at hx
  obtain ⟨y, -, rfl⟩ := Finset.mem_map.mp hx
  obtain ⟨y, rfl⟩ : ∃ y' : Fin 4096, y = ix1 y' := ⟨y 0, eq_ix1 y⟩
  rw [View.write_emb_of_mem _ _ (Finset.mem_univ _), outV_emb, View.read_apply, halfV_emb]
  exact hg y

/-- The start of the copy out of a gathered half. -/
theorem step_outS (q : Fin 4) (j : Fin 26) (o : Vec F S26x32x16384 .f32) :
    iprop((∃ g : Vec F S2x4096 .f32, ⌜Part i T X q j g⌝ ∗ stLoc d i ↦[halfSet (half q)]{fullShare} g)
        ∗ (oLoc d ↦[piece (rN i j) q]{fullShare} o) ∗ semVal (cO d i q) 0)
      ⊢ iprop((Fl d i T X q j -∗ WP k Q) -∗ WP (Step.andThen i (.outS q j) k) Q) := by
  simp only [Step.andThen, Prog.lift, Prog.bind_op, Prog.bind_ret]
  iintro ⟨⟨%g, %hg, Hg⟩, Ho, Hsem⟩ Hk
  rw [← outV_set, ← halfV_set]
  iapply (Transfers.wp_dmaLocal EC 𝒱₀ (V d (cV i) (jV i)) none (src := halfV q) (dst := outV i q j) (q := fullShare) (fs := g) (fd := o)
    none _ rfl (View.amount_pos _ _ (by decide)) (Finset.Subset.refl _)) $$ [Hg Ho Hsem]
  · isplitl [Hg]; · iexact Hg
    isplitl [Ho] <;> iassumption
  iintro Hfl
  iapply Hk
  unfold Fl
  iapply (Transfers.Flight_mono EC (V d (cV i) (jV i)) ?hD) $$ Hfl
  case hD =>
    rw [← outV_set, ← halfV_set]
    iintro ⟨Ho, Hg⟩
    isplitl [Ho]
    · ihave Ho' := (Entails.of_eq (pointsTo_congr (fun x hx => out_write i T X q j g hg o x (outV_set i q j ▸ hx)))) $$ Ho
      iexact Ho'
    · iexists g; iexact Hg

/-- The wait for a copy out. -/
theorem step_outW (q : Fin 4) (j : Fin 26) :
    iprop(Core d i T X qT qX O W ∗ Fl d i T X q j)
      ⊢ iprop((iprop(Core d i T X qT qX O W ∗ semVal (cO d i q) 0 ∗ (oLoc d ↦[piece (rN i j) q]{fullShare} gath T X)
            ∗ ∃ g : Vec F S2x4096 .f32, stLoc d i ↦[halfSet (half q)]{fullShare} g) -∗ WP k Q)
          -∗ WP (Step.andThen i (.outW q j) k) Q) := by
  simp only [Step.andThen, Prog.lift, Prog.bind_op, Prog.bind_ret]
  unfold Core Fl
  iintro ⟨⟨#Hmw, HT, HX, Hsems, %W', %hW', HO⟩, Hfl⟩ Hk
  iapply (Transfers.wp_waitLocalO EC 𝒱₀ (V d (cV i) (jV i)) none (srcw := halfV q) (dstw := outV i q j) none rfl (O := O) (W := W')) $$ [Hfl HO]
  · isplitl [Hfl]; · iexact Hfl
    isplitl [HO]; · iexact HO
    iapply (Transfers.MayWaits.elim _) $$ Hmw
  iintro ⟨⟨Ho, Hg⟩, Hsem, HO⟩
  iapply Hk
  isplitr [Ho Hg Hsem]
  · isplitr; · iexact Hmw
    isplitl [HT]; · iexact HT
    isplitl [HX]; · iexact HX
    isplitl [Hsems]; · iexact Hsems
    iexists _
    isplitr
    swap
    · iexact HO
    ipureintro
    intro p hp
    rcases Finset.mem_insert.mp hp with rfl | hp
    · exact .inr rfl
    · exact hW' p hp
  isplitl [Hsem]; · iexact Hsem
  isplitl [Ho]; · iexact Ho
  iexact Hg

/-! ## A quarter -/

/-- Quarter `q` of row `j` gathered into a free half and its copy out started. -/
theorem fill (q : Fin 4) (j : Fin 26) (hX : ∀ x, (X x).toNat < 100000) (o : Vec F S26x32x16384 .f32) :
    iprop((ixLoc d i ↦{fullShare} rowX X (fOf i j)) ∗ (rowLoc d i ↦{fullShare} rowT T (fOf i j) (dOf i j)) ∗ semVal (cO d i q) 0
        ∗ (∃ g : Vec F S2x4096 .f32, stLoc d i ↦[halfSet (half q)]{fullShare} g) ∗ (oLoc d ↦[piece (rN i j) q]{fullShare} o))
      ⊢ iprop((iprop((ixLoc d i ↦{fullShare} rowX X (fOf i j)) ∗ (rowLoc d i ↦{fullShare} rowT T (fOf i j) (dOf i j)) ∗ Fl d i T X q j) -∗ WP k Q)
          -∗ WP (Step.andThen i (.gather q) (Step.andThen i (.outS q j) k)) Q) := by
  iintro ⟨Hs, Hr, Hsem, Hg, Ho⟩ Hk
  iapply (step_gather d i q (rowT T (fOf i j) (dOf i j)) (rowX X (fOf i j)) (fun _ => hX _)) $$ [Hr Hs Hg]
  · isplitl [Hr]; · iexact Hr
    isplitl [Hs] <;> iassumption
  unfold GI
  iintro ⟨Hr, Hs, %g, %hg, Hg⟩
  iapply (step_outS d i T X q j o) $$ [Hg Ho Hsem]
  · isplitl [Hg]
    · iexists g
      isplitr
      · ipureintro
        exact part_of_gathered i T X q j g hg
      iexact Hg
    isplitl [Ho] <;> iassumption
  iintro Hfl
  iapply Hk
  isplitl [Hs]; · iexact Hs
  isplitl [Hr] <;> iassumption

/-- The same once quarter `q'` of row `p` has left the half. -/
theorem refill (q' q : Fin 4) (hh : half q' = half q) (hs : semO q' = semO q) (p j : Fin 26) (hX : ∀ x, (X x).toNat < 100000)
    (o : Vec F S26x32x16384 .f32) :
    iprop(Core d i T X qT qX O W ∗ (ixLoc d i ↦{fullShare} rowX X (fOf i j)) ∗ (rowLoc d i ↦{fullShare} rowT T (fOf i j) (dOf i j))
        ∗ Fl d i T X q' p ∗ (oLoc d ↦[piece (rN i j) q]{fullShare} o))
      ⊢ iprop((iprop(Core d i T X qT qX O W ∗ (ixLoc d i ↦{fullShare} rowX X (fOf i j)) ∗ (rowLoc d i ↦{fullShare} rowT T (fOf i j) (dOf i j))
            ∗ Fl d i T X q j ∗ (oLoc d ↦[piece (rN i p) q']{fullShare} gath T X)) -∗ WP k Q)
          -∗ WP (Step.andThen i (.outW q' p) (Step.andThen i (.gather q) (Step.andThen i (.outS q j) k))) Q) := by
  iintro ⟨HC, Hs, Hr, Hfl, Ho⟩ Hk
  iapply (step_outW d i T X qT qX O W q' p) $$ [HC Hfl]
  · isplitl [HC] <;> iassumption
  rw [hh, show cO d i q' = cO d i q by unfold cO; rw [hs]]
  iintro ⟨HC, Hsem, Hp, Hg⟩
  iapply (fill d i T X q j hX o) $$ [Hs Hr Hsem Hg Ho]
  · isplitl [Hs]; · iexact Hs
    isplitl [Hr]; · iexact Hr
    isplitl [Hsem]; · iexact Hsem
    isplitl [Hg] <;> iassumption
  iintro ⟨Hs, Hr, Hfl⟩
  iapply Hk
  isplitl [HC]; · iexact HC
  isplitl [Hs]; · iexact Hs
  isplitl [Hr]; · iexact Hr
  isplitl [Hfl] <;> iassumption

/-! ## A row -/

/-- A row's last two quarters. -/
theorem row_end (j : Fin 26) (hX : ∀ x, (X x).toNat < 100000) (o : Vec F S26x32x16384 .f32) :
    iprop(Core d i T X qT qX O W ∗ (ixLoc d i ↦{fullShare} rowX X (fOf i j)) ∗ (rowLoc d i ↦{fullShare} rowT T (fOf i j) (dOf i j))
        ∗ Fl d i T X 0 j ∗ Fl d i T X 1 j ∗ (oLoc d ↦[piece (rN i j) 2]{fullShare} o) ∗ (oLoc d ↦[piece (rN i j) 3]{fullShare} o))
      ⊢ iprop((iprop(Core d i T X qT qX O W ∗ (ixLoc d i ↦{fullShare} rowX X (fOf i j)) ∗ (rowLoc d i ↦{fullShare} rowT T (fOf i j) (dOf i j))
            ∗ Fl d i T X 2 j ∗ Fl d i T X 3 j ∗ (oLoc d ↦[piece (rN i j) 0]{fullShare} gath T X) ∗ (oLoc d ↦[piece (rN i j) 1]{fullShare} gath T X)) -∗ WP k Q)
          -∗ WP (run i (rowEnd j) k) Q) := by
  simp only [run]
  iintro ⟨HC, Hs, Hr, Hf0, Hf1, Ho2, Ho3⟩ Hk
  iapply (refill d i T X qT qX O W 0 2 rfl rfl j j hX o) $$ [HC Hs Hr Hf0 Ho2]
  · isplitl [HC]; · iexact HC
    isplitl [Hs]; · iexact Hs
    isplitl [Hr]; · iexact Hr
    isplitl [Hf0] <;> iassumption
  iintro ⟨HC, Hs, Hr, Hf2, Ho0⟩
  iapply (refill d i T X qT qX O W 1 3 rfl rfl j j hX o) $$ [HC Hs Hr Hf1 Ho3]
  · isplitl [HC]; · iexact HC
    isplitl [Hs]; · iexact Hs
    isplitl [Hr]; · iexact Hr
    isplitl [Hf1] <;> iassumption
  iintro ⟨HC, Hs, Hr, Hf3, Ho1⟩
  iapply Hk
  isplitl [HC]; · iexact HC
  isplitl [Hs]; · iexact Hs
  isplitl [Hr]; · iexact Hr
  isplitl [Hf2]; · iexact Hf2
  isplitl [Hf3]; · iexact Hf3
  isplitl [Ho0] <;> iassumption

/-- Row `j` after row `p`. -/
theorem row_next (p j : Fin 26) (hpj : cond i j = 1#1 ∨ fOf i p = fOf i j) (hX : ∀ x, (X x).toNat < 100000) (o : Vec F S26x32x16384 .f32) :
    iprop(Core d i T X qT qX O W ∗ (ixLoc d i ↦{fullShare} rowX X (fOf i p)) ∗ (∃ r : Vec F S100000 .f32, rowLoc d i ↦{fullShare} r)
        ∗ Fl d i T X 2 p ∗ Fl d i T X 3 p ∗ (oLoc d ↦[piece (rN i j) 0]{fullShare} o) ∗ (oLoc d ↦[piece (rN i j) 1]{fullShare} o)
        ∗ (oLoc d ↦[piece (rN i j) 2]{fullShare} o) ∗ (oLoc d ↦[piece (rN i j) 3]{fullShare} o))
      ⊢ iprop((iprop(Core d i T X qT qX O W ∗ (ixLoc d i ↦{fullShare} rowX X (fOf i j)) ∗ (∃ r : Vec F S100000 .f32, rowLoc d i ↦{fullShare} r)
            ∗ Fl d i T X 2 j ∗ Fl d i T X 3 j ∗ (oLoc d ↦[piece (rN i p) 2]{fullShare} gath T X) ∗ (oLoc d ↦[piece (rN i p) 3]{fullShare} gath T X)
            ∗ (oLoc d ↦[piece (rN i j) 0]{fullShare} gath T X) ∗ (oLoc d ↦[piece (rN i j) 1]{fullShare} gath T X)) -∗ WP k Q)
          -∗ WP (run i (rowS p j) k) Q) := by
  unfold rowS
  simp only [run]
  iintro ⟨HC, Hs, Hr, Hf2, Hf3, Ho0, Ho1, Ho2, Ho3⟩ Hk
  iapply (step_idx d i T X qT qX O W j) $$ [HC Hs]
  · isplitl [HC]; · iexact HC
    iexists _
    isplitr
    · ipureintro
      exact hpj.imp_right fun h => congrArg (rowX X) h
    iexact Hs
  iintro ⟨HC, Hs⟩
  iapply (step_tab d i T X qT qX O W j) $$ [HC Hr]
  · isplitl [HC] <;> iassumption
  iintro ⟨HC, Hr⟩
  iapply (refill d i T X qT qX O W 2 0 rfl rfl p j hX o) $$ [HC Hs Hr Hf2 Ho0]
  · isplitl [HC]; · iexact HC
    isplitl [Hs]; · iexact Hs
    isplitl [Hr]; · iexact Hr
    isplitl [Hf2] <;> iassumption
  iintro ⟨HC, Hs, Hr, Hf0, Hp2⟩
  iapply (refill d i T X qT qX O W 3 1 rfl rfl p j hX o) $$ [HC Hs Hr Hf3 Ho1]
  · isplitl [HC]; · iexact HC
    isplitl [Hs]; · iexact Hs
    isplitl [Hr]; · iexact Hr
    isplitl [Hf3] <;> iassumption
  iintro ⟨HC, Hs, Hr, Hf1, Hp3⟩
  iapply (row_end d i T X qT qX O W j hX o) $$ [HC Hs Hr Hf0 Hf1 Ho2 Ho3]
  · isplitl [HC]; · iexact HC
    isplitl [Hs]; · iexact Hs
    isplitl [Hr]; · iexact Hr
    isplitl [Hf0]; · iexact Hf0
    isplitl [Hf1]; · iexact Hf1
    isplitl [Ho2] <;> iassumption
  iintro ⟨HC, Hs, Hr, Hf2, Hf3, Ho0, Ho1⟩
  iapply Hk
  isplitl [HC]; · iexact HC
  isplitl [Hs]; · iexact Hs
  isplitl [Hr]; · iexists _; iexact Hr
  isplitl [Hf2]; · iexact Hf2
  isplitl [Hf3]; · iexact Hf3
  isplitl [Hp2]; · iexact Hp2
  isplitl [Hp3]; · iexact Hp3
  isplitl [Ho0] <;> iassumption

/-! ## The rows -/

/-- The task's scratches at whatever they hold, its two out cells at zero. -/
def Scr : sProp 𝕄 :=
  iprop((∃ s : Vec F S16384 .i32, ixLoc d i ↦{fullShare} s) ∗ (∃ r : Vec F S100000 .f32, rowLoc d i ↦{fullShare} r)
    ∗ semVal (cO d i 0) 0 ∗ semVal (cO d i 1) 0
    ∗ (∃ g : Vec F S2x4096 .f32, stLoc d i ↦[halfSet 0]{fullShare} g) ∗ ∃ g : Vec F S2x4096 .f32, stLoc d i ↦[halfSet 1]{fullShare} g)

omit [FloatOps F] in
theorem scr_eq : (Scr d i : sProp 𝕄)
    = iprop((∃ s : Vec F S16384 .i32, ixLoc d i ↦{fullShare} s) ∗ (∃ r : Vec F S100000 .f32, rowLoc d i ↦{fullShare} r)
      ∗ semVal (cO d i 0) 0 ∗ semVal (cO d i 1) 0
      ∗ (∃ g : Vec F S2x4096 .f32, stLoc d i ↦[halfSet 0]{fullShare} g) ∗ ∃ g : Vec F S2x4096 .f32, stLoc d i ↦[halfSet 1]{fullShare} g) := rfl

/-- The task's last `n` rows of the output. -/
def lastRows (n : Nat) : Finset S26x32x16384.Idx :=
  Finset.univ.filter fun x => rN i 0 + 26 ≤ 32 * (x 0).val + (x 1).val + n ∧ 32 * (x 0).val + (x 1).val < rN i 0 + 26

omit [FloatOps F] in
theorem lastRows_zero : lastRows i 0 = ∅ := by
  ext x
  simp only [lastRows, Finset.mem_filter, Finset.mem_univ, true_and, Finset.notMem_empty, iff_false]
  omega

omit [FloatOps F] in
/-- The last `n + 1` rows are row `j`'s four quarters and the last `n` rows. -/
theorem pts_lastRows (n : Nat) (j : Fin 26) (hj : j.val + n = 25) (f : Vec F S26x32x16384 .f32) :
    (oLoc d ↦[lastRows i (n + 1)]{fullShare} f : sProp 𝕄)
      = iprop((oLoc d ↦[piece (rN i j) 0]{fullShare} f) ∗ (oLoc d ↦[piece (rN i j) 1]{fullShare} f)
          ∗ (oLoc d ↦[piece (rN i j) 2]{fullShare} f) ∗ (oLoc d ↦[piece (rN i j) 3]{fullShare} f) ∗ (oLoc d ↦[lastRows i n]{fullShare} f)) := by
  have hr : rN i j = rN i 0 + j.val := by unfold rN; simp
  have hpp : ∀ q q' : Fin 4, q ≠ q' → Disjoint (piece (rN i j) q) (piece (rN i j) q') := fun q q' hq =>
    Finset.disjoint_left.mpr fun x h h' => hq (Fin.ext ((Finset.mem_filter.mp h).2.2.symm.trans (Finset.mem_filter.mp h').2.2))
  have hpl : ∀ q : Fin 4, Disjoint (piece (rN i j) q) (lastRows i n) := fun q =>
    Finset.disjoint_left.mpr fun x h h' => by
      have h1 := (Finset.mem_filter.mp h).2.1
      have h2 := (Finset.mem_filter.mp h').2.1
      omega
  have hcov : lastRows i (n + 1) = piece (rN i j) 0 ∪ (piece (rN i j) 1 ∪ (piece (rN i j) 2 ∪ (piece (rN i j) 3 ∪ lastRows i n))) := by
    ext x
    have hx2 : (x 2).val < 16384 := (x 2).isLt
    simp only [lastRows, piece, Finset.mem_union, Finset.mem_filter, Finset.mem_univ, true_and]
    show _ ↔ (_ ∧ _ = 0) ∨ (_ ∧ _ = 1) ∨ (_ ∧ _ = 2) ∨ (_ ∧ _ = 3) ∨ _
    omega
  have e : ∀ {I J : Finset S26x32x16384.Idx}, Disjoint I J →
      (oLoc d ↦[I ∪ J]{fullShare} f : sProp 𝕄) = iprop((oLoc d ↦[I]{fullShare} f) ∗ (oLoc d ↦[J]{fullShare} f)) := fun h =>
    Entails.antisymm (pointsTo_union h).1 (pointsTo_union h).2
  rw [hcov, e, e, e, e]
  · exact hpl 3
  · exact Finset.disjoint_union_right.mpr ⟨hpp 2 3 (by decide), hpl 2⟩
  · exact Finset.disjoint_union_right.mpr ⟨hpp 1 2 (by decide), Finset.disjoint_union_right.mpr ⟨hpp 1 3 (by decide), hpl 1⟩⟩
  · exact Finset.disjoint_union_right.mpr ⟨hpp 0 1 (by decide), Finset.disjoint_union_right.mpr ⟨hpp 0 2 (by decide),
      Finset.disjoint_union_right.mpr ⟨hpp 0 3 (by decide), hpl 0⟩⟩⟩

omit [FloatOps F] in
theorem same_index (p j : Fin 26) (h : j.val = p.val + 1) : cond i j = 1#1 ∨ fOf i p = fOf i j := by
  by_cases hc : cond i j = 1#1
  · exact .inl hc
  · refine .inr (Fin.ext ?_)
    have hp : p.val < 25 := by have := j.isLt; omega
    have e := cond_succ i ⟨p.val, hp⟩ (by rw [← h]; exact hc)
    rw [show (⟨p.val, hp⟩ : Fin 25).succ = j from Fin.ext h.symm] at e
    exact e

/-- The last `n` rows, after row `p`, and the waits that end the task. -/
theorem rest_wp (hX : ∀ x, (X x).toNat < 100000) (o : Vec F S26x32x16384 .f32) : ∀ (n : Nat) (h : n < 26) (p : Fin 26) (hp : p.val + n = 25),
    iprop(Core d i T X qT qX O W ∗ (ixLoc d i ↦{fullShare} rowX X (fOf i p)) ∗ (∃ r : Vec F S100000 .f32, rowLoc d i ↦{fullShare} r)
        ∗ Fl d i T X 2 p ∗ Fl d i T X 3 p ∗ (oLoc d ↦[lastRows i n]{fullShare} o))
      ⊢ iprop((iprop(Core d i T X qT qX O W ∗ Scr d i ∗ (oLoc d ↦[piece (rN i p) 2]{fullShare} gath T X) ∗ (oLoc d ↦[piece (rN i p) 3]{fullShare} gath T X)
            ∗ (oLoc d ↦[lastRows i n]{fullShare} gath T X)) -∗ WP k Q)
          -∗ WP (run i (rest n h) k) Q)
  | 0, h, p, hp => by
    obtain rfl : p = 25 := Fin.ext hp
    rw [lastRows_zero, pointsTo_empty, pointsTo_empty]
    unfold rest Scr
    simp only [run]
    iintro ⟨HC, Hs, Hr, Hf2, Hf3, Ho⟩ Hk
    iapply (step_outW d i T X qT qX O W 2 25) $$ [HC Hf2]
    · isplitl [HC] <;> iassumption
    iintro ⟨HC, Hsem0, Hp2, Hg0⟩
    iapply (step_outW d i T X qT qX O W 3 25) $$ [HC Hf3]
    · isplitl [HC] <;> iassumption
    iintro ⟨HC, Hsem1, Hp3, Hg1⟩
    iapply Hk
    isplitl [HC]; · iexact HC
    isplitl [Hs Hr Hsem0 Hsem1 Hg0 Hg1]
    · isplitl [Hs]; · iexists _; iexact Hs
      isplitl [Hr]; · iexact Hr
      isplitl [Hsem0]; · iexact Hsem0
      isplitl [Hsem1]; · iexact Hsem1
      isplitl [Hg0]; · iexact Hg0
      iexact Hg1
    isplitl [Hp2]; · iexact Hp2
    isplitl [Hp3] <;> iassumption
  | n + 1, h, p, hp => by
    obtain rfl : p = ⟨24 - n, Nat.lt_of_le_of_lt (Nat.sub_le 24 n) (by decide)⟩ := Fin.ext (by show p.val = 24 - n; omega)
    have hj : (⟨25 - n, by omega⟩ : Fin 26).val + n = 25 := by show 25 - n + n = 25; omega
    rw [pts_lastRows d i n ⟨25 - n, by omega⟩ hj, pts_lastRows d i n ⟨25 - n, by omega⟩ hj]
    unfold rest
    rw [run_append]
    iintro ⟨HC, Hs, Hr, Hf2, Hf3, Ho0, Ho1, Ho2, Ho3, Ho⟩ Hk
    iapply (row_next d i T X qT qX O W ⟨24 - n, _⟩ ⟨25 - n, _⟩ (same_index i _ _ (by show 25 - n = 24 - n + 1; omega)) hX o)
      $$ [HC Hs Hr Hf2 Hf3 Ho0 Ho1 Ho2 Ho3]
    · isplitl [HC]; · iexact HC
      isplitl [Hs]; · iexact Hs
      isplitl [Hr]; · iexact Hr
      isplitl [Hf2]; · iexact Hf2
      isplitl [Hf3]; · iexact Hf3
      isplitl [Ho0]; · iexact Ho0
      isplitl [Ho1]; · iexact Ho1
      isplitl [Ho2] <;> iassumption
    iintro ⟨HC, Hs, Hr, Hf2, Hf3, Hp2, Hp3, Ho0, Ho1⟩
    iapply (rest_wp hX o n _ ⟨25 - n, _⟩ hj) $$ [HC Hs Hr Hf2 Hf3 Ho]
    · isplitl [HC]; · iexact HC
      isplitl [Hs]; · iexact Hs
      isplitl [Hr]; · iexact Hr
      isplitl [Hf2]; · iexact Hf2
      isplitl [Hf3] <;> iassumption
    iintro ⟨HC, Hscr, Ho2, Ho3, Ho⟩
    iapply Hk
    isplitl [HC]; · iexact HC
    isplitl [Hscr]; · iexact Hscr
    isplitl [Hp2]; · iexact Hp2
    isplitl [Hp3]; · iexact Hp3
    isplitl [Ho0]; · iexact Ho0
    isplitl [Ho1]; · iexact Ho1
    isplitl [Ho2]; · iexact Ho2
    isplitl [Ho3] <;> iassumption

/-- The whole task: all its rows of the output gathered. -/
theorem task_wp (hX : ∀ x, (X x).toNat < 100000) (o : Vec F S26x32x16384 .f32) :
    iprop(Core d i T X qT qX O W ∗ Scr d i ∗ (oLoc d ↦[lastRows i 26]{fullShare} o))
      ⊢ iprop((iprop(Core d i T X qT qX O W ∗ Scr d i ∗ (oLoc d ↦[lastRows i 26]{fullShare} gath T X)) -∗ WP k Q)
          -∗ WP (run i steps k) Q) := by
  unfold steps
  rw [run_append, pts_lastRows d i 25 0 rfl, pts_lastRows d i 25 0 rfl]
  unfold row0
  simp only [run]
  iintro ⟨HC, Hscr, Ho0, Ho1, Ho2, Ho3, Ho⟩ Hk
  ihave Hscr' := (Entails.of_eq (scr_eq d i)) $$ Hscr
  icases Hscr' with ⟨⟨%s, Hs⟩, Hr, Hsem0, Hsem1, Hg0, Hg1⟩
  iapply (step_idx d i T X qT qX O W 0) $$ [HC Hs]
  · isplitl [HC]; · iexact HC
    iexists s
    isplitr
    · ipureintro
      exact .inl (cond_zero i)
    iexact Hs
  iintro ⟨HC, Hs⟩
  iapply (step_tab d i T X qT qX O W 0) $$ [HC Hr]
  · isplitl [HC] <;> iassumption
  iintro ⟨HC, Hr⟩
  iapply (fill d i T X 0 0 hX o) $$ [Hs Hr Hsem0 Hg0 Ho0]
  · isplitl [Hs]; · iexact Hs
    isplitl [Hr]; · iexact Hr
    isplitl [Hsem0]; · iexact Hsem0
    isplitl [Hg0]; · iexact Hg0
    iexact Ho0
  iintro ⟨Hs, Hr, Hf0⟩
  iapply (fill d i T X 1 0 hX o) $$ [Hs Hr Hsem1 Hg1 Ho1]
  · isplitl [Hs]; · iexact Hs
    isplitl [Hr]; · iexact Hr
    isplitl [Hsem1]; · iexact Hsem1
    isplitl [Hg1]; · iexact Hg1
    iexact Ho1
  iintro ⟨Hs, Hr, Hf1⟩
  iapply (row_end d i T X qT qX O W 0 hX o) $$ [HC Hs Hr Hf0 Hf1 Ho2 Ho3]
  · isplitl [HC]; · iexact HC
    isplitl [Hs]; · iexact Hs
    isplitl [Hr]; · iexact Hr
    isplitl [Hf0]; · iexact Hf0
    isplitl [Hf1]; · iexact Hf1
    isplitl [Ho2] <;> iassumption
  iintro ⟨HC, Hs, Hr, Hf2, Hf3, Ho0, Ho1⟩
  iapply (rest_wp d i T X qT qX O W hX o 25 (by decide) 0 rfl) $$ [HC Hs Hr Hf2 Hf3 Ho]
  · isplitl [HC]; · iexact HC
    isplitl [Hs]; · iexact Hs
    isplitl [Hr]; · iexists _; iexact Hr
    isplitl [Hf2]; · iexact Hf2
    isplitl [Hf3] <;> iassumption
  iintro ⟨HC, Hscr, Ho2, Ho3, Ho⟩
  iapply Hk
  isplitl [HC]; · iexact HC
  isplitl [Hscr]; · iexact Hscr
  isplitl [Ho0]; · iexact Ho0
  isplitl [Ho1]; · iexact Ho1
  isplitl [Ho2]; · iexact Ho2
  isplitl [Ho3] <;> iassumption

end Task

end Cert.Proof.KernelIdeal
-- ==== Proof.ILaunch.lean ====
/-
  The idealized program has the kernel's own text under its own names; this is Proof/KLaunch.lean at those names.

  The kernel's run, from its tasks. The launch transposes the tables and the indices, hands each SparseCore and then each
  subcore a read share of both and its own 26 rows of the output, and collects them gathered; the last transpose puts the
  axes in the result's order. `run_main` is the claim about a whole run: the two arguments as they were, the result
  `result m`, and every semaphore at zero.
-/
module

public import proofs.«01_k».proof.Proof.IBody

@[expose] public section

noncomputable section

namespace Cert.Proof.KernelIdeal

open Cert.KernelIdeal Cert.KernelIdeal.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

section Launch

variable [FloatOps F]

/-! ## The launch's configuration -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none
abbrev EH : Emb UH (MT nD τ sig (HIx 1) (Elt F) ℕ UU ℕ) := embL

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-- The grid's coordinates of subcore `s` of SparseCore `c`. -/
def coordsV (c : Fin 2) (s : Fin 16) : grid0.Coords := fun | 0 => c | 1 => s | ⟨_ + 2, h⟩ => absurd h (Nat.not_lt.mpr (Nat.le_add_left ..))

/-! ## The output's rows, dealt -/

/-- SparseCore `c`'s part of the output: the blocks of 26 rows of its parity; -/
def coreSet (c : Fin 2) : Finset S26x32x16384.Idx := Finset.univ.filter fun x => (32 * (x 0).val + (x 1).val) / 26 % 2 = c.val
/-- subcore `s`'s part of that: one block. -/
def tileSet (c : Fin 2) (s : Fin 16) : Finset S26x32x16384.Idx := Finset.univ.filter fun x => (32 * (x 0).val + (x 1).val) / 26 = 2 * s.val + c.val

omit [FloatOps F] in
theorem lastRows_tile (c : Fin 2) (s : Fin 16) : lastRows (coordsV c s) 26 = tileSet c s := by
  have hr : rN (coordsV c s) 0 = 52 * s.val + 26 * c.val := rfl
  unfold lastRows tileSet
  ext x
  simp only [Finset.mem_filter, Finset.mem_univ, true_and]
  rw [hr]
  omega

omit [FloatOps F] in
theorem core_disjoint : ((Finset.univ : Finset (Fin 2)) : Set (Fin 2)).PairwiseDisjoint coreSet := by
  intro a _ b _ hab
  refine Finset.disjoint_left.mpr fun x h1 h2 => hab (Fin.ext ?_)
  unfold coreSet at h1 h2
  rw [← (Finset.mem_filter.mp h1).2, ← (Finset.mem_filter.mp h2).2]
omit [FloatOps F] in
theorem core_cover : (Finset.univ : Finset (Fin 2)).biUnion coreSet = Finset.univ := by
  ext x
  simp only [Finset.mem_biUnion, Finset.mem_univ, true_and, iff_true]
  exact ⟨⟨(32 * (x 0).val + (x 1).val) / 26 % 2, Nat.mod_lt _ (by decide)⟩, Finset.mem_filter.mpr ⟨Finset.mem_univ _, rfl⟩⟩

omit [FloatOps F] in
theorem tile_disjoint (c : Fin 2) : ((Finset.univ : Finset (Fin 16)) : Set (Fin 16)).PairwiseDisjoint (tileSet c) := by
  intro a _ b _ hab
  refine Finset.disjoint_left.mpr fun x h1 h2 => hab (Fin.ext ?_)
  unfold tileSet at h1 h2
  have e1 := (Finset.mem_filter.mp h1).2
  have e2 := (Finset.mem_filter.mp h2).2
  omega
omit [FloatOps F] in
theorem tile_cover (c : Fin 2) : (Finset.univ : Finset (Fin 16)).biUnion (tileSet c) = coreSet c := by
  ext x
  have h0 : (x 0).val < 26 := (x 0).isLt
  have h1 : (x 1).val < 32 := (x 1).isLt
  have hc := c.isLt
  unfold coreSet tileSet
  simp only [Finset.mem_biUnion, Finset.mem_filter, Finset.mem_univ, true_and]
  constructor
  · rintro ⟨s, hs⟩
    omega
  · intro h
    refine ⟨⟨(32 * (x 0).val + (x 1).val) / 26 / 2, by omega⟩, ?_⟩
    show (32 * (x 0).val + (x 1).val) / 26 = 2 * ((32 * (x 0).val + (x 1).val) / 26 / 2) + c.val
    omega

/-- The read share of SparseCore `c`, and of its subcore `s`. -/
def shC (c : Fin 2) : PosShare TreeShare := Transfers.dealOf fullShare Finset.univ c
def shT (c : Fin 2) (s : Fin 16) : PosShare TreeShare := Transfers.dealOf (shC c) Finset.univ s

variable (T : Vec F S26x32x100000 .f32) (X : Vec F S26x16384 .i32) (o : Vec F S26x32x16384 .f32)

/-- What the call holds of the three arrays, the output at `o`: the whole device, -/
def forDev (d : Dev nD) : sProp 𝕄 := iprop((tLoc d ↦{fullShare} T) ∗ (xLoc d ↦{fullShare} X) ∗ oLoc d ↦{fullShare} o)
/-- SparseCore `c`, -/
def forCore (d : Dev nD) (c : Fin 2) : sProp 𝕄 := iprop((tLoc d ↦{shC c} T) ∗ (xLoc d ↦{shC c} X) ∗ oLoc d ↦[coreSet c]{fullShare} o)
/-- and its subcore `s`. -/
def forTile (d : Dev nD) (c : Fin 2) (s : Fin 16) : sProp 𝕄 :=
  iprop((tLoc d ↦{shT c s} T) ∗ (xLoc d ↦{shT c s} X) ∗ oLoc d ↦[tileSet c s]{fullShare} o)

omit [FloatOps F] in
theorem forDev_eq (d : Dev nD) : (forDev T X o d : sProp 𝕄) = bigSep Finset.univ (forCore T X o d) := by
  unfold forDev forCore shC
  rw [bigSep_sep', bigSep_sep', ← pointsTo_biUnion Finset.univ (ℓ := oLoc d) coreSet core_disjoint, core_cover,
    ← Transfers.pointsTo_deal Finset.univ ⟨0, Finset.mem_univ _⟩, ← Transfers.pointsTo_deal Finset.univ ⟨0, Finset.mem_univ _⟩]
omit [FloatOps F] in
theorem forCore_eq (d : Dev nD) (c : Fin 2) : (forCore T X o d c : sProp 𝕄) = bigSep Finset.univ (forTile T X o d c) := by
  unfold forCore forTile shT
  rw [bigSep_sep', bigSep_sep', ← pointsTo_biUnion Finset.univ (ℓ := oLoc d) (tileSet c) (tile_disjoint c), tile_cover,
    ← Transfers.pointsTo_deal Finset.univ ⟨0, Finset.mem_univ _⟩, ← Transfers.pointsTo_deal Finset.univ ⟨0, Finset.mem_univ _⟩]

omit [FloatOps F] in
instance forCore_storable (d : Dev nD) (c : Fin 2) : BI.Storable (upEmb : UEmb _ 𝕄) (forCore T X o d c) := by
  unfold forCore; infer_instance
omit [FloatOps F] in
instance forTile_storable (d : Dev nD) (c : Fin 2) (s : Fin 16) : BI.Storable (upEmb : UEmb _ 𝕄) (forTile T X o d c s) := by
  unfold forTile; infer_instance

/-! ## A task, from what its subcore is handed -/

variable (d : Dev nD) (i : grid0.Coords)

omit [FloatOps F] in
/-- The subcore's own cells: the two the copies out complete on, and the fetches'. -/
theorem ownSems0_V :
    (ownSems0 (V d (cV i) (jV i)) : sProp 𝕄)
      = iprop(semVal (cO d i 0) 0 ∗ semVal (cO d i 1) 0 ∗ bigSep (fetchCells d i) fun g => semVal g 0) := by
  unfold SparseCore.Cfg.ownSems0 fetchCells
  rw [SparseCore.bigSep_erase' ((mem_ownCells (g := cO d i 0)).mpr ⟨rfl, by
      show (SemLoc.dma (semO 0).sem : SemLoc sig).isScoped .scVector = true; decide⟩),
    SparseCore.bigSep_erase' (Finset.mem_erase.mpr ⟨fun e => absurd (SemLoc.dma.inj (Prod.mk.inj e).2)
      (show (semO 1).sem ≠ (semO 0).sem by decide), (mem_ownCells (g := cO d i 1)).mpr ⟨rfl, by
      show (SemLoc.dma (semO 1).sem : SemLoc sig).isScoped .scVector = true; decide⟩⟩)]

/-- The subcore's other buffers. -/
def restBufs : sProp 𝕄 :=
  bigSep ((((ownRefs (τ := τ) (.scVector (cV i) (jV i))).erase ((Proc.scVector (cV i) (jV i)).devRef cc0_scratch0)).erase
    ((Proc.scVector (cV i) (jV i)).devRef cc0_scratch1)).erase ((Proc.scVector (cV i) (jV i)).devRef cc0_scratch2))
      fun b => iprop(∃ f, ((d, b) : Loc nD τ sig) ↦{fullShare} f)

omit [FloatOps F] in
/-- The three scratches are among the subcore's own buffers. -/
theorem ownBufs_V :
    (ownBufs (V d (cV i) (jV i)) : sProp 𝕄)
      = iprop((∃ f : Vec F S100000 .f32, rowLoc d i ↦{fullShare} f) ∗ (∃ f : Vec F S16384 .i32, ixLoc d i ↦{fullShare} f)
          ∗ (∃ f : Vec F S2x4096 .f32, stLoc d i ↦{fullShare} f) ∗ restBufs d i) := by
  unfold SparseCore.Cfg.ownBufs restBufs
  refine (SparseCore.bigSep_erase' (SparseCore.Cfg.mem_ownRefs_of_owner (p := Proc.scVector (cV i) (jV i))
    (b := (Proc.scVector (cV i) (jV i)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV i) (jV i)) (b := (Proc.scVector (cV i) (jV i)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV i) (jV i)) (b := (Proc.scVector (cV i) (jV i)).devRef cc0_scratch2) rfl⟩⟩)]
  rfl

omit [FloatOps F] in
theorem half_disjoint : Disjoint (halfSet 0) (halfSet 1) := Finset.disjoint_left.mpr fun x h h' => by
  have e : (0 : Nat) = 1 := (Finset.mem_filter.mp h).2.symm.trans (Finset.mem_filter.mp h').2
  omega
omit [FloatOps F] in
theorem half_cover : halfSet 0 ∪ halfSet 1 = Finset.univ := by
  ext x
  have hx : (x 0).val < 2 := (x 0).isLt
  simp only [halfSet, Finset.mem_union, Finset.mem_filter, Finset.mem_univ, true_and, iff_true]
  show (x 0).val = 0 ∨ (x 0).val = 1
  omega

omit [FloatOps F] in
/-- The staging scratch is its two halves, each at any contents. -/
theorem stage_halves :
    (iprop(∃ f : Vec F S2x4096 .f32, stLoc d i ↦{fullShare} f) : sProp 𝕄)
      ⊢ iprop((∃ g : Vec F S2x4096 .f32, stLoc d i ↦[halfSet 0]{fullShare} g) ∗ ∃ g : Vec F S2x4096 .f32, stLoc d i ↦[halfSet 1]{fullShare} g) := by
  iintro ⟨%f, H⟩
  ihave H' := (Entails.of_eq (congrArg (fun S => (stLoc d i ↦[S]{fullShare} f : sProp 𝕄)) half_cover.symm)) $$ H
  ihave H'' := (pointsTo_union half_disjoint).1 $$ H'
  icases H'' with ⟨H0, H1⟩
  isplitl [H0]
  · iexists f; iexact H0
  · iexists f; iexact H1
omit [FloatOps F] in
theorem halves_stage :
    (iprop((∃ g : Vec F S2x4096 .f32, stLoc d i ↦[halfSet 0]{fullShare} g) ∗ ∃ g : Vec F S2x4096 .f32, stLoc d i ↦[halfSet 1]{fullShare} g) : sProp 𝕄)
      ⊢ iprop(∃ f : Vec F S2x4096 .f32, stLoc d i ↦{fullShare} f) := by
  iintro ⟨⟨%f, H0⟩, %g, H1⟩
  iexists (halfSet 1).piecewise g f
  iapply (Entails.of_eq (congrArg (fun S => (stLoc d i ↦[S]{fullShare} (halfSet 1).piecewise g f : sProp 𝕄)) half_cover))
  iapply (pointsTo_join half_disjoint)
  isplitl [H0] <;> iassumption

/-- One subcore's whole task: its rows of the output come back gathered. -/
theorem tile_body (hX : ∀ x, (X x).toNat < 100000) (qT qX : PosShare TreeShare) (O : CellTallies nD τ sig (HIx 1))
    (W : Waits sig (HIx 1)) (hO : ∀ g, O g none = 0) :
    iprop((levAts (K (F := F)).L (K (F := F)).lev : sProp 𝕄) ∗ emp
        ∗ ((tLoc d ↦{qT} T) ∗ (xLoc d ↦{qX} X) ∗ oLoc d ↦[lastRows i 26]{fullShare} o)
        ∗ scopedBufs (V d (cV i) (jV i)) ∗ scopedSems0 (V d (cV i) (jV i)) ∗ owes (V d (cV i) (jV i)) O W)
      ⊢ wp frame (wpE (defs₀ (F := F)) 𝒱₀ (V d (cV i) (jV i)) none) Set.univ (atRefs (cc0_k (F := F) i))
          fun _ => iprop(((tLoc d ↦{qT} T) ∗ (xLoc d ↦{qX} X) ∗ oLoc d ↦[lastRows i 26]{fullShare} gath T X)
            ∗ scopedBufs (V d (cV i) (jV i)) ∗ scopedSems0 (V d (cV i) (jV i))
            ∗ ∃ W', ⌜∀ p ∈ W', p ∈ W ∨ p.2 = none⌝ ∗ owes (V d (cV i) (jV i)) O W') := by
  rw [(K (F := F)).scopedBufs_V facts d (cV i) (jV i), SparseCore.Cfg.scopedSems0_V (Val := Elt F) d (cV i) (jV i), ownSems0_V, ownBufs_V,
    body_eq]
  iintro ⟨Hlev, -, ⟨Ht, Hx, Ho⟩, ⟨Hr, Hs, Hst, Hbufs⟩, ⟨Hs0, Hs1, Hcells⟩, HO⟩
  ihave Hmw := ((K (F := F)).mayWaits_none (thr := V d (cV i) (jV i)) hO) $$ Hlev
  ihave Hst' := (stage_halves d i) $$ Hst
  icases Hst' with ⟨Hg0, Hg1⟩
  iapply (task_wp d i T X qT qX O W hX o) $$ [Hmw Ht Hx Ho Hr Hs Hg0 Hg1 Hs0 Hs1 Hcells HO]
  · unfold Core Scr
    isplitl [Hmw Ht Hx Hcells HO]
    · isplitl [Hmw]; · iexact Hmw
      isplitl [Ht]; · iexact Ht
      isplitl [Hx]; · iexact Hx
      isplitl [Hcells]; · iexact Hcells
      iexists W
      isplitr
      · ipureintro; exact fun p hp => .inl hp
      iexact HO
    isplitr [Ho]
    · isplitl [Hs]; · iexact Hs
      isplitl [Hr]; · iexact Hr
      isplitl [Hs0]; · iexact Hs0
      isplitl [Hs1]; · iexact Hs1
      isplitl [Hg0] <;> iassumption
    iexact Ho
  unfold Core Scr
  iintro ⟨⟨-, Ht, Hx, Hcells, HO⟩, ⟨Hs, Hr, Hs0, Hs1, Hst⟩, Ho⟩
  ihave Hst' := (halves_stage d i) $$ Hst
  rw [wp_ret]; imodintro
  isplitl [Ht Hx Ho]
  · isplitl [Ht]; · iexact Ht
    isplitl [Hx]; · iexact Hx
    iexact Ho
  isplitl [Hr Hs Hst' Hbufs]
  · isplitl [Hr]; · iexact Hr
    isplitl [Hs]; · iexact Hs
    isplitl [Hst'] <;> iassumption
  isplitl [Hs0 Hs1 Hcells]
  · isplitl [Hs0]; · iexact Hs0
    isplitl [Hs1] <;> iassumption
  iexact HO

end Launch

/-! ## The launch -/

section Run

variable [FloatOps F]
variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev rLoc (d : Dev nD) : Loc nD τ sig := (SparseCore.T d).loc main_v3

/-- The transposed tables, the transposed indices, and the result of the launch memory `m`. -/
def tabs (d : Dev nD) : Vec F S26x32x100000 .f32 :=
  transpose S26x32x100000 [0, 2, 1] (m (a1Loc d) : Vec F S26x100000x32 .f32) transposes_S26x100000x32_S26x32x100000_0_2_1
def idxs (d : Dev nD) : Vec F S26x16384 .i32 :=
  transpose S26x16384 [1, 0] (m (a0Loc d) : Vec F S16384x26 .i32) transposes_S16384x26_S26x16384_1_0
def result (d : Dev nD) : Vec F S16384x26x32 .f32 :=
  transpose S16384x26x32 [2, 0, 1] (gath (tabs m d) (idxs m d)) transposes_S26x32x16384_S16384x26x32_2_0_1

/-- The table each index names exists. -/
def InRange : Prop := ∀ (d : Dev nD) (b : Fin 16384) (f : Fin 26), ((m (a0Loc d) : Vec F S16384x26 .i32) (ix2 b f)).toNat < 100000

theorem idxs_lt (h : InRange m) (d : Dev nD) (x : S26x16384.Idx) : (idxs m d x).toNat < 100000 := by
  obtain ⟨f, b, rfl⟩ : ∃ (f : Fin 26) (b : Fin 16384), x = ix2 f b := ⟨x 0, x 1, eq_ix2 x⟩
  unfold idxs
  rw [transpose_ix2_apply]
  exact h d b f

/-- What the one call hands over and takes back. -/
def P : (K (F := F)).Pay (nD := nD) (Val := Elt F) (Name := ℕ) (U := UU) where
  st := fun q d c => match q with | 0 => forCore (tabs m d) (idxs m d) (m (oLoc d)) d (Fin.cast nCore_zero c)
  dn := fun q d c => match q with | 0 => forCore (tabs m d) (idxs m d) (gath (tabs m d) (idxs m d)) d (Fin.cast nCore_zero c)
  go := fun q d c s => match q with
    | 0 => forTile (tabs m d) (idxs m d) (m (oLoc d)) d (Fin.cast nCore_zero c) (Fin.cast nSub_zero s)
  td := fun q d c s => match q with
    | 0 => forTile (tabs m d) (idxs m d) (gath (tabs m d) (idxs m d)) d (Fin.cast nCore_zero c) (Fin.cast nSub_zero s)
  x := fun _ _ => iprop(emp)

instance P_storable : (P (F := F) m).IsStorable where
  st q d c := match q with | 0 => forCore_storable _ _ _ d _
  dn q d c := match q with | 0 => forCore_storable _ _ _ d _
  go q d c s := match q with | 0 => forTile_storable _ _ _ d _ _
  td q d c s := match q with | 0 => forTile_storable _ _ _ d _ _

theorem defs₀_vector (c : Fin τ.nSC) (s : Fin τ.nSub) :
    defs₀ (F := F) (.scVector c s) 0 () = SparseCore.onTile hcore0 hsub0 (fun c s => atRefs (cc0_k (F := F) (coordsV c s))) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- `tile_body` at the subcore's share of the three arrays. -/
theorem tile_task (hm : InRange m) (d : Dev nD) (c : Fin 2) (s : Fin 16) (O : CellTallies nD τ sig (HIx 1)) (W : Waits sig (HIx 1))
    (hO : ∀ g, O g none = 0) :
    iprop(levAts (K (F := F)).L (K (F := F)).lev ∗ emp ∗ forTile (tabs m d) (idxs m d) (m (oLoc d)) d c s
        ∗ scopedBufs (V d (cV (coordsV c s)) (jV (coordsV c s))) ∗ scopedSems0 (V d (cV (coordsV c s)) (jV (coordsV c s)))
        ∗ owes (V d (cV (coordsV c s)) (jV (coordsV c s))) O W)
      ⊢ wp frame (wpE (defs₀ (F := F)) 𝒱₀ (V d (cV (coordsV c s)) (jV (coordsV c s))) none) Set.univ (atRefs (cc0_k (F := F) (coordsV c s)))
          fun _ => iprop(forTile (tabs m d) (idxs m d) (gath (tabs m d) (idxs m d)) d c s
            ∗ scopedBufs (V d (cV (coordsV c s)) (jV (coordsV c s))) ∗ scopedSems0 (V d (cV (coordsV c s)) (jV (coordsV c s)))
            ∗ ∃ W', ⌜∀ p ∈ W', p ∈ W ∨ p.2 = none⌝ ∗ owes (V d (cV (coordsV c s)) (jV (coordsV c s))) O W') := by
  unfold forTile
  rw [← lastRows_tile]
  exact tile_body _ _ _ d (coordsV c s) (idxs_lt m hm d) _ _ O W hO

theorem tileObl (hm : InRange m) : (K (F := F)).TileObl (D (F := F)) 𝒱 (P m) v₀ 0 := by
  intro d c s O W hO _ _
  simp only [show (P m).ox = fun _ _ => 0 from rfl, add_zero]
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 s).val < grid0.bound 1 := ⟨c.isLt, s.isLt⟩
  rw [defs₀_vector]; simp only [SparseCore.onTile, hc, and_self, ↓reduceDIte]
  exact (tile_task m hm d ⟨_, hc.1⟩ ⟨_, hc.2⟩ O W hO).trans (wp_mono frame _ _ fun _ => obl_post)

omit [FloatOps F] in
theorem bigSep_subs [FloatOps F] (Φ : Fin 16 → sProp 𝕄) :
    (bigSep Finset.univ fun s : Fin ((K (F := F)).nSub 0) => Φ (Fin.cast nSub_zero s)) = bigSep Finset.univ Φ :=
  bigSep_congr fun _ _ => congrArg Φ (Fin.ext rfl)
omit [FloatOps F] in
theorem bigSep_cores [FloatOps F] (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show forCore (tabs m d) (idxs m d) (m (oLoc d)) d (Fin.cast nCore_zero c) ⊢ |={Set.univ}=> iprop(
      (bigSep Finset.univ fun s : Fin ((K (F := F)).nSub 0) =>
        forTile (tabs m d) (idxs m d) (m (oLoc d)) d (Fin.cast nCore_zero c) (Fin.cast nSub_zero s))
      ∗ ((bigSep Finset.univ fun s : Fin ((K (F := F)).nSub 0) =>
          forTile (tabs m d) (idxs m d) (gath (tabs m d) (idxs m d)) d (Fin.cast nCore_zero c) (Fin.cast nSub_zero s))
        -∗ forCore (tabs m d) (idxs m d) (gath (tabs m d) (idxs m d)) d (Fin.cast nCore_zero c)))
  rw [bigSep_subs (F := F) (forTile (tabs m d) (idxs m d) (m (oLoc d)) d (Fin.cast nCore_zero c)),
    bigSep_subs (F := F) (forTile (tabs m d) (idxs m d) (gath (tabs m d) (idxs m d)) d (Fin.cast nCore_zero c)), ← forCore_eq, ← forCore_eq]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a0' : DevRef τ sig := Proc.devRef .tc (main_arg0 : Ref sig .tc)
abbrev a1' : DevRef τ sig := Proc.devRef .tc (main_arg1 : Ref sig .tc)
abbrev t' : DevRef τ sig := Proc.devRef .tc (main_v0 : Ref sig .tc)
abbrev x' : DevRef τ sig := Proc.devRef .tc (main_v1 : Ref sig .tc)
abbrev o' : DevRef τ sig := Proc.devRef .tc (main_v2 : Ref sig .tc)
abbrev r' : DevRef τ sig := Proc.devRef .tc (main_v3 : Ref sig .tc)

/-- The transposes before the call, and the one after it. -/
abbrev opT : HloOp τ sig (Elt F) := StableHlo.unary main_arg1 main_v0
  ((transpose S26x32x100000 [0, 2, 1] · transposes_S26x100000x32_S26x32x100000_0_2_1) : (⟨S26x100000x32, .f32⟩ : BufTy).Contents (Elt F) → (⟨S26x32x100000, .f32⟩ : BufTy).Contents (Elt F))
abbrev opX : HloOp τ sig (Elt F) := StableHlo.unary main_arg0 main_v1
  ((transpose S26x16384 [1, 0] · transposes_S16384x26_S26x16384_1_0) : (⟨S16384x26, .i32⟩ : BufTy).Contents (Elt F) → (⟨S26x16384, .i32⟩ : BufTy).Contents (Elt F))
abbrev opR : HloOp τ sig (Elt F) := StableHlo.unary main_v2 main_v3
  ((transpose S16384x26x32 [2, 0, 1] · transposes_S26x32x16384_S16384x26x32_2_0_1) : (⟨S26x32x16384, .f32⟩ : BufTy).Contents (Elt F) → (⟨S16384x26x32, .f32⟩ : BufTy).Contents (Elt F))

/-- The TensorCore's arrays, all unscoped. -/
abbrev S6 : Finset (DevRef τ sig) := {a0', a1', t', x', o', r'}

omit [FloatOps F] in
theorem held_S6 (d : Dev nD) (W : Valuation τ sig (Elt F)) :
    (held (SparseCore.T d) S6 W : sProp 𝕄)
      = iprop((a0Loc d ↦{fullShare} W a0') ∗ (a1Loc d ↦{fullShare} W a1') ∗ (tLoc d ↦{fullShare} W t') ∗ (xLoc d ↦{fullShare} W x')
          ∗ (oLoc d ↦{fullShare} W o') ∗ rLoc d ↦{fullShare} W r') := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((a0Loc d ↦{fullShare} W main_arg0) ∗ (a1Loc d ↦{fullShare} W main_arg1) ∗ (tLoc d ↦{fullShare} W main_v0)
          ∗ (xLoc d ↦{fullShare} W main_v1) ∗ (oLoc d ↦{fullShare} W main_v2) ∗ rLoc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- The arrays at the launch; after the two transposes; after the call; after the last transpose. -/
def V0 (d : Dev nD) : Valuation τ sig (Elt F) := fun b => m (d, b)
def V1 (d : Dev nD) : Valuation τ sig (Elt F) := (opT (F := F)).result (V0 m d)
def V2 (d : Dev nD) : Valuation τ sig (Elt F) := (opX (F := F)).result (V1 m d)
def V3 (d : Dev nD) : Valuation τ sig (Elt F) := Function.update (V2 m d) o' (gath (tabs m d) (idxs m d))
def V4 (d : Dev nD) : Valuation τ sig (Elt F) := (opR (F := F)).result (V3 m d)

omit [FloatOps F] in
theorem unscoped_held (d : Dev nD) :
    (unscopedBufs d (fun b => m ((SparseCore.T d).loc b)) : sProp 𝕄) = held (SparseCore.T d) S6 (V0 m d) := by
  rw [unscopedBufs_eq, held_S6]; rfl

theorem V1_ne (d : Dev nD) {b : DevRef τ sig} (h : b ≠ t') : V1 m d b = m (d, b) :=
  (opT (F := F)).result_of_not_mem (V0 m d) (show b ∉ ({t'} : Finset (DevRef τ sig)) by rwa [Finset.mem_singleton])
theorem V2_ne (d : Dev nD) {b : DevRef τ sig} (h : b ≠ x') : V2 m d b = V1 m d b :=
  (opX (F := F)).result_of_not_mem (V1 m d) (show b ∉ ({x'} : Finset (DevRef τ sig)) by rwa [Finset.mem_singleton])
theorem V3_ne (d : Dev nD) {b : DevRef τ sig} (h : b ≠ o') : V3 m d b = V2 m d b := Function.update_of_ne h _ _
theorem V4_ne (d : Dev nD) {b : DevRef τ sig} (h : b ≠ r') : V4 m d b = V3 m d b :=
  (opR (F := F)).result_of_not_mem (V3 m d) (show b ∉ ({r'} : Finset (DevRef τ sig)) by rwa [Finset.mem_singleton])

theorem V2_t (d : Dev nD) : V2 m d t' = tabs m d := by
  rw [V2_ne m d (by decide)]
  exact StableHlo.unary_result main_arg1 main_v0 _ _ _ _
theorem V2_x (d : Dev nD) : V2 m d x' = idxs m d := by
  refine (StableHlo.unary_result main_arg0 main_v1 _ _ _ _).trans ?_
  rw [V1_ne m d (by decide)]
  rfl
theorem V2_o (d : Dev nD) : V2 m d o' = m (oLoc d) := by rw [V2_ne m d (by decide), V1_ne m d (by decide)]
theorem V3_o (d : Dev nD) : V3 m d o' = gath (tabs m d) (idxs m d) := Function.update_self _ _ _
theorem V4_a0 (d : Dev nD) : V4 m d a0' = m (a0Loc d) := by
  rw [V4_ne m d (by decide), V3_ne m d (by decide), V2_ne m d (by decide), V1_ne m d (by decide)]
theorem V4_a1 (d : Dev nD) : V4 m d a1' = m (a1Loc d) := by
  rw [V4_ne m d (by decide), V3_ne m d (by decide), V2_ne m d (by decide), V1_ne m d (by decide)]
theorem V4_r (d : Dev nD) : V4 m d r' = result m d := by
  refine (StableHlo.unary_result main_v2 main_v3 _ _ _ _).trans ?_
  rw [V3_o]
  rfl

theorem held_V1 (d : Dev nD) : (held (SparseCore.T d) S6 ((opT (F := F)).result (V0 m d)) : sProp 𝕄) = held (SparseCore.T d) S6 (V1 m d) := rfl
/-- The arrays before the call: the three the call takes among them. -/
theorem held_V2 (d : Dev nD) :
    (held (SparseCore.T d) S6 ((opX (F := F)).result (V1 m d)) : sProp 𝕄)
      = iprop((a0Loc d ↦{fullShare} V2 m d a0') ∗ (a1Loc d ↦{fullShare} V2 m d a1') ∗ (tLoc d ↦{fullShare} tabs m d)
          ∗ (xLoc d ↦{fullShare} idxs m d) ∗ (oLoc d ↦{fullShare} m (oLoc d)) ∗ rLoc d ↦{fullShare} V2 m d r') := by
  show held (SparseCore.T d) S6 (V2 m d) = _
  rw [held_S6, V2_t, V2_x, V2_o]
/-- The arrays after it: the output gathered, nothing else changed. -/
theorem held_V3 (d : Dev nD) :
    (held (SparseCore.T d) S6 (V3 m d) : sProp 𝕄)
      = iprop((a0Loc d ↦{fullShare} V2 m d a0') ∗ (a1Loc d ↦{fullShare} V2 m d a1') ∗ (tLoc d ↦{fullShare} tabs m d)
          ∗ (xLoc d ↦{fullShare} idxs m d) ∗ (oLoc d ↦{fullShare} gath (tabs m d) (idxs m d)) ∗ rLoc d ↦{fullShare} V2 m d r') := by
  rw [held_S6, V3_o, V3_ne m d (show a0' ≠ o' by decide), V3_ne m d (show a1' ≠ o' by decide), V3_ne m d (show t' ≠ o' by decide),
    V3_ne m d (show x' ≠ o' by decide), V3_ne m d (show r' ≠ o' by decide), V2_t, V2_x]

theorem st0_eq (d : Dev nD) :
    (bigSep Finset.univ fun c : Fin ((K (F := F)).nCore 0) => (P m).st 0 d c) = forDev (tabs m d) (idxs m d) (m (oLoc d)) d :=
  (bigSep_cores (F := F) (forCore (tabs m d) (idxs m d) (m (oLoc d)) d)).trans (forDev_eq _ _ _ d).symm
theorem dn0_eq (d : Dev nD) :
    (bigSep Finset.univ fun c : Fin ((K (F := F)).nCore 0) => (P m).dn 0 d c) = forDev (tabs m d) (idxs m d) (gath (tabs m d) (idxs m d)) d :=
  (bigSep_cores (F := F) (forCore (tabs m d) (idxs m d) (gath (tabs m d) (idxs m d)) d)).trans (forDev_eq _ _ _ d).symm

theorem hT : (opT (F := F)).bufs ⊆ S6 := show ({a1', t'} : Finset (DevRef τ sig)) ⊆ S6 by decide
theorem hX : (opX (F := F)).bufs ⊆ S6 := show ({a0', x'} : Finset (DevRef τ sig)) ⊆ S6 by decide
theorem hR : (opR (F := F)).bufs ⊆ S6 := show ({o', r'} : Finset (DevRef τ sig)) ⊆ S6 by decide

/-- What @main leaves the claim: the arguments at their launch contents, the result. -/
abbrev FIN (d : Dev nD) : sProp 𝕄 :=
  iprop((a0Loc d ↦{fullShare} m (a0Loc d)) ∗ (a1Loc d ↦{fullShare} m (a1Loc d)) ∗ rLoc d ↦{fullShare} result m d)

theorem held_V4 (d : Dev nD) : (held (SparseCore.T d) S6 ((opR (F := F)).result (V3 m d)) : sProp 𝕄) ⊢ FIN m d := by
  show held (SparseCore.T d) S6 (V4 m d) ⊢ _
  rw [held_S6, V4_a0, V4_a1, V4_r]
  iintro ⟨H0, H1, -, -, -, Hr⟩
  isplitl [H0]; · iexact H0
  isplitl [H1] <;> iassumption

/-- @main on device `d`'s TensorCore: the two transposes, the call, the last transpose. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opT) (S := S6) hT (V := V0 m d)) $$ [Hb Hheld]
  · isplitl [Hb] <;> iassumption
  iintro ⟨Hb, Hheld⟩
  rw [wp_ret]; imodintro
  ihave Hheld := (Entails.of_eq (held_V1 (F := F) m d)) $$ Hheld
  iapply (wp_hlo_within 𝒱 (SparseCore.T d) none Set.univ (op := opX) (S := S6) hX (V := V1 m d)) $$ [Hb Hheld]
  · isplitl [Hb] <;> iassumption
  iintro ⟨Hb, Hheld⟩
  rw [wp_ret]; imodintro
  ihave Hh := (Entails.of_eq (held_V2 (F := F) m d)) $$ Hheld
  icases Hh with ⟨H0, H1, Ht, Hx, Ho, Hr⟩
  iapply ((K (F := F)).wp_run (D (F := F)) 𝒱 (EH := EH) (P := P m) κ d 0) $$ [Hst H0 H1 Ht Hx Ho Hr Hb Hts]
  isplitr; · iexact Hctx
  isplitl [Hst]; · iexact Hst
  isplitl [Ht Hx Ho]
  · rw [st0_eq]
    unfold forDev
    isplitl [Ht]; · iexact Ht
    isplitl [Hx] <;> iassumption
  iintro ⟨Hst, Hdn⟩
  ihave Hdn' := (Entails.of_eq (dn0_eq m d)) $$ Hdn
  unfold forDev
  icases Hdn' with ⟨Ht, Hx, Ho⟩
  iapply (wp_hlo_within 𝒱 (SparseCore.T d) none Set.univ (op := opR) (S := S6) hR (V := V3 m d)) $$ [Hb H0 H1 Ht Hx Ho Hr]
  · isplitl [Hb]; · iexact Hb
    rw [held_V3]
    isplitl [H0]; · iexact H0
    isplitl [H1]; · iexact H1
    isplitl [Ht]; · iexact Ht
    isplitl [Hx]; · iexact Hx
    isplitl [Ho] <;> iassumption
  iintro ⟨Hb, Hheld⟩
  ihave Hfin := (held_V4 (F := F) m d) $$ Hheld
  rw [wp_ret]; imodintro; imodintro
  isplitl [Hst]; · iexact Hst
  isplitl [Hfin]; · iexact Hfin
  isplitl [Hb] <;> iassumption

def fq (d : Dev nD) (s' : Phys nD τ sig (Elt F)) : Prop :=
  s'.mem.mem (a0Loc d) = m (a0Loc d) ∧ s'.mem.mem (a1Loc d) = m (a1Loc d) ∧ s'.mem.mem (rLoc d) = result m d

theorem hfin (d : Dev nD) (s' : Phys nD τ sig (Elt F)) : iprop(FIN m d ∗ SI s') ⊢ (⌜fq m d s'⌝ : sProp 𝕄) := by
  iintro ⟨⟨H0, H1, Hr⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (SI_pointsTo_agree (st := s') (ℓ := rLoc d) (I := Finset.univ) (q := fullShare) (f := result m d)) $$ [HSI Hr]
  · isplitl [HSI] <;> iassumption
  icases H with %h2
  ipureintro
  exact ⟨funext fun i => h0 i (Finset.mem_univ i), funext fun i => h1 i (Finset.mem_univ i), funext fun i => h2 i (Finset.mem_univ i)⟩

/-! ## The program's run -/

def QC : PUnit × MemSt nD τ sig (Elt F) → Prop := fun r =>
  (∀ c : Dev nD, r.2.mem (a0Loc c) = m (a0Loc c) ∧ r.2.mem (a1Loc c) = m (a1Loc c) ∧ r.2.mem (rLoc c) = result m c) ∧ r.2.sem = fun _ => 0

/-- A run from memory `m`, every index in range: the arguments unchanged, the result `result m`, the semaphores at zero. -/
theorem run_main [∀ e, Nonempty (Elt F e)] (hm : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hm)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Run

end Cert.Proof.KernelIdeal
-- ==== Proof.RefLine.lean ====
/-
  A straight line of host operations in single assignment, read at its end. When the operations write buffers of ascending
  numbers and each reads only buffers of smaller numbers than the one it writes (`Line`), no operation overwrites
  what another one read or wrote. So at the end of the line every operation's equation holds between the FINAL contents:
  the buffer it wrote holds its function of what the buffers it read hold (`eq_unary` and its siblings), and a buffer
  numbered below the line is as it was (`after_low`).
-/
module

public import Idealize.ShloMosaic.Lib.StableHlo.Run

@[expose] public section

noncomputable section

namespace Cert.Proof.Ref

open Idealize.ShloMosaic Idealize.ShloMosaic.StableHlo

variable {τ : Topo} {sig : RefSig} {Val : EltTy → Type}

/-- A reference's number among the buffers of its space. -/
def num (r : Ref sig .tc) : Nat := r.idx.val

theorem ne_of_num_lt {x y : Ref sig .tc} (h : num x < num y) : x ≠ y := fun e => by subst e; exact Nat.lt_irrefl _ h

/-- The operation writes one buffer, of number `n`, and touches besides only buffers of smaller number. -/
def Puts (op : HloOp τ sig Val) (n : Nat) : Prop :=
  op.fresh = ∅ ∧ ∃ y : Ref sig .tc, op.writes = {Proc.devRef .tc y} ∧ num y = n ∧
    ∀ b ∈ op.bufs, ∃ r : Ref sig .tc, b = Proc.devRef .tc r ∧ (r = y ∨ num r < n)

/-- The operations write the buffers of numbers `n`, `n + 1`, … in turn. -/
def Line : Nat → List (HloOp τ sig Val) → Prop
  | _, [] => True
  | n, op :: ops => Puts op n ∧ Line (n + 1) ops

theorem Line.cons {op : HloOp τ sig Val} {L : List (HloOp τ sig Val)} {n : Nat} (h : Puts op n) (hL : Line (n + 1) L) : Line n (op :: L) := ⟨h, hL⟩

theorem Line.append {L₂ : List (HloOp τ sig Val)} : ∀ {L₁ : List (HloOp τ sig Val)} {n : Nat}, Line n L₁ → Line (n + L₁.length) L₂ →
    Line n (L₁ ++ L₂)
  | [], _, _, h => h
  | _ :: L, n, h₁, h₂ => ⟨h₁.1, Line.append h₁.2 (by
      rw [List.length_cons, show n + (L.length + 1) = n + 1 + L.length by omega] at h₂; exact h₂)⟩

theorem Line.puts {n : Nat} {L : List (HloOp τ sig Val)} (h : Line n L) : ∀ op ∈ L, ∃ k, n ≤ k ∧ Puts op k := by
  induction L generalizing n with
  | nil => intro op ho; exact absurd ho List.not_mem_nil
  | cons o L ih =>
    intro op ho
    rcases List.mem_cons.mp ho with rfl | ho
    · exact ⟨n, le_rfl, h.1⟩
    · obtain ⟨k, hk, hp⟩ := ih h.2 op ho
      exact ⟨k, by omega, hp⟩

/-- A line determines what it writes. -/
theorem Line.fresh {n : Nat} {L : List (HloOp τ sig Val)} (h : Line n L) : ∀ op ∈ L, op.fresh = ∅ := fun op ho => by
  obtain ⟨_, _, hp⟩ := h.puts op ho
  exact hp.1

/-- A line touches only buffers the TensorCore names. -/
theorem Line.sub {n : Nat} {L : List (HloOp τ sig Val)} (h : Line n L) : L.Forall fun op => op.bufs ⊆ tcRefs τ sig :=
  List.forall_iff_forall_mem.2 fun op ho b hb => by
    obtain ⟨_, _, hp⟩ := h.puts op ho
    obtain ⟨_, _, _, _, hs⟩ := hp
    obtain ⟨r, rfl, _⟩ := hs b hb
    exact devRef_mem_tcRefs r

/-- A buffer numbered below the line keeps its contents. -/
theorem after_low {n : Nat} {L : List (HloOp τ sig Val)} (h : Line n L) (V : Valuation τ sig Val) {r : Ref sig .tc} (hr : num r < n) :
    after L V (Proc.devRef .tc r) = V (Proc.devRef .tc r) :=
  after_of_forall_not_mem L V fun op ho hm => by
    obtain ⟨k, hk, -, y, hw, hy, -⟩ := h.puts op ho
    rw [hw, Finset.mem_singleton] at hm
    have := Proc.devRef_injective _ hm
    subst this
    omega

/-- Each operation ran on contents that its operands still have at the end, and its result is still there. -/
theorem held_end {n : Nat} {L : List (HloOp τ sig Val)} (h : Line n L) (V : Valuation τ sig Val) {op : HloOp τ sig Val} (ho : op ∈ L) :
    ∃ W : Valuation τ sig Val, (∀ b ∈ op.bufs, b ∉ op.writes → W b = after L V b) ∧ ∀ b ∈ op.writes, after L V b = op.result W b := by
  induction L generalizing n V with
  | nil => exact absurd ho List.not_mem_nil
  | cons o L ih =>
    rcases List.mem_cons.mp ho with rfl | ho
    · obtain ⟨-, y, hw, hy, hs⟩ := h.1
      refine ⟨V, fun b hb hn => ?_, fun b hb => ?_⟩
      · obtain ⟨r, rfl, rfl | hr⟩ := hs b hb
        · exact absurd (by rw [hw]; exact Finset.mem_singleton_self _) hn
        · rw [after_cons, after_low h.2 _ (by omega), op.result_of_not_mem V hn]
      · obtain rfl : b = Proc.devRef .tc y := by rw [hw] at hb; exact Finset.mem_singleton.mp hb
        rw [after_cons, after_low h.2 _ (by omega)]
    · exact ih h.2 _ ho

/-- What a typed reference's buffer holds. -/
def rd (V : Valuation τ sig Val) {T : BufTy} (x : TRef sig T) : T.Contents Val := x.ofBuf (V (Proc.devRef .tc x.ref))

theorem rd_of (V : Valuation τ sig Val) (r : Ref sig .tc) (h₁ : r.ty = r.ty) (h₂ : r.space ≠ .host) (h₃ : r.isScoped = false) :
    rd V (⟨r, h₁, h₂, h₃⟩ : TRef sig r.ty) = V (Proc.devRef .tc r) := rfl

variable {Tx Ta Tb Tc Ty : BufTy}

section Puts
variable {n : Nat}

theorem puts_nullary {y : TRef sig Ty} {v : Ty.Contents Val} (hy : num y.ref = n) : Puts (TRef.nullary (τ := τ) y v) n :=
  ⟨rfl, y.ref, rfl, hy, fun b hb => by
    rw [nullary_bufs, Finset.mem_singleton] at hb
    exact ⟨_, hb, .inl rfl⟩⟩

theorem puts_unary {x : TRef sig Tx} {y : TRef sig Ty} {f : Tx.Contents Val → Ty.Contents Val} (hy : num y.ref = n) (hx : num x.ref < n) :
    Puts (TRef.unary (τ := τ) x y f) n :=
  ⟨rfl, y.ref, rfl, hy, fun b hb => by
    rw [unary_bufs, Finset.mem_insert, Finset.mem_singleton] at hb
    rcases hb with hb | hb
    · exact ⟨_, hb, .inr hx⟩
    · exact ⟨_, hb, .inl rfl⟩⟩

theorem puts_binary {a : TRef sig Ta} {b : TRef sig Tb} {y : TRef sig Ty} {f : Ta.Contents Val → Tb.Contents Val → Ty.Contents Val}
    (hy : num y.ref = n) (ha : num a.ref < n) (hb : num b.ref < n) : Puts (TRef.binary (τ := τ) a b y f) n :=
  ⟨rfl, y.ref, rfl, hy, fun b hb => by
    rw [binary_bufs, Finset.mem_insert, Finset.mem_insert, Finset.mem_singleton] at hb
    rcases hb with hb | hb | hb
    · exact ⟨_, hb, .inr ha⟩
    · exact ⟨_, hb, .inr ‹_›⟩
    · exact ⟨_, hb, .inl rfl⟩⟩

theorem puts_ternary {c : TRef sig Tc} {a : TRef sig Ta} {b : TRef sig Tb} {y : TRef sig Ty}
    {f : Tc.Contents Val → Ta.Contents Val → Tb.Contents Val → Ty.Contents Val}
    (hy : num y.ref = n) (hc : num c.ref < n) (ha : num a.ref < n) (hb : num b.ref < n) : Puts (TRef.ternary (τ := τ) c a b y f) n :=
  ⟨rfl, y.ref, rfl, hy, fun b hb => by
    rw [ternary_bufs, Finset.mem_insert, Finset.mem_insert, Finset.mem_insert, Finset.mem_singleton] at hb
    rcases hb with hb | hb | hb | hb
    · exact ⟨_, hb, .inr hc⟩
    · exact ⟨_, hb, .inr ha⟩
    · exact ⟨_, hb, .inr ‹_›⟩
    · exact ⟨_, hb, .inl rfl⟩⟩

theorem puts_nary {k : Nat} {xs : Fin k → Ref sig .tc} {y : Ref sig .tc} {f : ((i : Fin k) → (xs i).ty.Contents Val) → y.ty.Contents Val}
    {hxs hd} (hy : num y = n) (hx : ∀ i, num (xs i) < n) : Puts (StableHlo.nary (τ := τ) xs y f hxs hd) n :=
  ⟨rfl, y, rfl, hy, fun b hb => by
    rcases Finset.mem_insert.mp hb with hb | hb
    · exact ⟨_, hb, .inl rfl⟩
    · obtain ⟨i, -, rfl⟩ := Finset.mem_image.mp hb
      exact ⟨_, rfl, .inr (hx i)⟩⟩

end Puts

section Eq
variable {n : Nat} {L : List (HloOp τ sig Val)} (h : Line n L) (V : Valuation τ sig Val)
include h

theorem eq_nullary {y : TRef sig Ty} {v : Ty.Contents Val} (ho : TRef.nullary y v ∈ L) : rd (after L V) y = v := by
  obtain ⟨W, -, hw⟩ := held_end h V ho
  unfold rd
  rw [hw (Proc.devRef .tc y.ref) (Finset.mem_singleton_self _), nullary_result, TRef.ofBuf_toBuf]

theorem eq_unary {x : TRef sig Tx} {y : TRef sig Ty} {f : Tx.Contents Val → Ty.Contents Val} (ho : TRef.unary x y f ∈ L)
    (hx : num x.ref < num y.ref) : rd (after L V) y = f (rd (after L V) x) := by
  obtain ⟨W, hr, hw⟩ := held_end h V ho
  unfold rd
  rw [hw (Proc.devRef .tc y.ref) (Finset.mem_singleton_self _), unary_result, TRef.ofBuf_toBuf,
    hr (Proc.devRef .tc x.ref) (Finset.mem_insert_self _ _)
      (fun e => devRef_ne_of_ne (ne_of_num_lt hx) (Finset.mem_singleton.mp e))]

theorem eq_binary {a : TRef sig Ta} {b : TRef sig Tb} {y : TRef sig Ty} {f : Ta.Contents Val → Tb.Contents Val → Ty.Contents Val}
    (ho : TRef.binary a b y f ∈ L) (ha : num a.ref < num y.ref) (hb : num b.ref < num y.ref) :
    rd (after L V) y = f (rd (after L V) a) (rd (after L V) b) := by
  obtain ⟨W, hr, hw⟩ := held_end h V ho
  unfold rd
  rw [hw (Proc.devRef .tc y.ref) (Finset.mem_singleton_self _), binary_result, TRef.ofBuf_toBuf,
    hr (Proc.devRef .tc a.ref) (by rw [binary_bufs]; exact Finset.mem_insert_self _ _)
      (fun e => devRef_ne_of_ne (ne_of_num_lt ha) (Finset.mem_singleton.mp e)),
    hr (Proc.devRef .tc b.ref) (by rw [binary_bufs]; exact Finset.mem_insert_of_mem (Finset.mem_insert_self _ _))
      (fun e => devRef_ne_of_ne (ne_of_num_lt hb) (Finset.mem_singleton.mp e))]

theorem eq_ternary {c : TRef sig Tc} {a : TRef sig Ta} {b : TRef sig Tb} {y : TRef sig Ty}
    {f : Tc.Contents Val → Ta.Contents Val → Tb.Contents Val → Ty.Contents Val} (ho : TRef.ternary c a b y f ∈ L)
    (hc : num c.ref < num y.ref) (ha : num a.ref < num y.ref) (hb : num b.ref < num y.ref) :
    rd (after L V) y = f (rd (after L V) c) (rd (after L V) a) (rd (after L V) b) := by
  obtain ⟨W, hr, hw⟩ := held_end h V ho
  unfold rd
  rw [hw (Proc.devRef .tc y.ref) (Finset.mem_singleton_self _), ternary_result, TRef.ofBuf_toBuf,
    hr (Proc.devRef .tc c.ref) (by rw [ternary_bufs]; exact Finset.mem_insert_self _ _)
      (fun e => devRef_ne_of_ne (ne_of_num_lt hc) (Finset.mem_singleton.mp e)),
    hr (Proc.devRef .tc a.ref) (by rw [ternary_bufs]; exact Finset.mem_insert_of_mem (Finset.mem_insert_self _ _))
      (fun e => devRef_ne_of_ne (ne_of_num_lt ha) (Finset.mem_singleton.mp e)),
    hr (Proc.devRef .tc b.ref) (by rw [ternary_bufs]; exact Finset.mem_insert_of_mem (Finset.mem_insert_of_mem (Finset.mem_insert_self _ _)))
      (fun e => devRef_ne_of_ne (ne_of_num_lt hb) (Finset.mem_singleton.mp e))]

theorem eq_nary {k : Nat} {xs : Fin k → Ref sig .tc} {y : Ref sig .tc} {f : ((i : Fin k) → (xs i).ty.Contents Val) → y.ty.Contents Val}
    {hxs hd} (ho : StableHlo.nary xs y f hxs hd ∈ L) (hx : ∀ i, num (xs i) < num y) :
    after L V (Proc.devRef .tc y) = f fun i => after L V (Proc.devRef .tc (xs i)) := by
  obtain ⟨W, hr, hw⟩ := held_end h V ho
  rw [hw (Proc.devRef .tc y) (Finset.mem_singleton_self _), nary_result]
  exact congrArg f (funext fun i =>
    hr (Proc.devRef .tc (xs i)) (Finset.mem_insert_of_mem (Finset.mem_image_of_mem _ (Finset.mem_univ i)))
      (fun e => devRef_ne_of_ne (ne_of_num_lt (hx i)) (Finset.mem_singleton.mp e)))

end Eq

end Cert.Proof.Ref

end
-- ==== Proof.RefPiece.lean ====
/-
  One table's lookup in the reference, read at an index. `jnp.take(tables[f], x[:, f], axis=0)` prints as a slice of the
  indices (`words`), the wrap-around of a negative index (`start`), the gather of the rows those name, and a select that
  puts a not-a-number where an index is out of range (`taken`, with the stack's new axis). For indices in range nothing
  wraps and nothing is replaced: `taken_apply` says the lookup's element `(b, 0, d)` is the table's element
  `(f, x[b, f], d)`, whatever the float instance.
-/
module

public import proofs.«01_k».proof.Proof.Gen.ReferenceIdeal
public import Idealize.ShloMosaic.Lib.Pipeline.Value
public import Idealize.ShloMosaic.Lib.ReduceAll
public import Idealize.ShloMosaic.Lib.Routing.Ops
public import Idealize.ShloMosaic.Lib.ValueIdxCore
public import Idealize.ShloMosaic.Lib.ValueLayout

@[expose] public section

noncomputable section

namespace Cert.Proof.Ref

open Cert.ReferenceIdeal Cert.ReferenceIdeal.Gen
open Idealize.ShloMosaic Idealize.ShloMosaic.ValueIdx

variable {F : FTy → Type} [FloatOps F]

/-- Column `f` of the indices, as the reference slices it. -/
def words (X : IVec S16384x26 32) (f : Nat) (hs : S16384x26.Slices ![0, f] S16384x1) : IVec S16384 32 :=
  shapeCast _ (extractStridedSlice S16384x1 ![0, f] X hs) shapeCasts_S16384x1_S16384

/-- The rows to take: a negative index counts from the end. -/
def start (w : IVec S16384 32) : IVec S16384x1 32 :=
  broadcastInDim S16384x1 ![0] bcast_S16384_S16384x1_0 (select (cmpi .slt w (broadcastInDim S16384 ![] bcast_S_S16384 (constantI S_ 32 0#32))) (addi w (broadcastInDim S16384 ![] bcast_S_S16384 (constantI S_ 32 100000#32))) w)

/-- Whether a row's start is in range, as the reference decides it. -/
def inside (g : IVec S16384x1 32) : IVec S16384 1 :=
  Host.reduce IntOp.andi (andi (cmpi .sge g (broadcastInDim S16384x1 ![] bcast_S_S16384x1 (constantI S_ 32 0#32))) (cmpi .sle g (broadcastInDim S16384x1 ![0, 1] bcast_S1x1_S16384x1_0_1 (broadcastInDim S1x1 ![1] bcast_S1_S1x1_1 (constantI S1 32 99999#32))))) (constantI S_ 1 1#1) reducesTo_S16384x1_S16384_d1 h_S_

/-- The lookup in table `f` at the starts `g`, with the stack's new axis. -/
def taken (T : FVec F S26x100000x32 .f32) (g : IVec S16384x1 32) (f : Nat) (hs : S26x100000x32.Slices ![f, 0, 0] S1x100000x32) :
    FVec F S16384x1x32 .f32 :=
  broadcastInDim S16384x1x32 ![0, 2] bcast_S16384x32_S16384x1x32_0_2 (select (broadcastInDim S16384x32 ![0] bcast_S16384_S16384x32_0 (inside g)) (Host.gather gather_S100000x32_S16384x1_S16384x32_1_0_n_n_0_1_132 (shapeCast _ (extractStridedSlice S1x100000x32 ![f, 0, 0] T hs) shapeCasts_S1x100000x32_S100000x32) g) (broadcastInDim S16384x32 ![] bcast_S_S16384x32 (constant S_ .f32 0x7FC00000#32)))

theorem words_apply (X : IVec S16384x26 32) (f : Fin 26) (hs : S16384x26.Slices ![0, f.val] S16384x1) (b : Fin 16384) :
    words X f.val hs (ix1 b) = X (ix2 b f) := by
  unfold words
  rw [shapeCast_apply _ _ (ix1 b) (ix2 b (0 : Fin 1)) (by
    rw [Shape.rowMajor_val_two, Shape.rowMajor_val_one]
    show b.val * 1 + 0 = b.val
    omega)]
  exact slice2_axis1_apply f.val X hs b 0 f rfl

/-- A non-negative word does not wrap. -/
theorem start_apply (w : IVec S16384 32) (b : Fin 16384) (u : Fin 1) (h : (w (ix1 b)).toNat < 100000) :
    start w (ix2 b u) = w (ix1 b) := by
  unfold start
  rw [broadcastInDim_apply _ _ _ (ix2 b u) (ix1 b) (fun a => by match a with | ⟨0, _⟩ => rfl)]
  have e : IntOp.cmpi .slt (w (ix1 b)) 0#32 = 0#1 := by
    have : BitVec.slt (w (ix1 b)) 0#32 = false := by
      rw [BitVec.slt_eq_decide, decide_eq_false_iff_not, BitVec.toInt_eq_toNat_cond]
      simp only [BitVec.toInt_zero, Nat.reducePow]
      omega
    simp only [IntOp.cmpi, this]; rfl
  show (if IntOp.cmpi .slt (w (ix1 b)) 0#32 = 1#1 then _ else w (ix1 b)) = _
  rw [e]; rfl

/-- A row whose start is a row number is inside. -/
theorem inside_apply (g : IVec S16384x1 32) (h : ∀ i, (g i).toNat < 100000) (j : S16384.Idx) : inside g j = 1#1 := by
  unfold inside
  refine Host.reduce_andi_one _ _ _ _ _ rfl fun i => ?_
  have hi := h i
  show IntOp.andi (IntOp.cmpi .sge (g i) 0#32) (IntOp.cmpi .sle (g i) 99999#32) = 1#1
  have e1 : BitVec.sle 0#32 (g i) = true := by
    rw [BitVec.sle_eq_decide, decide_eq_true_eq, BitVec.toInt_eq_toNat_cond (g i)]
    simp only [BitVec.toInt_zero, Nat.reducePow]
    omega
  have e2 : BitVec.sle (g i) 99999#32 = true := by
    rw [BitVec.sle_eq_decide, decide_eq_true_eq, BitVec.toInt_eq_toNat_cond (g i), BitVec.toInt_eq_toNat_cond]
    simp only [BitVec.toNat_ofNat, Nat.reducePow, Nat.reduceMod]
    omega
  simp only [IntOp.cmpi, e1, e2]; rfl

/-- The lookup at an index: the table's row that the start names. -/
theorem taken_apply (T : FVec F S26x100000x32 .f32) (g : IVec S16384x1 32) (f : Fin 26)
    (hs : S26x100000x32.Slices ![f.val, 0, 0] S1x100000x32) (h : ∀ i, (g i).toNat < 100000) (b : Fin 16384) (u : Fin 1) (d : Fin 32) :
    taken T g f.val hs (ix3 b u d) = T (ix3 f ⟨(g (ix2 b 0)).toNat, h _⟩ d) := by
  unfold taken
  rw [broadcastInDim_apply _ _ _ (ix3 b u d) (ix2 b d) (fun a => by match a with | ⟨0, _⟩ => rfl | ⟨1, _⟩ => rfl)]
  have e : broadcastInDim S16384x32 ![0] bcast_S16384_S16384x32_0 (inside g) (ix2 b d) = 1#1 := by
    rw [broadcastInDim_apply _ _ _ (ix2 b d) (ix1 b) (fun a => by match a with | ⟨0, _⟩ => rfl)]
    exact inside_apply g h _
  rw [select_apply, e]
  unfold Scalar.select
  rw [if_pos (by decide)]
  rw [Routing.gather_row gather_S100000x32_S16384x1_S16384x32_1_0_n_n_0_1_132 rfl rfl rfl rfl rfl _ g b d ⟨(g (ix2 b 0)).toNat, h _⟩
    (BitVec.eq_of_toNat_eq (by rw [BitVec.toNat_ofNat, Nat.mod_eq_of_lt (lt_trans (h _) (by norm_num))])) (by norm_num)]
  rw [shapeCast_1ab_ab_apply]
  refine extractStridedSlice_apply _ _ _ _ _ (fun a => ?_)
  match a with
  | ⟨0, _⟩ => rfl
  | ⟨1, _⟩ => exact (Nat.zero_add _).symm
  | ⟨2, _⟩ => exact (Nat.zero_add _).symm

end Cert.Proof.Ref

end
-- ==== Proof.RefRun.lean ====
/-
  The reference's run. Its @main is a straight line of host operations: for each of the 26 tables, one lookup (`Lk`: two
  slices, two reshapes, the body of `jnp.take`); then the 26 lookups get the stack's axis and three concatenations put
  them together (`ops`). `main_eq` says that @main is the run of that line: a lookup before a line is a longer line
  (`step`), and @main's three parts are lookups one after the other.
-/
module

public import proofs.«01_k».proof.Proof.RefLine
public import proofs.«01_k».proof.Proof.RefPiece

@[expose] public section

noncomputable section

namespace Cert.Proof.Ref

open Cert.ReferenceIdeal Cert.ReferenceIdeal.Gen
open Idealize.ShloMosaic Idealize.ShloMosaic.StableHlo Idealize.SL.Sem

variable {F : FTy → Type} [FloatOps F]

/-- One lookup of the reference: the table's number, the two slices' bounds, and the buffers of its values. -/
structure Lk where
  k : Nat
  ht : S26x100000x32.Slices ![k, 0, 0] S1x100000x32
  hs : S16384x26.Slices ![0, k] S16384x1
  x0 : TRef sig ⟨S1x100000x32, .f32⟩
  x1 : TRef sig ⟨S100000x32, .f32⟩
  x2 : TRef sig ⟨S16384x1, .i32⟩
  x3 : TRef sig ⟨S16384, .i32⟩
  φ : fn_take.Bufs
  y : TRef sig ⟨S16384x1x32, .f32⟩

/-- The indices and the tables. -/
abbrev xArg : TRef sig ⟨S16384x26, .i32⟩ := .of main_arg0
@[inherit_doc xArg]
abbrev tArg : TRef sig ⟨S26x100000x32, .f32⟩ := .of main_arg1

/-- One table, one column of the indices. -/
abbrev cutT (k : Nat) (ht : S26x100000x32.Slices ![k, 0, 0] S1x100000x32) (T : FVec F S26x100000x32 .f32) : FVec F S1x100000x32 .f32 :=
  extractStridedSlice S1x100000x32 ![k, 0, 0] T ht
@[inherit_doc cutT]
abbrev cutX (k : Nat) (hs : S16384x26.Slices ![0, k] S16384x1) (X : IVec S16384x26 32) : IVec S16384x1 32 :=
  extractStridedSlice S16384x1 ![0, k] X hs

/-- They lose the sliced axis. -/
abbrev flatT (T : FVec F S1x100000x32 .f32) : FVec F S100000x32 .f32 := shapeCast _ T shapeCasts_S1x100000x32_S100000x32
@[inherit_doc flatT]
abbrev flatX (X : IVec S16384x1 32) : IVec S16384 32 := shapeCast _ X shapeCasts_S16384x1_S16384

namespace Lk

variable (f : Lk)

/-- The lookup's operations, in order. -/
def ops : List (HloOp τ sig (Elt F)) :=
  [TRef.unary tArg f.x0 (cutT f.k f.ht),
   TRef.unary f.x0 f.x1 flatT,
   TRef.unary xArg f.x2 (cutX f.k f.hs),
   TRef.unary f.x2 f.x3 flatX,
   TRef.nullary f.φ.c (constantI S_ 32 0#32),
   TRef.unary f.φ.c f.φ.v0 (broadcastInDim S16384 ![] bcast_S_S16384),
   TRef.binary f.x3 f.φ.v0 f.φ.v1 (cmpi .slt),
   TRef.nullary f.φ.c_0 (constantI S_ 32 100000#32),
   TRef.unary f.φ.c_0 f.φ.v2 (broadcastInDim S16384 ![] bcast_S_S16384),
   TRef.binary f.x3 f.φ.v2 f.φ.v3 addi,
   TRef.ternary f.φ.v1 f.φ.v3 f.x3 f.φ.call0.v0 select,
   TRef.unary f.φ.call0.v0 f.φ.v5 (broadcastInDim S16384x1 ![0] bcast_S16384_S16384x1_0),
   TRef.nullary f.φ.c_1 (constantI S1 32 99999#32),
   TRef.nullary f.φ.c_2 (constantI S_ 32 0#32),
   TRef.unary f.φ.c_2 f.φ.v6 (broadcastInDim S16384x1 ![] bcast_S_S16384x1),
   TRef.binary f.φ.v5 f.φ.v6 f.φ.v7 (cmpi .sge),
   TRef.unary f.φ.c_1 f.φ.v8 (broadcastInDim S1x1 ![1] bcast_S1_S1x1_1),
   TRef.unary f.φ.v8 f.φ.v9 (broadcastInDim S16384x1 ![0, 1] bcast_S1x1_S16384x1_0_1),
   TRef.binary f.φ.v5 f.φ.v9 f.φ.v10 (cmpi .sle),
   TRef.binary f.φ.v7 f.φ.v10 f.φ.v11 andi,
   TRef.nullary f.φ.c_3 (constantI S_ 1 1#1),
   TRef.binary f.φ.v11 f.φ.c_3 f.φ.v12 (fun x v => Host.reduce IntOp.andi x v reducesTo_S16384x1_S16384_d1 h_S_),
   TRef.binary f.x1 f.φ.v5 f.φ.v13 (fun x i => Host.gather gather_S100000x32_S16384x1_S16384x32_1_0_n_n_0_1_132 x i),
   TRef.unary f.φ.v12 f.φ.v14 (broadcastInDim S16384x32 ![0] bcast_S16384_S16384x32_0),
   TRef.nullary f.φ.cst (constant S_ .f32 0x7FC00000#32),
   TRef.unary f.φ.cst f.φ.v15 (broadcastInDim S16384x32 ![] bcast_S_S16384x32),
   TRef.ternary f.φ.v14 f.φ.v13 f.φ.v15 f.φ.v16 select]

/-- The numbers of the buffers they write, in order. -/
def nums : List Nat :=
  [num f.x0.ref, num f.x1.ref, num f.x2.ref, num f.x3.ref, num f.φ.c.ref, num f.φ.v0.ref, num f.φ.v1.ref, num f.φ.c_0.ref,
   num f.φ.v2.ref, num f.φ.v3.ref, num f.φ.call0.v0.ref, num f.φ.v5.ref, num f.φ.c_1.ref, num f.φ.c_2.ref, num f.φ.v6.ref,
   num f.φ.v7.ref, num f.φ.v8.ref, num f.φ.v9.ref, num f.φ.v10.ref, num f.φ.v11.ref, num f.φ.c_3.ref, num f.φ.v12.ref,
   num f.φ.v13.ref, num f.φ.v14.ref, num f.φ.cst.ref, num f.φ.v15.ref, num f.φ.v16.ref]

/-- The lookup's place in the stack: its result with the stack's axis. -/
def push : HloOp τ sig (Elt F) :=
  TRef.unary f.φ.v16 f.y (broadcastInDim S16384x1x32 ![0, 2] bcast_S16384x32_S16384x1x32_0_2)

/-- The lookup as @main prints it. -/
def prog : Prog (TpuEff nD τ sig (Elt F) (Pipeline.Sig Λ₀ (Fin 0) fun p => (pcfgs (F := F) p).Adm) .tc) PUnit := do
  hlo rfl (TRef.unary tArg f.x0 (cutT f.k f.ht)) (fun _ => .ret ⟨⟩)
  hlo rfl (TRef.unary f.x0 f.x1 flatT) (fun _ => .ret ⟨⟩)
  hlo rfl (TRef.unary xArg f.x2 (cutX f.k f.hs)) (fun _ => .ret ⟨⟩)
  hlo rfl (TRef.unary f.x2 f.x3 flatX) (fun _ => .ret ⟨⟩)
  fn_take.body f.x1 f.x3 f.φ

theorem prog_eq : f.prog (F := F) = seq f.ops := rfl

end Lk

/-- The lookups' operations, one lookup after the other. -/
def lookups : List Lk → List (HloOp τ sig (Elt F))
  | [] => []
  | f :: fs => f.ops ++ lookups fs

theorem lookups_append (l m : List Lk) : lookups (F := F) (l ++ m) = lookups l ++ lookups m := by
  induction l with
  | nil => rfl
  | cons a l ih => show a.ops ++ lookups (l ++ m) = a.ops ++ lookups l ++ lookups m; rw [ih, List.append_assoc]

/-! The 26 lookups. -/

abbrev lk0 : Lk := ⟨0, slices_S26x100000x32_S1x100000x32_0_0_0, slices_S16384x26_S16384x1_0_0, .of main_v0, .of main_v1, .of main_v2, .of main_v3, main_call0, .of main_v130⟩
abbrev lk1 : Lk := ⟨1, slices_S26x100000x32_S1x100000x32_1_0_0, slices_S16384x26_S16384x1_0_1, .of main_v5, .of main_v6, .of main_v7, .of main_v8, main_call1, .of main_v131⟩
abbrev lk2 : Lk := ⟨2, slices_S26x100000x32_S1x100000x32_2_0_0, slices_S16384x26_S16384x1_0_2, .of main_v10, .of main_v11, .of main_v12, .of main_v13, main_call2, .of main_v132⟩
abbrev lk3 : Lk := ⟨3, slices_S26x100000x32_S1x100000x32_3_0_0, slices_S16384x26_S16384x1_0_3, .of main_v15, .of main_v16, .of main_v17, .of main_v18, main_call3, .of main_v133⟩
abbrev lk4 : Lk := ⟨4, slices_S26x100000x32_S1x100000x32_4_0_0, slices_S16384x26_S16384x1_0_4, .of main_v20, .of main_v21, .of main_v22, .of main_v23, main_call4, .of main_v134⟩
abbrev lk5 : Lk := ⟨5, slices_S26x100000x32_S1x100000x32_5_0_0, slices_S16384x26_S16384x1_0_5, .of main_v25, .of main_v26, .of main_v27, .of main_v28, main_call5, .of main_v135⟩
abbrev lk6 : Lk := ⟨6, slices_S26x100000x32_S1x100000x32_6_0_0, slices_S16384x26_S16384x1_0_6, .of main_v30, .of main_v31, .of main_v32, .of main_v33, main_call6, .of main_v136⟩
abbrev lk7 : Lk := ⟨7, slices_S26x100000x32_S1x100000x32_7_0_0, slices_S16384x26_S16384x1_0_7, .of main_v35, .of main_v36, .of main_v37, .of main_v38, main_call7, .of main_v137⟩
abbrev lk8 : Lk := ⟨8, slices_S26x100000x32_S1x100000x32_8_0_0, slices_S16384x26_S16384x1_0_8, .of main_v40, .of main_v41, .of main_v42, .of main_v43, main_call8, .of main_v138⟩
abbrev lk9 : Lk := ⟨9, slices_S26x100000x32_S1x100000x32_9_0_0, slices_S16384x26_S16384x1_0_9, .of main_v45, .of main_v46, .of main_v47, .of main_v48, main_call9, .of main_v139⟩
abbrev lk10 : Lk := ⟨10, slices_S26x100000x32_S1x100000x32_10_0_0, slices_S16384x26_S16384x1_0_10, .of main_v50, .of main_v51, .of main_v52, .of main_v53, main_call10, .of main_v140⟩
abbrev lk11 : Lk := ⟨11, slices_S26x100000x32_S1x100000x32_11_0_0, slices_S16384x26_S16384x1_0_11, .of main_v55, .of main_v56, .of main_v57, .of main_v58, main_call11, .of main_v141⟩
abbrev lk12 : Lk := ⟨12, slices_S26x100000x32_S1x100000x32_12_0_0, slices_S16384x26_S16384x1_0_12, .of main_v60, .of main_v61, .of main_v62, .of main_v63, main_call12, .of main_v142⟩
abbrev lk13 : Lk := ⟨13, slices_S26x100000x32_S1x100000x32_13_0_0, slices_S16384x26_S16384x1_0_13, .of main_v65, .of main_v66, .of main_v67, .of main_v68, main_call13, .of main_v143⟩
abbrev lk14 : Lk := ⟨14, slices_S26x100000x32_S1x100000x32_14_0_0, slices_S16384x26_S16384x1_0_14, .of main_v70, .of main_v71, .of main_v72, .of main_v73, main_call14, .of main_v144⟩
abbrev lk15 : Lk := ⟨15, slices_S26x100000x32_S1x100000x32_15_0_0, slices_S16384x26_S16384x1_0_15, .of main_v75, .of main_v76, .of main_v77, .of main_v78, main_call15, .of main_v145⟩
abbrev lk16 : Lk := ⟨16, slices_S26x100000x32_S1x100000x32_16_0_0, slices_S16384x26_S16384x1_0_16, .of main_v80, .of main_v81, .of main_v82, .of main_v83, main_call16, .of main_v146⟩
abbrev lk17 : Lk := ⟨17, slices_S26x100000x32_S1x100000x32_17_0_0, slices_S16384x26_S16384x1_0_17, .of main_v85, .of main_v86, .of main_v87, .of main_v88, main_call17, .of main_v147⟩
abbrev lk18 : Lk := ⟨18, slices_S26x100000x32_S1x100000x32_18_0_0, slices_S16384x26_S16384x1_0_18, .of main_v90, .of main_v91, .of main_v92, .of main_v93, main_call18, .of main_v148⟩
abbrev lk19 : Lk := ⟨19, slices_S26x100000x32_S1x100000x32_19_0_0, slices_S16384x26_S16384x1_0_19, .of main_v95, .of main_v96, .of main_v97, .of main_v98, main_call19, .of main_v149⟩
abbrev lk20 : Lk := ⟨20, slices_S26x100000x32_S1x100000x32_20_0_0, slices_S16384x26_S16384x1_0_20, .of main_v100, .of main_v101, .of main_v102, .of main_v103, main_call20, .of main_v150⟩
abbrev lk21 : Lk := ⟨21, slices_S26x100000x32_S1x100000x32_21_0_0, slices_S16384x26_S16384x1_0_21, .of main_v105, .of main_v106, .of main_v107, .of main_v108, main_call21, .of main_v151⟩
abbrev lk22 : Lk := ⟨22, slices_S26x100000x32_S1x100000x32_22_0_0, slices_S16384x26_S16384x1_0_22, .of main_v110, .of main_v111, .of main_v112, .of main_v113, main_call22, .of main_v152⟩
abbrev lk23 : Lk := ⟨23, slices_S26x100000x32_S1x100000x32_23_0_0, slices_S16384x26_S16384x1_0_23, .of main_v115, .of main_v116, .of main_v117, .of main_v118, main_call23, .of main_v153⟩
abbrev lk24 : Lk := ⟨24, slices_S26x100000x32_S1x100000x32_24_0_0, slices_S16384x26_S16384x1_0_24, .of main_v120, .of main_v121, .of main_v122, .of main_v123, main_call24, .of main_v154⟩
abbrev lk25 : Lk := ⟨25, slices_S26x100000x32_S1x100000x32_25_0_0, slices_S16384x26_S16384x1_0_25, .of main_v125, .of main_v126, .of main_v127, .of main_v128, main_call25, .of main_v155⟩

/-- The lookups that each of @main's three parts holds. -/
abbrev lks₀ : List Lk := [lk0, lk1, lk2, lk3, lk4, lk5, lk6, lk7, lk8, lk9, lk10, lk11]

@[inherit_doc lks₀]
abbrev lks₁ : List Lk := [lk12, lk13, lk14, lk15, lk16, lk17, lk18, lk19, lk20, lk21, lk22, lk23]

@[inherit_doc lks₀]
abbrev lks₂ : List Lk := [lk24, lk25]

/-- All of them. -/
abbrev lks : List Lk := lks₀ ++ (lks₁ ++ lks₂)

/-- The two concatenations of lookups. -/
def catLow : HloOp τ sig (Elt F) :=
  (StableHlo.nary ![main_v130, main_v131, main_v132, main_v133, main_v134, main_v135, main_v136, main_v137, main_v138, main_v139, main_v140, main_v141, main_v142, main_v143, main_v144, main_v145] main_v156 (fun u => (concatenate S16384x16x32 1 [⟨S16384x1x32, (u 0 : (⟨S16384x1x32, .f32⟩ : BufTy).Contents (Elt F))⟩, ⟨S16384x1x32, (u 1 : (⟨S16384x1x32, .f32⟩ : BufTy).Contents (Elt F))⟩, ⟨S16384x1x32, (u 2 : (⟨S16384x1x32, .f32⟩ : BufTy).Contents (Elt F))⟩, ⟨S16384x1x32, (u 3 : (⟨S16384x1x32, .f32⟩ : BufTy).Contents (Elt F))⟩, ⟨S16384x1x32, (u 4 : (⟨S16384x1x32, .f32⟩ : BufTy).Contents (Elt F))⟩, ⟨S16384x1x32, (u 5 : (⟨S16384x1x32, .f32⟩ : BufTy).Contents (Elt F))⟩, ⟨S16384x1x32, (u 6 : (⟨S16384x1x32, .f32⟩ : BufTy).Contents (Elt F))⟩, ⟨S16384x1x32, (u 7 : (⟨S16384x1x32, .f32⟩ : BufTy).Contents (Elt F))⟩, ⟨S16384x1x32, (u 8 : (⟨S16384x1x32, .f32⟩ : BufTy).Contents (Elt F))⟩, ⟨S16384x1x32, (u 9 : (⟨S16384x1x32, .f32⟩ : BufTy).Contents (Elt F))⟩, ⟨S16384x1x32, (u 10 : (⟨S16384x1x32, .f32⟩ : BufTy).Contents (Elt F))⟩, ⟨S16384x1x32, (u 11 : (⟨S16384x1x32, .f32⟩ : BufTy).Contents (Elt F))⟩, ⟨S16384x1x32, (u 12 : (⟨S16384x1x32, .f32⟩ : BufTy).Contents (Elt F))⟩, ⟨S16384x1x32, (u 13 : (⟨S16384x1x32, .f32⟩ : BufTy).Contents (Elt F))⟩, ⟨S16384x1x32, (u 14 : (⟨S16384x1x32, .f32⟩ : BufTy).Contents (Elt F))⟩, ⟨S16384x1x32, (u 15 : (⟨S16384x1x32, .f32⟩ : BufTy).Contents (Elt F))⟩] concatenates_S16384x1x32_S16384x1x32_S16384x1x32_S16384x1x32_S16384x1x32_S16384x1x32_S16384x1x32_S16384x1x32_S16384x1x32_S16384x1x32_S16384x1x32_S16384x1x32_S16384x1x32_S16384x1x32_S16384x1x32_S16384x1x32_S16384x16x32_d1 : (⟨S16384x16x32, .f32⟩ : BufTy).Contents (Elt F))))

@[inherit_doc catLow]
def catHigh : HloOp τ sig (Elt F) :=
  (StableHlo.nary ![main_v146, main_v147, main_v148, main_v149, main_v150, main_v151, main_v152, main_v153, main_v154, main_v155] main_v157 (fun u => (concatenate S16384x10x32 1 [⟨S16384x1x32, (u 0 : (⟨S16384x1x32, .f32⟩ : BufTy).Contents (Elt F))⟩, ⟨S16384x1x32, (u 1 : (⟨S16384x1x32, .f32⟩ : BufTy).Contents (Elt F))⟩, ⟨S16384x1x32, (u 2 : (⟨S16384x1x32, .f32⟩ : BufTy).Contents (Elt F))⟩, ⟨S16384x1x32, (u 3 : (⟨S16384x1x32, .f32⟩ : BufTy).Contents (Elt F))⟩, ⟨S16384x1x32, (u 4 : (⟨S16384x1x32, .f32⟩ : BufTy).Contents (Elt F))⟩, ⟨S16384x1x32, (u 5 : (⟨S16384x1x32, .f32⟩ : BufTy).Contents (Elt F))⟩, ⟨S16384x1x32, (u 6 : (⟨S16384x1x32, .f32⟩ : BufTy).Contents (Elt F))⟩, ⟨S16384x1x32, (u 7 : (⟨S16384x1x32, .f32⟩ : BufTy).Contents (Elt F))⟩, ⟨S16384x1x32, (u 8 : (⟨S16384x1x32, .f32⟩ : BufTy).Contents (Elt F))⟩, ⟨S16384x1x32, (u 9 : (⟨S16384x1x32, .f32⟩ : BufTy).Contents (Elt F))⟩] concatenates_S16384x1x32_S16384x1x32_S16384x1x32_S16384x1x32_S16384x1x32_S16384x1x32_S16384x1x32_S16384x1x32_S16384x1x32_S16384x1x32_S16384x10x32_d1 : (⟨S16384x10x32, .f32⟩ : BufTy).Contents (Elt F))))

/-- Their concatenation. -/
def catAll : HloOp τ sig (Elt F) :=
  TRef.binary (.of main_v156) (.of main_v157) (.of main_v158) (fun (a : FVec F S16384x16x32 .f32) (b : FVec F S16384x10x32 .f32) => concatenate S16384x26x32 1 [⟨S16384x16x32, a⟩, ⟨S16384x10x32, b⟩] concatenates_S16384x16x32_S16384x10x32_S16384x26x32_d1)

/-- What follows the lookups. -/
def tailOps : List (HloOp τ sig (Elt F)) := lks.map Lk.push ++ [catLow, catHigh, catAll]

/-- @main's operations. -/
def ops : List (HloOp τ sig (Elt F)) := lookups lks ++ tailOps

/-! ## The program is the line -/

variable (F) in
/-- A program of the reference's. -/
abbrev P : Type 1 := Prog (TpuEff nD τ sig (Elt F) (Pipeline.Sig Λ₀ (Fin 0) fun p => (pcfgs (F := F) p).Adm) .tc) PUnit

/-- A lookup before a line. -/
theorem step (f : Lk) (fs : List Lk) (T : List (HloOp τ sig (Elt F))) {p : P F} (h : p = seq (lookups fs ++ T)) :
    (do
      hlo rfl (TRef.unary tArg f.x0 (cutT f.k f.ht)) (fun _ => .ret ⟨⟩)
      hlo rfl (TRef.unary f.x0 f.x1 flatT) (fun _ => .ret ⟨⟩)
      hlo rfl (TRef.unary xArg f.x2 (cutX f.k f.hs)) (fun _ => .ret ⟨⟩)
      hlo rfl (TRef.unary f.x2 f.x3 flatX) (fun _ => .ret ⟨⟩)
      fn_take.body f.x1 f.x3 f.φ
      p : P F) = seq (lookups (f :: fs) ++ T) := by
  have e : seq (lookups (f :: fs) ++ T) = f.prog >>= fun _ => p := by
    show seq (f.ops ++ lookups fs ++ T) = _
    rw [List.append_assoc, seq_append, h, Lk.prog_eq]
  rw [e]
  simp only [Lk.prog, bind_assoc]

/-- A lookup that ends a part. -/
theorem last (f : Lk) : f.prog (F := F) = seq (lookups [f] ++ []) := by
  rw [Lk.prog_eq]
  show _ = seq (f.ops ++ [] ++ [])
  rw [List.append_nil, List.append_nil]

theorem part0 (d : Dev nD) : main_part0 (F := F) d = seq (lookups lks₀ ++ []) :=
  step lk0 _ _ (step lk1 _ _ (step lk2 _ _ (step lk3 _ _ (step lk4 _ _ (step lk5 _ _ (step lk6 _ _ (step lk7 _ _ (step lk8 _ _ (step lk9 _ _ (step lk10 _ _ (last lk11)))))))))))

theorem part1 (d : Dev nD) : main_part1 (F := F) d = seq (lookups lks₁ ++ []) :=
  step lk12 _ _ (step lk13 _ _ (step lk14 _ _ (step lk15 _ _ (step lk16 _ _ (step lk17 _ _ (step lk18 _ _ (step lk19 _ _ (step lk20 _ _ (step lk21 _ _ (step lk22 _ _ (last lk23)))))))))))

theorem part2 (d : Dev nD) : main_part2 (F := F) d = seq (lookups lks₂ ++ tailOps) :=
  step lk24 _ _ (step lk25 _ _ rfl)

theorem main_eq (d : Dev nD) : main (F := F) d = seq ops := by
  have e : main (F := F) d = main_part0 d >>= fun _ => main_part1 d >>= fun _ => main_part2 d := rfl
  rw [e, part0, part1, part2, List.append_nil, List.append_nil, ← seq_append, ← seq_append]
  refine congrArg seq ?_
  unfold ops
  rw [lookups_append, lookups_append, List.append_assoc, List.append_assoc]

end Cert.Proof.Ref

end
-- ==== Proof.RefValue.lean ====
/-
  The reference's result, read at an index. The line of Proof/RefRun.lean is in single assignment (`ops_line`), so at its
  end each lookup holds `taken` of the arguments (`look`); the result is two concatenations of lookups, sixteen and ten,
  and a third of those two. So element `(b, f, d)` of the result is the tables' element `(f, x[b, f], d)` when every index
  is in range (`result_apply`), and every run of the reference ends with that (`run_main`).
-/
module

public import proofs.«01_k».proof.Proof.RefRun
public import Idealize.ShloMosaic.Lib.Pipeline.ValueKit.Tiles

@[expose] public section

noncomputable section

namespace Cert.Proof.Ref

open Cert.ReferenceIdeal Cert.ReferenceIdeal.Gen
open Idealize.ShloMosaic Idealize.ShloMosaic.ValueIdx Idealize.ShloMosaic.StableHlo Idealize.SL.Sem

variable {F : FTy → Type} [FloatOps F]

/-! ## The line is in single assignment -/

theorem num_xArg : num xArg.ref < 2 := by decide
theorem num_tArg : num tArg.ref < 2 := by decide

theorem lt_add {a n i : Nat} (j : Nat) (h : a = n + i) (hij : i < j) : a < n + j := by omega
theorem lt_add' {a b n i j : Nat} (h : a = n + i) (h' : b = n + j) (hij : i < j) : a < b := by omega
theorem arg_lt {a n : Nat} (j : Nat) (h : a < 2) (hn : 2 ≤ n) : a < n + j := by omega
theorem arg_lt' {a b n j : Nat} (h : a < 2) (hn : 2 ≤ n) (h' : b = n + j) : a < b := by omega

/-- The block's numbers, buffer by buffer. -/
theorem Lk.numbered (f : Lk) {n : Nat} (h : f.nums = List.range' n 27) :
    num f.x0.ref = n + 0 ∧ num f.x1.ref = n + 1 ∧ num f.x2.ref = n + 2 ∧ num f.x3.ref = n + 3 ∧ num f.φ.c.ref = n + 4 ∧ num f.φ.v0.ref = n + 5 ∧ num f.φ.v1.ref = n + 6 ∧ num f.φ.c_0.ref = n + 7 ∧ num f.φ.v2.ref = n + 8 ∧ num f.φ.v3.ref = n + 9 ∧ num f.φ.call0.v0.ref = n + 10 ∧ num f.φ.v5.ref = n + 11 ∧ num f.φ.c_1.ref = n + 12 ∧ num f.φ.c_2.ref = n + 13 ∧ num f.φ.v6.ref = n + 14 ∧ num f.φ.v7.ref = n + 15 ∧ num f.φ.v8.ref = n + 16 ∧ num f.φ.v9.ref = n + 17 ∧ num f.φ.v10.ref = n + 18 ∧ num f.φ.v11.ref = n + 19 ∧ num f.φ.c_3.ref = n + 20 ∧ num f.φ.v12.ref = n + 21 ∧ num f.φ.v13.ref = n + 22 ∧ num f.φ.v14.ref = n + 23 ∧ num f.φ.cst.ref = n + 24 ∧ num f.φ.v15.ref = n + 25 ∧ num f.φ.v16.ref = n + 26 := by
  have g (i : Nat) (hi : i < 27) : f.nums[i]'(show i < f.nums.length from hi) = n + i := by
    have : ∀ (l : List Nat) (_ : l = List.range' n 27) (hl : i < l.length), l[i] = n + i := by
      intro l e hl; subst e; rw [List.getElem_range', one_mul]
    exact this _ h hi
  exact ⟨g 0 (by decide), g 1 (by decide), g 2 (by decide), g 3 (by decide), g 4 (by decide), g 5 (by decide), g 6 (by decide), g 7 (by decide), g 8 (by decide), g 9 (by decide), g 10 (by decide), g 11 (by decide), g 12 (by decide), g 13 (by decide), g 14 (by decide), g 15 (by decide), g 16 (by decide), g 17 (by decide), g 18 (by decide), g 19 (by decide), g 20 (by decide), g 21 (by decide), g 22 (by decide), g 23 (by decide), g 24 (by decide), g 25 (by decide), g 26 (by decide)⟩

/-- A lookup's operations write the block in order. -/
theorem Lk.line (f : Lk) {n : Nat} (hn : 2 ≤ n) (h : f.nums = List.range' n 27) : Line n (f.ops (F := F)) := by
  have hX := num_xArg
  have hT := num_tArg
  obtain ⟨h0, h1, h2, h3, h4, h5, h6, h7, h8, h9, h10, h11, h12, h13, h14, h15, h16, h17, h18, h19, h20, h21, h22, h23, h24, h25, h26⟩ := f.numbered h
  unfold Lk.ops
  exact Line.cons (puts_unary h0 (arg_lt 0 hT hn)) <|
    Line.cons (puts_unary h1 (lt_add 1 h0 (by decide))) <|
    Line.cons (puts_unary h2 (arg_lt 2 hX hn)) <|
    Line.cons (puts_unary h3 (lt_add 3 h2 (by decide))) <|
    Line.cons (puts_nullary h4) <|
    Line.cons (puts_unary h5 (lt_add 5 h4 (by decide))) <|
    Line.cons (puts_binary h6 (lt_add 6 h3 (by decide)) (lt_add 6 h5 (by decide))) <|
    Line.cons (puts_nullary h7) <|
    Line.cons (puts_unary h8 (lt_add 8 h7 (by decide))) <|
    Line.cons (puts_binary h9 (lt_add 9 h3 (by decide)) (lt_add 9 h8 (by decide))) <|
    Line.cons (puts_ternary h10 (lt_add 10 h6 (by decide)) (lt_add 10 h9 (by decide)) (lt_add 10 h3 (by decide))) <|
    Line.cons (puts_unary h11 (lt_add 11 h10 (by decide))) <|
    Line.cons (puts_nullary h12) <|
    Line.cons (puts_nullary h13) <|
    Line.cons (puts_unary h14 (lt_add 14 h13 (by decide))) <|
    Line.cons (puts_binary h15 (lt_add 15 h11 (by decide)) (lt_add 15 h14 (by decide))) <|
    Line.cons (puts_unary h16 (lt_add 16 h12 (by decide))) <|
    Line.cons (puts_unary h17 (lt_add 17 h16 (by decide))) <|
    Line.cons (puts_binary h18 (lt_add 18 h11 (by decide)) (lt_add 18 h17 (by decide))) <|
    Line.cons (puts_binary h19 (lt_add 19 h15 (by decide)) (lt_add 19 h18 (by decide))) <|
    Line.cons (puts_nullary h20) <|
    Line.cons (puts_binary h21 (lt_add 21 h19 (by decide)) (lt_add 21 h20 (by decide))) <|
    Line.cons (puts_binary h22 (lt_add 22 h1 (by decide)) (lt_add 22 h11 (by decide))) <|
    Line.cons (puts_unary h23 (lt_add 23 h21 (by decide))) <|
    Line.cons (puts_nullary h24) <|
    Line.cons (puts_unary h25 (lt_add 25 h24 (by decide))) <|
    Line.cons (puts_ternary h26 (lt_add 26 h23 (by decide)) (lt_add 26 h22 (by decide)) (lt_add 26 h25 (by decide))) trivial

/-- Blocks of 27 numbers, one block per lookup. -/
def blocks : Nat → Nat → List (List Nat)
  | _, 0 => []
  | n, k + 1 => List.range' n 27 :: blocks (n + 27) k

theorem lookups_line : ∀ (l : List Lk) {n : Nat}, 2 ≤ n → l.map Lk.nums = blocks n l.length → Line n (lookups (F := F) l)
  | [], _, _, _ => trivial
  | f :: l, n, hn, h => by
    have h' := List.cons.inj h
    exact (f.line hn h'.1).append (lookups_line l (Nat.le_add_right_of_le hn) h'.2)

theorem pushes_line : ∀ (l : List Lk) {n : Nat}, l.map (fun f => num f.y.ref) = List.range' n l.length →
    (∀ f ∈ l, num f.φ.v16.ref < n) → Line n (l.map (Lk.push (F := F)))
  | [], _, _, _ => trivial
  | f :: l, n, h, hv => by
    have h' := List.cons.inj h
    exact ⟨puts_unary h'.1 (hv f List.mem_cons_self),
      pushes_line l h'.2 fun g hg => Nat.lt_succ_of_lt (hv g (List.mem_cons_of_mem _ hg))⟩

theorem lks_nums : lks.map Lk.nums = blocks 2 26 := by decide
theorem lks_y : lks.map (fun f => num f.y.ref) = List.range' 704 26 := by decide
theorem lks_v16 : ∀ f ∈ lks, num f.φ.v16.ref < 704 := by decide

theorem lookups_length (l : List Lk) : (lookups (F := F) l).length = 27 * l.length := by
  induction l with
  | nil => rfl
  | cons f l ih =>
    show (f.ops ++ lookups l).length = 27 * (l.length + 1)
    rw [List.length_append, ih, show (f.ops (F := F)).length = 27 from rfl]; omega

theorem puts_catLow : Puts (catLow (F := F)) 730 := puts_nary rfl (by decide)
theorem puts_catHigh : Puts (catHigh (F := F)) 731 := puts_nary rfl (by decide)
theorem puts_catAll : Puts (catAll (F := F)) 732 := by
  unfold catAll
  exact puts_binary rfl (by decide) (by decide)

theorem ops_line : Line 2 (ops (F := F)) := by
  refine (lookups_line lks le_rfl lks_nums).append ?_
  rw [lookups_length]
  refine (pushes_line lks lks_y lks_v16).append ?_
  exact .cons puts_catLow (.cons puts_catHigh (.cons puts_catAll trivial))

/-! ## A lookup -/

theorem nums_of_mem : ∀ (l : List Lk) (n : Nat), l.map Lk.nums = blocks n l.length → ∀ f ∈ l, ∃ k, n ≤ k ∧ f.nums = List.range' k 27
  | [], _, _, _, hf => absurd hf List.not_mem_nil
  | g :: l, n, h, f, hf => by
    have h' := List.cons.inj h
    rcases List.mem_cons.mp hf with rfl | hf
    · exact ⟨n, le_rfl, h'.1⟩
    · obtain ⟨k, hk, e⟩ := nums_of_mem l _ h'.2 f hf
      exact ⟨k, by omega, e⟩

theorem mem_lookups {f : Lk} {op : HloOp τ sig (Elt F)} (ho : op ∈ f.ops) : ∀ l : List Lk, f ∈ l → op ∈ lookups l
  | [], hf => absurd hf List.not_mem_nil
  | g :: l, hf => by
    rcases List.mem_cons.mp hf with rfl | hf
    · exact List.mem_append_left _ ho
    · exact List.mem_append_right _ (mem_lookups ho l hf)

variable (V : Valuation τ sig (Elt F))

/-- At the end of the line a lookup holds `taken` of the arguments, with the stack's axis. -/
theorem look (f : Lk) (hf : f ∈ lks) :
    rd (after ops V) f.y = taken (rd (after ops V) tArg) (start (words (rd (after ops V) xArg) f.k f.hs)) f.k f.ht := by
  have hL := ops_line (F := F)
  have hm (i : Nat) {op : HloOp τ sig (Elt F)} (h : f.ops[i]? = some op) : op ∈ ops (F := F) :=
    List.mem_append_left _ (mem_lookups (List.mem_of_getElem? h) lks hf)
  have hX := num_xArg
  have hT := num_tArg
  obtain ⟨n, hn, h⟩ := nums_of_mem lks 2 lks_nums f hf
  have hv := lks_v16 f hf
  have hy : 704 ≤ num f.y.ref := by
    have : num f.y.ref ∈ lks.map (fun f => num f.y.ref) := List.mem_map_of_mem (f := fun f : Lk => num f.y.ref) hf
    rw [lks_y, List.mem_range'_1] at this
    exact this.1
  obtain ⟨h0, h1, h2, h3, h4, h5, h6, h7, h8, h9, h10, h11, h12, h13, h14, h15, h16, h17, h18, h19, h20, h21, h22, h23, h24, h25, h26⟩ := f.numbered h
  have e0 := eq_unary hL V (hm 0 rfl) (arg_lt' hT hn h0)
  have e1 := eq_unary hL V (hm 1 rfl) (lt_add' h0 h1 (by decide))
  have e2 := eq_unary hL V (hm 2 rfl) (arg_lt' hX hn h2)
  have e3 := eq_unary hL V (hm 3 rfl) (lt_add' h2 h3 (by decide))
  have e4 := eq_nullary hL V (hm 4 rfl)
  have e5 := eq_unary hL V (hm 5 rfl) (lt_add' h4 h5 (by decide))
  have e6 := eq_binary hL V (hm 6 rfl) (lt_add' h3 h6 (by decide)) (lt_add' h5 h6 (by decide))
  have e7 := eq_nullary hL V (hm 7 rfl)
  have e8 := eq_unary hL V (hm 8 rfl) (lt_add' h7 h8 (by decide))
  have e9 := eq_binary hL V (hm 9 rfl) (lt_add' h3 h9 (by decide)) (lt_add' h8 h9 (by decide))
  have e10 := eq_ternary hL V (hm 10 rfl) (lt_add' h6 h10 (by decide)) (lt_add' h9 h10 (by decide)) (lt_add' h3 h10 (by decide))
  have e11 := eq_unary hL V (hm 11 rfl) (lt_add' h10 h11 (by decide))
  have e12 := eq_nullary hL V (hm 12 rfl)
  have e13 := eq_nullary hL V (hm 13 rfl)
  have e14 := eq_unary hL V (hm 14 rfl) (lt_add' h13 h14 (by decide))
  have e15 := eq_binary hL V (hm 15 rfl) (lt_add' h11 h15 (by decide)) (lt_add' h14 h15 (by decide))
  have e16 := eq_unary hL V (hm 16 rfl) (lt_add' h12 h16 (by decide))
  have e17 := eq_unary hL V (hm 17 rfl) (lt_add' h16 h17 (by decide))
  have e18 := eq_binary hL V (hm 18 rfl) (lt_add' h11 h18 (by decide)) (lt_add' h17 h18 (by decide))
  have e19 := eq_binary hL V (hm 19 rfl) (lt_add' h15 h19 (by decide)) (lt_add' h18 h19 (by decide))
  have e20 := eq_nullary hL V (hm 20 rfl)
  have e21 := eq_binary hL V (hm 21 rfl) (lt_add' h19 h21 (by decide)) (lt_add' h20 h21 (by decide))
  have e22 := eq_binary hL V (hm 22 rfl) (lt_add' h1 h22 (by decide)) (lt_add' h11 h22 (by decide))
  have e23 := eq_unary hL V (hm 23 rfl) (lt_add' h21 h23 (by decide))
  have e24 := eq_nullary hL V (hm 24 rfl)
  have e25 := eq_unary hL V (hm 25 rfl) (lt_add' h24 h25 (by decide))
  have e26 := eq_ternary hL V (hm 26 rfl) (lt_add' h23 h26 (by decide)) (lt_add' h22 h26 (by decide)) (lt_add' h25 h26 (by decide))
  have eY := eq_unary hL V (x := f.φ.v16) (y := f.y)
    (List.mem_append_right _ (List.mem_append_left _ (List.mem_map_of_mem (f := Lk.push (F := F)) hf))) (Nat.lt_of_lt_of_le hv hy)
  rw [eY, e26, e25, e24, e23, e22, e21, e20, e19, e18, e17, e16, e15, e14, e13, e12, e11, e10, e9, e8, e7, e6, e5, e4, e3, e2, e1, e0]
  rfl

/-! ## The result -/

/-- The lookup in table `f = off + k`, as piece `k` of a stack whose first piece is table `off`: at `(b, r, d)` it is the
    tables' element there, when `r` is `k`. -/
theorem taken_pieceAt {X : IVec S16384x26 32} {T : FVec F S26x100000x32 .f32} (hX : ∀ b f, (X (ix2 b f)).toNat < 100000)
    {n off k f : Nat} (hk : off + k = f) {b : Fin 16384} {r : Fin n} {d : Fin 32} {g : Fin 26} (hg : g.val = off + r.val)
    (hs : S16384x26.Slices ![0, f] S16384x1) (ht : S26x100000x32.Slices ![f, 0, 0] S1x100000x32) :
    PieceAt (t := ⟨3, ![16384, n, 32]⟩) (1 : Fin 3) (ix3 b r d) (T (ix3 g ⟨(X (ix2 b g)).toNat, hX b g⟩ d)) S16384x1x32
      (taken T (start (words X f hs)) f ht) k := by
  intro hr _ i _ hi
  obtain rfl : f = g.val := by
    have : r.val = k := hr
    omega
  have w (c : Fin 16384) : words X g.val hs (ix1 c) = X (ix2 c g) := words_apply X g hs c
  have s (c : Fin 16384) (u : Fin 1) : start (words X g.val hs) (ix2 c u) = X (ix2 c g) := by
    rw [start_apply _ _ _ (by rw [w]; exact hX c g), w]
  obtain ⟨c, u, e, rfl⟩ : ∃ (c : Fin 16384) (u : Fin 1) (e : Fin 32), i = ix3 c u e := ⟨i 0, i 1, i 2, eq_ix3 i⟩
  obtain rfl : c = b := Fin.ext (hi 0 (fun h => absurd (congrArg Fin.val h) (by simp)))
  obtain rfl : e = d := Fin.ext (hi 2 (fun h => absurd (congrArg Fin.val h) (by simp)))
  rw [taken_apply T _ g ht (fun j => by
    obtain ⟨c, u, rfl⟩ : ∃ (c : Fin 16384) (u : Fin 1), j = ix2 c u := ⟨j 0, j 1, eq_ix2 j⟩
    rw [s]; exact hX c g)]
  exact congrArg (fun q => T (ix3 g q e)) (Fin.ext (congrArg BitVec.toNat (s c 0)))

/-- The indices and tables a run starts from. -/
abbrev xs : IVec S16384x26 32 := V (Proc.devRef .tc main_arg0)
@[inherit_doc xs]
abbrev ts : FVec F S26x100000x32 .f32 := V (Proc.devRef .tc main_arg1)

theorem rd_xArg : rd (after ops V) xArg = xs V := (rd_of _ main_arg0 _ _ _).trans (after_low ops_line V (r := main_arg0) (by decide))
theorem rd_tArg : rd (after ops V) tArg = ts V := (rd_of _ main_arg1 _ _ _).trans (after_low ops_line V (r := main_arg1) (by decide))

theorem mem_tail {op : HloOp τ sig (Elt F)} (h : op ∈ [catLow, catHigh, catAll]) : op ∈ ops (F := F) :=
  List.mem_append_right _ (List.mem_append_right _ h)

/-- The first sixteen lookups together, as the buffers `W` hold them. -/
def low (W : Valuation τ sig (Elt F)) : FVec F S16384x16x32 .f32 :=
  concatenate S16384x16x32 1 [⟨S16384x1x32, W (Proc.devRef .tc main_v130)⟩, ⟨S16384x1x32, W (Proc.devRef .tc main_v131)⟩, ⟨S16384x1x32, W (Proc.devRef .tc main_v132)⟩, ⟨S16384x1x32, W (Proc.devRef .tc main_v133)⟩, ⟨S16384x1x32, W (Proc.devRef .tc main_v134)⟩, ⟨S16384x1x32, W (Proc.devRef .tc main_v135)⟩, ⟨S16384x1x32, W (Proc.devRef .tc main_v136)⟩, ⟨S16384x1x32, W (Proc.devRef .tc main_v137)⟩, ⟨S16384x1x32, W (Proc.devRef .tc main_v138)⟩, ⟨S16384x1x32, W (Proc.devRef .tc main_v139)⟩, ⟨S16384x1x32, W (Proc.devRef .tc main_v140)⟩, ⟨S16384x1x32, W (Proc.devRef .tc main_v141)⟩, ⟨S16384x1x32, W (Proc.devRef .tc main_v142)⟩, ⟨S16384x1x32, W (Proc.devRef .tc main_v143)⟩, ⟨S16384x1x32, W (Proc.devRef .tc main_v144)⟩, ⟨S16384x1x32, W (Proc.devRef .tc main_v145)⟩] concatenates_S16384x1x32_S16384x1x32_S16384x1x32_S16384x1x32_S16384x1x32_S16384x1x32_S16384x1x32_S16384x1x32_S16384x1x32_S16384x1x32_S16384x1x32_S16384x1x32_S16384x1x32_S16384x1x32_S16384x1x32_S16384x1x32_S16384x16x32_d1
/-- The last ten. -/
def high (W : Valuation τ sig (Elt F)) : FVec F S16384x10x32 .f32 :=
  concatenate S16384x10x32 1 [⟨S16384x1x32, W (Proc.devRef .tc main_v146)⟩, ⟨S16384x1x32, W (Proc.devRef .tc main_v147)⟩, ⟨S16384x1x32, W (Proc.devRef .tc main_v148)⟩, ⟨S16384x1x32, W (Proc.devRef .tc main_v149)⟩, ⟨S16384x1x32, W (Proc.devRef .tc main_v150)⟩, ⟨S16384x1x32, W (Proc.devRef .tc main_v151)⟩, ⟨S16384x1x32, W (Proc.devRef .tc main_v152)⟩, ⟨S16384x1x32, W (Proc.devRef .tc main_v153)⟩, ⟨S16384x1x32, W (Proc.devRef .tc main_v154)⟩, ⟨S16384x1x32, W (Proc.devRef .tc main_v155)⟩] concatenates_S16384x1x32_S16384x1x32_S16384x1x32_S16384x1x32_S16384x1x32_S16384x1x32_S16384x1x32_S16384x1x32_S16384x1x32_S16384x1x32_S16384x10x32_d1
/-- All. -/
def all (W : Valuation τ sig (Elt F)) : FVec F S16384x26x32 .f32 :=
  concatenate S16384x26x32 1 [⟨S16384x16x32, low W⟩, ⟨S16384x10x32, high W⟩] concatenates_S16384x16x32_S16384x10x32_S16384x26x32_d1

theorem low_eq : rd (after ops V) (.of main_v156 : TRef sig ⟨S16384x16x32, .f32⟩) = low (after ops V) := by
  have e := eq_nary ops_line V (y := main_v156) (show catLow ∈ ops (F := F) from mem_tail List.mem_cons_self) (by decide)
  generalize after ops V = W at e ⊢
  exact (rd_of W main_v156 _ _ _).trans e

theorem high_eq : rd (after ops V) (.of main_v157 : TRef sig ⟨S16384x10x32, .f32⟩) = high (after ops V) := by
  have e := eq_nary ops_line V (y := main_v157) (show catHigh ∈ ops (F := F) from
    mem_tail (List.mem_cons_of_mem _ List.mem_cons_self)) (by decide)
  generalize after ops V = W at e ⊢
  exact (rd_of W main_v157 _ _ _).trans e

/-- The result's buffer holds the concatenation of the lookups' buffers. -/
theorem all_eq : after ops V (Proc.devRef .tc main_v158) = all (after ops V) := by
  have h : catAll ∈ ops (F := F) := mem_tail (List.mem_cons_of_mem _ (List.mem_cons_of_mem _ List.mem_cons_self))
  unfold catAll at h
  have e := eq_binary ops_line V h (by decide) (by decide)
  rw [low_eq, high_eq] at e
  generalize after ops V = W at e ⊢
  exact (rd_of W main_v158 _ _ _).symm.trans e

section Read
variable {W : Valuation τ sig (Elt F)} {X : IVec S16384x26 32} {T : FVec F S26x100000x32 .f32}
  (hW : ∀ f ∈ lks, rd W f.y = taken T (start (words X f.k f.hs)) f.k f.ht) (hX : ∀ b f, (X (ix2 b f)).toNat < 100000)
include hW

/-- Lookup `off + k` as piece `k` of a stack whose first piece is lookup `off`. -/
theorem piece (f : Lk) (hf : f ∈ lks) {n off k : Nat} (hk : off + k = f.k) {b : Fin 16384} {r : Fin n} {d : Fin 32} {g : Fin 26}
    (hg : g.val = off + r.val) :
    PieceAt (t := ⟨3, ![16384, n, 32]⟩) (1 : Fin 3) (ix3 b r d) (T (ix3 g ⟨(X (ix2 b g)).toNat, hX b g⟩ d)) S16384x1x32 (rd W f.y) k := by
  rw [hW f hf]
  exact taken_pieceAt hX hk hg _ _

/-- The first sixteen lookups. -/
theorem low_apply (b : Fin 16384) (r : Fin 16) (d : Fin 32) (g : Fin 26) (hg : g.val = 0 + r.val) :
    low W (ix3 b r d) = T (ix3 g ⟨(X (ix2 b g)).toNat, hX b g⟩ d) := by
  unfold low
  refine concatenate_unit_eq _ _ _ _ _ rfl ?_
  have h (i : Nat) (f : Lk) (h : lks[i]? = some f) (hk : i = f.k) := piece hW hX f (List.mem_of_getElem? h) ((Nat.zero_add i).trans hk) (b := b) (d := d) hg
  exact ⟨h 0 lk0 rfl rfl, h 1 lk1 rfl rfl, h 2 lk2 rfl rfl, h 3 lk3 rfl rfl, h 4 lk4 rfl rfl, h 5 lk5 rfl rfl, h 6 lk6 rfl rfl, h 7 lk7 rfl rfl, h 8 lk8 rfl rfl, h 9 lk9 rfl rfl, h 10 lk10 rfl rfl, h 11 lk11 rfl rfl, h 12 lk12 rfl rfl, h 13 lk13 rfl rfl, h 14 lk14 rfl rfl, h 15 lk15 rfl rfl, trivial⟩

/-- The last ten. -/
theorem high_apply (b : Fin 16384) (r : Fin 10) (d : Fin 32) (g : Fin 26) (hg : g.val = 16 + r.val) :
    high W (ix3 b r d) = T (ix3 g ⟨(X (ix2 b g)).toNat, hX b g⟩ d) := by
  unfold high
  refine concatenate_unit_eq _ _ _ _ _ rfl ?_
  have h (i : Nat) (f : Lk) (h : lks[16 + i]? = some f) (hk : 16 + i = f.k) := piece hW hX f (List.mem_of_getElem? h) hk (b := b) (d := d) hg
  exact ⟨h 0 lk16 rfl rfl, h 1 lk17 rfl rfl, h 2 lk18 rfl rfl, h 3 lk19 rfl rfl, h 4 lk20 rfl rfl, h 5 lk21 rfl rfl, h 6 lk22 rfl rfl, h 7 lk23 rfl rfl, h 8 lk24 rfl rfl, h 9 lk25 rfl rfl, trivial⟩

/-- All. -/
theorem all_apply (b : Fin 16384) (g : Fin 26) (d : Fin 32) : all W (ix3 b g d) = T (ix3 g ⟨(X (ix2 b g)).toNat, hX b g⟩ d) := by
  unfold all
  by_cases h : g.val < 16
  · rw [concatenate_pair_apply_left (t := S16384x26x32) (s₁ := S16384x16x32) (s₂ := S16384x10x32) 1 _ _ _ (ix3 b g d) rfl
      (ix3 b ⟨g.val, h⟩ d) (fun a => by match a with | ⟨0, _⟩ => rfl | ⟨1, _⟩ => rfl | ⟨2, _⟩ => rfl)]
    exact low_apply hW hX b _ d g (Nat.zero_add _).symm
  · have hlt : g.val - 16 < 10 := by have := g.isLt; omega
    rw [concatenate_pair_apply_right (t := S16384x26x32) (s₁ := S16384x16x32) (s₂ := S16384x10x32) 1 _ _ _ (ix3 b g d) rfl rfl
      (ix3 b ⟨g.val - 16, hlt⟩ d) (fun a ha => by
        match a with
        | ⟨0, _⟩ => rfl
        | ⟨1, _⟩ => exact absurd rfl ha
        | ⟨2, _⟩ => rfl)
      (by show g.val - 16 + 16 = g.val; omega)]
    exact high_apply hW hX b _ d g (by show g.val = 16 + (g.val - 16); omega)

end Read

/-- The result: element `(b, g, d)` is the tables' element `(g, x[b, g], d)`. -/
theorem result_apply (hX : ∀ b f, (xs V (ix2 b f)).toNat < 100000) (b : Fin 16384) (g : Fin 26) (d : Fin 32) :
    (after ops V (Proc.devRef .tc main_v158) : FVec F S16384x26x32 .f32) (ix3 b g d) = ts V (ix3 g ⟨(xs V (ix2 b g)).toNat, hX b g⟩ d) := by
  have hW : ∀ f ∈ lks, rd (after ops V) f.y = taken (ts V) (start (words (xs V) f.k f.hs)) f.k f.ht := fun f hf => by
    rw [look V f hf, rd_xArg, rd_tArg]
  rw [all_eq]
  exact all_apply hW hX b g d

/-- Every run of the reference ends with the line's contents. -/
theorem run_main (m : (ℓ : Loc nD τ sig) → Buf (Elt F) ℓ) (ρ : Dev nD → PrngReg) :
    θ_run defs (onTc (τ := τ) main) ⟨m, fun _ => 0, ρ⟩ fun r =>
      ∀ (d : Dev nD) (b : Ref sig .tc), r.2.mem (d.tc.loc b) = after ops (launchContents m d) (Proc.devRef .tc b) :=
  run_seq (by decide) (by decide) defs main (fun _ => ops) main_eq (fun _ => ops_line.sub) m ρ (fun _ => ops_line.fresh)

end Cert.Proof.Ref

end
-- ==== Proof.Range.lean ====
/-
  The precondition read back: when `in_range` of the arguments is all ones, every index is the number of a table row.
-/
module

public import proofs.«01_k».proof.Proof.Gen.Pre_in_range
public import Idealize.ShloMosaic.Lib.ReduceAll
public import Idealize.ShloMosaic.Lib.ValueIdxCore

@[expose] public section

noncomputable section

namespace Cert.Proof.Range

open Cert.Pre_in_range Cert.Pre_in_range.Gen
open Idealize.ShloMosaic Idealize.ShloMosaic.ValueIdx

theorem andi_ofBool (p q : Bool) : IntOp.andi (BitVec.ofBool p) (BitVec.ofBool q) = BitVec.ofBool (p && q) := by cases p <;> cases q <;> decide

theorem ofBool_eq_one (p : Bool) : (BitVec.ofBool p = 1#1) ↔ p = true := by cases p <;> decide

/-- A word that is at least 0 and less than 100000, read signed, is less than 100000. -/
theorem word_lt (v : BitVec 32) (e : IntOp.andi (IntOp.cmpi .sge v 0#32) (IntOp.cmpi .slt v 100000#32) = 1#1) : v.toNat < 100000 := by
  simp only [IntOp.cmpi, andi_ofBool, ofBool_eq_one, Bool.and_eq_true, BitVec.sle_eq_decide, BitVec.slt_eq_decide, decide_eq_true_eq,
    BitVec.toInt_eq_toNat_cond, BitVec.toNat_ofNat, Nat.reducePow, Nat.reduceMod] at e
  omega

theorem subsingleton_S_ : Subsingleton S_.Idx := ⟨fun a b => funext fun i => i.elim0⟩

/-- Every index is in range. -/
theorem lt_of_pre {F : FTy → Type} [FloatOps F] (X : IVec S16384x26 32) (T : FVec F S26x100000x32 .f32) (h : fn X T = fun _ => 1#1)
    (b : Fin 16384) (f : Fin 26) : (X (ix2 b f)).toNat < 100000 := by
  have := subsingleton_S_
  have e := congrFun h (fun i => i.elim0)
  dsimp only [fn] at e
  exact word_lt _ (Host.reduce_andi_all _ _ _ _ _ e (ix2 b f))

end Cert.Proof.Range

end
-- ==== Proof.lean ====
/-
  The proof of `Cert.Claim` (proofs.«01_k».proof.Defs). The kernel's run is `run_main` of Proof/KLaunch.lean, the idealized
  program's the same proof at its own names (Proof/ILaunch.lean), the reference's `run_main` of Proof/RefValue.lean. The
  kernel's result and the reference's are the same function of the arguments (`result_eq`): element `(b, f, d)` is the
  tables' element `(f, x[b, f], d)`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.KLaunch
public import proofs.«01_k».proof.Proof.ILaunch
public import proofs.«01_k».proof.Proof.RefValue
public import proofs.«01_k».proof.Proof.Range
public import Idealize.ShloMosaic.Adequacy
public import Idealize.ShloMosaic.Init
public import Idealize.ShloMosaic.Lib.Quiescent

@[expose] public section

noncomputable section

namespace Cert.Proof

open Idealize.ShloMosaic Idealize.ShloMosaic.ValueIdx Idealize.SL.Sem

/-- The precondition gives the kernel indices in range. -/
theorem kernel_inRange (m : (ℓ : Loc Cert.Kernel.nD Cert.Kernel.τ Cert.Kernel.sig) → Buf (Elt Bits) ℓ)
    (h : Pre_Kernel (hPre_in_range := Cert.Pre_in_range.Gen.facts) m) : Kernel.InRange m :=
  fun d b f => Range.lt_of_pre _ _ (h d) b f

/-- And the idealized kernel. -/
theorem kernelIdeal_inRange (m : (ℓ : Loc Cert.KernelIdeal.nD Cert.KernelIdeal.τ Cert.KernelIdeal.sig) → Buf (Elt Ideal) ℓ)
    (h : Pre_KernelIdeal (hPre_in_range := Cert.Pre_in_range.Gen.facts) m) : KernelIdeal.InRange m :=
  fun d b f => Range.lt_of_pre _ _ (h d) b f

/-- The idealized kernel's result at an index. -/
theorem kernel_apply {F : FTy → Type} [FloatOps F] (m : (ℓ : Loc Cert.KernelIdeal.nD Cert.KernelIdeal.τ Cert.KernelIdeal.sig) → Buf (Elt F) ℓ)
    (hm : KernelIdeal.InRange m) (d : Dev Cert.KernelIdeal.nD) (b : Fin 16384) (f : Fin 26) (e : Fin 32) :
    KernelIdeal.result m d (ix3 b f e)
      = (m (KernelIdeal.a1Loc d) : Vec F Cert.KernelIdeal.S26x100000x32 .f32)
          (ix3 f ⟨((m (KernelIdeal.a0Loc d) : Vec F Cert.KernelIdeal.S16384x26 .i32) (ix2 b f)).toNat, hm d b f⟩ e) := by
  unfold KernelIdeal.result
  rw [transpose_apply _ _ _ (ix3 b f e) (ix3 f e b) (fun c => match c with | ⟨0, _⟩ => rfl | ⟨1, _⟩ => rfl | ⟨2, _⟩ => rfl)]
  show KernelIdeal.tabs m d (ix3 f e (KernelIdeal.posOf (KernelIdeal.idxs m d (ix2 f b)))) = _
  unfold KernelIdeal.tabs KernelIdeal.idxs
  rw [transpose_ix3_021_apply, transpose_ix2_apply]
  exact congrArg (fun q => (m (KernelIdeal.a1Loc d) : Vec F Cert.KernelIdeal.S26x100000x32 .f32) (ix3 f q e))
    (Fin.ext (KernelIdeal.posOf_val (hm d b f)))

/-- The reference leaves its arguments. -/
theorem ref_args {F : FTy → Type} [FloatOps F] (V : Valuation Cert.ReferenceIdeal.τ Cert.ReferenceIdeal.sig (Elt F)) :
    StableHlo.after Ref.ops V (Proc.devRef .tc Cert.ReferenceIdeal.main_arg0) = V (Proc.devRef .tc Cert.ReferenceIdeal.main_arg0)
    ∧ StableHlo.after Ref.ops V (Proc.devRef .tc Cert.ReferenceIdeal.main_arg1) = V (Proc.devRef .tc Cert.ReferenceIdeal.main_arg1) :=
  ⟨Ref.after_low Ref.ops_line V (r := Cert.ReferenceIdeal.main_arg0) (by decide),
   Ref.after_low Ref.ops_line V (r := Cert.ReferenceIdeal.main_arg1) (by decide)⟩

/-- From the same arguments, in range, the reference's result is the idealized kernel's. -/
theorem result_eq {F : FTy → Type} [FloatOps F] (m : (ℓ : Loc Cert.KernelIdeal.nD Cert.KernelIdeal.τ Cert.KernelIdeal.sig) → Buf (Elt F) ℓ)
    (hm : KernelIdeal.InRange m) (d : Dev Cert.KernelIdeal.nD) (V : Valuation Cert.ReferenceIdeal.τ Cert.ReferenceIdeal.sig (Elt F))
    (h0 : Ref.xs V = m (KernelIdeal.a0Loc d)) (h1 : Ref.ts V = m (KernelIdeal.a1Loc d)) :
    (StableHlo.after Ref.ops V (Proc.devRef .tc Cert.ReferenceIdeal.main_v158) : FVec F Cert.ReferenceIdeal.S16384x26x32 .f32)
      = KernelIdeal.result m d := by
  funext i
  obtain ⟨b, f, e, rfl⟩ : ∃ (b : Fin 16384) (f : Fin 26) (e : Fin 32), i = ix3 b f e := ⟨i 0, i 1, i 2, eq_ix3 i⟩
  have hX : ∀ b f, (Ref.xs V (ix2 b f)).toNat < 100000 := fun b f => by rw [h0]; exact hm d b f
  rw [kernel_apply m hm, Ref.result_apply V hX]
  simp only [h0, h1]

/-- The reference's run: the arguments unchanged, the counters at zero. -/
theorem ref_run {F : FTy → Type} [FloatOps F] (m : (ℓ : Loc Cert.ReferenceIdeal.nD Cert.ReferenceIdeal.τ Cert.ReferenceIdeal.sig) → Buf (Elt F) ℓ)
    (g : Dev Cert.ReferenceIdeal.nD → PrngReg) :
    θ_run (Cert.ReferenceIdeal.defs (F := F)) (onTc (τ := Cert.ReferenceIdeal.τ) (Cert.ReferenceIdeal.main (F := F))) ⟨m, fun _ => 0, g⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun r h => ⟨fun c => ⟨(h c _).trans (ref_args _).1, (h c _).trans (ref_args _).2⟩,
    sem_eq_zero_of_no_sems (by decide) r.2⟩) (Ref.run_main m g)

theorem claim : Cert.Claim := ⟨Cert.Kernel.Gen.facts, Cert.KernelIdeal.Gen.facts, Cert.ReferenceIdeal.Gen.facts, Cert.Pre_in_range.Gen.facts,
  fun m g hpre => (θ_run _ _ _).mono (fun _ h => ⟨fun c => ⟨(h.1 c).1, (h.1 c).2.1⟩, h.2⟩) (Kernel.run_main (F := Bits) m g (kernel_inRange m hpre)),
  fun m g hpre => (θ_run _ _ _).mono (fun _ h => ⟨fun c => ⟨(h.1 c).1, (h.1 c).2.1⟩, h.2⟩)
    (KernelIdeal.run_main (F := Ideal) m g (kernelIdeal_inRange m hpre)),
  fun m g _ => ref_run m g,
  fun m g _ => ref_run m g,
  trivial,
  fun m g m' g' hpre hargs => ⟨fun d => KernelIdeal.result m d,
    (θ_run _ _ _).mono (fun _ h c => ⟨(h.1 c).2.2, (h.1 c).1, (h.1 c).2.1⟩)
      (KernelIdeal.run_main (F := Ideal) m g (kernelIdeal_inRange m hpre)),
    (θ_run _ _ _).mono (fun _ h c =>
      ⟨(h c _).trans (result_eq m (kernelIdeal_inRange m hpre) c _ (hargs c).1 (hargs c).2),
       (h c _).trans (ref_args _).1, (h c _).trans (ref_args _).2⟩) (Ref.run_main m' g')⟩⟩

end Cert.Proof

end
